-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S2048x384 : Shape := ⟨2, ![2048, 384]⟩
abbrev S2048x256 : Shape := ⟨2, ![2048, 256]⟩
abbrev S1024x384 : Shape := ⟨2, ![1024, 384]⟩
abbrev S3x256x384 : Shape := ⟨3, ![3, 256, 384]⟩
abbrev S3x64x384 : Shape := ⟨3, ![3, 64, 384]⟩
abbrev S3x512x256 : Shape := ⟨3, ![3, 512, 256]⟩
abbrev S3x128x256 : Shape := ⟨3, ![3, 128, 256]⟩
abbrev S64x256 : Shape := ⟨2, ![64, 256]⟩
abbrev S3x512x384 : Shape := ⟨3, ![3, 512, 384]⟩
abbrev S256x384 : Shape := ⟨2, ![256, 384]⟩
abbrev S64x384 : Shape := ⟨2, ![64, 384]⟩
abbrev S21 : Shape := ⟨1, ![21]⟩
abbrev S4 : Shape := ⟨1, ![4]⟩
abbrev S_ : Shape := ⟨0, ![]⟩
abbrev S1 : Shape := ⟨1, ![1]⟩
abbrev S512x256 : Shape := ⟨2, ![512, 256]⟩
abbrev S1x512x256 : Shape := ⟨3, ![1, 512, 256]⟩
abbrev S512x384 : Shape := ⟨2, ![512, 384]⟩
abbrev S1x512x384 : Shape := ⟨3, ![1, 512, 384]⟩
abbrev S1x256x384 : Shape := ⟨3, ![1, 256, 384]⟩
abbrev S1x128x256 : Shape := ⟨3, ![1, 128, 256]⟩
abbrev S128x256 : Shape := ⟨2, ![128, 256]⟩
abbrev S1x64x384 : Shape := ⟨3, ![1, 64, 384]⟩
abbrev S384x1024 : Shape := ⟨2, ![384, 1024]⟩
abbrev S64x1024 : Shape := ⟨2, ![64, 1024]⟩
abbrev S256x1024 : Shape := ⟨2, ![256, 1024]⟩

abbrev nBuf : Space → Nat
  | .hbm => 3
  | .vmem => 31
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | .local _ .vmem, ⟨3, _⟩ => ⟨S2048x384, .bf16⟩
  | .local _ .vmem, ⟨4, _⟩ => ⟨S2048x256, .bf16⟩
  | .local _ .vmem, ⟨5, _⟩ => ⟨S2048x384, .bf16⟩
  | .local _ .vmem, ⟨6, _⟩ => ⟨S1024x1024, .bf16⟩
  | .local _ .vmem, ⟨7, _⟩ => ⟨S1024x384, .bf16⟩
  | .local _ .vmem, ⟨8, _⟩ => ⟨S3x256x384, .bf16⟩
  | .local _ .vmem, ⟨9, _⟩ => ⟨S3x64x384, .bf16⟩
  | .local _ .vmem, ⟨10, _⟩ => ⟨S3x512x256, .bf16⟩
  | .local _ .vmem, ⟨11, _⟩ => ⟨S3x128x256, .bf16⟩
  | .local _ .vmem, ⟨12, _⟩ => ⟨S64x256, .bf16⟩
  | .local _ .vmem, ⟨13, _⟩ => ⟨S3x512x384, .bf16⟩
  | .local _ .vmem, ⟨14, _⟩ => ⟨S256x384, .bf16⟩
  | .local _ .vmem, ⟨15, _⟩ => ⟨S3x64x384, .bf16⟩
  | .local _ .vmem, ⟨16, _⟩ => ⟨S3x64x384, .bf16⟩
  | .local _ .vmem, ⟨17, _⟩ => ⟨S3x256x384, .bf16⟩
  | .local _ .vmem, ⟨18, _⟩ => ⟨S1024x384, .bf16⟩
  | .local _ .vmem, ⟨19, _⟩ => ⟨S64x256, .bf16⟩
  | .local _ .vmem, ⟨20, _⟩ => ⟨S3x128x256, .bf16⟩
  | .local _ .vmem, ⟨21, _⟩ => ⟨S3x512x256, .bf16⟩
  | .local _ .vmem, ⟨22, _⟩ => ⟨S3x64x384, .bf16⟩
  | .local _ .vmem, ⟨23, _⟩ => ⟨S256x384, .bf16⟩
  | .local _ .vmem, ⟨24, _⟩ => ⟨S3x512x384, .bf16⟩
  | .local _ .vmem, ⟨25, _⟩ => ⟨S64x256, .bf16⟩
  | .local _ .vmem, ⟨26, _⟩ => ⟨S64x384, .bf16⟩
  | .local _ .vmem, ⟨27, _⟩ => ⟨S64x256, .bf16⟩
  | .local _ .vmem, ⟨28, _⟩ => ⟨S64x384, .bf16⟩
  | .local _ .vmem, ⟨29, _⟩ => ⟨S64x256, .bf16⟩
  | .local _ .vmem, ⟨30, _⟩ => ⟨S64x384, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 1 → Bool
  | ⟨0, _⟩ => false
  | _ => false

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  (ofTc nBuf bufTy 1 95 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_154 : BitVec 32 := 8#32
  let v313 : BitVec 32 := Scalar.muli v19 c8_i32_154
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_155 : BitVec 32 := 2#32
  let v314 : BitVec 32 := Scalar.muli v38 c2_i32_155
  let v315 : BitVec 32 := Scalar.addi v313 v314
  let c2_i32_146 : BitVec 32 := 2#32
  let c0_i32_147 : BitVec 32 := 0#32
  let v300 : BitVec 1 := Scalar.cmpi .eq c2_i32_146 c0_i32_147
  let c1_i32_148 : BitVec 32 := 1#32
  let v301 : BitVec 32 := Scalar.select v300 c1_i32_148 c2_i32_146
  let v302 : BitVec 32 := Scalar.remsi v38 v301
  let c0_i32_150 : BitVec 32 := 0#32
  let v304 : BitVec 1 := Scalar.cmpi .slt v302 c0_i32_150
  let c0_i32_151 : BitVec 32 := 0#32
  let v305 : BitVec 1 := Scalar.cmpi .slt v301 c0_i32_151
  let v306 : BitVec 1 := Scalar.xori v304 v305
  let c0_i32_149 : BitVec 32 := 0#32
  let v303 : BitVec 1 := Scalar.cmpi .ne v302 c0_i32_149
  let v307 : BitVec 1 := Scalar.andi v306 v303
  let v308 : BitVec 32 := Scalar.addi v302 v301
  let v309 : BitVec 32 := Scalar.select v307 v308 v302
  let c0_i32_152 : BitVec 32 := 0#32
  let v310 : BitVec 1 := Scalar.cmpi .eq v309 c0_i32_152
  let c1_i32_145 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v299 : BitVec 32 := Scalar.subi c1_i32_145 v53
  let c1_i32_153 : BitVec 32 := 1#32
  let v311 : BitVec 32 := Scalar.subi c1_i32_153 v299
  let v312 : BitVec 32 := Scalar.select v310 v299 v311
  let v316 : BitVec 32 := Scalar.addi v315 v312
  let c1_i32_157 : BitVec 32 := 1#32
  let v317 : BitVec 32 := Scalar.muli v316 c1_i32_157
  let v318 : BitVec 32 := Scalar.addi c0_i32_158 v317
  v318.toNat
def k0_dev2 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_173 : BitVec 32 := 8#32
  let v343 : BitVec 32 := Scalar.muli v19 c8_i32_173
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_159 : BitVec 32 := 1#32
  let v319 : BitVec 32 := Scalar.addi v38 c1_i32_159
  let c4_i32 : BitVec 32 := 4#32
  let c0_i32_160 : BitVec 32 := 0#32
  let v320 : BitVec 1 := Scalar.cmpi .eq c4_i32 c0_i32_160
  let c1_i32_161 : BitVec 32 := 1#32
  let v321 : BitVec 32 := Scalar.select v320 c1_i32_161 c4_i32
  let v322 : BitVec 32 := Scalar.remsi v319 v321
  let c0_i32_163 : BitVec 32 := 0#32
  let v324 : BitVec 1 := Scalar.cmpi .slt v322 c0_i32_163
  let c0_i32_164 : BitVec 32 := 0#32
  let v325 : BitVec 1 := Scalar.cmpi .slt v321 c0_i32_164
  let v326 : BitVec 1 := Scalar.xori v324 v325
  let c0_i32_162 : BitVec 32 := 0#32
  let v323 : BitVec 1 := Scalar.cmpi .ne v322 c0_i32_162
  let v327 : BitVec 1 := Scalar.andi v326 v323
  let v328 : BitVec 32 := Scalar.addi v322 v321
  let v329 : BitVec 32 := Scalar.select v327 v328 v322
  let c2_i32_174 : BitVec 32 := 2#32
  let v344 : BitVec 32 := Scalar.muli v329 c2_i32_174
  let v345 : BitVec 32 := Scalar.addi v343 v344
  let c2_i32_165 : BitVec 32 := 2#32
  let c0_i32_166 : BitVec 32 := 0#32
  let v330 : BitVec 1 := Scalar.cmpi .eq c2_i32_165 c0_i32_166
  let c1_i32_167 : BitVec 32 := 1#32
  let v331 : BitVec 32 := Scalar.select v330 c1_i32_167 c2_i32_165
  let v332 : BitVec 32 := Scalar.remsi v329 v331
  let c0_i32_169 : BitVec 32 := 0#32
  let v334 : BitVec 1 := Scalar.cmpi .slt v332 c0_i32_169
  let c0_i32_170 : BitVec 32 := 0#32
  let v335 : BitVec 1 := Scalar.cmpi .slt v331 c0_i32_170
  let v336 : BitVec 1 := Scalar.xori v334 v335
  let c0_i32_168 : BitVec 32 := 0#32
  let v333 : BitVec 1 := Scalar.cmpi .ne v332 c0_i32_168
  let v337 : BitVec 1 := Scalar.andi v336 v333
  let v338 : BitVec 32 := Scalar.addi v332 v331
  let v339 : BitVec 32 := Scalar.select v337 v338 v332
  let c0_i32_171 : BitVec 32 := 0#32
  let v340 : BitVec 1 := Scalar.cmpi .eq v339 c0_i32_171
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_172 : BitVec 32 := 1#32
  let v341 : BitVec 32 := Scalar.subi c1_i32_172 v53
  let v342 : BitVec 32 := Scalar.select v340 v53 v341
  let v346 : BitVec 32 := Scalar.addi v345 v342
  let c1_i32_193 : BitVec 32 := 1#32
  let v375 : BitVec 32 := Scalar.muli v346 c1_i32_193
  let v376 : BitVec 32 := Scalar.addi c0_i32_194 v375
  v376.toNat
def k0_dev3 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_175 : BitVec 32 := 1#32
  let v347 : BitVec 32 := Scalar.addi v19 c1_i32_175
  let c4_i32_176 : BitVec 32 := 4#32
  let c0_i32_177 : BitVec 32 := 0#32
  let v348 : BitVec 1 := Scalar.cmpi .eq c4_i32_176 c0_i32_177
  let c1_i32_178 : BitVec 32 := 1#32
  let v349 : BitVec 32 := Scalar.select v348 c1_i32_178 c4_i32_176
  let v350 : BitVec 32 := Scalar.remsi v347 v349
  let c0_i32_180 : BitVec 32 := 0#32
  let v352 : BitVec 1 := Scalar.cmpi .slt v350 c0_i32_180
  let c0_i32_181 : BitVec 32 := 0#32
  let v353 : BitVec 1 := Scalar.cmpi .slt v349 c0_i32_181
  let v354 : BitVec 1 := Scalar.xori v352 v353
  let c0_i32_179 : BitVec 32 := 0#32
  let v351 : BitVec 1 := Scalar.cmpi .ne v350 c0_i32_179
  let v355 : BitVec 1 := Scalar.andi v354 v351
  let v356 : BitVec 32 := Scalar.addi v350 v349
  let v357 : BitVec 32 := Scalar.select v355 v356 v350
  let c8_i32_190 : BitVec 32 := 8#32
  let v371 : BitVec 32 := Scalar.muli v357 c8_i32_190
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_191 : BitVec 32 := 2#32
  let v372 : BitVec 32 := Scalar.muli v38 c2_i32_191
  let v373 : BitVec 32 := Scalar.addi v371 v372
  let c2_i32_182 : BitVec 32 := 2#32
  let c0_i32_183 : BitVec 32 := 0#32
  let v358 : BitVec 1 := Scalar.cmpi .eq c2_i32_182 c0_i32_183
  let c1_i32_184 : BitVec 32 := 1#32
  let v359 : BitVec 32 := Scalar.select v358 c1_i32_184 c2_i32_182
  let v360 : BitVec 32 := Scalar.remsi v38 v359
  let c0_i32_186 : BitVec 32 := 0#32
  let v362 : BitVec 1 := Scalar.cmpi .slt v360 c0_i32_186
  let c0_i32_187 : BitVec 32 := 0#32
  let v363 : BitVec 1 := Scalar.cmpi .slt v359 c0_i32_187
  let v364 : BitVec 1 := Scalar.xori v362 v363
  let c0_i32_185 : BitVec 32 := 0#32
  let v361 : BitVec 1 := Scalar.cmpi .ne v360 c0_i32_185
  let v365 : BitVec 1 := Scalar.andi v364 v361
  let v366 : BitVec 32 := Scalar.addi v360 v359
  let v367 : BitVec 32 := Scalar.select v365 v366 v360
  let c0_i32_188 : BitVec 32 := 0#32
  let v368 : BitVec 1 := Scalar.cmpi .eq v367 c0_i32_188
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_189 : BitVec 32 := 1#32
  let v369 : BitVec 32 := Scalar.subi c1_i32_189 v53
  let v370 : BitVec 32 := Scalar.select v368 v53 v369
  let v374 : BitVec 32 := Scalar.addi v373 v370
  let c1_i32_196 : BitVec 32 := 1#32
  let v377 : BitVec 32 := Scalar.muli v374 c1_i32_196
  let v378 : BitVec 32 := Scalar.addi c0_i32_197 v377
  v378.toNat
def k0_dev4 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_213 : BitVec 32 := 8#32
  let v403 : BitVec 32 := Scalar.muli v19 c8_i32_213
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_198 : BitVec 32 := 2#32
  let v379 : BitVec 32 := Scalar.addi v38 c2_i32_198
  let c4_i32_199 : BitVec 32 := 4#32
  let c0_i32_200 : BitVec 32 := 0#32
  let v380 : BitVec 1 := Scalar.cmpi .eq c4_i32_199 c0_i32_200
  let c1_i32_201 : BitVec 32 := 1#32
  let v381 : BitVec 32 := Scalar.select v380 c1_i32_201 c4_i32_199
  let v382 : BitVec 32 := Scalar.remsi v379 v381
  let c0_i32_203 : BitVec 32 := 0#32
  let v384 : BitVec 1 := Scalar.cmpi .slt v382 c0_i32_203
  let c0_i32_204 : BitVec 32 := 0#32
  let v385 : BitVec 1 := Scalar.cmpi .slt v381 c0_i32_204
  let v386 : BitVec 1 := Scalar.xori v384 v385
  let c0_i32_202 : BitVec 32 := 0#32
  let v383 : BitVec 1 := Scalar.cmpi .ne v382 c0_i32_202
  let v387 : BitVec 1 := Scalar.andi v386 v383
  let v388 : BitVec 32 := Scalar.addi v382 v381
  let v389 : BitVec 32 := Scalar.select v387 v388 v382
  let c2_i32_214 : BitVec 32 := 2#32
  let v404 : BitVec 32 := Scalar.muli v389 c2_i32_214
  let v405 : BitVec 32 := Scalar.addi v403 v404
  let c2_i32_205 : BitVec 32 := 2#32
  let c0_i32_206 : BitVec 32 := 0#32
  let v390 : BitVec 1 := Scalar.cmpi .eq c2_i32_205 c0_i32_206
  let c1_i32_207 : BitVec 32 := 1#32
  let v391 : BitVec 32 := Scalar.select v390 c1_i32_207 c2_i32_205
  let v392 : BitVec 32 := Scalar.remsi v389 v391
  let c0_i32_209 : BitVec 32 := 0#32
  let v394 : BitVec 1 := Scalar.cmpi .slt v392 c0_i32_209
  let c0_i32_210 : BitVec 32 := 0#32
  let v395 : BitVec 1 := Scalar.cmpi .slt v391 c0_i32_210
  let v396 : BitVec 1 := Scalar.xori v394 v395
  let c0_i32_208 : BitVec 32 := 0#32
  let v393 : BitVec 1 := Scalar.cmpi .ne v392 c0_i32_208
  let v397 : BitVec 1 := Scalar.andi v396 v393
  let v398 : BitVec 32 := Scalar.addi v392 v391
  let v399 : BitVec 32 := Scalar.select v397 v398 v392
  let c0_i32_211 : BitVec 32 := 0#32
  let v400 : BitVec 1 := Scalar.cmpi .eq v399 c0_i32_211
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_212 : BitVec 32 := 1#32
  let v401 : BitVec 32 := Scalar.subi c1_i32_212 v53
  let v402 : BitVec 32 := Scalar.select v400 v53 v401
  let v406 : BitVec 32 := Scalar.addi v405 v402
  let c1_i32_233 : BitVec 32 := 1#32
  let v435 : BitVec 32 := Scalar.muli v406 c1_i32_233
  let v436 : BitVec 32 := Scalar.addi c0_i32_234 v435
  v436.toNat
def k0_dev5 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_215 : BitVec 32 := 2#32
  let v407 : BitVec 32 := Scalar.addi v19 c2_i32_215
  let c4_i32_216 : BitVec 32 := 4#32
  let c0_i32_217 : BitVec 32 := 0#32
  let v408 : BitVec 1 := Scalar.cmpi .eq c4_i32_216 c0_i32_217
  let c1_i32_218 : BitVec 32 := 1#32
  let v409 : BitVec 32 := Scalar.select v408 c1_i32_218 c4_i32_216
  let v410 : BitVec 32 := Scalar.remsi v407 v409
  let c0_i32_220 : BitVec 32 := 0#32
  let v412 : BitVec 1 := Scalar.cmpi .slt v410 c0_i32_220
  let c0_i32_221 : BitVec 32 := 0#32
  let v413 : BitVec 1 := Scalar.cmpi .slt v409 c0_i32_221
  let v414 : BitVec 1 := Scalar.xori v412 v413
  let c0_i32_219 : BitVec 32 := 0#32
  let v411 : BitVec 1 := Scalar.cmpi .ne v410 c0_i32_219
  let v415 : BitVec 1 := Scalar.andi v414 v411
  let v416 : BitVec 32 := Scalar.addi v410 v409
  let v417 : BitVec 32 := Scalar.select v415 v416 v410
  let c8_i32_230 : BitVec 32 := 8#32
  let v431 : BitVec 32 := Scalar.muli v417 c8_i32_230
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_231 : BitVec 32 := 2#32
  let v432 : BitVec 32 := Scalar.muli v38 c2_i32_231
  let v433 : BitVec 32 := Scalar.addi v431 v432
  let c2_i32_222 : BitVec 32 := 2#32
  let c0_i32_223 : BitVec 32 := 0#32
  let v418 : BitVec 1 := Scalar.cmpi .eq c2_i32_222 c0_i32_223
  let c1_i32_224 : BitVec 32 := 1#32
  let v419 : BitVec 32 := Scalar.select v418 c1_i32_224 c2_i32_222
  let v420 : BitVec 32 := Scalar.remsi v38 v419
  let c0_i32_226 : BitVec 32 := 0#32
  let v422 : BitVec 1 := Scalar.cmpi .slt v420 c0_i32_226
  let c0_i32_227 : BitVec 32 := 0#32
  let v423 : BitVec 1 := Scalar.cmpi .slt v419 c0_i32_227
  let v424 : BitVec 1 := Scalar.xori v422 v423
  let c0_i32_225 : BitVec 32 := 0#32
  let v421 : BitVec 1 := Scalar.cmpi .ne v420 c0_i32_225
  let v425 : BitVec 1 := Scalar.andi v424 v421
  let v426 : BitVec 32 := Scalar.addi v420 v419
  let v427 : BitVec 32 := Scalar.select v425 v426 v420
  let c0_i32_228 : BitVec 32 := 0#32
  let v428 : BitVec 1 := Scalar.cmpi .eq v427 c0_i32_228
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_229 : BitVec 32 := 1#32
  let v429 : BitVec 32 := Scalar.subi c1_i32_229 v53
  let v430 : BitVec 32 := Scalar.select v428 v53 v429
  let v434 : BitVec 32 := Scalar.addi v433 v430
  let c1_i32_236 : BitVec 32 := 1#32
  let v437 : BitVec 32 := Scalar.muli v434 c1_i32_236
  let v438 : BitVec 32 := Scalar.addi c0_i32_237 v437
  v438.toNat
def k0_dev6 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_252 : BitVec 32 := 8#32
  let v463 : BitVec 32 := Scalar.muli v19 c8_i32_252
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32 : BitVec 32 := 3#32
  let v439 : BitVec 32 := Scalar.addi v38 c3_i32
  let c4_i32_238 : BitVec 32 := 4#32
  let c0_i32_239 : BitVec 32 := 0#32
  let v440 : BitVec 1 := Scalar.cmpi .eq c4_i32_238 c0_i32_239
  let c1_i32_240 : BitVec 32 := 1#32
  let v441 : BitVec 32 := Scalar.select v440 c1_i32_240 c4_i32_238
  let v442 : BitVec 32 := Scalar.remsi v439 v441
  let c0_i32_242 : BitVec 32 := 0#32
  let v444 : BitVec 1 := Scalar.cmpi .slt v442 c0_i32_242
  let c0_i32_243 : BitVec 32 := 0#32
  let v445 : BitVec 1 := Scalar.cmpi .slt v441 c0_i32_243
  let v446 : BitVec 1 := Scalar.xori v444 v445
  let c0_i32_241 : BitVec 32 := 0#32
  let v443 : BitVec 1 := Scalar.cmpi .ne v442 c0_i32_241
  let v447 : BitVec 1 := Scalar.andi v446 v443
  let v448 : BitVec 32 := Scalar.addi v442 v441
  let v449 : BitVec 32 := Scalar.select v447 v448 v442
  let c2_i32_253 : BitVec 32 := 2#32
  let v464 : BitVec 32 := Scalar.muli v449 c2_i32_253
  let v465 : BitVec 32 := Scalar.addi v463 v464
  let c2_i32_244 : BitVec 32 := 2#32
  let c0_i32_245 : BitVec 32 := 0#32
  let v450 : BitVec 1 := Scalar.cmpi .eq c2_i32_244 c0_i32_245
  let c1_i32_246 : BitVec 32 := 1#32
  let v451 : BitVec 32 := Scalar.select v450 c1_i32_246 c2_i32_244
  let v452 : BitVec 32 := Scalar.remsi v449 v451
  let c0_i32_248 : BitVec 32 := 0#32
  let v454 : BitVec 1 := Scalar.cmpi .slt v452 c0_i32_248
  let c0_i32_249 : BitVec 32 := 0#32
  let v455 : BitVec 1 := Scalar.cmpi .slt v451 c0_i32_249
  let v456 : BitVec 1 := Scalar.xori v454 v455
  let c0_i32_247 : BitVec 32 := 0#32
  let v453 : BitVec 1 := Scalar.cmpi .ne v452 c0_i32_247
  let v457 : BitVec 1 := Scalar.andi v456 v453
  let v458 : BitVec 32 := Scalar.addi v452 v451
  let v459 : BitVec 32 := Scalar.select v457 v458 v452
  let c0_i32_250 : BitVec 32 := 0#32
  let v460 : BitVec 1 := Scalar.cmpi .eq v459 c0_i32_250
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_251 : BitVec 32 := 1#32
  let v461 : BitVec 32 := Scalar.subi c1_i32_251 v53
  let v462 : BitVec 32 := Scalar.select v460 v53 v461
  let v466 : BitVec 32 := Scalar.addi v465 v462
  let c1_i32_272 : BitVec 32 := 1#32
  let v495 : BitVec 32 := Scalar.muli v466 c1_i32_272
  let v496 : BitVec 32 := Scalar.addi c0_i32_273 v495
  v496.toNat
def k0_dev7 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_254 : BitVec 32 := 3#32
  let v467 : BitVec 32 := Scalar.addi v19 c3_i32_254
  let c4_i32_255 : BitVec 32 := 4#32
  let c0_i32_256 : BitVec 32 := 0#32
  let v468 : BitVec 1 := Scalar.cmpi .eq c4_i32_255 c0_i32_256
  let c1_i32_257 : BitVec 32 := 1#32
  let v469 : BitVec 32 := Scalar.select v468 c1_i32_257 c4_i32_255
  let v470 : BitVec 32 := Scalar.remsi v467 v469
  let c0_i32_259 : BitVec 32 := 0#32
  let v472 : BitVec 1 := Scalar.cmpi .slt v470 c0_i32_259
  let c0_i32_260 : BitVec 32 := 0#32
  let v473 : BitVec 1 := Scalar.cmpi .slt v469 c0_i32_260
  let v474 : BitVec 1 := Scalar.xori v472 v473
  let c0_i32_258 : BitVec 32 := 0#32
  let v471 : BitVec 1 := Scalar.cmpi .ne v470 c0_i32_258
  let v475 : BitVec 1 := Scalar.andi v474 v471
  let v476 : BitVec 32 := Scalar.addi v470 v469
  let v477 : BitVec 32 := Scalar.select v475 v476 v470
  let c8_i32_269 : BitVec 32 := 8#32
  let v491 : BitVec 32 := Scalar.muli v477 c8_i32_269
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_270 : BitVec 32 := 2#32
  let v492 : BitVec 32 := Scalar.muli v38 c2_i32_270
  let v493 : BitVec 32 := Scalar.addi v491 v492
  let c2_i32_261 : BitVec 32 := 2#32
  let c0_i32_262 : BitVec 32 := 0#32
  let v478 : BitVec 1 := Scalar.cmpi .eq c2_i32_261 c0_i32_262
  let c1_i32_263 : BitVec 32 := 1#32
  let v479 : BitVec 32 := Scalar.select v478 c1_i32_263 c2_i32_261
  let v480 : BitVec 32 := Scalar.remsi v38 v479
  let c0_i32_265 : BitVec 32 := 0#32
  let v482 : BitVec 1 := Scalar.cmpi .slt v480 c0_i32_265
  let c0_i32_266 : BitVec 32 := 0#32
  let v483 : BitVec 1 := Scalar.cmpi .slt v479 c0_i32_266
  let v484 : BitVec 1 := Scalar.xori v482 v483
  let c0_i32_264 : BitVec 32 := 0#32
  let v481 : BitVec 1 := Scalar.cmpi .ne v480 c0_i32_264
  let v485 : BitVec 1 := Scalar.andi v484 v481
  let v486 : BitVec 32 := Scalar.addi v480 v479
  let v487 : BitVec 32 := Scalar.select v485 v486 v480
  let c0_i32_267 : BitVec 32 := 0#32
  let v488 : BitVec 1 := Scalar.cmpi .eq v487 c0_i32_267
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_268 : BitVec 32 := 1#32
  let v489 : BitVec 32 := Scalar.subi c1_i32_268 v53
  let v490 : BitVec 32 := Scalar.select v488 v53 v489
  let v494 : BitVec 32 := Scalar.addi v493 v490
  let c1_i32_275 : BitVec 32 := 1#32
  let v497 : BitVec 32 := Scalar.muli v494 c1_i32_275
  let v498 : BitVec 32 := Scalar.addi c0_i32_276 v497
  v498.toNat
def k0_cond1 (d0 : Dev nD) : BitVec 1 :=
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let v296 : BitVec 1 := Scalar.cmpi .ne v128 v2
  let v499 : BitVec 32 := Scalar.extui v296
  let c0_i32_277 : BitVec 32 := 0#32
  let v500 : BitVec 1 := Scalar.cmpi .ne v499 c0_i32_277
  v500

def k0_dev8 (d0 : Dev nD) : Nat :=
  let c0_i32_2432 : BitVec 32 := 0#32
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let c1_i32_2431 : BitVec 32 := 1#32
  let v3346 : BitVec 32 := Scalar.muli v128 c1_i32_2431
  let v3347 : BitVec 32 := Scalar.addi c0_i32_2432 v3346
  v3347.toNat
def k0_dev9 (d0 : Dev nD) : Nat :=
  let c0_i32_2435 : BitVec 32 := 0#32
  let c2_i32_86 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_80 : BitVec 32 := 2#32
  let c0_i32_81 : BitVec 32 := 0#32
  let v175 : BitVec 1 := Scalar.cmpi .eq c2_i32_80 c0_i32_81
  let c1_i32_82 : BitVec 32 := 1#32
  let v176 : BitVec 32 := Scalar.select v175 c1_i32_82 c2_i32_80
  let v177 : BitVec 32 := Scalar.remsi v19 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v185 : BitVec 32 := Scalar.muli c2_i32_86 v184
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v186 : BitVec 32 := Scalar.addi v185 v53
  let c8_i32_95 : BitVec 32 := 8#32
  let v200 : BitVec 32 := Scalar.muli v186 c8_i32_95
  let c2_i32_72 : BitVec 32 := 2#32
  let c2_i32_66 : BitVec 32 := 2#32
  let c0_i32_67 : BitVec 32 := 0#32
  let v146 : BitVec 1 := Scalar.cmpi .eq c2_i32_66 c0_i32_67
  let c1_i32_68 : BitVec 32 := 1#32
  let v147 : BitVec 32 := Scalar.select v146 c1_i32_68 c2_i32_66
  let v148 : BitVec 32 := Scalar.remsi v38 v147
  let c0_i32_70 : BitVec 32 := 0#32
  let v150 : BitVec 1 := Scalar.cmpi .slt v148 c0_i32_70
  let c0_i32_71 : BitVec 32 := 0#32
  let v151 : BitVec 1 := Scalar.cmpi .slt v147 c0_i32_71
  let v152 : BitVec 1 := Scalar.xori v150 v151
  let c0_i32_69 : BitVec 32 := 0#32
  let v149 : BitVec 1 := Scalar.cmpi .ne v148 c0_i32_69
  let v153 : BitVec 1 := Scalar.andi v152 v149
  let v154 : BitVec 32 := Scalar.addi v148 v147
  let v155 : BitVec 32 := Scalar.select v153 v154 v148
  let v156 : BitVec 32 := Scalar.muli c2_i32_72 v155
  let c0_i32_74 : BitVec 32 := 0#32
  let v158 : BitVec 1 := Scalar.cmpi .sgt v19 c0_i32_74
  let v159 : BitVec 32 := Scalar.extui v158
  let c0_i32_75 : BitVec 32 := 0#32
  let v160 : BitVec 1 := Scalar.cmpi .slt v19 c0_i32_75
  let v161 : BitVec 32 := Scalar.extui v160
  let v162 : BitVec 32 := Scalar.subi v159 v161
  let c2_i32_73 : BitVec 32 := 2#32
  let c0_i32_76 : BitVec 32 := 0#32
  let v163 : BitVec 1 := Scalar.cmpi .sgt c2_i32_73 c0_i32_76
  let v164 : BitVec 32 := Scalar.extui v163
  let c0_i32_77 : BitVec 32 := 0#32
  let v165 : BitVec 1 := Scalar.cmpi .slt c2_i32_73 c0_i32_77
  let v166 : BitVec 32 := Scalar.extui v165
  let v167 : BitVec 32 := Scalar.subi v164 v166
  let v168 : BitVec 1 := Scalar.cmpi .ne v162 v167
  let v169 : BitVec 32 := Scalar.remsi v19 c2_i32_73
  let c0_i32_78 : BitVec 32 := 0#32
  let v170 : BitVec 1 := Scalar.cmpi .ne v169 c0_i32_78
  let v171 : BitVec 1 := Scalar.andi v168 v170
  let v157 : BitVec 32 := Scalar.divsi v19 c2_i32_73
  let c1_i32_79 : BitVec 32 := 1#32
  let v172 : BitVec 32 := Scalar.subi v157 c1_i32_79
  let v173 : BitVec 32 := Scalar.select v171 v172 v157
  let v174 : BitVec 32 := Scalar.addi v156 v173
  let c2_i32_96 : BitVec 32 := 2#32
  let v201 : BitVec 32 := Scalar.muli v174 c2_i32_96
  let v202 : BitVec 32 := Scalar.addi v200 v201
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v174 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_93 : BitVec 32 := 0#32
  let v197 : BitVec 1 := Scalar.cmpi .eq v196 c0_i32_93
  let c0_i32_60 : BitVec 32 := 0#32
  let v130 : BitVec 1 := Scalar.cmpi .sgt v38 c0_i32_60
  let v131 : BitVec 32 := Scalar.extui v130
  let c0_i32_61 : BitVec 32 := 0#32
  let v132 : BitVec 1 := Scalar.cmpi .slt v38 c0_i32_61
  let v133 : BitVec 32 := Scalar.extui v132
  let v134 : BitVec 32 := Scalar.subi v131 v133
  let c2_i32_59 : BitVec 32 := 2#32
  let c0_i32_62 : BitVec 32 := 0#32
  let v135 : BitVec 1 := Scalar.cmpi .sgt c2_i32_59 c0_i32_62
  let v136 : BitVec 32 := Scalar.extui v135
  let c0_i32_63 : BitVec 32 := 0#32
  let v137 : BitVec 1 := Scalar.cmpi .slt c2_i32_59 c0_i32_63
  let v138 : BitVec 32 := Scalar.extui v137
  let v139 : BitVec 32 := Scalar.subi v136 v138
  let v140 : BitVec 1 := Scalar.cmpi .ne v134 v139
  let v141 : BitVec 32 := Scalar.remsi v38 c2_i32_59
  let c0_i32_64 : BitVec 32 := 0#32
  let v142 : BitVec 1 := Scalar.cmpi .ne v141 c0_i32_64
  let v143 : BitVec 1 := Scalar.andi v140 v142
  let v129 : BitVec 32 := Scalar.divsi v38 c2_i32_59
  let c1_i32_65 : BitVec 32 := 1#32
  let v144 : BitVec 32 := Scalar.subi v129 c1_i32_65
  let v145 : BitVec 32 := Scalar.select v143 v144 v129
  let c1_i32_94 : BitVec 32 := 1#32
  let v198 : BitVec 32 := Scalar.subi c1_i32_94 v145
  let v199 : BitVec 32 := Scalar.select v197 v145 v198
  let v203 : BitVec 32 := Scalar.addi v202 v199
  let c1_i32_2434 : BitVec 32 := 1#32
  let v3348 : BitVec 32 := Scalar.muli v203 c1_i32_2434
  let v3349 : BitVec 32 := Scalar.addi c0_i32_2435 v3348
  v3349.toNat
def k0_cond3 (d0 : Dev nD) : BitVec 1 :=
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let v297 : BitVec 1 := Scalar.cmpi .ne v249 v2
  let v504 : BitVec 32 := Scalar.extui v297
  let c0_i32_279 : BitVec 32 := 0#32
  let v505 : BitVec 1 := Scalar.cmpi .ne v504 c0_i32_279
  v505

def k0_dev10 (d0 : Dev nD) : Nat :=
  let c0_i32_2432 : BitVec 32 := 0#32
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let c1_i32_2431 : BitVec 32 := 1#32
  let v3346 : BitVec 32 := Scalar.muli v249 c1_i32_2431
  let v3347 : BitVec 32 := Scalar.addi c0_i32_2432 v3346
  v3347.toNat
def k0_dev11 (d0 : Dev nD) : Nat :=
  let c0_i32_2435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c8_i32_143 : BitVec 32 := 8#32
  let v292 : BitVec 32 := Scalar.muli v38 c8_i32_143
  let c2_i32_134 : BitVec 32 := 2#32
  let c2_i32_128 : BitVec 32 := 2#32
  let c0_i32_129 : BitVec 32 := 0#32
  let v267 : BitVec 1 := Scalar.cmpi .eq c2_i32_128 c0_i32_129
  let c1_i32_130 : BitVec 32 := 1#32
  let v268 : BitVec 32 := Scalar.select v267 c1_i32_130 c2_i32_128
  let v269 : BitVec 32 := Scalar.remsi v19 v268
  let c0_i32_132 : BitVec 32 := 0#32
  let v271 : BitVec 1 := Scalar.cmpi .slt v269 c0_i32_132
  let c0_i32_133 : BitVec 32 := 0#32
  let v272 : BitVec 1 := Scalar.cmpi .slt v268 c0_i32_133
  let v273 : BitVec 1 := Scalar.xori v271 v272
  let c0_i32_131 : BitVec 32 := 0#32
  let v270 : BitVec 1 := Scalar.cmpi .ne v269 c0_i32_131
  let v274 : BitVec 1 := Scalar.andi v273 v270
  let v275 : BitVec 32 := Scalar.addi v269 v268
  let v276 : BitVec 32 := Scalar.select v274 v275 v269
  let v277 : BitVec 32 := Scalar.muli c2_i32_134 v276
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v278 : BitVec 32 := Scalar.addi v277 v53
  let c2_i32_144 : BitVec 32 := 2#32
  let v293 : BitVec 32 := Scalar.muli v278 c2_i32_144
  let v294 : BitVec 32 := Scalar.addi v292 v293
  let c2_i32_135 : BitVec 32 := 2#32
  let c0_i32_136 : BitVec 32 := 0#32
  let v279 : BitVec 1 := Scalar.cmpi .eq c2_i32_135 c0_i32_136
  let c1_i32_137 : BitVec 32 := 1#32
  let v280 : BitVec 32 := Scalar.select v279 c1_i32_137 c2_i32_135
  let v281 : BitVec 32 := Scalar.remsi v278 v280
  let c0_i32_139 : BitVec 32 := 0#32
  let v283 : BitVec 1 := Scalar.cmpi .slt v281 c0_i32_139
  let c0_i32_140 : BitVec 32 := 0#32
  let v284 : BitVec 1 := Scalar.cmpi .slt v280 c0_i32_140
  let v285 : BitVec 1 := Scalar.xori v283 v284
  let c0_i32_138 : BitVec 32 := 0#32
  let v282 : BitVec 1 := Scalar.cmpi .ne v281 c0_i32_138
  let v286 : BitVec 1 := Scalar.andi v285 v282
  let v287 : BitVec 32 := Scalar.addi v281 v280
  let v288 : BitVec 32 := Scalar.select v286 v287 v281
  let c0_i32_141 : BitVec 32 := 0#32
  let v289 : BitVec 1 := Scalar.cmpi .eq v288 c0_i32_141
  let c0_i32_122 : BitVec 32 := 0#32
  let v251 : BitVec 1 := Scalar.cmpi .sgt v19 c0_i32_122
  let v252 : BitVec 32 := Scalar.extui v251
  let c0_i32_123 : BitVec 32 := 0#32
  let v253 : BitVec 1 := Scalar.cmpi .slt v19 c0_i32_123
  let v254 : BitVec 32 := Scalar.extui v253
  let v255 : BitVec 32 := Scalar.subi v252 v254
  let c2_i32_121 : BitVec 32 := 2#32
  let c0_i32_124 : BitVec 32 := 0#32
  let v256 : BitVec 1 := Scalar.cmpi .sgt c2_i32_121 c0_i32_124
  let v257 : BitVec 32 := Scalar.extui v256
  let c0_i32_125 : BitVec 32 := 0#32
  let v258 : BitVec 1 := Scalar.cmpi .slt c2_i32_121 c0_i32_125
  let v259 : BitVec 32 := Scalar.extui v258
  let v260 : BitVec 32 := Scalar.subi v257 v259
  let v261 : BitVec 1 := Scalar.cmpi .ne v255 v260
  let v262 : BitVec 32 := Scalar.remsi v19 c2_i32_121
  let c0_i32_126 : BitVec 32 := 0#32
  let v263 : BitVec 1 := Scalar.cmpi .ne v262 c0_i32_126
  let v264 : BitVec 1 := Scalar.andi v261 v263
  let v250 : BitVec 32 := Scalar.divsi v19 c2_i32_121
  let c1_i32_127 : BitVec 32 := 1#32
  let v265 : BitVec 32 := Scalar.subi v250 c1_i32_127
  let v266 : BitVec 32 := Scalar.select v264 v265 v250
  let c1_i32_142 : BitVec 32 := 1#32
  let v290 : BitVec 32 := Scalar.subi c1_i32_142 v266
  let v291 : BitVec 32 := Scalar.select v289 v266 v290
  let v295 : BitVec 32 := Scalar.addi v294 v291
  let c1_i32_2434 : BitVec 32 := 1#32
  let v3348 : BitVec 32 := Scalar.muli v295 c1_i32_2434
  let v3349 : BitVec 32 := Scalar.addi c0_i32_2435 v3348
  v3349.toNat
def k0_off1 (d0 : Dev nD) : Fin 2 → Nat :=
  let c1024_i32 : BitVec 32 := 1024#32
  let c1_i32_283 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v509 : BitVec 32 := Scalar.subi c1_i32_283 v53
  let v510 : BitVec 32 := Scalar.muli c1024_i32 v509
  let v511 : Index := Scalar.indexCast v510
  let c0 : Index := 0#32
  ![v511.toNat, 0]
def k0_off2 (d0 : Dev nD) : Fin 2 → Nat :=
  let c1024_i32 : BitVec 32 := 1024#32
  let c1_i32_283 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v509 : BitVec 32 := Scalar.subi c1_i32_283 v53
  let v510 : BitVec 32 := Scalar.muli c1024_i32 v509
  let v514 : Index := Scalar.indexCast v510
  let c0_284 : Index := 0#32
  ![v514.toNat, 0]
def k0_off3 (d0 : Dev nD) : Fin 2 → Nat :=
  let c0_i32_288 : BitVec 32 := 0#32
  let c1024_i32_287 : BitVec 32 := 1024#32
  let c1_i32_286 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v519 : BitVec 32 := Scalar.subi c1_i32_286 v53
  let v520 : BitVec 32 := Scalar.muli c1024_i32_287 v519
  let v521 : BitVec 32 := Scalar.addi c0_i32_288 v520
  let c0_i32_304 : BitVec 32 := 0#32
  ![v521.toNat, 0]
def k0_dev12 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_298 : BitVec 32 := 8#32
  let v536 : BitVec 32 := Scalar.muli v19 c8_i32_298
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_299 : BitVec 32 := 2#32
  let v537 : BitVec 32 := Scalar.muli v38 c2_i32_299
  let v538 : BitVec 32 := Scalar.addi v536 v537
  let c2_i32_290 : BitVec 32 := 2#32
  let c0_i32_291 : BitVec 32 := 0#32
  let v523 : BitVec 1 := Scalar.cmpi .eq c2_i32_290 c0_i32_291
  let c1_i32_292 : BitVec 32 := 1#32
  let v524 : BitVec 32 := Scalar.select v523 c1_i32_292 c2_i32_290
  let v525 : BitVec 32 := Scalar.remsi v38 v524
  let c0_i32_294 : BitVec 32 := 0#32
  let v527 : BitVec 1 := Scalar.cmpi .slt v525 c0_i32_294
  let c0_i32_295 : BitVec 32 := 0#32
  let v528 : BitVec 1 := Scalar.cmpi .slt v524 c0_i32_295
  let v529 : BitVec 1 := Scalar.xori v527 v528
  let c0_i32_293 : BitVec 32 := 0#32
  let v526 : BitVec 1 := Scalar.cmpi .ne v525 c0_i32_293
  let v530 : BitVec 1 := Scalar.andi v529 v526
  let v531 : BitVec 32 := Scalar.addi v525 v524
  let v532 : BitVec 32 := Scalar.select v530 v531 v525
  let c0_i32_296 : BitVec 32 := 0#32
  let v533 : BitVec 1 := Scalar.cmpi .eq v532 c0_i32_296
  let c1_i32_289 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v522 : BitVec 32 := Scalar.subi c1_i32_289 v53
  let c1_i32_297 : BitVec 32 := 1#32
  let v534 : BitVec 32 := Scalar.subi c1_i32_297 v522
  let v535 : BitVec 32 := Scalar.select v533 v522 v534
  let v539 : BitVec 32 := Scalar.addi v538 v535
  let c1_i32_302 : BitVec 32 := 1#32
  let v540 : BitVec 32 := Scalar.muli v539 c1_i32_302
  let v541 : BitVec 32 := Scalar.addi c0_i32_303 v540
  v541.toNat
def k0_off4 (d0 : Dev nD) (c1_i32_307 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v549 : BitVec 32 := Scalar.addi v38 c1_i32_307
  let c4_i32_308 : BitVec 32 := 4#32
  let c0_i32_309 : BitVec 32 := 0#32
  let v550 : BitVec 1 := Scalar.cmpi .eq c4_i32_308 c0_i32_309
  let c1_i32_310 : BitVec 32 := 1#32
  let v551 : BitVec 32 := Scalar.select v550 c1_i32_310 c4_i32_308
  let v552 : BitVec 32 := Scalar.remsi v549 v551
  let c0_i32_312 : BitVec 32 := 0#32
  let v554 : BitVec 1 := Scalar.cmpi .slt v552 c0_i32_312
  let c0_i32_313 : BitVec 32 := 0#32
  let v555 : BitVec 1 := Scalar.cmpi .slt v551 c0_i32_313
  let v556 : BitVec 1 := Scalar.xori v554 v555
  let c0_i32_311 : BitVec 32 := 0#32
  let v553 : BitVec 1 := Scalar.cmpi .ne v552 c0_i32_311
  let v557 : BitVec 1 := Scalar.andi v556 v553
  let v558 : BitVec 32 := Scalar.addi v552 v551
  let v559 : BitVec 32 := Scalar.select v557 v558 v552
  let c512_i32 : BitVec 32 := 512#32
  let v560 : BitVec 32 := Scalar.muli v559 c512_i32
  let v561 : Index := Scalar.indexCast v560
  let c384 : Index := 384#32
  ![v561.toNat, 384]
def k0_off5 (d0 : Dev nD) (c1_i32_307 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v549 : BitVec 32 := Scalar.addi v38 c1_i32_307
  let c4_i32_308 : BitVec 32 := 4#32
  let c0_i32_309 : BitVec 32 := 0#32
  let v550 : BitVec 1 := Scalar.cmpi .eq c4_i32_308 c0_i32_309
  let c1_i32_310 : BitVec 32 := 1#32
  let v551 : BitVec 32 := Scalar.select v550 c1_i32_310 c4_i32_308
  let v552 : BitVec 32 := Scalar.remsi v549 v551
  let c0_i32_312 : BitVec 32 := 0#32
  let v554 : BitVec 1 := Scalar.cmpi .slt v552 c0_i32_312
  let c0_i32_313 : BitVec 32 := 0#32
  let v555 : BitVec 1 := Scalar.cmpi .slt v551 c0_i32_313
  let v556 : BitVec 1 := Scalar.xori v554 v555
  let c0_i32_311 : BitVec 32 := 0#32
  let v553 : BitVec 1 := Scalar.cmpi .ne v552 c0_i32_311
  let v557 : BitVec 1 := Scalar.andi v556 v553
  let v558 : BitVec 32 := Scalar.addi v552 v551
  let v559 : BitVec 32 := Scalar.select v557 v558 v552
  let c512_i32_314 : BitVec 32 := 512#32
  let v564 : BitVec 32 := Scalar.muli v559 c512_i32_314
  let v565 : Index := Scalar.indexCast v564
  let c0_315 : Index := 0#32
  ![v565.toNat, 0]
def k0_off6 (d0 : Dev nD) (c1_i32_339 : BitVec 32) : Fin 2 → Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let v610 : BitVec 32 := Scalar.addi v38 c1_i32_339
  let c4_i32_340 : BitVec 32 := 4#32
  let c0_i32_341 : BitVec 32 := 0#32
  let v611 : BitVec 1 := Scalar.cmpi .eq c4_i32_340 c0_i32_341
  let c1_i32_342 : BitVec 32 := 1#32
  let v612 : BitVec 32 := Scalar.select v611 c1_i32_342 c4_i32_340
  let v613 : BitVec 32 := Scalar.remsi v610 v612
  let c0_i32_344 : BitVec 32 := 0#32
  let v615 : BitVec 1 := Scalar.cmpi .slt v613 c0_i32_344
  let c0_i32_345 : BitVec 32 := 0#32
  let v616 : BitVec 1 := Scalar.cmpi .slt v612 c0_i32_345
  let v617 : BitVec 1 := Scalar.xori v615 v616
  let c0_i32_343 : BitVec 32 := 0#32
  let v614 : BitVec 1 := Scalar.cmpi .ne v613 c0_i32_343
  let v618 : BitVec 1 := Scalar.andi v617 v614
  let v619 : BitVec 32 := Scalar.addi v613 v612
  let v620 : BitVec 32 := Scalar.select v618 v619 v613
  let c512_i32_346 : BitVec 32 := 512#32
  let v621 : BitVec 32 := Scalar.muli v620 c512_i32_346
  let v622 : BitVec 32 := Scalar.addi c0_i32_347 v621
  let c0_i32_363 : BitVec 32 := 0#32
  ![v622.toNat, 0]
def k0_dev13 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_356 : BitVec 32 := 8#32
  let v636 : BitVec 32 := Scalar.muli v19 c8_i32_356
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_339 : BitVec 32 := 1#32
  let v610 : BitVec 32 := Scalar.addi v38 c1_i32_339
  let c4_i32_340 : BitVec 32 := 4#32
  let c0_i32_341 : BitVec 32 := 0#32
  let v611 : BitVec 1 := Scalar.cmpi .eq c4_i32_340 c0_i32_341
  let c1_i32_342 : BitVec 32 := 1#32
  let v612 : BitVec 32 := Scalar.select v611 c1_i32_342 c4_i32_340
  let v613 : BitVec 32 := Scalar.remsi v610 v612
  let c0_i32_344 : BitVec 32 := 0#32
  let v615 : BitVec 1 := Scalar.cmpi .slt v613 c0_i32_344
  let c0_i32_345 : BitVec 32 := 0#32
  let v616 : BitVec 1 := Scalar.cmpi .slt v612 c0_i32_345
  let v617 : BitVec 1 := Scalar.xori v615 v616
  let c0_i32_343 : BitVec 32 := 0#32
  let v614 : BitVec 1 := Scalar.cmpi .ne v613 c0_i32_343
  let v618 : BitVec 1 := Scalar.andi v617 v614
  let v619 : BitVec 32 := Scalar.addi v613 v612
  let v620 : BitVec 32 := Scalar.select v618 v619 v613
  let c2_i32_357 : BitVec 32 := 2#32
  let v637 : BitVec 32 := Scalar.muli v620 c2_i32_357
  let v638 : BitVec 32 := Scalar.addi v636 v637
  let c2_i32_348 : BitVec 32 := 2#32
  let c0_i32_349 : BitVec 32 := 0#32
  let v623 : BitVec 1 := Scalar.cmpi .eq c2_i32_348 c0_i32_349
  let c1_i32_350 : BitVec 32 := 1#32
  let v624 : BitVec 32 := Scalar.select v623 c1_i32_350 c2_i32_348
  let v625 : BitVec 32 := Scalar.remsi v620 v624
  let c0_i32_352 : BitVec 32 := 0#32
  let v627 : BitVec 1 := Scalar.cmpi .slt v625 c0_i32_352
  let c0_i32_353 : BitVec 32 := 0#32
  let v628 : BitVec 1 := Scalar.cmpi .slt v624 c0_i32_353
  let v629 : BitVec 1 := Scalar.xori v627 v628
  let c0_i32_351 : BitVec 32 := 0#32
  let v626 : BitVec 1 := Scalar.cmpi .ne v625 c0_i32_351
  let v630 : BitVec 1 := Scalar.andi v629 v626
  let v631 : BitVec 32 := Scalar.addi v625 v624
  let v632 : BitVec 32 := Scalar.select v630 v631 v625
  let c0_i32_354 : BitVec 32 := 0#32
  let v633 : BitVec 1 := Scalar.cmpi .eq v632 c0_i32_354
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_355 : BitVec 32 := 1#32
  let v634 : BitVec 32 := Scalar.subi c1_i32_355 v53
  let v635 : BitVec 32 := Scalar.select v633 v53 v634
  let v639 : BitVec 32 := Scalar.addi v638 v635
  let c1_i32_359 : BitVec 32 := 1#32
  let v640 : BitVec 32 := Scalar.muli v639 c1_i32_359
  let v641 : BitVec 32 := Scalar.addi c0_i32_360 v640
  v641.toNat
def k0_dev14 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_381 : BitVec 32 := 8#32
  let v675 : BitVec 32 := Scalar.muli v19 c8_i32_381
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_364 : BitVec 32 := 2#32
  let v649 : BitVec 32 := Scalar.addi v38 c2_i32_364
  let c4_i32_365 : BitVec 32 := 4#32
  let c0_i32_366 : BitVec 32 := 0#32
  let v650 : BitVec 1 := Scalar.cmpi .eq c4_i32_365 c0_i32_366
  let c1_i32_367 : BitVec 32 := 1#32
  let v651 : BitVec 32 := Scalar.select v650 c1_i32_367 c4_i32_365
  let v652 : BitVec 32 := Scalar.remsi v649 v651
  let c0_i32_369 : BitVec 32 := 0#32
  let v654 : BitVec 1 := Scalar.cmpi .slt v652 c0_i32_369
  let c0_i32_370 : BitVec 32 := 0#32
  let v655 : BitVec 1 := Scalar.cmpi .slt v651 c0_i32_370
  let v656 : BitVec 1 := Scalar.xori v654 v655
  let c0_i32_368 : BitVec 32 := 0#32
  let v653 : BitVec 1 := Scalar.cmpi .ne v652 c0_i32_368
  let v657 : BitVec 1 := Scalar.andi v656 v653
  let v658 : BitVec 32 := Scalar.addi v652 v651
  let v659 : BitVec 32 := Scalar.select v657 v658 v652
  let c2_i32_382 : BitVec 32 := 2#32
  let v676 : BitVec 32 := Scalar.muli v659 c2_i32_382
  let v677 : BitVec 32 := Scalar.addi v675 v676
  let c2_i32_373 : BitVec 32 := 2#32
  let c0_i32_374 : BitVec 32 := 0#32
  let v662 : BitVec 1 := Scalar.cmpi .eq c2_i32_373 c0_i32_374
  let c1_i32_375 : BitVec 32 := 1#32
  let v663 : BitVec 32 := Scalar.select v662 c1_i32_375 c2_i32_373
  let v664 : BitVec 32 := Scalar.remsi v659 v663
  let c0_i32_377 : BitVec 32 := 0#32
  let v666 : BitVec 1 := Scalar.cmpi .slt v664 c0_i32_377
  let c0_i32_378 : BitVec 32 := 0#32
  let v667 : BitVec 1 := Scalar.cmpi .slt v663 c0_i32_378
  let v668 : BitVec 1 := Scalar.xori v666 v667
  let c0_i32_376 : BitVec 32 := 0#32
  let v665 : BitVec 1 := Scalar.cmpi .ne v664 c0_i32_376
  let v669 : BitVec 1 := Scalar.andi v668 v665
  let v670 : BitVec 32 := Scalar.addi v664 v663
  let v671 : BitVec 32 := Scalar.select v669 v670 v664
  let c0_i32_379 : BitVec 32 := 0#32
  let v672 : BitVec 1 := Scalar.cmpi .eq v671 c0_i32_379
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_380 : BitVec 32 := 1#32
  let v673 : BitVec 32 := Scalar.subi c1_i32_380 v53
  let v674 : BitVec 32 := Scalar.select v672 v53 v673
  let v678 : BitVec 32 := Scalar.addi v677 v674
  let c1_i32_386 : BitVec 32 := 1#32
  let v679 : BitVec 32 := Scalar.muli v678 c1_i32_386
  let v680 : BitVec 32 := Scalar.addi c0_i32_387 v679
  v680.toNat
def k0_dev15 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_408 : BitVec 32 := 8#32
  let v714 : BitVec 32 := Scalar.muli v19 c8_i32_408
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_391 : BitVec 32 := 3#32
  let v688 : BitVec 32 := Scalar.addi v38 c3_i32_391
  let c4_i32_392 : BitVec 32 := 4#32
  let c0_i32_393 : BitVec 32 := 0#32
  let v689 : BitVec 1 := Scalar.cmpi .eq c4_i32_392 c0_i32_393
  let c1_i32_394 : BitVec 32 := 1#32
  let v690 : BitVec 32 := Scalar.select v689 c1_i32_394 c4_i32_392
  let v691 : BitVec 32 := Scalar.remsi v688 v690
  let c0_i32_396 : BitVec 32 := 0#32
  let v693 : BitVec 1 := Scalar.cmpi .slt v691 c0_i32_396
  let c0_i32_397 : BitVec 32 := 0#32
  let v694 : BitVec 1 := Scalar.cmpi .slt v690 c0_i32_397
  let v695 : BitVec 1 := Scalar.xori v693 v694
  let c0_i32_395 : BitVec 32 := 0#32
  let v692 : BitVec 1 := Scalar.cmpi .ne v691 c0_i32_395
  let v696 : BitVec 1 := Scalar.andi v695 v692
  let v697 : BitVec 32 := Scalar.addi v691 v690
  let v698 : BitVec 32 := Scalar.select v696 v697 v691
  let c2_i32_409 : BitVec 32 := 2#32
  let v715 : BitVec 32 := Scalar.muli v698 c2_i32_409
  let v716 : BitVec 32 := Scalar.addi v714 v715
  let c2_i32_400 : BitVec 32 := 2#32
  let c0_i32_401 : BitVec 32 := 0#32
  let v701 : BitVec 1 := Scalar.cmpi .eq c2_i32_400 c0_i32_401
  let c1_i32_402 : BitVec 32 := 1#32
  let v702 : BitVec 32 := Scalar.select v701 c1_i32_402 c2_i32_400
  let v703 : BitVec 32 := Scalar.remsi v698 v702
  let c0_i32_404 : BitVec 32 := 0#32
  let v705 : BitVec 1 := Scalar.cmpi .slt v703 c0_i32_404
  let c0_i32_405 : BitVec 32 := 0#32
  let v706 : BitVec 1 := Scalar.cmpi .slt v702 c0_i32_405
  let v707 : BitVec 1 := Scalar.xori v705 v706
  let c0_i32_403 : BitVec 32 := 0#32
  let v704 : BitVec 1 := Scalar.cmpi .ne v703 c0_i32_403
  let v708 : BitVec 1 := Scalar.andi v707 v704
  let v709 : BitVec 32 := Scalar.addi v703 v702
  let v710 : BitVec 32 := Scalar.select v708 v709 v703
  let c0_i32_406 : BitVec 32 := 0#32
  let v711 : BitVec 1 := Scalar.cmpi .eq v710 c0_i32_406
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_407 : BitVec 32 := 1#32
  let v712 : BitVec 32 := Scalar.subi c1_i32_407 v53
  let v713 : BitVec 32 := Scalar.select v711 v53 v712
  let v717 : BitVec 32 := Scalar.addi v716 v713
  let c1_i32_413 : BitVec 32 := 1#32
  let v718 : BitVec 32 := Scalar.muli v717 c1_i32_413
  let v719 : BitVec 32 := Scalar.addi c0_i32_414 v718
  v719.toNat
def k0_off7 (d0 : Dev nD) (c1_i32_420 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v729 : BitVec 32 := Scalar.addi v19 c1_i32_420
  let c4_i32_421 : BitVec 32 := 4#32
  let c0_i32_422 : BitVec 32 := 0#32
  let v730 : BitVec 1 := Scalar.cmpi .eq c4_i32_421 c0_i32_422
  let c1_i32_423 : BitVec 32 := 1#32
  let v731 : BitVec 32 := Scalar.select v730 c1_i32_423 c4_i32_421
  let v732 : BitVec 32 := Scalar.remsi v729 v731
  let c0_i32_425 : BitVec 32 := 0#32
  let v734 : BitVec 1 := Scalar.cmpi .slt v732 c0_i32_425
  let c0_i32_426 : BitVec 32 := 0#32
  let v735 : BitVec 1 := Scalar.cmpi .slt v731 c0_i32_426
  let v736 : BitVec 1 := Scalar.xori v734 v735
  let c0_i32_424 : BitVec 32 := 0#32
  let v733 : BitVec 1 := Scalar.cmpi .ne v732 c0_i32_424
  let v737 : BitVec 1 := Scalar.andi v736 v733
  let v738 : BitVec 32 := Scalar.addi v732 v731
  let v739 : BitVec 32 := Scalar.select v737 v738 v732
  let c512_i32_427 : BitVec 32 := 512#32
  let v740 : BitVec 32 := Scalar.muli v739 c512_i32_427
  let v741 : Index := Scalar.indexCast v740
  let c640 : Index := 640#32
  ![v741.toNat, 640]
def k0_off8 (d0 : Dev nD) (c1_i32_420 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v729 : BitVec 32 := Scalar.addi v19 c1_i32_420
  let c4_i32_421 : BitVec 32 := 4#32
  let c0_i32_422 : BitVec 32 := 0#32
  let v730 : BitVec 1 := Scalar.cmpi .eq c4_i32_421 c0_i32_422
  let c1_i32_423 : BitVec 32 := 1#32
  let v731 : BitVec 32 := Scalar.select v730 c1_i32_423 c4_i32_421
  let v732 : BitVec 32 := Scalar.remsi v729 v731
  let c0_i32_425 : BitVec 32 := 0#32
  let v734 : BitVec 1 := Scalar.cmpi .slt v732 c0_i32_425
  let c0_i32_426 : BitVec 32 := 0#32
  let v735 : BitVec 1 := Scalar.cmpi .slt v731 c0_i32_426
  let v736 : BitVec 1 := Scalar.xori v734 v735
  let c0_i32_424 : BitVec 32 := 0#32
  let v733 : BitVec 1 := Scalar.cmpi .ne v732 c0_i32_424
  let v737 : BitVec 1 := Scalar.andi v736 v733
  let v738 : BitVec 32 := Scalar.addi v732 v731
  let v739 : BitVec 32 := Scalar.select v737 v738 v732
  let c512_i32_428 : BitVec 32 := 512#32
  let v744 : BitVec 32 := Scalar.muli v739 c512_i32_428
  let v745 : Index := Scalar.indexCast v744
  let c0_429 : Index := 0#32
  ![v745.toNat, 0]
def k0_off9 (d0 : Dev nD) (c1_i32_453 : BitVec 32) : Fin 2 → Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v790 : BitVec 32 := Scalar.addi v19 c1_i32_453
  let c4_i32_454 : BitVec 32 := 4#32
  let c0_i32_455 : BitVec 32 := 0#32
  let v791 : BitVec 1 := Scalar.cmpi .eq c4_i32_454 c0_i32_455
  let c1_i32_456 : BitVec 32 := 1#32
  let v792 : BitVec 32 := Scalar.select v791 c1_i32_456 c4_i32_454
  let v793 : BitVec 32 := Scalar.remsi v790 v792
  let c0_i32_458 : BitVec 32 := 0#32
  let v795 : BitVec 1 := Scalar.cmpi .slt v793 c0_i32_458
  let c0_i32_459 : BitVec 32 := 0#32
  let v796 : BitVec 1 := Scalar.cmpi .slt v792 c0_i32_459
  let v797 : BitVec 1 := Scalar.xori v795 v796
  let c0_i32_457 : BitVec 32 := 0#32
  let v794 : BitVec 1 := Scalar.cmpi .ne v793 c0_i32_457
  let v798 : BitVec 1 := Scalar.andi v797 v794
  let v799 : BitVec 32 := Scalar.addi v793 v792
  let v800 : BitVec 32 := Scalar.select v798 v799 v793
  let c512_i32_460 : BitVec 32 := 512#32
  let v801 : BitVec 32 := Scalar.muli v800 c512_i32_460
  let v802 : BitVec 32 := Scalar.addi c0_i32_461 v801
  let c0_i32_477 : BitVec 32 := 0#32
  ![v802.toNat, 0]
def k0_dev16 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_453 : BitVec 32 := 1#32
  let v790 : BitVec 32 := Scalar.addi v19 c1_i32_453
  let c4_i32_454 : BitVec 32 := 4#32
  let c0_i32_455 : BitVec 32 := 0#32
  let v791 : BitVec 1 := Scalar.cmpi .eq c4_i32_454 c0_i32_455
  let c1_i32_456 : BitVec 32 := 1#32
  let v792 : BitVec 32 := Scalar.select v791 c1_i32_456 c4_i32_454
  let v793 : BitVec 32 := Scalar.remsi v790 v792
  let c0_i32_458 : BitVec 32 := 0#32
  let v795 : BitVec 1 := Scalar.cmpi .slt v793 c0_i32_458
  let c0_i32_459 : BitVec 32 := 0#32
  let v796 : BitVec 1 := Scalar.cmpi .slt v792 c0_i32_459
  let v797 : BitVec 1 := Scalar.xori v795 v796
  let c0_i32_457 : BitVec 32 := 0#32
  let v794 : BitVec 1 := Scalar.cmpi .ne v793 c0_i32_457
  let v798 : BitVec 1 := Scalar.andi v797 v794
  let v799 : BitVec 32 := Scalar.addi v793 v792
  let v800 : BitVec 32 := Scalar.select v798 v799 v793
  let c8_i32_470 : BitVec 32 := 8#32
  let v816 : BitVec 32 := Scalar.muli v800 c8_i32_470
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_471 : BitVec 32 := 2#32
  let v817 : BitVec 32 := Scalar.muli v38 c2_i32_471
  let v818 : BitVec 32 := Scalar.addi v816 v817
  let c2_i32_462 : BitVec 32 := 2#32
  let c0_i32_463 : BitVec 32 := 0#32
  let v803 : BitVec 1 := Scalar.cmpi .eq c2_i32_462 c0_i32_463
  let c1_i32_464 : BitVec 32 := 1#32
  let v804 : BitVec 32 := Scalar.select v803 c1_i32_464 c2_i32_462
  let v805 : BitVec 32 := Scalar.remsi v38 v804
  let c0_i32_466 : BitVec 32 := 0#32
  let v807 : BitVec 1 := Scalar.cmpi .slt v805 c0_i32_466
  let c0_i32_467 : BitVec 32 := 0#32
  let v808 : BitVec 1 := Scalar.cmpi .slt v804 c0_i32_467
  let v809 : BitVec 1 := Scalar.xori v807 v808
  let c0_i32_465 : BitVec 32 := 0#32
  let v806 : BitVec 1 := Scalar.cmpi .ne v805 c0_i32_465
  let v810 : BitVec 1 := Scalar.andi v809 v806
  let v811 : BitVec 32 := Scalar.addi v805 v804
  let v812 : BitVec 32 := Scalar.select v810 v811 v805
  let c0_i32_468 : BitVec 32 := 0#32
  let v813 : BitVec 1 := Scalar.cmpi .eq v812 c0_i32_468
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_469 : BitVec 32 := 1#32
  let v814 : BitVec 32 := Scalar.subi c1_i32_469 v53
  let v815 : BitVec 32 := Scalar.select v813 v53 v814
  let v819 : BitVec 32 := Scalar.addi v818 v815
  let c1_i32_473 : BitVec 32 := 1#32
  let v820 : BitVec 32 := Scalar.muli v819 c1_i32_473
  let v821 : BitVec 32 := Scalar.addi c0_i32_474 v820
  v821.toNat
def k0_dev17 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_478 : BitVec 32 := 2#32
  let v829 : BitVec 32 := Scalar.addi v19 c2_i32_478
  let c4_i32_479 : BitVec 32 := 4#32
  let c0_i32_480 : BitVec 32 := 0#32
  let v830 : BitVec 1 := Scalar.cmpi .eq c4_i32_479 c0_i32_480
  let c1_i32_481 : BitVec 32 := 1#32
  let v831 : BitVec 32 := Scalar.select v830 c1_i32_481 c4_i32_479
  let v832 : BitVec 32 := Scalar.remsi v829 v831
  let c0_i32_483 : BitVec 32 := 0#32
  let v834 : BitVec 1 := Scalar.cmpi .slt v832 c0_i32_483
  let c0_i32_484 : BitVec 32 := 0#32
  let v835 : BitVec 1 := Scalar.cmpi .slt v831 c0_i32_484
  let v836 : BitVec 1 := Scalar.xori v834 v835
  let c0_i32_482 : BitVec 32 := 0#32
  let v833 : BitVec 1 := Scalar.cmpi .ne v832 c0_i32_482
  let v837 : BitVec 1 := Scalar.andi v836 v833
  let v838 : BitVec 32 := Scalar.addi v832 v831
  let v839 : BitVec 32 := Scalar.select v837 v838 v832
  let c8_i32_495 : BitVec 32 := 8#32
  let v855 : BitVec 32 := Scalar.muli v839 c8_i32_495
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_496 : BitVec 32 := 2#32
  let v856 : BitVec 32 := Scalar.muli v38 c2_i32_496
  let v857 : BitVec 32 := Scalar.addi v855 v856
  let c2_i32_487 : BitVec 32 := 2#32
  let c0_i32_488 : BitVec 32 := 0#32
  let v842 : BitVec 1 := Scalar.cmpi .eq c2_i32_487 c0_i32_488
  let c1_i32_489 : BitVec 32 := 1#32
  let v843 : BitVec 32 := Scalar.select v842 c1_i32_489 c2_i32_487
  let v844 : BitVec 32 := Scalar.remsi v38 v843
  let c0_i32_491 : BitVec 32 := 0#32
  let v846 : BitVec 1 := Scalar.cmpi .slt v844 c0_i32_491
  let c0_i32_492 : BitVec 32 := 0#32
  let v847 : BitVec 1 := Scalar.cmpi .slt v843 c0_i32_492
  let v848 : BitVec 1 := Scalar.xori v846 v847
  let c0_i32_490 : BitVec 32 := 0#32
  let v845 : BitVec 1 := Scalar.cmpi .ne v844 c0_i32_490
  let v849 : BitVec 1 := Scalar.andi v848 v845
  let v850 : BitVec 32 := Scalar.addi v844 v843
  let v851 : BitVec 32 := Scalar.select v849 v850 v844
  let c0_i32_493 : BitVec 32 := 0#32
  let v852 : BitVec 1 := Scalar.cmpi .eq v851 c0_i32_493
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_494 : BitVec 32 := 1#32
  let v853 : BitVec 32 := Scalar.subi c1_i32_494 v53
  let v854 : BitVec 32 := Scalar.select v852 v53 v853
  let v858 : BitVec 32 := Scalar.addi v857 v854
  let c1_i32_499 : BitVec 32 := 1#32
  let v859 : BitVec 32 := Scalar.muli v858 c1_i32_499
  let v860 : BitVec 32 := Scalar.addi c0_i32_500 v859
  v860.toNat
def k0_dev18 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_504 : BitVec 32 := 3#32
  let v868 : BitVec 32 := Scalar.addi v19 c3_i32_504
  let c4_i32_505 : BitVec 32 := 4#32
  let c0_i32_506 : BitVec 32 := 0#32
  let v869 : BitVec 1 := Scalar.cmpi .eq c4_i32_505 c0_i32_506
  let c1_i32_507 : BitVec 32 := 1#32
  let v870 : BitVec 32 := Scalar.select v869 c1_i32_507 c4_i32_505
  let v871 : BitVec 32 := Scalar.remsi v868 v870
  let c0_i32_509 : BitVec 32 := 0#32
  let v873 : BitVec 1 := Scalar.cmpi .slt v871 c0_i32_509
  let c0_i32_510 : BitVec 32 := 0#32
  let v874 : BitVec 1 := Scalar.cmpi .slt v870 c0_i32_510
  let v875 : BitVec 1 := Scalar.xori v873 v874
  let c0_i32_508 : BitVec 32 := 0#32
  let v872 : BitVec 1 := Scalar.cmpi .ne v871 c0_i32_508
  let v876 : BitVec 1 := Scalar.andi v875 v872
  let v877 : BitVec 32 := Scalar.addi v871 v870
  let v878 : BitVec 32 := Scalar.select v876 v877 v871
  let c8_i32_521 : BitVec 32 := 8#32
  let v894 : BitVec 32 := Scalar.muli v878 c8_i32_521
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_522 : BitVec 32 := 2#32
  let v895 : BitVec 32 := Scalar.muli v38 c2_i32_522
  let v896 : BitVec 32 := Scalar.addi v894 v895
  let c2_i32_513 : BitVec 32 := 2#32
  let c0_i32_514 : BitVec 32 := 0#32
  let v881 : BitVec 1 := Scalar.cmpi .eq c2_i32_513 c0_i32_514
  let c1_i32_515 : BitVec 32 := 1#32
  let v882 : BitVec 32 := Scalar.select v881 c1_i32_515 c2_i32_513
  let v883 : BitVec 32 := Scalar.remsi v38 v882
  let c0_i32_517 : BitVec 32 := 0#32
  let v885 : BitVec 1 := Scalar.cmpi .slt v883 c0_i32_517
  let c0_i32_518 : BitVec 32 := 0#32
  let v886 : BitVec 1 := Scalar.cmpi .slt v882 c0_i32_518
  let v887 : BitVec 1 := Scalar.xori v885 v886
  let c0_i32_516 : BitVec 32 := 0#32
  let v884 : BitVec 1 := Scalar.cmpi .ne v883 c0_i32_516
  let v888 : BitVec 1 := Scalar.andi v887 v884
  let v889 : BitVec 32 := Scalar.addi v883 v882
  let v890 : BitVec 32 := Scalar.select v888 v889 v883
  let c0_i32_519 : BitVec 32 := 0#32
  let v891 : BitVec 1 := Scalar.cmpi .eq v890 c0_i32_519
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_520 : BitVec 32 := 1#32
  let v892 : BitVec 32 := Scalar.subi c1_i32_520 v53
  let v893 : BitVec 32 := Scalar.select v891 v53 v892
  let v897 : BitVec 32 := Scalar.addi v896 v893
  let c1_i32_526 : BitVec 32 := 1#32
  let v898 : BitVec 32 := Scalar.muli v897 c1_i32_526
  let v899 : BitVec 32 := Scalar.addi c0_i32_527 v898
  v899.toNat
def k0_off10 (d0 : Dev nD) : Fin 2 → Nat :=
  let c1024_i32_285 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v518 : BitVec 32 := Scalar.muli c1024_i32_285 v53
  let v909 : Index := Scalar.indexCast v518
  let c0_533 : Index := 0#32
  ![v909.toNat, 0]
def k0_off11 (d0 : Dev nD) : Fin 2 → Nat :=
  let c1024_i32_285 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v518 : BitVec 32 := Scalar.muli c1024_i32_285 v53
  let v912 : Index := Scalar.indexCast v518
  let c0_534 : Index := 0#32
  ![v912.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_338 : BitVec 32 := 512#32
  let v609 : BitVec 32 := Scalar.muli v38 c512_i32_338
  let v916 : Index := Scalar.indexCast v609
  let c384_535 : Index := 384#32
  ![v916.toNat, 384]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_338 : BitVec 32 := 512#32
  let v609 : BitVec 32 := Scalar.muli v38 c512_i32_338
  let v919 : Index := Scalar.indexCast v609
  let c0_536 : Index := 0#32
  ![v919.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_452 : BitVec 32 := 512#32
  let v789 : BitVec 32 := Scalar.muli v19 c512_i32_452
  let v923 : Index := Scalar.indexCast v789
  let c640_537 : Index := 640#32
  ![v923.toNat, 640]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_452 : BitVec 32 := 512#32
  let v789 : BitVec 32 := Scalar.muli v19 c512_i32_452
  let v926 : Index := Scalar.indexCast v789
  let c0_538 : Index := 0#32
  ![v926.toNat, 0]
def k0_off16 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let v943 : Index := Scalar.indexCast v548
  let c0_552 : Index := 0#32
  ![v943.toNat, 0]
def k0_off17 (d0 : Dev nD) (c1_i32_556 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let v951 : BitVec 32 := Scalar.addi v38 c1_i32_556
  let c4_i32_557 : BitVec 32 := 4#32
  let c0_i32_558 : BitVec 32 := 0#32
  let v952 : BitVec 1 := Scalar.cmpi .eq c4_i32_557 c0_i32_558
  let c1_i32_559 : BitVec 32 := 1#32
  let v953 : BitVec 32 := Scalar.select v952 c1_i32_559 c4_i32_557
  let v954 : BitVec 32 := Scalar.remsi v951 v953
  let c0_i32_561 : BitVec 32 := 0#32
  let v956 : BitVec 1 := Scalar.cmpi .slt v954 c0_i32_561
  let c0_i32_562 : BitVec 32 := 0#32
  let v957 : BitVec 1 := Scalar.cmpi .slt v953 c0_i32_562
  let v958 : BitVec 1 := Scalar.xori v956 v957
  let c0_i32_560 : BitVec 32 := 0#32
  let v955 : BitVec 1 := Scalar.cmpi .ne v954 c0_i32_560
  let v959 : BitVec 1 := Scalar.andi v958 v955
  let v960 : BitVec 32 := Scalar.addi v954 v953
  let v961 : BitVec 32 := Scalar.select v959 v960 v954
  let c256_i32 : BitVec 32 := 256#32
  let v962 : BitVec 32 := Scalar.muli v961 c256_i32
  let v963 : BitVec 32 := Scalar.addi v548 v962
  let c0_i32_580 : BitVec 32 := 0#32
  ![v963.toNat, 0]
def k0_dev19 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_571 : BitVec 32 := 8#32
  let v977 : BitVec 32 := Scalar.muli v19 c8_i32_571
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_556 : BitVec 32 := 1#32
  let v951 : BitVec 32 := Scalar.addi v38 c1_i32_556
  let c4_i32_557 : BitVec 32 := 4#32
  let c0_i32_558 : BitVec 32 := 0#32
  let v952 : BitVec 1 := Scalar.cmpi .eq c4_i32_557 c0_i32_558
  let c1_i32_559 : BitVec 32 := 1#32
  let v953 : BitVec 32 := Scalar.select v952 c1_i32_559 c4_i32_557
  let v954 : BitVec 32 := Scalar.remsi v951 v953
  let c0_i32_561 : BitVec 32 := 0#32
  let v956 : BitVec 1 := Scalar.cmpi .slt v954 c0_i32_561
  let c0_i32_562 : BitVec 32 := 0#32
  let v957 : BitVec 1 := Scalar.cmpi .slt v953 c0_i32_562
  let v958 : BitVec 1 := Scalar.xori v956 v957
  let c0_i32_560 : BitVec 32 := 0#32
  let v955 : BitVec 1 := Scalar.cmpi .ne v954 c0_i32_560
  let v959 : BitVec 1 := Scalar.andi v958 v955
  let v960 : BitVec 32 := Scalar.addi v954 v953
  let v961 : BitVec 32 := Scalar.select v959 v960 v954
  let c2_i32_572 : BitVec 32 := 2#32
  let v978 : BitVec 32 := Scalar.muli v961 c2_i32_572
  let v979 : BitVec 32 := Scalar.addi v977 v978
  let c2_i32_563 : BitVec 32 := 2#32
  let c0_i32_564 : BitVec 32 := 0#32
  let v964 : BitVec 1 := Scalar.cmpi .eq c2_i32_563 c0_i32_564
  let c1_i32_565 : BitVec 32 := 1#32
  let v965 : BitVec 32 := Scalar.select v964 c1_i32_565 c2_i32_563
  let v966 : BitVec 32 := Scalar.remsi v961 v965
  let c0_i32_567 : BitVec 32 := 0#32
  let v968 : BitVec 1 := Scalar.cmpi .slt v966 c0_i32_567
  let c0_i32_568 : BitVec 32 := 0#32
  let v969 : BitVec 1 := Scalar.cmpi .slt v965 c0_i32_568
  let v970 : BitVec 1 := Scalar.xori v968 v969
  let c0_i32_566 : BitVec 32 := 0#32
  let v967 : BitVec 1 := Scalar.cmpi .ne v966 c0_i32_566
  let v971 : BitVec 1 := Scalar.andi v970 v967
  let v972 : BitVec 32 := Scalar.addi v966 v965
  let v973 : BitVec 32 := Scalar.select v971 v972 v966
  let c0_i32_569 : BitVec 32 := 0#32
  let v974 : BitVec 1 := Scalar.cmpi .eq v973 c0_i32_569
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_570 : BitVec 32 := 1#32
  let v975 : BitVec 32 := Scalar.subi c1_i32_570 v53
  let v976 : BitVec 32 := Scalar.select v974 v53 v975
  let v980 : BitVec 32 := Scalar.addi v979 v976
  let c1_i32_576 : BitVec 32 := 1#32
  let v981 : BitVec 32 := Scalar.muli v980 c1_i32_576
  let v982 : BitVec 32 := Scalar.addi c0_i32_577 v981
  v982.toNat
def k0_dev20 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_597 : BitVec 32 := 8#32
  let v1016 : BitVec 32 := Scalar.muli v19 c8_i32_597
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_581 : BitVec 32 := 2#32
  let v990 : BitVec 32 := Scalar.addi v38 c2_i32_581
  let c4_i32_582 : BitVec 32 := 4#32
  let c0_i32_583 : BitVec 32 := 0#32
  let v991 : BitVec 1 := Scalar.cmpi .eq c4_i32_582 c0_i32_583
  let c1_i32_584 : BitVec 32 := 1#32
  let v992 : BitVec 32 := Scalar.select v991 c1_i32_584 c4_i32_582
  let v993 : BitVec 32 := Scalar.remsi v990 v992
  let c0_i32_586 : BitVec 32 := 0#32
  let v995 : BitVec 1 := Scalar.cmpi .slt v993 c0_i32_586
  let c0_i32_587 : BitVec 32 := 0#32
  let v996 : BitVec 1 := Scalar.cmpi .slt v992 c0_i32_587
  let v997 : BitVec 1 := Scalar.xori v995 v996
  let c0_i32_585 : BitVec 32 := 0#32
  let v994 : BitVec 1 := Scalar.cmpi .ne v993 c0_i32_585
  let v998 : BitVec 1 := Scalar.andi v997 v994
  let v999 : BitVec 32 := Scalar.addi v993 v992
  let v1000 : BitVec 32 := Scalar.select v998 v999 v993
  let c2_i32_598 : BitVec 32 := 2#32
  let v1017 : BitVec 32 := Scalar.muli v1000 c2_i32_598
  let v1018 : BitVec 32 := Scalar.addi v1016 v1017
  let c2_i32_589 : BitVec 32 := 2#32
  let c0_i32_590 : BitVec 32 := 0#32
  let v1003 : BitVec 1 := Scalar.cmpi .eq c2_i32_589 c0_i32_590
  let c1_i32_591 : BitVec 32 := 1#32
  let v1004 : BitVec 32 := Scalar.select v1003 c1_i32_591 c2_i32_589
  let v1005 : BitVec 32 := Scalar.remsi v1000 v1004
  let c0_i32_593 : BitVec 32 := 0#32
  let v1007 : BitVec 1 := Scalar.cmpi .slt v1005 c0_i32_593
  let c0_i32_594 : BitVec 32 := 0#32
  let v1008 : BitVec 1 := Scalar.cmpi .slt v1004 c0_i32_594
  let v1009 : BitVec 1 := Scalar.xori v1007 v1008
  let c0_i32_592 : BitVec 32 := 0#32
  let v1006 : BitVec 1 := Scalar.cmpi .ne v1005 c0_i32_592
  let v1010 : BitVec 1 := Scalar.andi v1009 v1006
  let v1011 : BitVec 32 := Scalar.addi v1005 v1004
  let v1012 : BitVec 32 := Scalar.select v1010 v1011 v1005
  let c0_i32_595 : BitVec 32 := 0#32
  let v1013 : BitVec 1 := Scalar.cmpi .eq v1012 c0_i32_595
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_596 : BitVec 32 := 1#32
  let v1014 : BitVec 32 := Scalar.subi c1_i32_596 v53
  let v1015 : BitVec 32 := Scalar.select v1013 v53 v1014
  let v1019 : BitVec 32 := Scalar.addi v1018 v1015
  let c1_i32_602 : BitVec 32 := 1#32
  let v1020 : BitVec 32 := Scalar.muli v1019 c1_i32_602
  let v1021 : BitVec 32 := Scalar.addi c0_i32_603 v1020
  v1021.toNat
def k0_dev21 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_623 : BitVec 32 := 8#32
  let v1055 : BitVec 32 := Scalar.muli v19 c8_i32_623
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_607 : BitVec 32 := 3#32
  let v1029 : BitVec 32 := Scalar.addi v38 c3_i32_607
  let c4_i32_608 : BitVec 32 := 4#32
  let c0_i32_609 : BitVec 32 := 0#32
  let v1030 : BitVec 1 := Scalar.cmpi .eq c4_i32_608 c0_i32_609
  let c1_i32_610 : BitVec 32 := 1#32
  let v1031 : BitVec 32 := Scalar.select v1030 c1_i32_610 c4_i32_608
  let v1032 : BitVec 32 := Scalar.remsi v1029 v1031
  let c0_i32_612 : BitVec 32 := 0#32
  let v1034 : BitVec 1 := Scalar.cmpi .slt v1032 c0_i32_612
  let c0_i32_613 : BitVec 32 := 0#32
  let v1035 : BitVec 1 := Scalar.cmpi .slt v1031 c0_i32_613
  let v1036 : BitVec 1 := Scalar.xori v1034 v1035
  let c0_i32_611 : BitVec 32 := 0#32
  let v1033 : BitVec 1 := Scalar.cmpi .ne v1032 c0_i32_611
  let v1037 : BitVec 1 := Scalar.andi v1036 v1033
  let v1038 : BitVec 32 := Scalar.addi v1032 v1031
  let v1039 : BitVec 32 := Scalar.select v1037 v1038 v1032
  let c2_i32_624 : BitVec 32 := 2#32
  let v1056 : BitVec 32 := Scalar.muli v1039 c2_i32_624
  let v1057 : BitVec 32 := Scalar.addi v1055 v1056
  let c2_i32_615 : BitVec 32 := 2#32
  let c0_i32_616 : BitVec 32 := 0#32
  let v1042 : BitVec 1 := Scalar.cmpi .eq c2_i32_615 c0_i32_616
  let c1_i32_617 : BitVec 32 := 1#32
  let v1043 : BitVec 32 := Scalar.select v1042 c1_i32_617 c2_i32_615
  let v1044 : BitVec 32 := Scalar.remsi v1039 v1043
  let c0_i32_619 : BitVec 32 := 0#32
  let v1046 : BitVec 1 := Scalar.cmpi .slt v1044 c0_i32_619
  let c0_i32_620 : BitVec 32 := 0#32
  let v1047 : BitVec 1 := Scalar.cmpi .slt v1043 c0_i32_620
  let v1048 : BitVec 1 := Scalar.xori v1046 v1047
  let c0_i32_618 : BitVec 32 := 0#32
  let v1045 : BitVec 1 := Scalar.cmpi .ne v1044 c0_i32_618
  let v1049 : BitVec 1 := Scalar.andi v1048 v1045
  let v1050 : BitVec 32 := Scalar.addi v1044 v1043
  let v1051 : BitVec 32 := Scalar.select v1049 v1050 v1044
  let c0_i32_621 : BitVec 32 := 0#32
  let v1052 : BitVec 1 := Scalar.cmpi .eq v1051 c0_i32_621
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_622 : BitVec 32 := 1#32
  let v1053 : BitVec 32 := Scalar.subi c1_i32_622 v53
  let v1054 : BitVec 32 := Scalar.select v1052 v53 v1053
  let v1058 : BitVec 32 := Scalar.addi v1057 v1054
  let c1_i32_628 : BitVec 32 := 1#32
  let v1059 : BitVec 32 := Scalar.muli v1058 c1_i32_628
  let v1060 : BitVec 32 := Scalar.addi c0_i32_629 v1059
  v1060.toNat
def k0_off18 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let v1106 : Index := Scalar.indexCast v728
  let c0_679 : Index := 0#32
  ![v1106.toNat, 0]
def k0_off19 (d0 : Dev nD) (c1_i32_688 : BitVec 32) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let v1121 : BitVec 32 := Scalar.addi v19 c1_i32_688
  let c4_i32_689 : BitVec 32 := 4#32
  let c0_i32_690 : BitVec 32 := 0#32
  let v1122 : BitVec 1 := Scalar.cmpi .eq c4_i32_689 c0_i32_690
  let c1_i32_691 : BitVec 32 := 1#32
  let v1123 : BitVec 32 := Scalar.select v1122 c1_i32_691 c4_i32_689
  let v1124 : BitVec 32 := Scalar.remsi v1121 v1123
  let c0_i32_693 : BitVec 32 := 0#32
  let v1126 : BitVec 1 := Scalar.cmpi .slt v1124 c0_i32_693
  let c0_i32_694 : BitVec 32 := 0#32
  let v1127 : BitVec 1 := Scalar.cmpi .slt v1123 c0_i32_694
  let v1128 : BitVec 1 := Scalar.xori v1126 v1127
  let c0_i32_692 : BitVec 32 := 0#32
  let v1125 : BitVec 1 := Scalar.cmpi .ne v1124 c0_i32_692
  let v1129 : BitVec 1 := Scalar.andi v1128 v1125
  let v1130 : BitVec 32 := Scalar.addi v1124 v1123
  let v1131 : BitVec 32 := Scalar.select v1129 v1130 v1124
  let c128_i32 : BitVec 32 := 128#32
  let v1132 : BitVec 32 := Scalar.muli v1131 c128_i32
  let v1133 : BitVec 32 := Scalar.addi v728 v1132
  let c0_i32_710 : BitVec 32 := 0#32
  ![v1133.toNat, 0]
def k0_dev22 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_688 : BitVec 32 := 1#32
  let v1121 : BitVec 32 := Scalar.addi v19 c1_i32_688
  let c4_i32_689 : BitVec 32 := 4#32
  let c0_i32_690 : BitVec 32 := 0#32
  let v1122 : BitVec 1 := Scalar.cmpi .eq c4_i32_689 c0_i32_690
  let c1_i32_691 : BitVec 32 := 1#32
  let v1123 : BitVec 32 := Scalar.select v1122 c1_i32_691 c4_i32_689
  let v1124 : BitVec 32 := Scalar.remsi v1121 v1123
  let c0_i32_693 : BitVec 32 := 0#32
  let v1126 : BitVec 1 := Scalar.cmpi .slt v1124 c0_i32_693
  let c0_i32_694 : BitVec 32 := 0#32
  let v1127 : BitVec 1 := Scalar.cmpi .slt v1123 c0_i32_694
  let v1128 : BitVec 1 := Scalar.xori v1126 v1127
  let c0_i32_692 : BitVec 32 := 0#32
  let v1125 : BitVec 1 := Scalar.cmpi .ne v1124 c0_i32_692
  let v1129 : BitVec 1 := Scalar.andi v1128 v1125
  let v1130 : BitVec 32 := Scalar.addi v1124 v1123
  let v1131 : BitVec 32 := Scalar.select v1129 v1130 v1124
  let c8_i32_703 : BitVec 32 := 8#32
  let v1147 : BitVec 32 := Scalar.muli v1131 c8_i32_703
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_704 : BitVec 32 := 2#32
  let v1148 : BitVec 32 := Scalar.muli v38 c2_i32_704
  let v1149 : BitVec 32 := Scalar.addi v1147 v1148
  let c2_i32_695 : BitVec 32 := 2#32
  let c0_i32_696 : BitVec 32 := 0#32
  let v1134 : BitVec 1 := Scalar.cmpi .eq c2_i32_695 c0_i32_696
  let c1_i32_697 : BitVec 32 := 1#32
  let v1135 : BitVec 32 := Scalar.select v1134 c1_i32_697 c2_i32_695
  let v1136 : BitVec 32 := Scalar.remsi v38 v1135
  let c0_i32_699 : BitVec 32 := 0#32
  let v1138 : BitVec 1 := Scalar.cmpi .slt v1136 c0_i32_699
  let c0_i32_700 : BitVec 32 := 0#32
  let v1139 : BitVec 1 := Scalar.cmpi .slt v1135 c0_i32_700
  let v1140 : BitVec 1 := Scalar.xori v1138 v1139
  let c0_i32_698 : BitVec 32 := 0#32
  let v1137 : BitVec 1 := Scalar.cmpi .ne v1136 c0_i32_698
  let v1141 : BitVec 1 := Scalar.andi v1140 v1137
  let v1142 : BitVec 32 := Scalar.addi v1136 v1135
  let v1143 : BitVec 32 := Scalar.select v1141 v1142 v1136
  let c0_i32_701 : BitVec 32 := 0#32
  let v1144 : BitVec 1 := Scalar.cmpi .eq v1143 c0_i32_701
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_702 : BitVec 32 := 1#32
  let v1145 : BitVec 32 := Scalar.subi c1_i32_702 v53
  let v1146 : BitVec 32 := Scalar.select v1144 v53 v1145
  let v1150 : BitVec 32 := Scalar.addi v1149 v1146
  let c1_i32_706 : BitVec 32 := 1#32
  let v1151 : BitVec 32 := Scalar.muli v1150 c1_i32_706
  let v1152 : BitVec 32 := Scalar.addi c0_i32_707 v1151
  v1152.toNat
def k0_dev23 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_711 : BitVec 32 := 2#32
  let v1160 : BitVec 32 := Scalar.addi v19 c2_i32_711
  let c4_i32_712 : BitVec 32 := 4#32
  let c0_i32_713 : BitVec 32 := 0#32
  let v1161 : BitVec 1 := Scalar.cmpi .eq c4_i32_712 c0_i32_713
  let c1_i32_714 : BitVec 32 := 1#32
  let v1162 : BitVec 32 := Scalar.select v1161 c1_i32_714 c4_i32_712
  let v1163 : BitVec 32 := Scalar.remsi v1160 v1162
  let c0_i32_716 : BitVec 32 := 0#32
  let v1165 : BitVec 1 := Scalar.cmpi .slt v1163 c0_i32_716
  let c0_i32_717 : BitVec 32 := 0#32
  let v1166 : BitVec 1 := Scalar.cmpi .slt v1162 c0_i32_717
  let v1167 : BitVec 1 := Scalar.xori v1165 v1166
  let c0_i32_715 : BitVec 32 := 0#32
  let v1164 : BitVec 1 := Scalar.cmpi .ne v1163 c0_i32_715
  let v1168 : BitVec 1 := Scalar.andi v1167 v1164
  let v1169 : BitVec 32 := Scalar.addi v1163 v1162
  let v1170 : BitVec 32 := Scalar.select v1168 v1169 v1163
  let c8_i32_727 : BitVec 32 := 8#32
  let v1186 : BitVec 32 := Scalar.muli v1170 c8_i32_727
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_728 : BitVec 32 := 2#32
  let v1187 : BitVec 32 := Scalar.muli v38 c2_i32_728
  let v1188 : BitVec 32 := Scalar.addi v1186 v1187
  let c2_i32_719 : BitVec 32 := 2#32
  let c0_i32_720 : BitVec 32 := 0#32
  let v1173 : BitVec 1 := Scalar.cmpi .eq c2_i32_719 c0_i32_720
  let c1_i32_721 : BitVec 32 := 1#32
  let v1174 : BitVec 32 := Scalar.select v1173 c1_i32_721 c2_i32_719
  let v1175 : BitVec 32 := Scalar.remsi v38 v1174
  let c0_i32_723 : BitVec 32 := 0#32
  let v1177 : BitVec 1 := Scalar.cmpi .slt v1175 c0_i32_723
  let c0_i32_724 : BitVec 32 := 0#32
  let v1178 : BitVec 1 := Scalar.cmpi .slt v1174 c0_i32_724
  let v1179 : BitVec 1 := Scalar.xori v1177 v1178
  let c0_i32_722 : BitVec 32 := 0#32
  let v1176 : BitVec 1 := Scalar.cmpi .ne v1175 c0_i32_722
  let v1180 : BitVec 1 := Scalar.andi v1179 v1176
  let v1181 : BitVec 32 := Scalar.addi v1175 v1174
  let v1182 : BitVec 32 := Scalar.select v1180 v1181 v1175
  let c0_i32_725 : BitVec 32 := 0#32
  let v1183 : BitVec 1 := Scalar.cmpi .eq v1182 c0_i32_725
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_726 : BitVec 32 := 1#32
  let v1184 : BitVec 32 := Scalar.subi c1_i32_726 v53
  let v1185 : BitVec 32 := Scalar.select v1183 v53 v1184
  let v1189 : BitVec 32 := Scalar.addi v1188 v1185
  let c1_i32_732 : BitVec 32 := 1#32
  let v1190 : BitVec 32 := Scalar.muli v1189 c1_i32_732
  let v1191 : BitVec 32 := Scalar.addi c0_i32_733 v1190
  v1191.toNat
def k0_dev24 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_737 : BitVec 32 := 3#32
  let v1199 : BitVec 32 := Scalar.addi v19 c3_i32_737
  let c4_i32_738 : BitVec 32 := 4#32
  let c0_i32_739 : BitVec 32 := 0#32
  let v1200 : BitVec 1 := Scalar.cmpi .eq c4_i32_738 c0_i32_739
  let c1_i32_740 : BitVec 32 := 1#32
  let v1201 : BitVec 32 := Scalar.select v1200 c1_i32_740 c4_i32_738
  let v1202 : BitVec 32 := Scalar.remsi v1199 v1201
  let c0_i32_742 : BitVec 32 := 0#32
  let v1204 : BitVec 1 := Scalar.cmpi .slt v1202 c0_i32_742
  let c0_i32_743 : BitVec 32 := 0#32
  let v1205 : BitVec 1 := Scalar.cmpi .slt v1201 c0_i32_743
  let v1206 : BitVec 1 := Scalar.xori v1204 v1205
  let c0_i32_741 : BitVec 32 := 0#32
  let v1203 : BitVec 1 := Scalar.cmpi .ne v1202 c0_i32_741
  let v1207 : BitVec 1 := Scalar.andi v1206 v1203
  let v1208 : BitVec 32 := Scalar.addi v1202 v1201
  let v1209 : BitVec 32 := Scalar.select v1207 v1208 v1202
  let c8_i32_753 : BitVec 32 := 8#32
  let v1225 : BitVec 32 := Scalar.muli v1209 c8_i32_753
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_754 : BitVec 32 := 2#32
  let v1226 : BitVec 32 := Scalar.muli v38 c2_i32_754
  let v1227 : BitVec 32 := Scalar.addi v1225 v1226
  let c2_i32_745 : BitVec 32 := 2#32
  let c0_i32_746 : BitVec 32 := 0#32
  let v1212 : BitVec 1 := Scalar.cmpi .eq c2_i32_745 c0_i32_746
  let c1_i32_747 : BitVec 32 := 1#32
  let v1213 : BitVec 32 := Scalar.select v1212 c1_i32_747 c2_i32_745
  let v1214 : BitVec 32 := Scalar.remsi v38 v1213
  let c0_i32_749 : BitVec 32 := 0#32
  let v1216 : BitVec 1 := Scalar.cmpi .slt v1214 c0_i32_749
  let c0_i32_750 : BitVec 32 := 0#32
  let v1217 : BitVec 1 := Scalar.cmpi .slt v1213 c0_i32_750
  let v1218 : BitVec 1 := Scalar.xori v1216 v1217
  let c0_i32_748 : BitVec 32 := 0#32
  let v1215 : BitVec 1 := Scalar.cmpi .ne v1214 c0_i32_748
  let v1219 : BitVec 1 := Scalar.andi v1218 v1215
  let v1220 : BitVec 32 := Scalar.addi v1214 v1213
  let v1221 : BitVec 32 := Scalar.select v1219 v1220 v1214
  let c0_i32_751 : BitVec 32 := 0#32
  let v1222 : BitVec 1 := Scalar.cmpi .eq v1221 c0_i32_751
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_752 : BitVec 32 := 1#32
  let v1223 : BitVec 32 := Scalar.subi c1_i32_752 v53
  let v1224 : BitVec 32 := Scalar.select v1222 v53 v1223
  let v1228 : BitVec 32 := Scalar.addi v1227 v1224
  let c1_i32_758 : BitVec 32 := 1#32
  let v1229 : BitVec 32 := Scalar.muli v1228 c1_i32_758
  let v1230 : BitVec 32 := Scalar.addi c0_i32_759 v1229
  v1230.toNat
def k0_off20 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let v1276 : Index := Scalar.indexCast v908
  let c0_809 : Index := 0#32
  ![v1276.toNat, 0]
def k0_off21 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_821 : BitVec 32 := 256#32
  let c1_i32_820 : BitVec 32 := 1#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1291 : BitVec 32 := Scalar.subi c1_i32_820 v53
  let v1292 : BitVec 32 := Scalar.muli c256_i32_821 v1291
  let v1293 : BitVec 32 := Scalar.addi v908 v1292
  let c0_i32_836 : BitVec 32 := 0#32
  ![v1293.toNat, 0]
def k0_dev25 (d0 : Dev nD) : Nat :=
  let c0_i32_835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_831 : BitVec 32 := 8#32
  let v1308 : BitVec 32 := Scalar.muli v19 c8_i32_831
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_832 : BitVec 32 := 2#32
  let v1309 : BitVec 32 := Scalar.muli v38 c2_i32_832
  let v1310 : BitVec 32 := Scalar.addi v1308 v1309
  let c2_i32_823 : BitVec 32 := 2#32
  let c0_i32_824 : BitVec 32 := 0#32
  let v1295 : BitVec 1 := Scalar.cmpi .eq c2_i32_823 c0_i32_824
  let c1_i32_825 : BitVec 32 := 1#32
  let v1296 : BitVec 32 := Scalar.select v1295 c1_i32_825 c2_i32_823
  let v1297 : BitVec 32 := Scalar.remsi v38 v1296
  let c0_i32_827 : BitVec 32 := 0#32
  let v1299 : BitVec 1 := Scalar.cmpi .slt v1297 c0_i32_827
  let c0_i32_828 : BitVec 32 := 0#32
  let v1300 : BitVec 1 := Scalar.cmpi .slt v1296 c0_i32_828
  let v1301 : BitVec 1 := Scalar.xori v1299 v1300
  let c0_i32_826 : BitVec 32 := 0#32
  let v1298 : BitVec 1 := Scalar.cmpi .ne v1297 c0_i32_826
  let v1302 : BitVec 1 := Scalar.andi v1301 v1298
  let v1303 : BitVec 32 := Scalar.addi v1297 v1296
  let v1304 : BitVec 32 := Scalar.select v1302 v1303 v1297
  let c0_i32_829 : BitVec 32 := 0#32
  let v1305 : BitVec 1 := Scalar.cmpi .eq v1304 c0_i32_829
  let c1_i32_822 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1294 : BitVec 32 := Scalar.subi c1_i32_822 v53
  let c1_i32_830 : BitVec 32 := 1#32
  let v1306 : BitVec 32 := Scalar.subi c1_i32_830 v1294
  let v1307 : BitVec 32 := Scalar.select v1305 v1294 v1306
  let v1311 : BitVec 32 := Scalar.addi v1310 v1307
  let c1_i32_834 : BitVec 32 := 1#32
  let v1312 : BitVec 32 := Scalar.muli v1311 c1_i32_834
  let v1313 : BitVec 32 := Scalar.addi c0_i32_835 v1312
  v1313.toNat
def k0_off22 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let v1357 : Index := Scalar.indexCast v1069
  let c0_883 : Index := 0#32
  ![v1357.toNat, 0]
def k0_off23 (d0 : Dev nD) (c1_i32_894 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let v1372 : BitVec 32 := Scalar.addi v19 c1_i32_894
  let c4_i32_895 : BitVec 32 := 4#32
  let c0_i32_896 : BitVec 32 := 0#32
  let v1373 : BitVec 1 := Scalar.cmpi .eq c4_i32_895 c0_i32_896
  let c1_i32_897 : BitVec 32 := 1#32
  let v1374 : BitVec 32 := Scalar.select v1373 c1_i32_897 c4_i32_895
  let v1375 : BitVec 32 := Scalar.remsi v1372 v1374
  let c0_i32_899 : BitVec 32 := 0#32
  let v1377 : BitVec 1 := Scalar.cmpi .slt v1375 c0_i32_899
  let c0_i32_900 : BitVec 32 := 0#32
  let v1378 : BitVec 1 := Scalar.cmpi .slt v1374 c0_i32_900
  let v1379 : BitVec 1 := Scalar.xori v1377 v1378
  let c0_i32_898 : BitVec 32 := 0#32
  let v1376 : BitVec 1 := Scalar.cmpi .ne v1375 c0_i32_898
  let v1380 : BitVec 1 := Scalar.andi v1379 v1376
  let v1381 : BitVec 32 := Scalar.addi v1375 v1374
  let v1382 : BitVec 32 := Scalar.select v1380 v1381 v1375
  let c64_i32 : BitVec 32 := 64#32
  let v1383 : BitVec 32 := Scalar.muli v1382 c64_i32
  let v1384 : BitVec 32 := Scalar.addi v1069 v1383
  let c0_i32_917 : BitVec 32 := 0#32
  ![v1384.toNat, 0]
def k0_dev26 (d0 : Dev nD) : Nat :=
  let c0_i32_914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_894 : BitVec 32 := 1#32
  let v1372 : BitVec 32 := Scalar.addi v19 c1_i32_894
  let c4_i32_895 : BitVec 32 := 4#32
  let c0_i32_896 : BitVec 32 := 0#32
  let v1373 : BitVec 1 := Scalar.cmpi .eq c4_i32_895 c0_i32_896
  let c1_i32_897 : BitVec 32 := 1#32
  let v1374 : BitVec 32 := Scalar.select v1373 c1_i32_897 c4_i32_895
  let v1375 : BitVec 32 := Scalar.remsi v1372 v1374
  let c0_i32_899 : BitVec 32 := 0#32
  let v1377 : BitVec 1 := Scalar.cmpi .slt v1375 c0_i32_899
  let c0_i32_900 : BitVec 32 := 0#32
  let v1378 : BitVec 1 := Scalar.cmpi .slt v1374 c0_i32_900
  let v1379 : BitVec 1 := Scalar.xori v1377 v1378
  let c0_i32_898 : BitVec 32 := 0#32
  let v1376 : BitVec 1 := Scalar.cmpi .ne v1375 c0_i32_898
  let v1380 : BitVec 1 := Scalar.andi v1379 v1376
  let v1381 : BitVec 32 := Scalar.addi v1375 v1374
  let v1382 : BitVec 32 := Scalar.select v1380 v1381 v1375
  let c8_i32_909 : BitVec 32 := 8#32
  let v1398 : BitVec 32 := Scalar.muli v1382 c8_i32_909
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_910 : BitVec 32 := 2#32
  let v1399 : BitVec 32 := Scalar.muli v38 c2_i32_910
  let v1400 : BitVec 32 := Scalar.addi v1398 v1399
  let c2_i32_901 : BitVec 32 := 2#32
  let c0_i32_902 : BitVec 32 := 0#32
  let v1385 : BitVec 1 := Scalar.cmpi .eq c2_i32_901 c0_i32_902
  let c1_i32_903 : BitVec 32 := 1#32
  let v1386 : BitVec 32 := Scalar.select v1385 c1_i32_903 c2_i32_901
  let v1387 : BitVec 32 := Scalar.remsi v38 v1386
  let c0_i32_905 : BitVec 32 := 0#32
  let v1389 : BitVec 1 := Scalar.cmpi .slt v1387 c0_i32_905
  let c0_i32_906 : BitVec 32 := 0#32
  let v1390 : BitVec 1 := Scalar.cmpi .slt v1386 c0_i32_906
  let v1391 : BitVec 1 := Scalar.xori v1389 v1390
  let c0_i32_904 : BitVec 32 := 0#32
  let v1388 : BitVec 1 := Scalar.cmpi .ne v1387 c0_i32_904
  let v1392 : BitVec 1 := Scalar.andi v1391 v1388
  let v1393 : BitVec 32 := Scalar.addi v1387 v1386
  let v1394 : BitVec 32 := Scalar.select v1392 v1393 v1387
  let c0_i32_907 : BitVec 32 := 0#32
  let v1395 : BitVec 1 := Scalar.cmpi .eq v1394 c0_i32_907
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_908 : BitVec 32 := 1#32
  let v1396 : BitVec 32 := Scalar.subi c1_i32_908 v53
  let v1397 : BitVec 32 := Scalar.select v1395 v53 v1396
  let v1401 : BitVec 32 := Scalar.addi v1400 v1397
  let c1_i32_913 : BitVec 32 := 1#32
  let v1402 : BitVec 32 := Scalar.muli v1401 c1_i32_913
  let v1403 : BitVec 32 := Scalar.addi c0_i32_914 v1402
  v1403.toNat
def k0_dev27 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_918 : BitVec 32 := 2#32
  let v1411 : BitVec 32 := Scalar.addi v19 c2_i32_918
  let c4_i32_919 : BitVec 32 := 4#32
  let c0_i32_920 : BitVec 32 := 0#32
  let v1412 : BitVec 1 := Scalar.cmpi .eq c4_i32_919 c0_i32_920
  let c1_i32_921 : BitVec 32 := 1#32
  let v1413 : BitVec 32 := Scalar.select v1412 c1_i32_921 c4_i32_919
  let v1414 : BitVec 32 := Scalar.remsi v1411 v1413
  let c0_i32_923 : BitVec 32 := 0#32
  let v1416 : BitVec 1 := Scalar.cmpi .slt v1414 c0_i32_923
  let c0_i32_924 : BitVec 32 := 0#32
  let v1417 : BitVec 1 := Scalar.cmpi .slt v1413 c0_i32_924
  let v1418 : BitVec 1 := Scalar.xori v1416 v1417
  let c0_i32_922 : BitVec 32 := 0#32
  let v1415 : BitVec 1 := Scalar.cmpi .ne v1414 c0_i32_922
  let v1419 : BitVec 1 := Scalar.andi v1418 v1415
  let v1420 : BitVec 32 := Scalar.addi v1414 v1413
  let v1421 : BitVec 32 := Scalar.select v1419 v1420 v1414
  let c8_i32_934 : BitVec 32 := 8#32
  let v1437 : BitVec 32 := Scalar.muli v1421 c8_i32_934
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_935 : BitVec 32 := 2#32
  let v1438 : BitVec 32 := Scalar.muli v38 c2_i32_935
  let v1439 : BitVec 32 := Scalar.addi v1437 v1438
  let c2_i32_926 : BitVec 32 := 2#32
  let c0_i32_927 : BitVec 32 := 0#32
  let v1424 : BitVec 1 := Scalar.cmpi .eq c2_i32_926 c0_i32_927
  let c1_i32_928 : BitVec 32 := 1#32
  let v1425 : BitVec 32 := Scalar.select v1424 c1_i32_928 c2_i32_926
  let v1426 : BitVec 32 := Scalar.remsi v38 v1425
  let c0_i32_930 : BitVec 32 := 0#32
  let v1428 : BitVec 1 := Scalar.cmpi .slt v1426 c0_i32_930
  let c0_i32_931 : BitVec 32 := 0#32
  let v1429 : BitVec 1 := Scalar.cmpi .slt v1425 c0_i32_931
  let v1430 : BitVec 1 := Scalar.xori v1428 v1429
  let c0_i32_929 : BitVec 32 := 0#32
  let v1427 : BitVec 1 := Scalar.cmpi .ne v1426 c0_i32_929
  let v1431 : BitVec 1 := Scalar.andi v1430 v1427
  let v1432 : BitVec 32 := Scalar.addi v1426 v1425
  let v1433 : BitVec 32 := Scalar.select v1431 v1432 v1426
  let c0_i32_932 : BitVec 32 := 0#32
  let v1434 : BitVec 1 := Scalar.cmpi .eq v1433 c0_i32_932
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_933 : BitVec 32 := 1#32
  let v1435 : BitVec 32 := Scalar.subi c1_i32_933 v53
  let v1436 : BitVec 32 := Scalar.select v1434 v53 v1435
  let v1440 : BitVec 32 := Scalar.addi v1439 v1436
  let c1_i32_938 : BitVec 32 := 1#32
  let v1441 : BitVec 32 := Scalar.muli v1440 c1_i32_938
  let v1442 : BitVec 32 := Scalar.addi c0_i32_939 v1441
  v1442.toNat
def k0_dev28 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_943 : BitVec 32 := 3#32
  let v1450 : BitVec 32 := Scalar.addi v19 c3_i32_943
  let c4_i32_944 : BitVec 32 := 4#32
  let c0_i32_945 : BitVec 32 := 0#32
  let v1451 : BitVec 1 := Scalar.cmpi .eq c4_i32_944 c0_i32_945
  let c1_i32_946 : BitVec 32 := 1#32
  let v1452 : BitVec 32 := Scalar.select v1451 c1_i32_946 c4_i32_944
  let v1453 : BitVec 32 := Scalar.remsi v1450 v1452
  let c0_i32_948 : BitVec 32 := 0#32
  let v1455 : BitVec 1 := Scalar.cmpi .slt v1453 c0_i32_948
  let c0_i32_949 : BitVec 32 := 0#32
  let v1456 : BitVec 1 := Scalar.cmpi .slt v1452 c0_i32_949
  let v1457 : BitVec 1 := Scalar.xori v1455 v1456
  let c0_i32_947 : BitVec 32 := 0#32
  let v1454 : BitVec 1 := Scalar.cmpi .ne v1453 c0_i32_947
  let v1458 : BitVec 1 := Scalar.andi v1457 v1454
  let v1459 : BitVec 32 := Scalar.addi v1453 v1452
  let v1460 : BitVec 32 := Scalar.select v1458 v1459 v1453
  let c8_i32_959 : BitVec 32 := 8#32
  let v1476 : BitVec 32 := Scalar.muli v1460 c8_i32_959
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_960 : BitVec 32 := 2#32
  let v1477 : BitVec 32 := Scalar.muli v38 c2_i32_960
  let v1478 : BitVec 32 := Scalar.addi v1476 v1477
  let c2_i32_951 : BitVec 32 := 2#32
  let c0_i32_952 : BitVec 32 := 0#32
  let v1463 : BitVec 1 := Scalar.cmpi .eq c2_i32_951 c0_i32_952
  let c1_i32_953 : BitVec 32 := 1#32
  let v1464 : BitVec 32 := Scalar.select v1463 c1_i32_953 c2_i32_951
  let v1465 : BitVec 32 := Scalar.remsi v38 v1464
  let c0_i32_955 : BitVec 32 := 0#32
  let v1467 : BitVec 1 := Scalar.cmpi .slt v1465 c0_i32_955
  let c0_i32_956 : BitVec 32 := 0#32
  let v1468 : BitVec 1 := Scalar.cmpi .slt v1464 c0_i32_956
  let v1469 : BitVec 1 := Scalar.xori v1467 v1468
  let c0_i32_954 : BitVec 32 := 0#32
  let v1466 : BitVec 1 := Scalar.cmpi .ne v1465 c0_i32_954
  let v1470 : BitVec 1 := Scalar.andi v1469 v1466
  let v1471 : BitVec 32 := Scalar.addi v1465 v1464
  let v1472 : BitVec 32 := Scalar.select v1470 v1471 v1465
  let c0_i32_957 : BitVec 32 := 0#32
  let v1473 : BitVec 1 := Scalar.cmpi .eq v1472 c0_i32_957
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_958 : BitVec 32 := 1#32
  let v1474 : BitVec 32 := Scalar.subi c1_i32_958 v53
  let v1475 : BitVec 32 := Scalar.select v1473 v53 v1474
  let v1479 : BitVec 32 := Scalar.addi v1478 v1475
  let c1_i32_964 : BitVec 32 := 1#32
  let v1480 : BitVec 32 := Scalar.muli v1479 c1_i32_964
  let v1481 : BitVec 32 := Scalar.addi c0_i32_965 v1480
  v1481.toNat
def k0_off24 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let v1527 : Index := Scalar.indexCast v1239
  let c0_1015 : Index := 0#32
  ![v1527.toNat, 0]
def k0_off25 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1027 : BitVec 32 := 64#32
  let c1_i32_1026 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1542 : BitVec 32 := Scalar.subi c1_i32_1026 v53
  let v1543 : BitVec 32 := Scalar.muli c64_i32_1027 v1542
  let v1544 : BitVec 32 := Scalar.addi v1239 v1543
  let c0_i32_1042 : BitVec 32 := 0#32
  ![v1544.toNat, 0]
def k0_dev29 (d0 : Dev nD) : Nat :=
  let c0_i32_1041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1037 : BitVec 32 := 8#32
  let v1559 : BitVec 32 := Scalar.muli v19 c8_i32_1037
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1038 : BitVec 32 := 2#32
  let v1560 : BitVec 32 := Scalar.muli v38 c2_i32_1038
  let v1561 : BitVec 32 := Scalar.addi v1559 v1560
  let c2_i32_1029 : BitVec 32 := 2#32
  let c0_i32_1030 : BitVec 32 := 0#32
  let v1546 : BitVec 1 := Scalar.cmpi .eq c2_i32_1029 c0_i32_1030
  let c1_i32_1031 : BitVec 32 := 1#32
  let v1547 : BitVec 32 := Scalar.select v1546 c1_i32_1031 c2_i32_1029
  let v1548 : BitVec 32 := Scalar.remsi v38 v1547
  let c0_i32_1033 : BitVec 32 := 0#32
  let v1550 : BitVec 1 := Scalar.cmpi .slt v1548 c0_i32_1033
  let c0_i32_1034 : BitVec 32 := 0#32
  let v1551 : BitVec 1 := Scalar.cmpi .slt v1547 c0_i32_1034
  let v1552 : BitVec 1 := Scalar.xori v1550 v1551
  let c0_i32_1032 : BitVec 32 := 0#32
  let v1549 : BitVec 1 := Scalar.cmpi .ne v1548 c0_i32_1032
  let v1553 : BitVec 1 := Scalar.andi v1552 v1549
  let v1554 : BitVec 32 := Scalar.addi v1548 v1547
  let v1555 : BitVec 32 := Scalar.select v1553 v1554 v1548
  let c0_i32_1035 : BitVec 32 := 0#32
  let v1556 : BitVec 1 := Scalar.cmpi .eq v1555 c0_i32_1035
  let c1_i32_1028 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1545 : BitVec 32 := Scalar.subi c1_i32_1028 v53
  let c1_i32_1036 : BitVec 32 := 1#32
  let v1557 : BitVec 32 := Scalar.subi c1_i32_1036 v1545
  let v1558 : BitVec 32 := Scalar.select v1556 v1545 v1557
  let v1562 : BitVec 32 := Scalar.addi v1561 v1558
  let c1_i32_1040 : BitVec 32 := 1#32
  let v1563 : BitVec 32 := Scalar.muli v1562 c1_i32_1040
  let v1564 : BitVec 32 := Scalar.addi c0_i32_1041 v1563
  v1564.toNat
def k0_off26 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let v1580 : Index := Scalar.indexCast v1320
  let c0_1053 : Index := 0#32
  ![v1580.toNat, 0]
def k0_off27 (d0 : Dev nD) (c1_i32_1057 : BitVec 32) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let v1588 : BitVec 32 := Scalar.addi v38 c1_i32_1057
  let c4_i32_1058 : BitVec 32 := 4#32
  let c0_i32_1059 : BitVec 32 := 0#32
  let v1589 : BitVec 1 := Scalar.cmpi .eq c4_i32_1058 c0_i32_1059
  let c1_i32_1060 : BitVec 32 := 1#32
  let v1590 : BitVec 32 := Scalar.select v1589 c1_i32_1060 c4_i32_1058
  let v1591 : BitVec 32 := Scalar.remsi v1588 v1590
  let c0_i32_1062 : BitVec 32 := 0#32
  let v1593 : BitVec 1 := Scalar.cmpi .slt v1591 c0_i32_1062
  let c0_i32_1063 : BitVec 32 := 0#32
  let v1594 : BitVec 1 := Scalar.cmpi .slt v1590 c0_i32_1063
  let v1595 : BitVec 1 := Scalar.xori v1593 v1594
  let c0_i32_1061 : BitVec 32 := 0#32
  let v1592 : BitVec 1 := Scalar.cmpi .ne v1591 c0_i32_1061
  let v1596 : BitVec 1 := Scalar.andi v1595 v1592
  let v1597 : BitVec 32 := Scalar.addi v1591 v1590
  let v1598 : BitVec 32 := Scalar.select v1596 v1597 v1591
  let c64_i32_1064 : BitVec 32 := 64#32
  let v1599 : BitVec 32 := Scalar.muli v1598 c64_i32_1064
  let v1600 : BitVec 32 := Scalar.addi v1320 v1599
  let c0_i32_1080 : BitVec 32 := 0#32
  ![v1600.toNat, 0]
def k0_dev30 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1073 : BitVec 32 := 8#32
  let v1614 : BitVec 32 := Scalar.muli v19 c8_i32_1073
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_1057 : BitVec 32 := 1#32
  let v1588 : BitVec 32 := Scalar.addi v38 c1_i32_1057
  let c4_i32_1058 : BitVec 32 := 4#32
  let c0_i32_1059 : BitVec 32 := 0#32
  let v1589 : BitVec 1 := Scalar.cmpi .eq c4_i32_1058 c0_i32_1059
  let c1_i32_1060 : BitVec 32 := 1#32
  let v1590 : BitVec 32 := Scalar.select v1589 c1_i32_1060 c4_i32_1058
  let v1591 : BitVec 32 := Scalar.remsi v1588 v1590
  let c0_i32_1062 : BitVec 32 := 0#32
  let v1593 : BitVec 1 := Scalar.cmpi .slt v1591 c0_i32_1062
  let c0_i32_1063 : BitVec 32 := 0#32
  let v1594 : BitVec 1 := Scalar.cmpi .slt v1590 c0_i32_1063
  let v1595 : BitVec 1 := Scalar.xori v1593 v1594
  let c0_i32_1061 : BitVec 32 := 0#32
  let v1592 : BitVec 1 := Scalar.cmpi .ne v1591 c0_i32_1061
  let v1596 : BitVec 1 := Scalar.andi v1595 v1592
  let v1597 : BitVec 32 := Scalar.addi v1591 v1590
  let v1598 : BitVec 32 := Scalar.select v1596 v1597 v1591
  let c2_i32_1074 : BitVec 32 := 2#32
  let v1615 : BitVec 32 := Scalar.muli v1598 c2_i32_1074
  let v1616 : BitVec 32 := Scalar.addi v1614 v1615
  let c2_i32_1065 : BitVec 32 := 2#32
  let c0_i32_1066 : BitVec 32 := 0#32
  let v1601 : BitVec 1 := Scalar.cmpi .eq c2_i32_1065 c0_i32_1066
  let c1_i32_1067 : BitVec 32 := 1#32
  let v1602 : BitVec 32 := Scalar.select v1601 c1_i32_1067 c2_i32_1065
  let v1603 : BitVec 32 := Scalar.remsi v1598 v1602
  let c0_i32_1069 : BitVec 32 := 0#32
  let v1605 : BitVec 1 := Scalar.cmpi .slt v1603 c0_i32_1069
  let c0_i32_1070 : BitVec 32 := 0#32
  let v1606 : BitVec 1 := Scalar.cmpi .slt v1602 c0_i32_1070
  let v1607 : BitVec 1 := Scalar.xori v1605 v1606
  let c0_i32_1068 : BitVec 32 := 0#32
  let v1604 : BitVec 1 := Scalar.cmpi .ne v1603 c0_i32_1068
  let v1608 : BitVec 1 := Scalar.andi v1607 v1604
  let v1609 : BitVec 32 := Scalar.addi v1603 v1602
  let v1610 : BitVec 32 := Scalar.select v1608 v1609 v1603
  let c0_i32_1071 : BitVec 32 := 0#32
  let v1611 : BitVec 1 := Scalar.cmpi .eq v1610 c0_i32_1071
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1072 : BitVec 32 := 1#32
  let v1612 : BitVec 32 := Scalar.subi c1_i32_1072 v53
  let v1613 : BitVec 32 := Scalar.select v1611 v53 v1612
  let v1617 : BitVec 32 := Scalar.addi v1616 v1613
  let c1_i32_1076 : BitVec 32 := 1#32
  let v1618 : BitVec 32 := Scalar.muli v1617 c1_i32_1076
  let v1619 : BitVec 32 := Scalar.addi c0_i32_1077 v1618
  v1619.toNat
def k0_dev31 (d0 : Dev nD) : Nat :=
  let c0_i32_1102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1097 : BitVec 32 := 8#32
  let v1653 : BitVec 32 := Scalar.muli v19 c8_i32_1097
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1081 : BitVec 32 := 2#32
  let v1627 : BitVec 32 := Scalar.addi v38 c2_i32_1081
  let c4_i32_1082 : BitVec 32 := 4#32
  let c0_i32_1083 : BitVec 32 := 0#32
  let v1628 : BitVec 1 := Scalar.cmpi .eq c4_i32_1082 c0_i32_1083
  let c1_i32_1084 : BitVec 32 := 1#32
  let v1629 : BitVec 32 := Scalar.select v1628 c1_i32_1084 c4_i32_1082
  let v1630 : BitVec 32 := Scalar.remsi v1627 v1629
  let c0_i32_1086 : BitVec 32 := 0#32
  let v1632 : BitVec 1 := Scalar.cmpi .slt v1630 c0_i32_1086
  let c0_i32_1087 : BitVec 32 := 0#32
  let v1633 : BitVec 1 := Scalar.cmpi .slt v1629 c0_i32_1087
  let v1634 : BitVec 1 := Scalar.xori v1632 v1633
  let c0_i32_1085 : BitVec 32 := 0#32
  let v1631 : BitVec 1 := Scalar.cmpi .ne v1630 c0_i32_1085
  let v1635 : BitVec 1 := Scalar.andi v1634 v1631
  let v1636 : BitVec 32 := Scalar.addi v1630 v1629
  let v1637 : BitVec 32 := Scalar.select v1635 v1636 v1630
  let c2_i32_1098 : BitVec 32 := 2#32
  let v1654 : BitVec 32 := Scalar.muli v1637 c2_i32_1098
  let v1655 : BitVec 32 := Scalar.addi v1653 v1654
  let c2_i32_1089 : BitVec 32 := 2#32
  let c0_i32_1090 : BitVec 32 := 0#32
  let v1640 : BitVec 1 := Scalar.cmpi .eq c2_i32_1089 c0_i32_1090
  let c1_i32_1091 : BitVec 32 := 1#32
  let v1641 : BitVec 32 := Scalar.select v1640 c1_i32_1091 c2_i32_1089
  let v1642 : BitVec 32 := Scalar.remsi v1637 v1641
  let c0_i32_1093 : BitVec 32 := 0#32
  let v1644 : BitVec 1 := Scalar.cmpi .slt v1642 c0_i32_1093
  let c0_i32_1094 : BitVec 32 := 0#32
  let v1645 : BitVec 1 := Scalar.cmpi .slt v1641 c0_i32_1094
  let v1646 : BitVec 1 := Scalar.xori v1644 v1645
  let c0_i32_1092 : BitVec 32 := 0#32
  let v1643 : BitVec 1 := Scalar.cmpi .ne v1642 c0_i32_1092
  let v1647 : BitVec 1 := Scalar.andi v1646 v1643
  let v1648 : BitVec 32 := Scalar.addi v1642 v1641
  let v1649 : BitVec 32 := Scalar.select v1647 v1648 v1642
  let c0_i32_1095 : BitVec 32 := 0#32
  let v1650 : BitVec 1 := Scalar.cmpi .eq v1649 c0_i32_1095
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1096 : BitVec 32 := 1#32
  let v1651 : BitVec 32 := Scalar.subi c1_i32_1096 v53
  let v1652 : BitVec 32 := Scalar.select v1650 v53 v1651
  let v1656 : BitVec 32 := Scalar.addi v1655 v1652
  let c1_i32_1101 : BitVec 32 := 1#32
  let v1657 : BitVec 32 := Scalar.muli v1656 c1_i32_1101
  let v1658 : BitVec 32 := Scalar.addi c0_i32_1102 v1657
  v1658.toNat
def k0_dev32 (d0 : Dev nD) : Nat :=
  let c0_i32_1128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1122 : BitVec 32 := 8#32
  let v1692 : BitVec 32 := Scalar.muli v19 c8_i32_1122
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_1106 : BitVec 32 := 3#32
  let v1666 : BitVec 32 := Scalar.addi v38 c3_i32_1106
  let c4_i32_1107 : BitVec 32 := 4#32
  let c0_i32_1108 : BitVec 32 := 0#32
  let v1667 : BitVec 1 := Scalar.cmpi .eq c4_i32_1107 c0_i32_1108
  let c1_i32_1109 : BitVec 32 := 1#32
  let v1668 : BitVec 32 := Scalar.select v1667 c1_i32_1109 c4_i32_1107
  let v1669 : BitVec 32 := Scalar.remsi v1666 v1668
  let c0_i32_1111 : BitVec 32 := 0#32
  let v1671 : BitVec 1 := Scalar.cmpi .slt v1669 c0_i32_1111
  let c0_i32_1112 : BitVec 32 := 0#32
  let v1672 : BitVec 1 := Scalar.cmpi .slt v1668 c0_i32_1112
  let v1673 : BitVec 1 := Scalar.xori v1671 v1672
  let c0_i32_1110 : BitVec 32 := 0#32
  let v1670 : BitVec 1 := Scalar.cmpi .ne v1669 c0_i32_1110
  let v1674 : BitVec 1 := Scalar.andi v1673 v1670
  let v1675 : BitVec 32 := Scalar.addi v1669 v1668
  let v1676 : BitVec 32 := Scalar.select v1674 v1675 v1669
  let c2_i32_1123 : BitVec 32 := 2#32
  let v1693 : BitVec 32 := Scalar.muli v1676 c2_i32_1123
  let v1694 : BitVec 32 := Scalar.addi v1692 v1693
  let c2_i32_1114 : BitVec 32 := 2#32
  let c0_i32_1115 : BitVec 32 := 0#32
  let v1679 : BitVec 1 := Scalar.cmpi .eq c2_i32_1114 c0_i32_1115
  let c1_i32_1116 : BitVec 32 := 1#32
  let v1680 : BitVec 32 := Scalar.select v1679 c1_i32_1116 c2_i32_1114
  let v1681 : BitVec 32 := Scalar.remsi v1676 v1680
  let c0_i32_1118 : BitVec 32 := 0#32
  let v1683 : BitVec 1 := Scalar.cmpi .slt v1681 c0_i32_1118
  let c0_i32_1119 : BitVec 32 := 0#32
  let v1684 : BitVec 1 := Scalar.cmpi .slt v1680 c0_i32_1119
  let v1685 : BitVec 1 := Scalar.xori v1683 v1684
  let c0_i32_1117 : BitVec 32 := 0#32
  let v1682 : BitVec 1 := Scalar.cmpi .ne v1681 c0_i32_1117
  let v1686 : BitVec 1 := Scalar.andi v1685 v1682
  let v1687 : BitVec 32 := Scalar.addi v1681 v1680
  let v1688 : BitVec 32 := Scalar.select v1686 v1687 v1681
  let c0_i32_1120 : BitVec 32 := 0#32
  let v1689 : BitVec 1 := Scalar.cmpi .eq v1688 c0_i32_1120
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1121 : BitVec 32 := 1#32
  let v1690 : BitVec 32 := Scalar.subi c1_i32_1121 v53
  let v1691 : BitVec 32 := Scalar.select v1689 v53 v1690
  let v1695 : BitVec 32 := Scalar.addi v1694 v1691
  let c1_i32_1127 : BitVec 32 := 1#32
  let v1696 : BitVec 32 := Scalar.muli v1695 c1_i32_1127
  let v1697 : BitVec 32 := Scalar.addi c0_i32_1128 v1696
  v1697.toNat
def k0_off28 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let v1743 : Index := Scalar.indexCast v1490
  let c0_1178 : Index := 0#32
  ![v1743.toNat, 0]
def k0_off29 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let v1766 : Index := Scalar.indexCast v1571
  let c0_1198 : Index := 0#32
  ![v1766.toNat, 0]
def k0_off30 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let v1810 : Index := Scalar.indexCast v1706
  let c0_1247 : Index := 0#32
  ![v1810.toNat, 0]
def k0_cond5 (d0 : Dev nD) : BitVec 1 :=
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let v296 : BitVec 1 := Scalar.cmpi .ne v128 v2
  let v1825 : BitVec 32 := Scalar.extui v296
  let c0_i32_1260 : BitVec 32 := 0#32
  let v1826 : BitVec 1 := Scalar.cmpi .ne v1825 c0_i32_1260
  v1826

def k0_off31 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c0_i32_2432 : BitVec 32 := 0#32
  ![v1571.toNat, 0]
def k0_dev33 (d0 : Dev nD) : Nat :=
  let c0_i32_2431 : BitVec 32 := 0#32
  let c2_i32_86 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_80 : BitVec 32 := 2#32
  let c0_i32_81 : BitVec 32 := 0#32
  let v175 : BitVec 1 := Scalar.cmpi .eq c2_i32_80 c0_i32_81
  let c1_i32_82 : BitVec 32 := 1#32
  let v176 : BitVec 32 := Scalar.select v175 c1_i32_82 c2_i32_80
  let v177 : BitVec 32 := Scalar.remsi v19 v176
  let c0_i32_84 : BitVec 32 := 0#32
  let v179 : BitVec 1 := Scalar.cmpi .slt v177 c0_i32_84
  let c0_i32_85 : BitVec 32 := 0#32
  let v180 : BitVec 1 := Scalar.cmpi .slt v176 c0_i32_85
  let v181 : BitVec 1 := Scalar.xori v179 v180
  let c0_i32_83 : BitVec 32 := 0#32
  let v178 : BitVec 1 := Scalar.cmpi .ne v177 c0_i32_83
  let v182 : BitVec 1 := Scalar.andi v181 v178
  let v183 : BitVec 32 := Scalar.addi v177 v176
  let v184 : BitVec 32 := Scalar.select v182 v183 v177
  let v185 : BitVec 32 := Scalar.muli c2_i32_86 v184
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v186 : BitVec 32 := Scalar.addi v185 v53
  let c8_i32_95 : BitVec 32 := 8#32
  let v200 : BitVec 32 := Scalar.muli v186 c8_i32_95
  let c2_i32_72 : BitVec 32 := 2#32
  let c2_i32_66 : BitVec 32 := 2#32
  let c0_i32_67 : BitVec 32 := 0#32
  let v146 : BitVec 1 := Scalar.cmpi .eq c2_i32_66 c0_i32_67
  let c1_i32_68 : BitVec 32 := 1#32
  let v147 : BitVec 32 := Scalar.select v146 c1_i32_68 c2_i32_66
  let v148 : BitVec 32 := Scalar.remsi v38 v147
  let c0_i32_70 : BitVec 32 := 0#32
  let v150 : BitVec 1 := Scalar.cmpi .slt v148 c0_i32_70
  let c0_i32_71 : BitVec 32 := 0#32
  let v151 : BitVec 1 := Scalar.cmpi .slt v147 c0_i32_71
  let v152 : BitVec 1 := Scalar.xori v150 v151
  let c0_i32_69 : BitVec 32 := 0#32
  let v149 : BitVec 1 := Scalar.cmpi .ne v148 c0_i32_69
  let v153 : BitVec 1 := Scalar.andi v152 v149
  let v154 : BitVec 32 := Scalar.addi v148 v147
  let v155 : BitVec 32 := Scalar.select v153 v154 v148
  let v156 : BitVec 32 := Scalar.muli c2_i32_72 v155
  let c0_i32_74 : BitVec 32 := 0#32
  let v158 : BitVec 1 := Scalar.cmpi .sgt v19 c0_i32_74
  let v159 : BitVec 32 := Scalar.extui v158
  let c0_i32_75 : BitVec 32 := 0#32
  let v160 : BitVec 1 := Scalar.cmpi .slt v19 c0_i32_75
  let v161 : BitVec 32 := Scalar.extui v160
  let v162 : BitVec 32 := Scalar.subi v159 v161
  let c2_i32_73 : BitVec 32 := 2#32
  let c0_i32_76 : BitVec 32 := 0#32
  let v163 : BitVec 1 := Scalar.cmpi .sgt c2_i32_73 c0_i32_76
  let v164 : BitVec 32 := Scalar.extui v163
  let c0_i32_77 : BitVec 32 := 0#32
  let v165 : BitVec 1 := Scalar.cmpi .slt c2_i32_73 c0_i32_77
  let v166 : BitVec 32 := Scalar.extui v165
  let v167 : BitVec 32 := Scalar.subi v164 v166
  let v168 : BitVec 1 := Scalar.cmpi .ne v162 v167
  let v169 : BitVec 32 := Scalar.remsi v19 c2_i32_73
  let c0_i32_78 : BitVec 32 := 0#32
  let v170 : BitVec 1 := Scalar.cmpi .ne v169 c0_i32_78
  let v171 : BitVec 1 := Scalar.andi v168 v170
  let v157 : BitVec 32 := Scalar.divsi v19 c2_i32_73
  let c1_i32_79 : BitVec 32 := 1#32
  let v172 : BitVec 32 := Scalar.subi v157 c1_i32_79
  let v173 : BitVec 32 := Scalar.select v171 v172 v157
  let v174 : BitVec 32 := Scalar.addi v156 v173
  let c2_i32_96 : BitVec 32 := 2#32
  let v201 : BitVec 32 := Scalar.muli v174 c2_i32_96
  let v202 : BitVec 32 := Scalar.addi v200 v201
  let c2_i32_87 : BitVec 32 := 2#32
  let c0_i32_88 : BitVec 32 := 0#32
  let v187 : BitVec 1 := Scalar.cmpi .eq c2_i32_87 c0_i32_88
  let c1_i32_89 : BitVec 32 := 1#32
  let v188 : BitVec 32 := Scalar.select v187 c1_i32_89 c2_i32_87
  let v189 : BitVec 32 := Scalar.remsi v174 v188
  let c0_i32_91 : BitVec 32 := 0#32
  let v191 : BitVec 1 := Scalar.cmpi .slt v189 c0_i32_91
  let c0_i32_92 : BitVec 32 := 0#32
  let v192 : BitVec 1 := Scalar.cmpi .slt v188 c0_i32_92
  let v193 : BitVec 1 := Scalar.xori v191 v192
  let c0_i32_90 : BitVec 32 := 0#32
  let v190 : BitVec 1 := Scalar.cmpi .ne v189 c0_i32_90
  let v194 : BitVec 1 := Scalar.andi v193 v190
  let v195 : BitVec 32 := Scalar.addi v189 v188
  let v196 : BitVec 32 := Scalar.select v194 v195 v189
  let c0_i32_93 : BitVec 32 := 0#32
  let v197 : BitVec 1 := Scalar.cmpi .eq v196 c0_i32_93
  let c0_i32_60 : BitVec 32 := 0#32
  let v130 : BitVec 1 := Scalar.cmpi .sgt v38 c0_i32_60
  let v131 : BitVec 32 := Scalar.extui v130
  let c0_i32_61 : BitVec 32 := 0#32
  let v132 : BitVec 1 := Scalar.cmpi .slt v38 c0_i32_61
  let v133 : BitVec 32 := Scalar.extui v132
  let v134 : BitVec 32 := Scalar.subi v131 v133
  let c2_i32_59 : BitVec 32 := 2#32
  let c0_i32_62 : BitVec 32 := 0#32
  let v135 : BitVec 1 := Scalar.cmpi .sgt c2_i32_59 c0_i32_62
  let v136 : BitVec 32 := Scalar.extui v135
  let c0_i32_63 : BitVec 32 := 0#32
  let v137 : BitVec 1 := Scalar.cmpi .slt c2_i32_59 c0_i32_63
  let v138 : BitVec 32 := Scalar.extui v137
  let v139 : BitVec 32 := Scalar.subi v136 v138
  let v140 : BitVec 1 := Scalar.cmpi .ne v134 v139
  let v141 : BitVec 32 := Scalar.remsi v38 c2_i32_59
  let c0_i32_64 : BitVec 32 := 0#32
  let v142 : BitVec 1 := Scalar.cmpi .ne v141 c0_i32_64
  let v143 : BitVec 1 := Scalar.andi v140 v142
  let v129 : BitVec 32 := Scalar.divsi v38 c2_i32_59
  let c1_i32_65 : BitVec 32 := 1#32
  let v144 : BitVec 32 := Scalar.subi v129 c1_i32_65
  let v145 : BitVec 32 := Scalar.select v143 v144 v129
  let c1_i32_94 : BitVec 32 := 1#32
  let v198 : BitVec 32 := Scalar.subi c1_i32_94 v145
  let v199 : BitVec 32 := Scalar.select v197 v145 v198
  let v203 : BitVec 32 := Scalar.addi v202 v199
  let c1_i32_2430 : BitVec 32 := 1#32
  let v3346 : BitVec 32 := Scalar.muli v203 c1_i32_2430
  let v3347 : BitVec 32 := Scalar.addi c0_i32_2431 v3346
  v3347.toNat
def k0_cond6 (d0 : Dev nD) : BitVec 1 :=
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let v296 : BitVec 1 := Scalar.cmpi .ne v128 v2
  let true_1261 : BitVec 1 := 1#1
  let v1827 : BitVec 1 := Scalar.xori v296 true_1261
  let v1828 : BitVec 32 := Scalar.extui v1827
  let c0_i32_1262 : BitVec 32 := 0#32
  let v1829 : BitVec 1 := Scalar.cmpi .ne v1828 c0_i32_1262
  v1829

def k0_off32 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let v3346 : Index := Scalar.indexCast v1571
  let c0_2430 : Index := 0#32
  ![v3346.toNat, 0]
def k0_cond7 (d0 : Dev nD) : BitVec 1 :=
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let v297 : BitVec 1 := Scalar.cmpi .ne v249 v2
  let v1830 : BitVec 32 := Scalar.extui v297
  let c0_i32_1265 : BitVec 32 := 0#32
  let v1831 : BitVec 1 := Scalar.cmpi .ne v1830 c0_i32_1265
  v1831

def k0_off33 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c0_i32_2432 : BitVec 32 := 0#32
  ![v1706.toNat, 0]
def k0_dev34 (d0 : Dev nD) : Nat :=
  let c0_i32_2431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c8_i32_143 : BitVec 32 := 8#32
  let v292 : BitVec 32 := Scalar.muli v38 c8_i32_143
  let c2_i32_134 : BitVec 32 := 2#32
  let c2_i32_128 : BitVec 32 := 2#32
  let c0_i32_129 : BitVec 32 := 0#32
  let v267 : BitVec 1 := Scalar.cmpi .eq c2_i32_128 c0_i32_129
  let c1_i32_130 : BitVec 32 := 1#32
  let v268 : BitVec 32 := Scalar.select v267 c1_i32_130 c2_i32_128
  let v269 : BitVec 32 := Scalar.remsi v19 v268
  let c0_i32_132 : BitVec 32 := 0#32
  let v271 : BitVec 1 := Scalar.cmpi .slt v269 c0_i32_132
  let c0_i32_133 : BitVec 32 := 0#32
  let v272 : BitVec 1 := Scalar.cmpi .slt v268 c0_i32_133
  let v273 : BitVec 1 := Scalar.xori v271 v272
  let c0_i32_131 : BitVec 32 := 0#32
  let v270 : BitVec 1 := Scalar.cmpi .ne v269 c0_i32_131
  let v274 : BitVec 1 := Scalar.andi v273 v270
  let v275 : BitVec 32 := Scalar.addi v269 v268
  let v276 : BitVec 32 := Scalar.select v274 v275 v269
  let v277 : BitVec 32 := Scalar.muli c2_i32_134 v276
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v278 : BitVec 32 := Scalar.addi v277 v53
  let c2_i32_144 : BitVec 32 := 2#32
  let v293 : BitVec 32 := Scalar.muli v278 c2_i32_144
  let v294 : BitVec 32 := Scalar.addi v292 v293
  let c2_i32_135 : BitVec 32 := 2#32
  let c0_i32_136 : BitVec 32 := 0#32
  let v279 : BitVec 1 := Scalar.cmpi .eq c2_i32_135 c0_i32_136
  let c1_i32_137 : BitVec 32 := 1#32
  let v280 : BitVec 32 := Scalar.select v279 c1_i32_137 c2_i32_135
  let v281 : BitVec 32 := Scalar.remsi v278 v280
  let c0_i32_139 : BitVec 32 := 0#32
  let v283 : BitVec 1 := Scalar.cmpi .slt v281 c0_i32_139
  let c0_i32_140 : BitVec 32 := 0#32
  let v284 : BitVec 1 := Scalar.cmpi .slt v280 c0_i32_140
  let v285 : BitVec 1 := Scalar.xori v283 v284
  let c0_i32_138 : BitVec 32 := 0#32
  let v282 : BitVec 1 := Scalar.cmpi .ne v281 c0_i32_138
  let v286 : BitVec 1 := Scalar.andi v285 v282
  let v287 : BitVec 32 := Scalar.addi v281 v280
  let v288 : BitVec 32 := Scalar.select v286 v287 v281
  let c0_i32_141 : BitVec 32 := 0#32
  let v289 : BitVec 1 := Scalar.cmpi .eq v288 c0_i32_141
  let c0_i32_122 : BitVec 32 := 0#32
  let v251 : BitVec 1 := Scalar.cmpi .sgt v19 c0_i32_122
  let v252 : BitVec 32 := Scalar.extui v251
  let c0_i32_123 : BitVec 32 := 0#32
  let v253 : BitVec 1 := Scalar.cmpi .slt v19 c0_i32_123
  let v254 : BitVec 32 := Scalar.extui v253
  let v255 : BitVec 32 := Scalar.subi v252 v254
  let c2_i32_121 : BitVec 32 := 2#32
  let c0_i32_124 : BitVec 32 := 0#32
  let v256 : BitVec 1 := Scalar.cmpi .sgt c2_i32_121 c0_i32_124
  let v257 : BitVec 32 := Scalar.extui v256
  let c0_i32_125 : BitVec 32 := 0#32
  let v258 : BitVec 1 := Scalar.cmpi .slt c2_i32_121 c0_i32_125
  let v259 : BitVec 32 := Scalar.extui v258
  let v260 : BitVec 32 := Scalar.subi v257 v259
  let v261 : BitVec 1 := Scalar.cmpi .ne v255 v260
  let v262 : BitVec 32 := Scalar.remsi v19 c2_i32_121
  let c0_i32_126 : BitVec 32 := 0#32
  let v263 : BitVec 1 := Scalar.cmpi .ne v262 c0_i32_126
  let v264 : BitVec 1 := Scalar.andi v261 v263
  let v250 : BitVec 32 := Scalar.divsi v19 c2_i32_121
  let c1_i32_127 : BitVec 32 := 1#32
  let v265 : BitVec 32 := Scalar.subi v250 c1_i32_127
  let v266 : BitVec 32 := Scalar.select v264 v265 v250
  let c1_i32_142 : BitVec 32 := 1#32
  let v290 : BitVec 32 := Scalar.subi c1_i32_142 v266
  let v291 : BitVec 32 := Scalar.select v289 v266 v290
  let v295 : BitVec 32 := Scalar.addi v294 v291
  let c1_i32_2430 : BitVec 32 := 1#32
  let v3346 : BitVec 32 := Scalar.muli v295 c1_i32_2430
  let v3347 : BitVec 32 := Scalar.addi c0_i32_2431 v3346
  v3347.toNat
def k0_cond8 (d0 : Dev nD) : BitVec 1 :=
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let v297 : BitVec 1 := Scalar.cmpi .ne v249 v2
  let true_1266 : BitVec 1 := 1#1
  let v1832 : BitVec 1 := Scalar.xori v297 true_1266
  let v1833 : BitVec 32 := Scalar.extui v1832
  let c0_i32_1267 : BitVec 32 := 0#32
  let v1834 : BitVec 1 := Scalar.cmpi .ne v1833 c0_i32_1267
  v1834

def k0_off34 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let v3346 : Index := Scalar.indexCast v1706
  let c0_2430 : Index := 0#32
  ![v3346.toNat, 0]
def k0_cond9 (d0 : Dev nD) : BitVec 1 :=
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let v296 : BitVec 1 := Scalar.cmpi .ne v128 v2
  let v1839 : BitVec 32 := Scalar.extui v296
  let c0_i32_1273 : BitVec 32 := 0#32
  let v1840 : BitVec 1 := Scalar.cmpi .ne v1839 c0_i32_1273
  v1840

def k0_off35 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c0_i32_2431 : BitVec 32 := 0#32
  ![v1571.toNat, 0]
def k0_cond10 (d0 : Dev nD) : BitVec 1 :=
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let v297 : BitVec 1 := Scalar.cmpi .ne v249 v2
  let v1845 : BitVec 32 := Scalar.extui v297
  let c0_i32_1281 : BitVec 32 := 0#32
  let v1846 : BitVec 1 := Scalar.cmpi .ne v1845 c0_i32_1281
  v1846

def k0_off36 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c0_i32_2431 : BitVec 32 := 0#32
  ![v1706.toNat, 0]
def k0_cond11 (d0 : Dev nD) : BitVec 1 :=
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let v296 : BitVec 1 := Scalar.cmpi .ne v128 v2
  let v1867 : BitVec 32 := Scalar.extui v296
  let c0_i32_1294 : BitVec 32 := 0#32
  let v1868 : BitVec 1 := Scalar.cmpi .ne v1867 c0_i32_1294
  v1868

def k0_dev35 (d0 : Dev nD) : Nat :=
  let c0_i32_2431 : BitVec 32 := 0#32
  let c2_i32_41 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_35 : BitVec 32 := 2#32
  let c0_i32_36 : BitVec 32 := 0#32
  let v83 : BitVec 1 := Scalar.cmpi .eq c2_i32_35 c0_i32_36
  let c1_i32_37 : BitVec 32 := 1#32
  let v84 : BitVec 32 := Scalar.select v83 c1_i32_37 c2_i32_35
  let v85 : BitVec 32 := Scalar.remsi v38 v84
  let c0_i32_39 : BitVec 32 := 0#32
  let v87 : BitVec 1 := Scalar.cmpi .slt v85 c0_i32_39
  let c0_i32_40 : BitVec 32 := 0#32
  let v88 : BitVec 1 := Scalar.cmpi .slt v84 c0_i32_40
  let v89 : BitVec 1 := Scalar.xori v87 v88
  let c0_i32_38 : BitVec 32 := 0#32
  let v86 : BitVec 1 := Scalar.cmpi .ne v85 c0_i32_38
  let v90 : BitVec 1 := Scalar.andi v89 v86
  let v91 : BitVec 32 := Scalar.addi v85 v84
  let v92 : BitVec 32 := Scalar.select v90 v91 v85
  let v93 : BitVec 32 := Scalar.muli c2_i32_41 v92
  let c0_i32_43 : BitVec 32 := 0#32
  let v95 : BitVec 1 := Scalar.cmpi .sgt v19 c0_i32_43
  let v96 : BitVec 32 := Scalar.extui v95
  let c0_i32_44 : BitVec 32 := 0#32
  let v97 : BitVec 1 := Scalar.cmpi .slt v19 c0_i32_44
  let v98 : BitVec 32 := Scalar.extui v97
  let v99 : BitVec 32 := Scalar.subi v96 v98
  let c2_i32_42 : BitVec 32 := 2#32
  let c0_i32_45 : BitVec 32 := 0#32
  let v100 : BitVec 1 := Scalar.cmpi .sgt c2_i32_42 c0_i32_45
  let v101 : BitVec 32 := Scalar.extui v100
  let c0_i32_46 : BitVec 32 := 0#32
  let v102 : BitVec 1 := Scalar.cmpi .slt c2_i32_42 c0_i32_46
  let v103 : BitVec 32 := Scalar.extui v102
  let v104 : BitVec 32 := Scalar.subi v101 v103
  let v105 : BitVec 1 := Scalar.cmpi .ne v99 v104
  let v106 : BitVec 32 := Scalar.remsi v19 c2_i32_42
  let c0_i32_47 : BitVec 32 := 0#32
  let v107 : BitVec 1 := Scalar.cmpi .ne v106 c0_i32_47
  let v108 : BitVec 1 := Scalar.andi v105 v107
  let v94 : BitVec 32 := Scalar.divsi v19 c2_i32_42
  let c1_i32_48 : BitVec 32 := 1#32
  let v109 : BitVec 32 := Scalar.subi v94 c1_i32_48
  let v110 : BitVec 32 := Scalar.select v108 v109 v94
  let v111 : BitVec 32 := Scalar.addi v93 v110
  let c8_i32_57 : BitVec 32 := 8#32
  let v125 : BitVec 32 := Scalar.muli v111 c8_i32_57
  let c2_i32_27 : BitVec 32 := 2#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v64 : BitVec 32 := Scalar.muli c2_i32_27 v53
  let c0_i32_29 : BitVec 32 := 0#32
  let v66 : BitVec 1 := Scalar.cmpi .sgt v38 c0_i32_29
  let v67 : BitVec 32 := Scalar.extui v66
  let c0_i32_30 : BitVec 32 := 0#32
  let v68 : BitVec 1 := Scalar.cmpi .slt v38 c0_i32_30
  let v69 : BitVec 32 := Scalar.extui v68
  let v70 : BitVec 32 := Scalar.subi v67 v69
  let c2_i32_28 : BitVec 32 := 2#32
  let c0_i32_31 : BitVec 32 := 0#32
  let v71 : BitVec 1 := Scalar.cmpi .sgt c2_i32_28 c0_i32_31
  let v72 : BitVec 32 := Scalar.extui v71
  let c0_i32_32 : BitVec 32 := 0#32
  let v73 : BitVec 1 := Scalar.cmpi .slt c2_i32_28 c0_i32_32
  let v74 : BitVec 32 := Scalar.extui v73
  let v75 : BitVec 32 := Scalar.subi v72 v74
  let v76 : BitVec 1 := Scalar.cmpi .ne v70 v75
  let v77 : BitVec 32 := Scalar.remsi v38 c2_i32_28
  let c0_i32_33 : BitVec 32 := 0#32
  let v78 : BitVec 1 := Scalar.cmpi .ne v77 c0_i32_33
  let v79 : BitVec 1 := Scalar.andi v76 v78
  let v65 : BitVec 32 := Scalar.divsi v38 c2_i32_28
  let c1_i32_34 : BitVec 32 := 1#32
  let v80 : BitVec 32 := Scalar.subi v65 c1_i32_34
  let v81 : BitVec 32 := Scalar.select v79 v80 v65
  let v82 : BitVec 32 := Scalar.addi v64 v81
  let c2_i32_58 : BitVec 32 := 2#32
  let v126 : BitVec 32 := Scalar.muli v82 c2_i32_58
  let v127 : BitVec 32 := Scalar.addi v125 v126
  let c2_i32_49 : BitVec 32 := 2#32
  let c0_i32_50 : BitVec 32 := 0#32
  let v112 : BitVec 1 := Scalar.cmpi .eq c2_i32_49 c0_i32_50
  let c1_i32_51 : BitVec 32 := 1#32
  let v113 : BitVec 32 := Scalar.select v112 c1_i32_51 c2_i32_49
  let v114 : BitVec 32 := Scalar.remsi v82 v113
  let c0_i32_53 : BitVec 32 := 0#32
  let v116 : BitVec 1 := Scalar.cmpi .slt v114 c0_i32_53
  let c0_i32_54 : BitVec 32 := 0#32
  let v117 : BitVec 1 := Scalar.cmpi .slt v113 c0_i32_54
  let v118 : BitVec 1 := Scalar.xori v116 v117
  let c0_i32_52 : BitVec 32 := 0#32
  let v115 : BitVec 1 := Scalar.cmpi .ne v114 c0_i32_52
  let v119 : BitVec 1 := Scalar.andi v118 v115
  let v120 : BitVec 32 := Scalar.addi v114 v113
  let v121 : BitVec 32 := Scalar.select v119 v120 v114
  let c0_i32_55 : BitVec 32 := 0#32
  let v122 : BitVec 1 := Scalar.cmpi .eq v121 c0_i32_55
  let c2_i32_21 : BitVec 32 := 2#32
  let c0_i32_22 : BitVec 32 := 0#32
  let v54 : BitVec 1 := Scalar.cmpi .eq c2_i32_21 c0_i32_22
  let c1_i32_23 : BitVec 32 := 1#32
  let v55 : BitVec 32 := Scalar.select v54 c1_i32_23 c2_i32_21
  let v56 : BitVec 32 := Scalar.remsi v19 v55
  let c0_i32_25 : BitVec 32 := 0#32
  let v58 : BitVec 1 := Scalar.cmpi .slt v56 c0_i32_25
  let c0_i32_26 : BitVec 32 := 0#32
  let v59 : BitVec 1 := Scalar.cmpi .slt v55 c0_i32_26
  let v60 : BitVec 1 := Scalar.xori v58 v59
  let c0_i32_24 : BitVec 32 := 0#32
  let v57 : BitVec 1 := Scalar.cmpi .ne v56 c0_i32_24
  let v61 : BitVec 1 := Scalar.andi v60 v57
  let v62 : BitVec 32 := Scalar.addi v56 v55
  let v63 : BitVec 32 := Scalar.select v61 v62 v56
  let c1_i32_56 : BitVec 32 := 1#32
  let v123 : BitVec 32 := Scalar.subi c1_i32_56 v63
  let v124 : BitVec 32 := Scalar.select v122 v63 v123
  let v128 : BitVec 32 := Scalar.addi v127 v124
  let c1_i32_2430 : BitVec 32 := 1#32
  let v3346 : BitVec 32 := Scalar.muli v128 c1_i32_2430
  let v3347 : BitVec 32 := Scalar.addi c0_i32_2431 v3346
  v3347.toNat
def k0_cond13 (d0 : Dev nD) : BitVec 1 :=
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let v297 : BitVec 1 := Scalar.cmpi .ne v249 v2
  let v1872 : BitVec 32 := Scalar.extui v297
  let c0_i32_1299 : BitVec 32 := 0#32
  let v1873 : BitVec 1 := Scalar.cmpi .ne v1872 c0_i32_1299
  v1873

def k0_dev36 (d0 : Dev nD) : Nat :=
  let c0_i32_2431 : BitVec 32 := 0#32
  let c2_i32_103 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v214 : BitVec 32 := Scalar.muli c2_i32_103 v53
  let c0_i32_105 : BitVec 32 := 0#32
  let v216 : BitVec 1 := Scalar.cmpi .sgt v38 c0_i32_105
  let v217 : BitVec 32 := Scalar.extui v216
  let c0_i32_106 : BitVec 32 := 0#32
  let v218 : BitVec 1 := Scalar.cmpi .slt v38 c0_i32_106
  let v219 : BitVec 32 := Scalar.extui v218
  let v220 : BitVec 32 := Scalar.subi v217 v219
  let c2_i32_104 : BitVec 32 := 2#32
  let c0_i32_107 : BitVec 32 := 0#32
  let v221 : BitVec 1 := Scalar.cmpi .sgt c2_i32_104 c0_i32_107
  let v222 : BitVec 32 := Scalar.extui v221
  let c0_i32_108 : BitVec 32 := 0#32
  let v223 : BitVec 1 := Scalar.cmpi .slt c2_i32_104 c0_i32_108
  let v224 : BitVec 32 := Scalar.extui v223
  let v225 : BitVec 32 := Scalar.subi v222 v224
  let v226 : BitVec 1 := Scalar.cmpi .ne v220 v225
  let v227 : BitVec 32 := Scalar.remsi v38 c2_i32_104
  let c0_i32_109 : BitVec 32 := 0#32
  let v228 : BitVec 1 := Scalar.cmpi .ne v227 c0_i32_109
  let v229 : BitVec 1 := Scalar.andi v226 v228
  let v215 : BitVec 32 := Scalar.divsi v38 c2_i32_104
  let c1_i32_110 : BitVec 32 := 1#32
  let v230 : BitVec 32 := Scalar.subi v215 c1_i32_110
  let v231 : BitVec 32 := Scalar.select v229 v230 v215
  let v232 : BitVec 32 := Scalar.addi v214 v231
  let c8_i32_119 : BitVec 32 := 8#32
  let v246 : BitVec 32 := Scalar.muli v232 c8_i32_119
  let c2_i32_120 : BitVec 32 := 2#32
  let v247 : BitVec 32 := Scalar.muli v19 c2_i32_120
  let v248 : BitVec 32 := Scalar.addi v246 v247
  let c2_i32_111 : BitVec 32 := 2#32
  let c0_i32_112 : BitVec 32 := 0#32
  let v233 : BitVec 1 := Scalar.cmpi .eq c2_i32_111 c0_i32_112
  let c1_i32_113 : BitVec 32 := 1#32
  let v234 : BitVec 32 := Scalar.select v233 c1_i32_113 c2_i32_111
  let v235 : BitVec 32 := Scalar.remsi v19 v234
  let c0_i32_115 : BitVec 32 := 0#32
  let v237 : BitVec 1 := Scalar.cmpi .slt v235 c0_i32_115
  let c0_i32_116 : BitVec 32 := 0#32
  let v238 : BitVec 1 := Scalar.cmpi .slt v234 c0_i32_116
  let v239 : BitVec 1 := Scalar.xori v237 v238
  let c0_i32_114 : BitVec 32 := 0#32
  let v236 : BitVec 1 := Scalar.cmpi .ne v235 c0_i32_114
  let v240 : BitVec 1 := Scalar.andi v239 v236
  let v241 : BitVec 32 := Scalar.addi v235 v234
  let v242 : BitVec 32 := Scalar.select v240 v241 v235
  let c0_i32_117 : BitVec 32 := 0#32
  let v243 : BitVec 1 := Scalar.cmpi .eq v242 c0_i32_117
  let c2_i32_97 : BitVec 32 := 2#32
  let c0_i32_98 : BitVec 32 := 0#32
  let v204 : BitVec 1 := Scalar.cmpi .eq c2_i32_97 c0_i32_98
  let c1_i32_99 : BitVec 32 := 1#32
  let v205 : BitVec 32 := Scalar.select v204 c1_i32_99 c2_i32_97
  let v206 : BitVec 32 := Scalar.remsi v38 v205
  let c0_i32_101 : BitVec 32 := 0#32
  let v208 : BitVec 1 := Scalar.cmpi .slt v206 c0_i32_101
  let c0_i32_102 : BitVec 32 := 0#32
  let v209 : BitVec 1 := Scalar.cmpi .slt v205 c0_i32_102
  let v210 : BitVec 1 := Scalar.xori v208 v209
  let c0_i32_100 : BitVec 32 := 0#32
  let v207 : BitVec 1 := Scalar.cmpi .ne v206 c0_i32_100
  let v211 : BitVec 1 := Scalar.andi v210 v207
  let v212 : BitVec 32 := Scalar.addi v206 v205
  let v213 : BitVec 32 := Scalar.select v211 v212 v206
  let c1_i32_118 : BitVec 32 := 1#32
  let v244 : BitVec 32 := Scalar.subi c1_i32_118 v213
  let v245 : BitVec 32 := Scalar.select v243 v213 v244
  let v249 : BitVec 32 := Scalar.addi v248 v245
  let c1_i32_2430 : BitVec 32 := 1#32
  let v3346 : BitVec 32 := Scalar.muli v249 c1_i32_2430
  let v3347 : BitVec 32 := Scalar.addi c0_i32_2431 v3346
  v3347.toNat
def k0_off37 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c0_i32_1326 : BitVec 32 := 0#32
  ![v1490.toNat, 0]
def k0_dev37 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1302 : BitVec 32 := 1#32
  let v1877 : BitVec 32 := Scalar.addi v19 c1_i32_1302
  let c4_i32_1303 : BitVec 32 := 4#32
  let c0_i32_1304 : BitVec 32 := 0#32
  let v1878 : BitVec 1 := Scalar.cmpi .eq c4_i32_1303 c0_i32_1304
  let c1_i32_1305 : BitVec 32 := 1#32
  let v1879 : BitVec 32 := Scalar.select v1878 c1_i32_1305 c4_i32_1303
  let v1880 : BitVec 32 := Scalar.remsi v1877 v1879
  let c0_i32_1307 : BitVec 32 := 0#32
  let v1882 : BitVec 1 := Scalar.cmpi .slt v1880 c0_i32_1307
  let c0_i32_1308 : BitVec 32 := 0#32
  let v1883 : BitVec 1 := Scalar.cmpi .slt v1879 c0_i32_1308
  let v1884 : BitVec 1 := Scalar.xori v1882 v1883
  let c0_i32_1306 : BitVec 32 := 0#32
  let v1881 : BitVec 1 := Scalar.cmpi .ne v1880 c0_i32_1306
  let v1885 : BitVec 1 := Scalar.andi v1884 v1881
  let v1886 : BitVec 32 := Scalar.addi v1880 v1879
  let v1887 : BitVec 32 := Scalar.select v1885 v1886 v1880
  let c8_i32_1317 : BitVec 32 := 8#32
  let v1901 : BitVec 32 := Scalar.muli v1887 c8_i32_1317
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1318 : BitVec 32 := 2#32
  let v1902 : BitVec 32 := Scalar.muli v38 c2_i32_1318
  let v1903 : BitVec 32 := Scalar.addi v1901 v1902
  let c2_i32_1309 : BitVec 32 := 2#32
  let c0_i32_1310 : BitVec 32 := 0#32
  let v1888 : BitVec 1 := Scalar.cmpi .eq c2_i32_1309 c0_i32_1310
  let c1_i32_1311 : BitVec 32 := 1#32
  let v1889 : BitVec 32 := Scalar.select v1888 c1_i32_1311 c2_i32_1309
  let v1890 : BitVec 32 := Scalar.remsi v38 v1889
  let c0_i32_1313 : BitVec 32 := 0#32
  let v1892 : BitVec 1 := Scalar.cmpi .slt v1890 c0_i32_1313
  let c0_i32_1314 : BitVec 32 := 0#32
  let v1893 : BitVec 1 := Scalar.cmpi .slt v1889 c0_i32_1314
  let v1894 : BitVec 1 := Scalar.xori v1892 v1893
  let c0_i32_1312 : BitVec 32 := 0#32
  let v1891 : BitVec 1 := Scalar.cmpi .ne v1890 c0_i32_1312
  let v1895 : BitVec 1 := Scalar.andi v1894 v1891
  let v1896 : BitVec 32 := Scalar.addi v1890 v1889
  let v1897 : BitVec 32 := Scalar.select v1895 v1896 v1890
  let c0_i32_1315 : BitVec 32 := 0#32
  let v1898 : BitVec 1 := Scalar.cmpi .eq v1897 c0_i32_1315
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1316 : BitVec 32 := 1#32
  let v1899 : BitVec 32 := Scalar.subi c1_i32_1316 v53
  let v1900 : BitVec 32 := Scalar.select v1898 v53 v1899
  let v1904 : BitVec 32 := Scalar.addi v1903 v1900
  let c1_i32_1322 : BitVec 32 := 1#32
  let v1905 : BitVec 32 := Scalar.muli v1904 c1_i32_1322
  let v1906 : BitVec 32 := Scalar.addi c0_i32_1323 v1905
  v1906.toNat
def k0_dev38 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1327 : BitVec 32 := 2#32
  let v1914 : BitVec 32 := Scalar.addi v19 c2_i32_1327
  let c4_i32_1328 : BitVec 32 := 4#32
  let c0_i32_1329 : BitVec 32 := 0#32
  let v1915 : BitVec 1 := Scalar.cmpi .eq c4_i32_1328 c0_i32_1329
  let c1_i32_1330 : BitVec 32 := 1#32
  let v1916 : BitVec 32 := Scalar.select v1915 c1_i32_1330 c4_i32_1328
  let v1917 : BitVec 32 := Scalar.remsi v1914 v1916
  let c0_i32_1332 : BitVec 32 := 0#32
  let v1919 : BitVec 1 := Scalar.cmpi .slt v1917 c0_i32_1332
  let c0_i32_1333 : BitVec 32 := 0#32
  let v1920 : BitVec 1 := Scalar.cmpi .slt v1916 c0_i32_1333
  let v1921 : BitVec 1 := Scalar.xori v1919 v1920
  let c0_i32_1331 : BitVec 32 := 0#32
  let v1918 : BitVec 1 := Scalar.cmpi .ne v1917 c0_i32_1331
  let v1922 : BitVec 1 := Scalar.andi v1921 v1918
  let v1923 : BitVec 32 := Scalar.addi v1917 v1916
  let v1924 : BitVec 32 := Scalar.select v1922 v1923 v1917
  let c8_i32_1342 : BitVec 32 := 8#32
  let v1938 : BitVec 32 := Scalar.muli v1924 c8_i32_1342
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1343 : BitVec 32 := 2#32
  let v1939 : BitVec 32 := Scalar.muli v38 c2_i32_1343
  let v1940 : BitVec 32 := Scalar.addi v1938 v1939
  let c2_i32_1334 : BitVec 32 := 2#32
  let c0_i32_1335 : BitVec 32 := 0#32
  let v1925 : BitVec 1 := Scalar.cmpi .eq c2_i32_1334 c0_i32_1335
  let c1_i32_1336 : BitVec 32 := 1#32
  let v1926 : BitVec 32 := Scalar.select v1925 c1_i32_1336 c2_i32_1334
  let v1927 : BitVec 32 := Scalar.remsi v38 v1926
  let c0_i32_1338 : BitVec 32 := 0#32
  let v1929 : BitVec 1 := Scalar.cmpi .slt v1927 c0_i32_1338
  let c0_i32_1339 : BitVec 32 := 0#32
  let v1930 : BitVec 1 := Scalar.cmpi .slt v1926 c0_i32_1339
  let v1931 : BitVec 1 := Scalar.xori v1929 v1930
  let c0_i32_1337 : BitVec 32 := 0#32
  let v1928 : BitVec 1 := Scalar.cmpi .ne v1927 c0_i32_1337
  let v1932 : BitVec 1 := Scalar.andi v1931 v1928
  let v1933 : BitVec 32 := Scalar.addi v1927 v1926
  let v1934 : BitVec 32 := Scalar.select v1932 v1933 v1927
  let c0_i32_1340 : BitVec 32 := 0#32
  let v1935 : BitVec 1 := Scalar.cmpi .eq v1934 c0_i32_1340
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1341 : BitVec 32 := 1#32
  let v1936 : BitVec 32 := Scalar.subi c1_i32_1341 v53
  let v1937 : BitVec 32 := Scalar.select v1935 v53 v1936
  let v1941 : BitVec 32 := Scalar.addi v1940 v1937
  let c1_i32_1347 : BitVec 32 := 1#32
  let v1942 : BitVec 32 := Scalar.muli v1941 c1_i32_1347
  let v1943 : BitVec 32 := Scalar.addi c0_i32_1348 v1942
  v1943.toNat
def k0_dev39 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1352 : BitVec 32 := 3#32
  let v1951 : BitVec 32 := Scalar.addi v19 c3_i32_1352
  let c4_i32_1353 : BitVec 32 := 4#32
  let c0_i32_1354 : BitVec 32 := 0#32
  let v1952 : BitVec 1 := Scalar.cmpi .eq c4_i32_1353 c0_i32_1354
  let c1_i32_1355 : BitVec 32 := 1#32
  let v1953 : BitVec 32 := Scalar.select v1952 c1_i32_1355 c4_i32_1353
  let v1954 : BitVec 32 := Scalar.remsi v1951 v1953
  let c0_i32_1357 : BitVec 32 := 0#32
  let v1956 : BitVec 1 := Scalar.cmpi .slt v1954 c0_i32_1357
  let c0_i32_1358 : BitVec 32 := 0#32
  let v1957 : BitVec 1 := Scalar.cmpi .slt v1953 c0_i32_1358
  let v1958 : BitVec 1 := Scalar.xori v1956 v1957
  let c0_i32_1356 : BitVec 32 := 0#32
  let v1955 : BitVec 1 := Scalar.cmpi .ne v1954 c0_i32_1356
  let v1959 : BitVec 1 := Scalar.andi v1958 v1955
  let v1960 : BitVec 32 := Scalar.addi v1954 v1953
  let v1961 : BitVec 32 := Scalar.select v1959 v1960 v1954
  let c8_i32_1367 : BitVec 32 := 8#32
  let v1975 : BitVec 32 := Scalar.muli v1961 c8_i32_1367
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1368 : BitVec 32 := 2#32
  let v1976 : BitVec 32 := Scalar.muli v38 c2_i32_1368
  let v1977 : BitVec 32 := Scalar.addi v1975 v1976
  let c2_i32_1359 : BitVec 32 := 2#32
  let c0_i32_1360 : BitVec 32 := 0#32
  let v1962 : BitVec 1 := Scalar.cmpi .eq c2_i32_1359 c0_i32_1360
  let c1_i32_1361 : BitVec 32 := 1#32
  let v1963 : BitVec 32 := Scalar.select v1962 c1_i32_1361 c2_i32_1359
  let v1964 : BitVec 32 := Scalar.remsi v38 v1963
  let c0_i32_1363 : BitVec 32 := 0#32
  let v1966 : BitVec 1 := Scalar.cmpi .slt v1964 c0_i32_1363
  let c0_i32_1364 : BitVec 32 := 0#32
  let v1967 : BitVec 1 := Scalar.cmpi .slt v1963 c0_i32_1364
  let v1968 : BitVec 1 := Scalar.xori v1966 v1967
  let c0_i32_1362 : BitVec 32 := 0#32
  let v1965 : BitVec 1 := Scalar.cmpi .ne v1964 c0_i32_1362
  let v1969 : BitVec 1 := Scalar.andi v1968 v1965
  let v1970 : BitVec 32 := Scalar.addi v1964 v1963
  let v1971 : BitVec 32 := Scalar.select v1969 v1970 v1964
  let c0_i32_1365 : BitVec 32 := 0#32
  let v1972 : BitVec 1 := Scalar.cmpi .eq v1971 c0_i32_1365
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1366 : BitVec 32 := 1#32
  let v1973 : BitVec 32 := Scalar.subi c1_i32_1366 v53
  let v1974 : BitVec 32 := Scalar.select v1972 v53 v1973
  let v1978 : BitVec 32 := Scalar.addi v1977 v1974
  let c1_i32_1372 : BitVec 32 := 1#32
  let v1979 : BitVec 32 := Scalar.muli v1978 c1_i32_1372
  let v1980 : BitVec 32 := Scalar.addi c0_i32_1373 v1979
  v1980.toNat
def k0_off38 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let v1990 : Index := Scalar.indexCast v1490
  let c0_1378 : Index := 0#32
  ![v1990.toNat, 0]
def k0_off39 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c0_i32_1400 : BitVec 32 := 0#32
  ![v1571.toNat, 0]
def k0_dev40 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1394 : BitVec 32 := 8#32
  let v2013 : BitVec 32 := Scalar.muli v19 c8_i32_1394
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1395 : BitVec 32 := 2#32
  let v2014 : BitVec 32 := Scalar.muli v38 c2_i32_1395
  let v2015 : BitVec 32 := Scalar.addi v2013 v2014
  let c2_i32_1386 : BitVec 32 := 2#32
  let c0_i32_1387 : BitVec 32 := 0#32
  let v2000 : BitVec 1 := Scalar.cmpi .eq c2_i32_1386 c0_i32_1387
  let c1_i32_1388 : BitVec 32 := 1#32
  let v2001 : BitVec 32 := Scalar.select v2000 c1_i32_1388 c2_i32_1386
  let v2002 : BitVec 32 := Scalar.remsi v38 v2001
  let c0_i32_1390 : BitVec 32 := 0#32
  let v2004 : BitVec 1 := Scalar.cmpi .slt v2002 c0_i32_1390
  let c0_i32_1391 : BitVec 32 := 0#32
  let v2005 : BitVec 1 := Scalar.cmpi .slt v2001 c0_i32_1391
  let v2006 : BitVec 1 := Scalar.xori v2004 v2005
  let c0_i32_1389 : BitVec 32 := 0#32
  let v2003 : BitVec 1 := Scalar.cmpi .ne v2002 c0_i32_1389
  let v2007 : BitVec 1 := Scalar.andi v2006 v2003
  let v2008 : BitVec 32 := Scalar.addi v2002 v2001
  let v2009 : BitVec 32 := Scalar.select v2007 v2008 v2002
  let c0_i32_1392 : BitVec 32 := 0#32
  let v2010 : BitVec 1 := Scalar.cmpi .eq v2009 c0_i32_1392
  let c1_i32_1385 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1999 : BitVec 32 := Scalar.subi c1_i32_1385 v53
  let c1_i32_1393 : BitVec 32 := 1#32
  let v2011 : BitVec 32 := Scalar.subi c1_i32_1393 v1999
  let v2012 : BitVec 32 := Scalar.select v2010 v1999 v2011
  let v2016 : BitVec 32 := Scalar.addi v2015 v2012
  let c1_i32_1398 : BitVec 32 := 1#32
  let v2017 : BitVec 32 := Scalar.muli v2016 c1_i32_1398
  let v2018 : BitVec 32 := Scalar.addi c0_i32_1399 v2017
  v2018.toNat
def k0_off40 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let v2028 : Index := Scalar.indexCast v1571
  let c384_1404 : Index := 384#32
  ![v2028.toNat, 384]
def k0_off41 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c0_i32_1435 : BitVec 32 := 0#32
  ![v1706.toNat, 0]
def k0_dev41 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1426 : BitVec 32 := 8#32
  let v2061 : BitVec 32 := Scalar.muli v19 c8_i32_1426
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_1411 : BitVec 32 := 1#32
  let v2037 : BitVec 32 := Scalar.addi v38 c1_i32_1411
  let c4_i32_1412 : BitVec 32 := 4#32
  let c0_i32_1413 : BitVec 32 := 0#32
  let v2038 : BitVec 1 := Scalar.cmpi .eq c4_i32_1412 c0_i32_1413
  let c1_i32_1414 : BitVec 32 := 1#32
  let v2039 : BitVec 32 := Scalar.select v2038 c1_i32_1414 c4_i32_1412
  let v2040 : BitVec 32 := Scalar.remsi v2037 v2039
  let c0_i32_1416 : BitVec 32 := 0#32
  let v2042 : BitVec 1 := Scalar.cmpi .slt v2040 c0_i32_1416
  let c0_i32_1417 : BitVec 32 := 0#32
  let v2043 : BitVec 1 := Scalar.cmpi .slt v2039 c0_i32_1417
  let v2044 : BitVec 1 := Scalar.xori v2042 v2043
  let c0_i32_1415 : BitVec 32 := 0#32
  let v2041 : BitVec 1 := Scalar.cmpi .ne v2040 c0_i32_1415
  let v2045 : BitVec 1 := Scalar.andi v2044 v2041
  let v2046 : BitVec 32 := Scalar.addi v2040 v2039
  let v2047 : BitVec 32 := Scalar.select v2045 v2046 v2040
  let c2_i32_1427 : BitVec 32 := 2#32
  let v2062 : BitVec 32 := Scalar.muli v2047 c2_i32_1427
  let v2063 : BitVec 32 := Scalar.addi v2061 v2062
  let c2_i32_1418 : BitVec 32 := 2#32
  let c0_i32_1419 : BitVec 32 := 0#32
  let v2048 : BitVec 1 := Scalar.cmpi .eq c2_i32_1418 c0_i32_1419
  let c1_i32_1420 : BitVec 32 := 1#32
  let v2049 : BitVec 32 := Scalar.select v2048 c1_i32_1420 c2_i32_1418
  let v2050 : BitVec 32 := Scalar.remsi v2047 v2049
  let c0_i32_1422 : BitVec 32 := 0#32
  let v2052 : BitVec 1 := Scalar.cmpi .slt v2050 c0_i32_1422
  let c0_i32_1423 : BitVec 32 := 0#32
  let v2053 : BitVec 1 := Scalar.cmpi .slt v2049 c0_i32_1423
  let v2054 : BitVec 1 := Scalar.xori v2052 v2053
  let c0_i32_1421 : BitVec 32 := 0#32
  let v2051 : BitVec 1 := Scalar.cmpi .ne v2050 c0_i32_1421
  let v2055 : BitVec 1 := Scalar.andi v2054 v2051
  let v2056 : BitVec 32 := Scalar.addi v2050 v2049
  let v2057 : BitVec 32 := Scalar.select v2055 v2056 v2050
  let c0_i32_1424 : BitVec 32 := 0#32
  let v2058 : BitVec 1 := Scalar.cmpi .eq v2057 c0_i32_1424
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1425 : BitVec 32 := 1#32
  let v2059 : BitVec 32 := Scalar.subi c1_i32_1425 v53
  let v2060 : BitVec 32 := Scalar.select v2058 v53 v2059
  let v2064 : BitVec 32 := Scalar.addi v2063 v2060
  let c1_i32_1431 : BitVec 32 := 1#32
  let v2065 : BitVec 32 := Scalar.muli v2064 c1_i32_1431
  let v2066 : BitVec 32 := Scalar.addi c0_i32_1432 v2065
  v2066.toNat
def k0_dev42 (d0 : Dev nD) : Nat :=
  let c0_i32_1457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1451 : BitVec 32 := 8#32
  let v2098 : BitVec 32 := Scalar.muli v19 c8_i32_1451
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1436 : BitVec 32 := 2#32
  let v2074 : BitVec 32 := Scalar.addi v38 c2_i32_1436
  let c4_i32_1437 : BitVec 32 := 4#32
  let c0_i32_1438 : BitVec 32 := 0#32
  let v2075 : BitVec 1 := Scalar.cmpi .eq c4_i32_1437 c0_i32_1438
  let c1_i32_1439 : BitVec 32 := 1#32
  let v2076 : BitVec 32 := Scalar.select v2075 c1_i32_1439 c4_i32_1437
  let v2077 : BitVec 32 := Scalar.remsi v2074 v2076
  let c0_i32_1441 : BitVec 32 := 0#32
  let v2079 : BitVec 1 := Scalar.cmpi .slt v2077 c0_i32_1441
  let c0_i32_1442 : BitVec 32 := 0#32
  let v2080 : BitVec 1 := Scalar.cmpi .slt v2076 c0_i32_1442
  let v2081 : BitVec 1 := Scalar.xori v2079 v2080
  let c0_i32_1440 : BitVec 32 := 0#32
  let v2078 : BitVec 1 := Scalar.cmpi .ne v2077 c0_i32_1440
  let v2082 : BitVec 1 := Scalar.andi v2081 v2078
  let v2083 : BitVec 32 := Scalar.addi v2077 v2076
  let v2084 : BitVec 32 := Scalar.select v2082 v2083 v2077
  let c2_i32_1452 : BitVec 32 := 2#32
  let v2099 : BitVec 32 := Scalar.muli v2084 c2_i32_1452
  let v2100 : BitVec 32 := Scalar.addi v2098 v2099
  let c2_i32_1443 : BitVec 32 := 2#32
  let c0_i32_1444 : BitVec 32 := 0#32
  let v2085 : BitVec 1 := Scalar.cmpi .eq c2_i32_1443 c0_i32_1444
  let c1_i32_1445 : BitVec 32 := 1#32
  let v2086 : BitVec 32 := Scalar.select v2085 c1_i32_1445 c2_i32_1443
  let v2087 : BitVec 32 := Scalar.remsi v2084 v2086
  let c0_i32_1447 : BitVec 32 := 0#32
  let v2089 : BitVec 1 := Scalar.cmpi .slt v2087 c0_i32_1447
  let c0_i32_1448 : BitVec 32 := 0#32
  let v2090 : BitVec 1 := Scalar.cmpi .slt v2086 c0_i32_1448
  let v2091 : BitVec 1 := Scalar.xori v2089 v2090
  let c0_i32_1446 : BitVec 32 := 0#32
  let v2088 : BitVec 1 := Scalar.cmpi .ne v2087 c0_i32_1446
  let v2092 : BitVec 1 := Scalar.andi v2091 v2088
  let v2093 : BitVec 32 := Scalar.addi v2087 v2086
  let v2094 : BitVec 32 := Scalar.select v2092 v2093 v2087
  let c0_i32_1449 : BitVec 32 := 0#32
  let v2095 : BitVec 1 := Scalar.cmpi .eq v2094 c0_i32_1449
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1450 : BitVec 32 := 1#32
  let v2096 : BitVec 32 := Scalar.subi c1_i32_1450 v53
  let v2097 : BitVec 32 := Scalar.select v2095 v53 v2096
  let v2101 : BitVec 32 := Scalar.addi v2100 v2097
  let c1_i32_1456 : BitVec 32 := 1#32
  let v2102 : BitVec 32 := Scalar.muli v2101 c1_i32_1456
  let v2103 : BitVec 32 := Scalar.addi c0_i32_1457 v2102
  v2103.toNat
def k0_dev43 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1476 : BitVec 32 := 8#32
  let v2135 : BitVec 32 := Scalar.muli v19 c8_i32_1476
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_1461 : BitVec 32 := 3#32
  let v2111 : BitVec 32 := Scalar.addi v38 c3_i32_1461
  let c4_i32_1462 : BitVec 32 := 4#32
  let c0_i32_1463 : BitVec 32 := 0#32
  let v2112 : BitVec 1 := Scalar.cmpi .eq c4_i32_1462 c0_i32_1463
  let c1_i32_1464 : BitVec 32 := 1#32
  let v2113 : BitVec 32 := Scalar.select v2112 c1_i32_1464 c4_i32_1462
  let v2114 : BitVec 32 := Scalar.remsi v2111 v2113
  let c0_i32_1466 : BitVec 32 := 0#32
  let v2116 : BitVec 1 := Scalar.cmpi .slt v2114 c0_i32_1466
  let c0_i32_1467 : BitVec 32 := 0#32
  let v2117 : BitVec 1 := Scalar.cmpi .slt v2113 c0_i32_1467
  let v2118 : BitVec 1 := Scalar.xori v2116 v2117
  let c0_i32_1465 : BitVec 32 := 0#32
  let v2115 : BitVec 1 := Scalar.cmpi .ne v2114 c0_i32_1465
  let v2119 : BitVec 1 := Scalar.andi v2118 v2115
  let v2120 : BitVec 32 := Scalar.addi v2114 v2113
  let v2121 : BitVec 32 := Scalar.select v2119 v2120 v2114
  let c2_i32_1477 : BitVec 32 := 2#32
  let v2136 : BitVec 32 := Scalar.muli v2121 c2_i32_1477
  let v2137 : BitVec 32 := Scalar.addi v2135 v2136
  let c2_i32_1468 : BitVec 32 := 2#32
  let c0_i32_1469 : BitVec 32 := 0#32
  let v2122 : BitVec 1 := Scalar.cmpi .eq c2_i32_1468 c0_i32_1469
  let c1_i32_1470 : BitVec 32 := 1#32
  let v2123 : BitVec 32 := Scalar.select v2122 c1_i32_1470 c2_i32_1468
  let v2124 : BitVec 32 := Scalar.remsi v2121 v2123
  let c0_i32_1472 : BitVec 32 := 0#32
  let v2126 : BitVec 1 := Scalar.cmpi .slt v2124 c0_i32_1472
  let c0_i32_1473 : BitVec 32 := 0#32
  let v2127 : BitVec 1 := Scalar.cmpi .slt v2123 c0_i32_1473
  let v2128 : BitVec 1 := Scalar.xori v2126 v2127
  let c0_i32_1471 : BitVec 32 := 0#32
  let v2125 : BitVec 1 := Scalar.cmpi .ne v2124 c0_i32_1471
  let v2129 : BitVec 1 := Scalar.andi v2128 v2125
  let v2130 : BitVec 32 := Scalar.addi v2124 v2123
  let v2131 : BitVec 32 := Scalar.select v2129 v2130 v2124
  let c0_i32_1474 : BitVec 32 := 0#32
  let v2132 : BitVec 1 := Scalar.cmpi .eq v2131 c0_i32_1474
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1475 : BitVec 32 := 1#32
  let v2133 : BitVec 32 := Scalar.subi c1_i32_1475 v53
  let v2134 : BitVec 32 := Scalar.select v2132 v53 v2133
  let v2138 : BitVec 32 := Scalar.addi v2137 v2134
  let c1_i32_1481 : BitVec 32 := 1#32
  let v2139 : BitVec 32 := Scalar.muli v2138 c1_i32_1481
  let v2140 : BitVec 32 := Scalar.addi c0_i32_1482 v2139
  v2140.toNat
def k0_off42 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let v2152 : Index := Scalar.indexCast v1706
  let c640_1489 : Index := 640#32
  ![v2152.toNat, 640]
def k0_off43 (d0 : Dev nD) (c0_i32_1535 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let v2190 : BitVec 32 := Scalar.addi v19 c0_i32_1535
  let c1_i32_1536 : BitVec 32 := 1#32
  let v2191 : BitVec 32 := Scalar.addi v2190 c1_i32_1536
  let c4_i32_1537 : BitVec 32 := 4#32
  let c0_i32_1538 : BitVec 32 := 0#32
  let v2192 : BitVec 1 := Scalar.cmpi .eq c4_i32_1537 c0_i32_1538
  let c1_i32_1539 : BitVec 32 := 1#32
  let v2193 : BitVec 32 := Scalar.select v2192 c1_i32_1539 c4_i32_1537
  let v2194 : BitVec 32 := Scalar.remsi v2191 v2193
  let c0_i32_1541 : BitVec 32 := 0#32
  let v2196 : BitVec 1 := Scalar.cmpi .slt v2194 c0_i32_1541
  let c0_i32_1542 : BitVec 32 := 0#32
  let v2197 : BitVec 1 := Scalar.cmpi .slt v2193 c0_i32_1542
  let v2198 : BitVec 1 := Scalar.xori v2196 v2197
  let c0_i32_1540 : BitVec 32 := 0#32
  let v2195 : BitVec 1 := Scalar.cmpi .ne v2194 c0_i32_1540
  let v2199 : BitVec 1 := Scalar.andi v2198 v2195
  let v2200 : BitVec 32 := Scalar.addi v2194 v2193
  let v2201 : BitVec 32 := Scalar.select v2199 v2200 v2194
  let c64_i32_1543 : BitVec 32 := 64#32
  let v2202 : BitVec 32 := Scalar.muli v2201 c64_i32_1543
  let v2203 : BitVec 32 := Scalar.addi v1989 v2202
  let v2206 : Index := Scalar.indexCast v2203
  let c0_1547 : Index := 0#32
  ![v2206.toNat, 0]
def k0_off44 (d0 : Dev nD) (c0_i32_1535 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let v2190 : BitVec 32 := Scalar.addi v19 c0_i32_1535
  let c1_i32_1536 : BitVec 32 := 1#32
  let v2191 : BitVec 32 := Scalar.addi v2190 c1_i32_1536
  let c4_i32_1537 : BitVec 32 := 4#32
  let c0_i32_1538 : BitVec 32 := 0#32
  let v2192 : BitVec 1 := Scalar.cmpi .eq c4_i32_1537 c0_i32_1538
  let c1_i32_1539 : BitVec 32 := 1#32
  let v2193 : BitVec 32 := Scalar.select v2192 c1_i32_1539 c4_i32_1537
  let v2194 : BitVec 32 := Scalar.remsi v2191 v2193
  let c0_i32_1541 : BitVec 32 := 0#32
  let v2196 : BitVec 1 := Scalar.cmpi .slt v2194 c0_i32_1541
  let c0_i32_1542 : BitVec 32 := 0#32
  let v2197 : BitVec 1 := Scalar.cmpi .slt v2193 c0_i32_1542
  let v2198 : BitVec 1 := Scalar.xori v2196 v2197
  let c0_i32_1540 : BitVec 32 := 0#32
  let v2195 : BitVec 1 := Scalar.cmpi .ne v2194 c0_i32_1540
  let v2199 : BitVec 1 := Scalar.andi v2198 v2195
  let v2200 : BitVec 32 := Scalar.addi v2194 v2193
  let v2201 : BitVec 32 := Scalar.select v2199 v2200 v2194
  let c64_i32_1543 : BitVec 32 := 64#32
  let v2202 : BitVec 32 := Scalar.muli v2201 c64_i32_1543
  let v2203 : BitVec 32 := Scalar.addi v1989 v2202
  let v2213 : Index := Scalar.indexCast v2203
  let c0_1551 : Index := 0#32
  ![v2213.toNat, 0]
def k0_off45 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let c0_i32_1610 : BitVec 32 := 0#32
  ![v1989.toNat, 0]
def k0_dev44 (d0 : Dev nD) : Nat :=
  let c0_i32_1607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1601 : BitVec 32 := 8#32
  let v2289 : BitVec 32 := Scalar.muli v19 c8_i32_1601
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_1586 : BitVec 32 := 1#32
  let v2265 : BitVec 32 := Scalar.addi v38 c1_i32_1586
  let c4_i32_1587 : BitVec 32 := 4#32
  let c0_i32_1588 : BitVec 32 := 0#32
  let v2266 : BitVec 1 := Scalar.cmpi .eq c4_i32_1587 c0_i32_1588
  let c1_i32_1589 : BitVec 32 := 1#32
  let v2267 : BitVec 32 := Scalar.select v2266 c1_i32_1589 c4_i32_1587
  let v2268 : BitVec 32 := Scalar.remsi v2265 v2267
  let c0_i32_1591 : BitVec 32 := 0#32
  let v2270 : BitVec 1 := Scalar.cmpi .slt v2268 c0_i32_1591
  let c0_i32_1592 : BitVec 32 := 0#32
  let v2271 : BitVec 1 := Scalar.cmpi .slt v2267 c0_i32_1592
  let v2272 : BitVec 1 := Scalar.xori v2270 v2271
  let c0_i32_1590 : BitVec 32 := 0#32
  let v2269 : BitVec 1 := Scalar.cmpi .ne v2268 c0_i32_1590
  let v2273 : BitVec 1 := Scalar.andi v2272 v2269
  let v2274 : BitVec 32 := Scalar.addi v2268 v2267
  let v2275 : BitVec 32 := Scalar.select v2273 v2274 v2268
  let c2_i32_1602 : BitVec 32 := 2#32
  let v2290 : BitVec 32 := Scalar.muli v2275 c2_i32_1602
  let v2291 : BitVec 32 := Scalar.addi v2289 v2290
  let c2_i32_1593 : BitVec 32 := 2#32
  let c0_i32_1594 : BitVec 32 := 0#32
  let v2276 : BitVec 1 := Scalar.cmpi .eq c2_i32_1593 c0_i32_1594
  let c1_i32_1595 : BitVec 32 := 1#32
  let v2277 : BitVec 32 := Scalar.select v2276 c1_i32_1595 c2_i32_1593
  let v2278 : BitVec 32 := Scalar.remsi v2275 v2277
  let c0_i32_1597 : BitVec 32 := 0#32
  let v2280 : BitVec 1 := Scalar.cmpi .slt v2278 c0_i32_1597
  let c0_i32_1598 : BitVec 32 := 0#32
  let v2281 : BitVec 1 := Scalar.cmpi .slt v2277 c0_i32_1598
  let v2282 : BitVec 1 := Scalar.xori v2280 v2281
  let c0_i32_1596 : BitVec 32 := 0#32
  let v2279 : BitVec 1 := Scalar.cmpi .ne v2278 c0_i32_1596
  let v2283 : BitVec 1 := Scalar.andi v2282 v2279
  let v2284 : BitVec 32 := Scalar.addi v2278 v2277
  let v2285 : BitVec 32 := Scalar.select v2283 v2284 v2278
  let c0_i32_1599 : BitVec 32 := 0#32
  let v2286 : BitVec 1 := Scalar.cmpi .eq v2285 c0_i32_1599
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1600 : BitVec 32 := 1#32
  let v2287 : BitVec 32 := Scalar.subi c1_i32_1600 v53
  let v2288 : BitVec 32 := Scalar.select v2286 v53 v2287
  let v2292 : BitVec 32 := Scalar.addi v2291 v2288
  let c1_i32_1606 : BitVec 32 := 1#32
  let v2293 : BitVec 32 := Scalar.muli v2292 c1_i32_1606
  let v2294 : BitVec 32 := Scalar.addi c0_i32_1607 v2293
  v2294.toNat
def k0_dev45 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1626 : BitVec 32 := 8#32
  let v2326 : BitVec 32 := Scalar.muli v19 c8_i32_1626
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1611 : BitVec 32 := 2#32
  let v2302 : BitVec 32 := Scalar.addi v38 c2_i32_1611
  let c4_i32_1612 : BitVec 32 := 4#32
  let c0_i32_1613 : BitVec 32 := 0#32
  let v2303 : BitVec 1 := Scalar.cmpi .eq c4_i32_1612 c0_i32_1613
  let c1_i32_1614 : BitVec 32 := 1#32
  let v2304 : BitVec 32 := Scalar.select v2303 c1_i32_1614 c4_i32_1612
  let v2305 : BitVec 32 := Scalar.remsi v2302 v2304
  let c0_i32_1616 : BitVec 32 := 0#32
  let v2307 : BitVec 1 := Scalar.cmpi .slt v2305 c0_i32_1616
  let c0_i32_1617 : BitVec 32 := 0#32
  let v2308 : BitVec 1 := Scalar.cmpi .slt v2304 c0_i32_1617
  let v2309 : BitVec 1 := Scalar.xori v2307 v2308
  let c0_i32_1615 : BitVec 32 := 0#32
  let v2306 : BitVec 1 := Scalar.cmpi .ne v2305 c0_i32_1615
  let v2310 : BitVec 1 := Scalar.andi v2309 v2306
  let v2311 : BitVec 32 := Scalar.addi v2305 v2304
  let v2312 : BitVec 32 := Scalar.select v2310 v2311 v2305
  let c2_i32_1627 : BitVec 32 := 2#32
  let v2327 : BitVec 32 := Scalar.muli v2312 c2_i32_1627
  let v2328 : BitVec 32 := Scalar.addi v2326 v2327
  let c2_i32_1618 : BitVec 32 := 2#32
  let c0_i32_1619 : BitVec 32 := 0#32
  let v2313 : BitVec 1 := Scalar.cmpi .eq c2_i32_1618 c0_i32_1619
  let c1_i32_1620 : BitVec 32 := 1#32
  let v2314 : BitVec 32 := Scalar.select v2313 c1_i32_1620 c2_i32_1618
  let v2315 : BitVec 32 := Scalar.remsi v2312 v2314
  let c0_i32_1622 : BitVec 32 := 0#32
  let v2317 : BitVec 1 := Scalar.cmpi .slt v2315 c0_i32_1622
  let c0_i32_1623 : BitVec 32 := 0#32
  let v2318 : BitVec 1 := Scalar.cmpi .slt v2314 c0_i32_1623
  let v2319 : BitVec 1 := Scalar.xori v2317 v2318
  let c0_i32_1621 : BitVec 32 := 0#32
  let v2316 : BitVec 1 := Scalar.cmpi .ne v2315 c0_i32_1621
  let v2320 : BitVec 1 := Scalar.andi v2319 v2316
  let v2321 : BitVec 32 := Scalar.addi v2315 v2314
  let v2322 : BitVec 32 := Scalar.select v2320 v2321 v2315
  let c0_i32_1624 : BitVec 32 := 0#32
  let v2323 : BitVec 1 := Scalar.cmpi .eq v2322 c0_i32_1624
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1625 : BitVec 32 := 1#32
  let v2324 : BitVec 32 := Scalar.subi c1_i32_1625 v53
  let v2325 : BitVec 32 := Scalar.select v2323 v53 v2324
  let v2329 : BitVec 32 := Scalar.addi v2328 v2325
  let c1_i32_1631 : BitVec 32 := 1#32
  let v2330 : BitVec 32 := Scalar.muli v2329 c1_i32_1631
  let v2331 : BitVec 32 := Scalar.addi c0_i32_1632 v2330
  v2331.toNat
def k0_dev46 (d0 : Dev nD) : Nat :=
  let c0_i32_1657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1651 : BitVec 32 := 8#32
  let v2363 : BitVec 32 := Scalar.muli v19 c8_i32_1651
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_1636 : BitVec 32 := 3#32
  let v2339 : BitVec 32 := Scalar.addi v38 c3_i32_1636
  let c4_i32_1637 : BitVec 32 := 4#32
  let c0_i32_1638 : BitVec 32 := 0#32
  let v2340 : BitVec 1 := Scalar.cmpi .eq c4_i32_1637 c0_i32_1638
  let c1_i32_1639 : BitVec 32 := 1#32
  let v2341 : BitVec 32 := Scalar.select v2340 c1_i32_1639 c4_i32_1637
  let v2342 : BitVec 32 := Scalar.remsi v2339 v2341
  let c0_i32_1641 : BitVec 32 := 0#32
  let v2344 : BitVec 1 := Scalar.cmpi .slt v2342 c0_i32_1641
  let c0_i32_1642 : BitVec 32 := 0#32
  let v2345 : BitVec 1 := Scalar.cmpi .slt v2341 c0_i32_1642
  let v2346 : BitVec 1 := Scalar.xori v2344 v2345
  let c0_i32_1640 : BitVec 32 := 0#32
  let v2343 : BitVec 1 := Scalar.cmpi .ne v2342 c0_i32_1640
  let v2347 : BitVec 1 := Scalar.andi v2346 v2343
  let v2348 : BitVec 32 := Scalar.addi v2342 v2341
  let v2349 : BitVec 32 := Scalar.select v2347 v2348 v2342
  let c2_i32_1652 : BitVec 32 := 2#32
  let v2364 : BitVec 32 := Scalar.muli v2349 c2_i32_1652
  let v2365 : BitVec 32 := Scalar.addi v2363 v2364
  let c2_i32_1643 : BitVec 32 := 2#32
  let c0_i32_1644 : BitVec 32 := 0#32
  let v2350 : BitVec 1 := Scalar.cmpi .eq c2_i32_1643 c0_i32_1644
  let c1_i32_1645 : BitVec 32 := 1#32
  let v2351 : BitVec 32 := Scalar.select v2350 c1_i32_1645 c2_i32_1643
  let v2352 : BitVec 32 := Scalar.remsi v2349 v2351
  let c0_i32_1647 : BitVec 32 := 0#32
  let v2354 : BitVec 1 := Scalar.cmpi .slt v2352 c0_i32_1647
  let c0_i32_1648 : BitVec 32 := 0#32
  let v2355 : BitVec 1 := Scalar.cmpi .slt v2351 c0_i32_1648
  let v2356 : BitVec 1 := Scalar.xori v2354 v2355
  let c0_i32_1646 : BitVec 32 := 0#32
  let v2353 : BitVec 1 := Scalar.cmpi .ne v2352 c0_i32_1646
  let v2357 : BitVec 1 := Scalar.andi v2356 v2353
  let v2358 : BitVec 32 := Scalar.addi v2352 v2351
  let v2359 : BitVec 32 := Scalar.select v2357 v2358 v2352
  let c0_i32_1649 : BitVec 32 := 0#32
  let v2360 : BitVec 1 := Scalar.cmpi .eq v2359 c0_i32_1649
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1650 : BitVec 32 := 1#32
  let v2361 : BitVec 32 := Scalar.subi c1_i32_1650 v53
  let v2362 : BitVec 32 := Scalar.select v2360 v53 v2361
  let v2366 : BitVec 32 := Scalar.addi v2365 v2362
  let c1_i32_1656 : BitVec 32 := 1#32
  let v2367 : BitVec 32 := Scalar.muli v2366 c1_i32_1656
  let v2368 : BitVec 32 := Scalar.addi c0_i32_1657 v2367
  v2368.toNat
def k0_off46 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1673 : BitVec 32 := 64#32
  let c1_i32_1672 : BitVec 32 := 1#32
  let c2_i32_1671 : BitVec 32 := 2#32
  let v2386 : BitVec 32 := Scalar.muli c2_i32_1671 v53
  let v2387 : BitVec 32 := Scalar.subi c1_i32_1672 v2386
  let v2388 : BitVec 32 := Scalar.muli c64_i32_1673 v2387
  let v2389 : BitVec 32 := Scalar.addi v1571 v2388
  let v2391 : Index := Scalar.indexCast v2389
  let c0_1676 : Index := 0#32
  ![v2391.toNat, 0]
def k0_off47 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1673 : BitVec 32 := 64#32
  let c1_i32_1672 : BitVec 32 := 1#32
  let c2_i32_1671 : BitVec 32 := 2#32
  let v2386 : BitVec 32 := Scalar.muli c2_i32_1671 v53
  let v2387 : BitVec 32 := Scalar.subi c1_i32_1672 v2386
  let v2388 : BitVec 32 := Scalar.muli c64_i32_1673 v2387
  let v2389 : BitVec 32 := Scalar.addi v1571 v2388
  let v2397 : Index := Scalar.indexCast v2389
  let c384_1679 : Index := 384#32
  ![v2397.toNat, 384]
def k0_off48 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1401 : BitVec 32 := 64#32
  let v2024 : BitVec 32 := Scalar.muli c64_i32_1401 v53
  let v2025 : BitVec 32 := Scalar.subi v1571 v2024
  let c0_i32_1704 : BitVec 32 := 0#32
  ![v2025.toNat, 0]
def k0_dev47 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1680 : BitVec 32 := 1#32
  let v2399 : BitVec 32 := Scalar.addi v19 c1_i32_1680
  let c4_i32_1681 : BitVec 32 := 4#32
  let c0_i32_1682 : BitVec 32 := 0#32
  let v2400 : BitVec 1 := Scalar.cmpi .eq c4_i32_1681 c0_i32_1682
  let c1_i32_1683 : BitVec 32 := 1#32
  let v2401 : BitVec 32 := Scalar.select v2400 c1_i32_1683 c4_i32_1681
  let v2402 : BitVec 32 := Scalar.remsi v2399 v2401
  let c0_i32_1685 : BitVec 32 := 0#32
  let v2404 : BitVec 1 := Scalar.cmpi .slt v2402 c0_i32_1685
  let c0_i32_1686 : BitVec 32 := 0#32
  let v2405 : BitVec 1 := Scalar.cmpi .slt v2401 c0_i32_1686
  let v2406 : BitVec 1 := Scalar.xori v2404 v2405
  let c0_i32_1684 : BitVec 32 := 0#32
  let v2403 : BitVec 1 := Scalar.cmpi .ne v2402 c0_i32_1684
  let v2407 : BitVec 1 := Scalar.andi v2406 v2403
  let v2408 : BitVec 32 := Scalar.addi v2402 v2401
  let v2409 : BitVec 32 := Scalar.select v2407 v2408 v2402
  let c8_i32_1695 : BitVec 32 := 8#32
  let v2423 : BitVec 32 := Scalar.muli v2409 c8_i32_1695
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1696 : BitVec 32 := 2#32
  let v2424 : BitVec 32 := Scalar.muli v38 c2_i32_1696
  let v2425 : BitVec 32 := Scalar.addi v2423 v2424
  let c2_i32_1687 : BitVec 32 := 2#32
  let c0_i32_1688 : BitVec 32 := 0#32
  let v2410 : BitVec 1 := Scalar.cmpi .eq c2_i32_1687 c0_i32_1688
  let c1_i32_1689 : BitVec 32 := 1#32
  let v2411 : BitVec 32 := Scalar.select v2410 c1_i32_1689 c2_i32_1687
  let v2412 : BitVec 32 := Scalar.remsi v38 v2411
  let c0_i32_1691 : BitVec 32 := 0#32
  let v2414 : BitVec 1 := Scalar.cmpi .slt v2412 c0_i32_1691
  let c0_i32_1692 : BitVec 32 := 0#32
  let v2415 : BitVec 1 := Scalar.cmpi .slt v2411 c0_i32_1692
  let v2416 : BitVec 1 := Scalar.xori v2414 v2415
  let c0_i32_1690 : BitVec 32 := 0#32
  let v2413 : BitVec 1 := Scalar.cmpi .ne v2412 c0_i32_1690
  let v2417 : BitVec 1 := Scalar.andi v2416 v2413
  let v2418 : BitVec 32 := Scalar.addi v2412 v2411
  let v2419 : BitVec 32 := Scalar.select v2417 v2418 v2412
  let c0_i32_1693 : BitVec 32 := 0#32
  let v2420 : BitVec 1 := Scalar.cmpi .eq v2419 c0_i32_1693
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1694 : BitVec 32 := 1#32
  let v2421 : BitVec 32 := Scalar.subi c1_i32_1694 v53
  let v2422 : BitVec 32 := Scalar.select v2420 v53 v2421
  let v2426 : BitVec 32 := Scalar.addi v2425 v2422
  let c1_i32_1700 : BitVec 32 := 1#32
  let v2427 : BitVec 32 := Scalar.muli v2426 c1_i32_1700
  let v2428 : BitVec 32 := Scalar.addi c0_i32_1701 v2427
  v2428.toNat
def k0_dev48 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1705 : BitVec 32 := 2#32
  let v2436 : BitVec 32 := Scalar.addi v19 c2_i32_1705
  let c4_i32_1706 : BitVec 32 := 4#32
  let c0_i32_1707 : BitVec 32 := 0#32
  let v2437 : BitVec 1 := Scalar.cmpi .eq c4_i32_1706 c0_i32_1707
  let c1_i32_1708 : BitVec 32 := 1#32
  let v2438 : BitVec 32 := Scalar.select v2437 c1_i32_1708 c4_i32_1706
  let v2439 : BitVec 32 := Scalar.remsi v2436 v2438
  let c0_i32_1710 : BitVec 32 := 0#32
  let v2441 : BitVec 1 := Scalar.cmpi .slt v2439 c0_i32_1710
  let c0_i32_1711 : BitVec 32 := 0#32
  let v2442 : BitVec 1 := Scalar.cmpi .slt v2438 c0_i32_1711
  let v2443 : BitVec 1 := Scalar.xori v2441 v2442
  let c0_i32_1709 : BitVec 32 := 0#32
  let v2440 : BitVec 1 := Scalar.cmpi .ne v2439 c0_i32_1709
  let v2444 : BitVec 1 := Scalar.andi v2443 v2440
  let v2445 : BitVec 32 := Scalar.addi v2439 v2438
  let v2446 : BitVec 32 := Scalar.select v2444 v2445 v2439
  let c8_i32_1720 : BitVec 32 := 8#32
  let v2460 : BitVec 32 := Scalar.muli v2446 c8_i32_1720
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1721 : BitVec 32 := 2#32
  let v2461 : BitVec 32 := Scalar.muli v38 c2_i32_1721
  let v2462 : BitVec 32 := Scalar.addi v2460 v2461
  let c2_i32_1712 : BitVec 32 := 2#32
  let c0_i32_1713 : BitVec 32 := 0#32
  let v2447 : BitVec 1 := Scalar.cmpi .eq c2_i32_1712 c0_i32_1713
  let c1_i32_1714 : BitVec 32 := 1#32
  let v2448 : BitVec 32 := Scalar.select v2447 c1_i32_1714 c2_i32_1712
  let v2449 : BitVec 32 := Scalar.remsi v38 v2448
  let c0_i32_1716 : BitVec 32 := 0#32
  let v2451 : BitVec 1 := Scalar.cmpi .slt v2449 c0_i32_1716
  let c0_i32_1717 : BitVec 32 := 0#32
  let v2452 : BitVec 1 := Scalar.cmpi .slt v2448 c0_i32_1717
  let v2453 : BitVec 1 := Scalar.xori v2451 v2452
  let c0_i32_1715 : BitVec 32 := 0#32
  let v2450 : BitVec 1 := Scalar.cmpi .ne v2449 c0_i32_1715
  let v2454 : BitVec 1 := Scalar.andi v2453 v2450
  let v2455 : BitVec 32 := Scalar.addi v2449 v2448
  let v2456 : BitVec 32 := Scalar.select v2454 v2455 v2449
  let c0_i32_1718 : BitVec 32 := 0#32
  let v2457 : BitVec 1 := Scalar.cmpi .eq v2456 c0_i32_1718
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1719 : BitVec 32 := 1#32
  let v2458 : BitVec 32 := Scalar.subi c1_i32_1719 v53
  let v2459 : BitVec 32 := Scalar.select v2457 v53 v2458
  let v2463 : BitVec 32 := Scalar.addi v2462 v2459
  let c1_i32_1725 : BitVec 32 := 1#32
  let v2464 : BitVec 32 := Scalar.muli v2463 c1_i32_1725
  let v2465 : BitVec 32 := Scalar.addi c0_i32_1726 v2464
  v2465.toNat
def k0_dev49 (d0 : Dev nD) : Nat :=
  let c0_i32_1751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1730 : BitVec 32 := 3#32
  let v2473 : BitVec 32 := Scalar.addi v19 c3_i32_1730
  let c4_i32_1731 : BitVec 32 := 4#32
  let c0_i32_1732 : BitVec 32 := 0#32
  let v2474 : BitVec 1 := Scalar.cmpi .eq c4_i32_1731 c0_i32_1732
  let c1_i32_1733 : BitVec 32 := 1#32
  let v2475 : BitVec 32 := Scalar.select v2474 c1_i32_1733 c4_i32_1731
  let v2476 : BitVec 32 := Scalar.remsi v2473 v2475
  let c0_i32_1735 : BitVec 32 := 0#32
  let v2478 : BitVec 1 := Scalar.cmpi .slt v2476 c0_i32_1735
  let c0_i32_1736 : BitVec 32 := 0#32
  let v2479 : BitVec 1 := Scalar.cmpi .slt v2475 c0_i32_1736
  let v2480 : BitVec 1 := Scalar.xori v2478 v2479
  let c0_i32_1734 : BitVec 32 := 0#32
  let v2477 : BitVec 1 := Scalar.cmpi .ne v2476 c0_i32_1734
  let v2481 : BitVec 1 := Scalar.andi v2480 v2477
  let v2482 : BitVec 32 := Scalar.addi v2476 v2475
  let v2483 : BitVec 32 := Scalar.select v2481 v2482 v2476
  let c8_i32_1745 : BitVec 32 := 8#32
  let v2497 : BitVec 32 := Scalar.muli v2483 c8_i32_1745
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1746 : BitVec 32 := 2#32
  let v2498 : BitVec 32 := Scalar.muli v38 c2_i32_1746
  let v2499 : BitVec 32 := Scalar.addi v2497 v2498
  let c2_i32_1737 : BitVec 32 := 2#32
  let c0_i32_1738 : BitVec 32 := 0#32
  let v2484 : BitVec 1 := Scalar.cmpi .eq c2_i32_1737 c0_i32_1738
  let c1_i32_1739 : BitVec 32 := 1#32
  let v2485 : BitVec 32 := Scalar.select v2484 c1_i32_1739 c2_i32_1737
  let v2486 : BitVec 32 := Scalar.remsi v38 v2485
  let c0_i32_1741 : BitVec 32 := 0#32
  let v2488 : BitVec 1 := Scalar.cmpi .slt v2486 c0_i32_1741
  let c0_i32_1742 : BitVec 32 := 0#32
  let v2489 : BitVec 1 := Scalar.cmpi .slt v2485 c0_i32_1742
  let v2490 : BitVec 1 := Scalar.xori v2488 v2489
  let c0_i32_1740 : BitVec 32 := 0#32
  let v2487 : BitVec 1 := Scalar.cmpi .ne v2486 c0_i32_1740
  let v2491 : BitVec 1 := Scalar.andi v2490 v2487
  let v2492 : BitVec 32 := Scalar.addi v2486 v2485
  let v2493 : BitVec 32 := Scalar.select v2491 v2492 v2486
  let c0_i32_1743 : BitVec 32 := 0#32
  let v2494 : BitVec 1 := Scalar.cmpi .eq v2493 c0_i32_1743
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_1744 : BitVec 32 := 1#32
  let v2495 : BitVec 32 := Scalar.subi c1_i32_1744 v53
  let v2496 : BitVec 32 := Scalar.select v2494 v53 v2495
  let v2500 : BitVec 32 := Scalar.addi v2499 v2496
  let c1_i32_1750 : BitVec 32 := 1#32
  let v2501 : BitVec 32 := Scalar.muli v2500 c1_i32_1750
  let v2502 : BitVec 32 := Scalar.addi c0_i32_1751 v2501
  v2502.toNat
def k0_off49 (d0 : Dev nD) (c0_i32_1801 : BitVec 32) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let v2548 : BitVec 32 := Scalar.addi v38 c0_i32_1801
  let c1_i32_1802 : BitVec 32 := 1#32
  let v2549 : BitVec 32 := Scalar.addi v2548 c1_i32_1802
  let c4_i32_1803 : BitVec 32 := 4#32
  let c0_i32_1804 : BitVec 32 := 0#32
  let v2550 : BitVec 1 := Scalar.cmpi .eq c4_i32_1803 c0_i32_1804
  let c1_i32_1805 : BitVec 32 := 1#32
  let v2551 : BitVec 32 := Scalar.select v2550 c1_i32_1805 c4_i32_1803
  let v2552 : BitVec 32 := Scalar.remsi v2549 v2551
  let c0_i32_1807 : BitVec 32 := 0#32
  let v2554 : BitVec 1 := Scalar.cmpi .slt v2552 c0_i32_1807
  let c0_i32_1808 : BitVec 32 := 0#32
  let v2555 : BitVec 1 := Scalar.cmpi .slt v2551 c0_i32_1808
  let v2556 : BitVec 1 := Scalar.xori v2554 v2555
  let c0_i32_1806 : BitVec 32 := 0#32
  let v2553 : BitVec 1 := Scalar.cmpi .ne v2552 c0_i32_1806
  let v2557 : BitVec 1 := Scalar.andi v2556 v2553
  let v2558 : BitVec 32 := Scalar.addi v2552 v2551
  let v2559 : BitVec 32 := Scalar.select v2557 v2558 v2552
  let c64_i32_1809 : BitVec 32 := 64#32
  let v2560 : BitVec 32 := Scalar.muli v2559 c64_i32_1809
  let v2561 : BitVec 32 := Scalar.addi v2149 v2560
  let v2564 : Index := Scalar.indexCast v2561
  let c0_1813 : Index := 0#32
  ![v2564.toNat, 0]
def k0_off50 (d0 : Dev nD) (c0_i32_1801 : BitVec 32) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let v2548 : BitVec 32 := Scalar.addi v38 c0_i32_1801
  let c1_i32_1802 : BitVec 32 := 1#32
  let v2549 : BitVec 32 := Scalar.addi v2548 c1_i32_1802
  let c4_i32_1803 : BitVec 32 := 4#32
  let c0_i32_1804 : BitVec 32 := 0#32
  let v2550 : BitVec 1 := Scalar.cmpi .eq c4_i32_1803 c0_i32_1804
  let c1_i32_1805 : BitVec 32 := 1#32
  let v2551 : BitVec 32 := Scalar.select v2550 c1_i32_1805 c4_i32_1803
  let v2552 : BitVec 32 := Scalar.remsi v2549 v2551
  let c0_i32_1807 : BitVec 32 := 0#32
  let v2554 : BitVec 1 := Scalar.cmpi .slt v2552 c0_i32_1807
  let c0_i32_1808 : BitVec 32 := 0#32
  let v2555 : BitVec 1 := Scalar.cmpi .slt v2551 c0_i32_1808
  let v2556 : BitVec 1 := Scalar.xori v2554 v2555
  let c0_i32_1806 : BitVec 32 := 0#32
  let v2553 : BitVec 1 := Scalar.cmpi .ne v2552 c0_i32_1806
  let v2557 : BitVec 1 := Scalar.andi v2556 v2553
  let v2558 : BitVec 32 := Scalar.addi v2552 v2551
  let v2559 : BitVec 32 := Scalar.select v2557 v2558 v2552
  let c64_i32_1809 : BitVec 32 := 64#32
  let v2560 : BitVec 32 := Scalar.muli v2559 c64_i32_1809
  let v2561 : BitVec 32 := Scalar.addi v2149 v2560
  let v2571 : Index := Scalar.indexCast v2561
  let c640_1817 : Index := 640#32
  ![v2571.toNat, 640]
def k0_off51 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let c0_i32_1867 : BitVec 32 := 0#32
  ![v2149.toNat, 0]
def k0_dev50 (d0 : Dev nD) : Nat :=
  let c0_i32_1866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1861 : BitVec 32 := 8#32
  let v2637 : BitVec 32 := Scalar.muli v19 c8_i32_1861
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1862 : BitVec 32 := 2#32
  let v2638 : BitVec 32 := Scalar.muli v38 c2_i32_1862
  let v2639 : BitVec 32 := Scalar.addi v2637 v2638
  let c2_i32_1853 : BitVec 32 := 2#32
  let c0_i32_1854 : BitVec 32 := 0#32
  let v2624 : BitVec 1 := Scalar.cmpi .eq c2_i32_1853 c0_i32_1854
  let c1_i32_1855 : BitVec 32 := 1#32
  let v2625 : BitVec 32 := Scalar.select v2624 c1_i32_1855 c2_i32_1853
  let v2626 : BitVec 32 := Scalar.remsi v38 v2625
  let c0_i32_1857 : BitVec 32 := 0#32
  let v2628 : BitVec 1 := Scalar.cmpi .slt v2626 c0_i32_1857
  let c0_i32_1858 : BitVec 32 := 0#32
  let v2629 : BitVec 1 := Scalar.cmpi .slt v2625 c0_i32_1858
  let v2630 : BitVec 1 := Scalar.xori v2628 v2629
  let c0_i32_1856 : BitVec 32 := 0#32
  let v2627 : BitVec 1 := Scalar.cmpi .ne v2626 c0_i32_1856
  let v2631 : BitVec 1 := Scalar.andi v2630 v2627
  let v2632 : BitVec 32 := Scalar.addi v2626 v2625
  let v2633 : BitVec 32 := Scalar.select v2631 v2632 v2626
  let c0_i32_1859 : BitVec 32 := 0#32
  let v2634 : BitVec 1 := Scalar.cmpi .eq v2633 c0_i32_1859
  let c1_i32_1852 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v2623 : BitVec 32 := Scalar.subi c1_i32_1852 v53
  let c1_i32_1860 : BitVec 32 := 1#32
  let v2635 : BitVec 32 := Scalar.subi c1_i32_1860 v2623
  let v2636 : BitVec 32 := Scalar.select v2634 v2623 v2635
  let v2640 : BitVec 32 := Scalar.addi v2639 v2636
  let c1_i32_1865 : BitVec 32 := 1#32
  let v2641 : BitVec 32 := Scalar.muli v2640 c1_i32_1865
  let v2642 : BitVec 32 := Scalar.addi c0_i32_1866 v2641
  v2642.toNat
def k0_off52 (d0 : Dev nD) (c0_i32_1914 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let c256_i32_1661 : BitVec 32 := 256#32
  let v2376 : BitVec 32 := Scalar.muli v38 c256_i32_1661
  let v2377 : BitVec 32 := Scalar.subi v1989 v2376
  let v2686 : BitVec 32 := Scalar.addi v38 c0_i32_1914
  let c1_i32_1915 : BitVec 32 := 1#32
  let v2687 : BitVec 32 := Scalar.addi v2686 c1_i32_1915
  let c4_i32_1916 : BitVec 32 := 4#32
  let c0_i32_1917 : BitVec 32 := 0#32
  let v2688 : BitVec 1 := Scalar.cmpi .eq c4_i32_1916 c0_i32_1917
  let c1_i32_1918 : BitVec 32 := 1#32
  let v2689 : BitVec 32 := Scalar.select v2688 c1_i32_1918 c4_i32_1916
  let v2690 : BitVec 32 := Scalar.remsi v2687 v2689
  let c0_i32_1920 : BitVec 32 := 0#32
  let v2692 : BitVec 1 := Scalar.cmpi .slt v2690 c0_i32_1920
  let c0_i32_1921 : BitVec 32 := 0#32
  let v2693 : BitVec 1 := Scalar.cmpi .slt v2689 c0_i32_1921
  let v2694 : BitVec 1 := Scalar.xori v2692 v2693
  let c0_i32_1919 : BitVec 32 := 0#32
  let v2691 : BitVec 1 := Scalar.cmpi .ne v2690 c0_i32_1919
  let v2695 : BitVec 1 := Scalar.andi v2694 v2691
  let v2696 : BitVec 32 := Scalar.addi v2690 v2689
  let v2697 : BitVec 32 := Scalar.select v2695 v2696 v2690
  let c256_i32_1922 : BitVec 32 := 256#32
  let v2698 : BitVec 32 := Scalar.muli v2697 c256_i32_1922
  let v2699 : BitVec 32 := Scalar.addi v2377 v2698
  let v2702 : Index := Scalar.indexCast v2699
  let c0_1926 : Index := 0#32
  ![v2702.toNat, 0]
def k0_off53 (d0 : Dev nD) (c0_i32_1914 : BitVec 32) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let c256_i32_1661 : BitVec 32 := 256#32
  let v2376 : BitVec 32 := Scalar.muli v38 c256_i32_1661
  let v2377 : BitVec 32 := Scalar.subi v1989 v2376
  let v2686 : BitVec 32 := Scalar.addi v38 c0_i32_1914
  let c1_i32_1915 : BitVec 32 := 1#32
  let v2687 : BitVec 32 := Scalar.addi v2686 c1_i32_1915
  let c4_i32_1916 : BitVec 32 := 4#32
  let c0_i32_1917 : BitVec 32 := 0#32
  let v2688 : BitVec 1 := Scalar.cmpi .eq c4_i32_1916 c0_i32_1917
  let c1_i32_1918 : BitVec 32 := 1#32
  let v2689 : BitVec 32 := Scalar.select v2688 c1_i32_1918 c4_i32_1916
  let v2690 : BitVec 32 := Scalar.remsi v2687 v2689
  let c0_i32_1920 : BitVec 32 := 0#32
  let v2692 : BitVec 1 := Scalar.cmpi .slt v2690 c0_i32_1920
  let c0_i32_1921 : BitVec 32 := 0#32
  let v2693 : BitVec 1 := Scalar.cmpi .slt v2689 c0_i32_1921
  let v2694 : BitVec 1 := Scalar.xori v2692 v2693
  let c0_i32_1919 : BitVec 32 := 0#32
  let v2691 : BitVec 1 := Scalar.cmpi .ne v2690 c0_i32_1919
  let v2695 : BitVec 1 := Scalar.andi v2694 v2691
  let v2696 : BitVec 32 := Scalar.addi v2690 v2689
  let v2697 : BitVec 32 := Scalar.select v2695 v2696 v2690
  let c256_i32_1922 : BitVec 32 := 256#32
  let v2698 : BitVec 32 := Scalar.muli v2697 c256_i32_1922
  let v2699 : BitVec 32 := Scalar.addi v2377 v2698
  let v2709 : Index := Scalar.indexCast v2699
  let c0_1930 : Index := 0#32
  ![v2709.toNat, 0]
def k0_off54 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let c256_i32_1661 : BitVec 32 := 256#32
  let v2376 : BitVec 32 := Scalar.muli v38 c256_i32_1661
  let v2377 : BitVec 32 := Scalar.subi v1989 v2376
  let c0_i32_1980 : BitVec 32 := 0#32
  ![v2377.toNat, 0]
def k0_dev51 (d0 : Dev nD) : Nat :=
  let c0_i32_1979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_1974 : BitVec 32 := 8#32
  let v2775 : BitVec 32 := Scalar.muli v19 c8_i32_1974
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_1975 : BitVec 32 := 2#32
  let v2776 : BitVec 32 := Scalar.muli v38 c2_i32_1975
  let v2777 : BitVec 32 := Scalar.addi v2775 v2776
  let c2_i32_1966 : BitVec 32 := 2#32
  let c0_i32_1967 : BitVec 32 := 0#32
  let v2762 : BitVec 1 := Scalar.cmpi .eq c2_i32_1966 c0_i32_1967
  let c1_i32_1968 : BitVec 32 := 1#32
  let v2763 : BitVec 32 := Scalar.select v2762 c1_i32_1968 c2_i32_1966
  let v2764 : BitVec 32 := Scalar.remsi v38 v2763
  let c0_i32_1970 : BitVec 32 := 0#32
  let v2766 : BitVec 1 := Scalar.cmpi .slt v2764 c0_i32_1970
  let c0_i32_1971 : BitVec 32 := 0#32
  let v2767 : BitVec 1 := Scalar.cmpi .slt v2763 c0_i32_1971
  let v2768 : BitVec 1 := Scalar.xori v2766 v2767
  let c0_i32_1969 : BitVec 32 := 0#32
  let v2765 : BitVec 1 := Scalar.cmpi .ne v2764 c0_i32_1969
  let v2769 : BitVec 1 := Scalar.andi v2768 v2765
  let v2770 : BitVec 32 := Scalar.addi v2764 v2763
  let v2771 : BitVec 32 := Scalar.select v2769 v2770 v2764
  let c0_i32_1972 : BitVec 32 := 0#32
  let v2772 : BitVec 1 := Scalar.cmpi .eq v2771 c0_i32_1972
  let c1_i32_1965 : BitVec 32 := 1#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v2761 : BitVec 32 := Scalar.subi c1_i32_1965 v53
  let c1_i32_1973 : BitVec 32 := 1#32
  let v2773 : BitVec 32 := Scalar.subi c1_i32_1973 v2761
  let v2774 : BitVec 32 := Scalar.select v2772 v2761 v2773
  let v2778 : BitVec 32 := Scalar.addi v2777 v2774
  let c1_i32_1978 : BitVec 32 := 1#32
  let v2779 : BitVec 32 := Scalar.muli v2778 c1_i32_1978
  let v2780 : BitVec 32 := Scalar.addi c0_i32_1979 v2779
  v2780.toNat
def k0_off55 (d0 : Dev nD) (c0_i32_2026 : BitVec 32) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1401 : BitVec 32 := 64#32
  let v2024 : BitVec 32 := Scalar.muli c64_i32_1401 v53
  let v2025 : BitVec 32 := Scalar.subi v1571 v2024
  let c128_i32_1755 : BitVec 32 := 128#32
  let v2510 : BitVec 32 := Scalar.muli v19 c128_i32_1755
  let v2511 : BitVec 32 := Scalar.subi v2025 v2510
  let v2822 : BitVec 32 := Scalar.addi v19 c0_i32_2026
  let c1_i32_2027 : BitVec 32 := 1#32
  let v2823 : BitVec 32 := Scalar.addi v2822 c1_i32_2027
  let c4_i32_2028 : BitVec 32 := 4#32
  let c0_i32_2029 : BitVec 32 := 0#32
  let v2824 : BitVec 1 := Scalar.cmpi .eq c4_i32_2028 c0_i32_2029
  let c1_i32_2030 : BitVec 32 := 1#32
  let v2825 : BitVec 32 := Scalar.select v2824 c1_i32_2030 c4_i32_2028
  let v2826 : BitVec 32 := Scalar.remsi v2823 v2825
  let c0_i32_2032 : BitVec 32 := 0#32
  let v2828 : BitVec 1 := Scalar.cmpi .slt v2826 c0_i32_2032
  let c0_i32_2033 : BitVec 32 := 0#32
  let v2829 : BitVec 1 := Scalar.cmpi .slt v2825 c0_i32_2033
  let v2830 : BitVec 1 := Scalar.xori v2828 v2829
  let c0_i32_2031 : BitVec 32 := 0#32
  let v2827 : BitVec 1 := Scalar.cmpi .ne v2826 c0_i32_2031
  let v2831 : BitVec 1 := Scalar.andi v2830 v2827
  let v2832 : BitVec 32 := Scalar.addi v2826 v2825
  let v2833 : BitVec 32 := Scalar.select v2831 v2832 v2826
  let c128_i32_2034 : BitVec 32 := 128#32
  let v2834 : BitVec 32 := Scalar.muli v2833 c128_i32_2034
  let v2835 : BitVec 32 := Scalar.addi v2511 v2834
  let v2838 : Index := Scalar.indexCast v2835
  let c0_2038 : Index := 0#32
  ![v2838.toNat, 0]
def k0_off56 (d0 : Dev nD) (c0_i32_2026 : BitVec 32) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1401 : BitVec 32 := 64#32
  let v2024 : BitVec 32 := Scalar.muli c64_i32_1401 v53
  let v2025 : BitVec 32 := Scalar.subi v1571 v2024
  let c128_i32_1755 : BitVec 32 := 128#32
  let v2510 : BitVec 32 := Scalar.muli v19 c128_i32_1755
  let v2511 : BitVec 32 := Scalar.subi v2025 v2510
  let v2822 : BitVec 32 := Scalar.addi v19 c0_i32_2026
  let c1_i32_2027 : BitVec 32 := 1#32
  let v2823 : BitVec 32 := Scalar.addi v2822 c1_i32_2027
  let c4_i32_2028 : BitVec 32 := 4#32
  let c0_i32_2029 : BitVec 32 := 0#32
  let v2824 : BitVec 1 := Scalar.cmpi .eq c4_i32_2028 c0_i32_2029
  let c1_i32_2030 : BitVec 32 := 1#32
  let v2825 : BitVec 32 := Scalar.select v2824 c1_i32_2030 c4_i32_2028
  let v2826 : BitVec 32 := Scalar.remsi v2823 v2825
  let c0_i32_2032 : BitVec 32 := 0#32
  let v2828 : BitVec 1 := Scalar.cmpi .slt v2826 c0_i32_2032
  let c0_i32_2033 : BitVec 32 := 0#32
  let v2829 : BitVec 1 := Scalar.cmpi .slt v2825 c0_i32_2033
  let v2830 : BitVec 1 := Scalar.xori v2828 v2829
  let c0_i32_2031 : BitVec 32 := 0#32
  let v2827 : BitVec 1 := Scalar.cmpi .ne v2826 c0_i32_2031
  let v2831 : BitVec 1 := Scalar.andi v2830 v2827
  let v2832 : BitVec 32 := Scalar.addi v2826 v2825
  let v2833 : BitVec 32 := Scalar.select v2831 v2832 v2826
  let c128_i32_2034 : BitVec 32 := 128#32
  let v2834 : BitVec 32 := Scalar.muli v2833 c128_i32_2034
  let v2835 : BitVec 32 := Scalar.addi v2511 v2834
  let v2845 : Index := Scalar.indexCast v2835
  let c384_2042 : Index := 384#32
  ![v2845.toNat, 384]
def k0_off57 (d0 : Dev nD) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1401 : BitVec 32 := 64#32
  let v2024 : BitVec 32 := Scalar.muli c64_i32_1401 v53
  let v2025 : BitVec 32 := Scalar.subi v1571 v2024
  let c128_i32_1755 : BitVec 32 := 128#32
  let v2510 : BitVec 32 := Scalar.muli v19 c128_i32_1755
  let v2511 : BitVec 32 := Scalar.subi v2025 v2510
  let c0_i32_2101 : BitVec 32 := 0#32
  ![v2511.toNat, 0]
def k0_dev52 (d0 : Dev nD) : Nat :=
  let c0_i32_2098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2092 : BitVec 32 := 8#32
  let v2921 : BitVec 32 := Scalar.muli v19 c8_i32_2092
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c1_i32_2077 : BitVec 32 := 1#32
  let v2897 : BitVec 32 := Scalar.addi v38 c1_i32_2077
  let c4_i32_2078 : BitVec 32 := 4#32
  let c0_i32_2079 : BitVec 32 := 0#32
  let v2898 : BitVec 1 := Scalar.cmpi .eq c4_i32_2078 c0_i32_2079
  let c1_i32_2080 : BitVec 32 := 1#32
  let v2899 : BitVec 32 := Scalar.select v2898 c1_i32_2080 c4_i32_2078
  let v2900 : BitVec 32 := Scalar.remsi v2897 v2899
  let c0_i32_2082 : BitVec 32 := 0#32
  let v2902 : BitVec 1 := Scalar.cmpi .slt v2900 c0_i32_2082
  let c0_i32_2083 : BitVec 32 := 0#32
  let v2903 : BitVec 1 := Scalar.cmpi .slt v2899 c0_i32_2083
  let v2904 : BitVec 1 := Scalar.xori v2902 v2903
  let c0_i32_2081 : BitVec 32 := 0#32
  let v2901 : BitVec 1 := Scalar.cmpi .ne v2900 c0_i32_2081
  let v2905 : BitVec 1 := Scalar.andi v2904 v2901
  let v2906 : BitVec 32 := Scalar.addi v2900 v2899
  let v2907 : BitVec 32 := Scalar.select v2905 v2906 v2900
  let c2_i32_2093 : BitVec 32 := 2#32
  let v2922 : BitVec 32 := Scalar.muli v2907 c2_i32_2093
  let v2923 : BitVec 32 := Scalar.addi v2921 v2922
  let c2_i32_2084 : BitVec 32 := 2#32
  let c0_i32_2085 : BitVec 32 := 0#32
  let v2908 : BitVec 1 := Scalar.cmpi .eq c2_i32_2084 c0_i32_2085
  let c1_i32_2086 : BitVec 32 := 1#32
  let v2909 : BitVec 32 := Scalar.select v2908 c1_i32_2086 c2_i32_2084
  let v2910 : BitVec 32 := Scalar.remsi v2907 v2909
  let c0_i32_2088 : BitVec 32 := 0#32
  let v2912 : BitVec 1 := Scalar.cmpi .slt v2910 c0_i32_2088
  let c0_i32_2089 : BitVec 32 := 0#32
  let v2913 : BitVec 1 := Scalar.cmpi .slt v2909 c0_i32_2089
  let v2914 : BitVec 1 := Scalar.xori v2912 v2913
  let c0_i32_2087 : BitVec 32 := 0#32
  let v2911 : BitVec 1 := Scalar.cmpi .ne v2910 c0_i32_2087
  let v2915 : BitVec 1 := Scalar.andi v2914 v2911
  let v2916 : BitVec 32 := Scalar.addi v2910 v2909
  let v2917 : BitVec 32 := Scalar.select v2915 v2916 v2910
  let c0_i32_2090 : BitVec 32 := 0#32
  let v2918 : BitVec 1 := Scalar.cmpi .eq v2917 c0_i32_2090
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2091 : BitVec 32 := 1#32
  let v2919 : BitVec 32 := Scalar.subi c1_i32_2091 v53
  let v2920 : BitVec 32 := Scalar.select v2918 v53 v2919
  let v2924 : BitVec 32 := Scalar.addi v2923 v2920
  let c1_i32_2097 : BitVec 32 := 1#32
  let v2925 : BitVec 32 := Scalar.muli v2924 c1_i32_2097
  let v2926 : BitVec 32 := Scalar.addi c0_i32_2098 v2925
  v2926.toNat
def k0_dev53 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2117 : BitVec 32 := 8#32
  let v2958 : BitVec 32 := Scalar.muli v19 c8_i32_2117
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_2102 : BitVec 32 := 2#32
  let v2934 : BitVec 32 := Scalar.addi v38 c2_i32_2102
  let c4_i32_2103 : BitVec 32 := 4#32
  let c0_i32_2104 : BitVec 32 := 0#32
  let v2935 : BitVec 1 := Scalar.cmpi .eq c4_i32_2103 c0_i32_2104
  let c1_i32_2105 : BitVec 32 := 1#32
  let v2936 : BitVec 32 := Scalar.select v2935 c1_i32_2105 c4_i32_2103
  let v2937 : BitVec 32 := Scalar.remsi v2934 v2936
  let c0_i32_2107 : BitVec 32 := 0#32
  let v2939 : BitVec 1 := Scalar.cmpi .slt v2937 c0_i32_2107
  let c0_i32_2108 : BitVec 32 := 0#32
  let v2940 : BitVec 1 := Scalar.cmpi .slt v2936 c0_i32_2108
  let v2941 : BitVec 1 := Scalar.xori v2939 v2940
  let c0_i32_2106 : BitVec 32 := 0#32
  let v2938 : BitVec 1 := Scalar.cmpi .ne v2937 c0_i32_2106
  let v2942 : BitVec 1 := Scalar.andi v2941 v2938
  let v2943 : BitVec 32 := Scalar.addi v2937 v2936
  let v2944 : BitVec 32 := Scalar.select v2942 v2943 v2937
  let c2_i32_2118 : BitVec 32 := 2#32
  let v2959 : BitVec 32 := Scalar.muli v2944 c2_i32_2118
  let v2960 : BitVec 32 := Scalar.addi v2958 v2959
  let c2_i32_2109 : BitVec 32 := 2#32
  let c0_i32_2110 : BitVec 32 := 0#32
  let v2945 : BitVec 1 := Scalar.cmpi .eq c2_i32_2109 c0_i32_2110
  let c1_i32_2111 : BitVec 32 := 1#32
  let v2946 : BitVec 32 := Scalar.select v2945 c1_i32_2111 c2_i32_2109
  let v2947 : BitVec 32 := Scalar.remsi v2944 v2946
  let c0_i32_2113 : BitVec 32 := 0#32
  let v2949 : BitVec 1 := Scalar.cmpi .slt v2947 c0_i32_2113
  let c0_i32_2114 : BitVec 32 := 0#32
  let v2950 : BitVec 1 := Scalar.cmpi .slt v2946 c0_i32_2114
  let v2951 : BitVec 1 := Scalar.xori v2949 v2950
  let c0_i32_2112 : BitVec 32 := 0#32
  let v2948 : BitVec 1 := Scalar.cmpi .ne v2947 c0_i32_2112
  let v2952 : BitVec 1 := Scalar.andi v2951 v2948
  let v2953 : BitVec 32 := Scalar.addi v2947 v2946
  let v2954 : BitVec 32 := Scalar.select v2952 v2953 v2947
  let c0_i32_2115 : BitVec 32 := 0#32
  let v2955 : BitVec 1 := Scalar.cmpi .eq v2954 c0_i32_2115
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2116 : BitVec 32 := 1#32
  let v2956 : BitVec 32 := Scalar.subi c1_i32_2116 v53
  let v2957 : BitVec 32 := Scalar.select v2955 v53 v2956
  let v2961 : BitVec 32 := Scalar.addi v2960 v2957
  let c1_i32_2122 : BitVec 32 := 1#32
  let v2962 : BitVec 32 := Scalar.muli v2961 c1_i32_2122
  let v2963 : BitVec 32 := Scalar.addi c0_i32_2123 v2962
  v2963.toNat
def k0_dev54 (d0 : Dev nD) : Nat :=
  let c0_i32_2148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_2142 : BitVec 32 := 8#32
  let v2995 : BitVec 32 := Scalar.muli v19 c8_i32_2142
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c3_i32_2127 : BitVec 32 := 3#32
  let v2971 : BitVec 32 := Scalar.addi v38 c3_i32_2127
  let c4_i32_2128 : BitVec 32 := 4#32
  let c0_i32_2129 : BitVec 32 := 0#32
  let v2972 : BitVec 1 := Scalar.cmpi .eq c4_i32_2128 c0_i32_2129
  let c1_i32_2130 : BitVec 32 := 1#32
  let v2973 : BitVec 32 := Scalar.select v2972 c1_i32_2130 c4_i32_2128
  let v2974 : BitVec 32 := Scalar.remsi v2971 v2973
  let c0_i32_2132 : BitVec 32 := 0#32
  let v2976 : BitVec 1 := Scalar.cmpi .slt v2974 c0_i32_2132
  let c0_i32_2133 : BitVec 32 := 0#32
  let v2977 : BitVec 1 := Scalar.cmpi .slt v2973 c0_i32_2133
  let v2978 : BitVec 1 := Scalar.xori v2976 v2977
  let c0_i32_2131 : BitVec 32 := 0#32
  let v2975 : BitVec 1 := Scalar.cmpi .ne v2974 c0_i32_2131
  let v2979 : BitVec 1 := Scalar.andi v2978 v2975
  let v2980 : BitVec 32 := Scalar.addi v2974 v2973
  let v2981 : BitVec 32 := Scalar.select v2979 v2980 v2974
  let c2_i32_2143 : BitVec 32 := 2#32
  let v2996 : BitVec 32 := Scalar.muli v2981 c2_i32_2143
  let v2997 : BitVec 32 := Scalar.addi v2995 v2996
  let c2_i32_2134 : BitVec 32 := 2#32
  let c0_i32_2135 : BitVec 32 := 0#32
  let v2982 : BitVec 1 := Scalar.cmpi .eq c2_i32_2134 c0_i32_2135
  let c1_i32_2136 : BitVec 32 := 1#32
  let v2983 : BitVec 32 := Scalar.select v2982 c1_i32_2136 c2_i32_2134
  let v2984 : BitVec 32 := Scalar.remsi v2981 v2983
  let c0_i32_2138 : BitVec 32 := 0#32
  let v2986 : BitVec 1 := Scalar.cmpi .slt v2984 c0_i32_2138
  let c0_i32_2139 : BitVec 32 := 0#32
  let v2987 : BitVec 1 := Scalar.cmpi .slt v2983 c0_i32_2139
  let v2988 : BitVec 1 := Scalar.xori v2986 v2987
  let c0_i32_2137 : BitVec 32 := 0#32
  let v2985 : BitVec 1 := Scalar.cmpi .ne v2984 c0_i32_2137
  let v2989 : BitVec 1 := Scalar.andi v2988 v2985
  let v2990 : BitVec 32 := Scalar.addi v2984 v2983
  let v2991 : BitVec 32 := Scalar.select v2989 v2990 v2984
  let c0_i32_2140 : BitVec 32 := 0#32
  let v2992 : BitVec 1 := Scalar.cmpi .eq v2991 c0_i32_2140
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2141 : BitVec 32 := 1#32
  let v2993 : BitVec 32 := Scalar.subi c1_i32_2141 v53
  let v2994 : BitVec 32 := Scalar.select v2992 v53 v2993
  let v2998 : BitVec 32 := Scalar.addi v2997 v2994
  let c1_i32_2147 : BitVec 32 := 1#32
  let v2999 : BitVec 32 := Scalar.muli v2998 c1_i32_2147
  let v3000 : BitVec 32 := Scalar.addi c0_i32_2148 v2999
  v3000.toNat
def k0_off58 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let c256_i32_2164 : BitVec 32 := 256#32
  let c1_i32_2163 : BitVec 32 := 1#32
  let c2_i32_2162 : BitVec 32 := 2#32
  let v3018 : BitVec 32 := Scalar.muli c2_i32_2162 v53
  let v3019 : BitVec 32 := Scalar.subi c1_i32_2163 v3018
  let v3020 : BitVec 32 := Scalar.muli c256_i32_2164 v3019
  let v3021 : BitVec 32 := Scalar.addi v2149 v3020
  let v3023 : Index := Scalar.indexCast v3021
  let c0_2167 : Index := 0#32
  ![v3023.toNat, 0]
def k0_off59 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let c256_i32_2164 : BitVec 32 := 256#32
  let c1_i32_2163 : BitVec 32 := 1#32
  let c2_i32_2162 : BitVec 32 := 2#32
  let v3018 : BitVec 32 := Scalar.muli c2_i32_2162 v53
  let v3019 : BitVec 32 := Scalar.subi c1_i32_2163 v3018
  let v3020 : BitVec 32 := Scalar.muli c256_i32_2164 v3019
  let v3021 : BitVec 32 := Scalar.addi v2149 v3020
  let v3029 : Index := Scalar.indexCast v3021
  let c640_2170 : Index := 640#32
  ![v3029.toNat, 640]
def k0_off60 (d0 : Dev nD) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let c256_i32_1868 : BitVec 32 := 256#32
  let v2648 : BitVec 32 := Scalar.muli c256_i32_1868 v53
  let v2649 : BitVec 32 := Scalar.subi v2149 v2648
  let c0_i32_2195 : BitVec 32 := 0#32
  ![v2649.toNat, 0]
def k0_dev55 (d0 : Dev nD) : Nat :=
  let c0_i32_2192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2171 : BitVec 32 := 1#32
  let v3031 : BitVec 32 := Scalar.addi v19 c1_i32_2171
  let c4_i32_2172 : BitVec 32 := 4#32
  let c0_i32_2173 : BitVec 32 := 0#32
  let v3032 : BitVec 1 := Scalar.cmpi .eq c4_i32_2172 c0_i32_2173
  let c1_i32_2174 : BitVec 32 := 1#32
  let v3033 : BitVec 32 := Scalar.select v3032 c1_i32_2174 c4_i32_2172
  let v3034 : BitVec 32 := Scalar.remsi v3031 v3033
  let c0_i32_2176 : BitVec 32 := 0#32
  let v3036 : BitVec 1 := Scalar.cmpi .slt v3034 c0_i32_2176
  let c0_i32_2177 : BitVec 32 := 0#32
  let v3037 : BitVec 1 := Scalar.cmpi .slt v3033 c0_i32_2177
  let v3038 : BitVec 1 := Scalar.xori v3036 v3037
  let c0_i32_2175 : BitVec 32 := 0#32
  let v3035 : BitVec 1 := Scalar.cmpi .ne v3034 c0_i32_2175
  let v3039 : BitVec 1 := Scalar.andi v3038 v3035
  let v3040 : BitVec 32 := Scalar.addi v3034 v3033
  let v3041 : BitVec 32 := Scalar.select v3039 v3040 v3034
  let c8_i32_2186 : BitVec 32 := 8#32
  let v3055 : BitVec 32 := Scalar.muli v3041 c8_i32_2186
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_2187 : BitVec 32 := 2#32
  let v3056 : BitVec 32 := Scalar.muli v38 c2_i32_2187
  let v3057 : BitVec 32 := Scalar.addi v3055 v3056
  let c2_i32_2178 : BitVec 32 := 2#32
  let c0_i32_2179 : BitVec 32 := 0#32
  let v3042 : BitVec 1 := Scalar.cmpi .eq c2_i32_2178 c0_i32_2179
  let c1_i32_2180 : BitVec 32 := 1#32
  let v3043 : BitVec 32 := Scalar.select v3042 c1_i32_2180 c2_i32_2178
  let v3044 : BitVec 32 := Scalar.remsi v38 v3043
  let c0_i32_2182 : BitVec 32 := 0#32
  let v3046 : BitVec 1 := Scalar.cmpi .slt v3044 c0_i32_2182
  let c0_i32_2183 : BitVec 32 := 0#32
  let v3047 : BitVec 1 := Scalar.cmpi .slt v3043 c0_i32_2183
  let v3048 : BitVec 1 := Scalar.xori v3046 v3047
  let c0_i32_2181 : BitVec 32 := 0#32
  let v3045 : BitVec 1 := Scalar.cmpi .ne v3044 c0_i32_2181
  let v3049 : BitVec 1 := Scalar.andi v3048 v3045
  let v3050 : BitVec 32 := Scalar.addi v3044 v3043
  let v3051 : BitVec 32 := Scalar.select v3049 v3050 v3044
  let c0_i32_2184 : BitVec 32 := 0#32
  let v3052 : BitVec 1 := Scalar.cmpi .eq v3051 c0_i32_2184
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2185 : BitVec 32 := 1#32
  let v3053 : BitVec 32 := Scalar.subi c1_i32_2185 v53
  let v3054 : BitVec 32 := Scalar.select v3052 v53 v3053
  let v3058 : BitVec 32 := Scalar.addi v3057 v3054
  let c1_i32_2191 : BitVec 32 := 1#32
  let v3059 : BitVec 32 := Scalar.muli v3058 c1_i32_2191
  let v3060 : BitVec 32 := Scalar.addi c0_i32_2192 v3059
  v3060.toNat
def k0_dev56 (d0 : Dev nD) : Nat :=
  let c0_i32_2217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2196 : BitVec 32 := 2#32
  let v3068 : BitVec 32 := Scalar.addi v19 c2_i32_2196
  let c4_i32_2197 : BitVec 32 := 4#32
  let c0_i32_2198 : BitVec 32 := 0#32
  let v3069 : BitVec 1 := Scalar.cmpi .eq c4_i32_2197 c0_i32_2198
  let c1_i32_2199 : BitVec 32 := 1#32
  let v3070 : BitVec 32 := Scalar.select v3069 c1_i32_2199 c4_i32_2197
  let v3071 : BitVec 32 := Scalar.remsi v3068 v3070
  let c0_i32_2201 : BitVec 32 := 0#32
  let v3073 : BitVec 1 := Scalar.cmpi .slt v3071 c0_i32_2201
  let c0_i32_2202 : BitVec 32 := 0#32
  let v3074 : BitVec 1 := Scalar.cmpi .slt v3070 c0_i32_2202
  let v3075 : BitVec 1 := Scalar.xori v3073 v3074
  let c0_i32_2200 : BitVec 32 := 0#32
  let v3072 : BitVec 1 := Scalar.cmpi .ne v3071 c0_i32_2200
  let v3076 : BitVec 1 := Scalar.andi v3075 v3072
  let v3077 : BitVec 32 := Scalar.addi v3071 v3070
  let v3078 : BitVec 32 := Scalar.select v3076 v3077 v3071
  let c8_i32_2211 : BitVec 32 := 8#32
  let v3092 : BitVec 32 := Scalar.muli v3078 c8_i32_2211
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_2212 : BitVec 32 := 2#32
  let v3093 : BitVec 32 := Scalar.muli v38 c2_i32_2212
  let v3094 : BitVec 32 := Scalar.addi v3092 v3093
  let c2_i32_2203 : BitVec 32 := 2#32
  let c0_i32_2204 : BitVec 32 := 0#32
  let v3079 : BitVec 1 := Scalar.cmpi .eq c2_i32_2203 c0_i32_2204
  let c1_i32_2205 : BitVec 32 := 1#32
  let v3080 : BitVec 32 := Scalar.select v3079 c1_i32_2205 c2_i32_2203
  let v3081 : BitVec 32 := Scalar.remsi v38 v3080
  let c0_i32_2207 : BitVec 32 := 0#32
  let v3083 : BitVec 1 := Scalar.cmpi .slt v3081 c0_i32_2207
  let c0_i32_2208 : BitVec 32 := 0#32
  let v3084 : BitVec 1 := Scalar.cmpi .slt v3080 c0_i32_2208
  let v3085 : BitVec 1 := Scalar.xori v3083 v3084
  let c0_i32_2206 : BitVec 32 := 0#32
  let v3082 : BitVec 1 := Scalar.cmpi .ne v3081 c0_i32_2206
  let v3086 : BitVec 1 := Scalar.andi v3085 v3082
  let v3087 : BitVec 32 := Scalar.addi v3081 v3080
  let v3088 : BitVec 32 := Scalar.select v3086 v3087 v3081
  let c0_i32_2209 : BitVec 32 := 0#32
  let v3089 : BitVec 1 := Scalar.cmpi .eq v3088 c0_i32_2209
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2210 : BitVec 32 := 1#32
  let v3090 : BitVec 32 := Scalar.subi c1_i32_2210 v53
  let v3091 : BitVec 32 := Scalar.select v3089 v53 v3090
  let v3095 : BitVec 32 := Scalar.addi v3094 v3091
  let c1_i32_2216 : BitVec 32 := 1#32
  let v3096 : BitVec 32 := Scalar.muli v3095 c1_i32_2216
  let v3097 : BitVec 32 := Scalar.addi c0_i32_2217 v3096
  v3097.toNat
def k0_dev57 (d0 : Dev nD) : Nat :=
  let c0_i32_2242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2221 : BitVec 32 := 3#32
  let v3105 : BitVec 32 := Scalar.addi v19 c3_i32_2221
  let c4_i32_2222 : BitVec 32 := 4#32
  let c0_i32_2223 : BitVec 32 := 0#32
  let v3106 : BitVec 1 := Scalar.cmpi .eq c4_i32_2222 c0_i32_2223
  let c1_i32_2224 : BitVec 32 := 1#32
  let v3107 : BitVec 32 := Scalar.select v3106 c1_i32_2224 c4_i32_2222
  let v3108 : BitVec 32 := Scalar.remsi v3105 v3107
  let c0_i32_2226 : BitVec 32 := 0#32
  let v3110 : BitVec 1 := Scalar.cmpi .slt v3108 c0_i32_2226
  let c0_i32_2227 : BitVec 32 := 0#32
  let v3111 : BitVec 1 := Scalar.cmpi .slt v3107 c0_i32_2227
  let v3112 : BitVec 1 := Scalar.xori v3110 v3111
  let c0_i32_2225 : BitVec 32 := 0#32
  let v3109 : BitVec 1 := Scalar.cmpi .ne v3108 c0_i32_2225
  let v3113 : BitVec 1 := Scalar.andi v3112 v3109
  let v3114 : BitVec 32 := Scalar.addi v3108 v3107
  let v3115 : BitVec 32 := Scalar.select v3113 v3114 v3108
  let c8_i32_2236 : BitVec 32 := 8#32
  let v3129 : BitVec 32 := Scalar.muli v3115 c8_i32_2236
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_2237 : BitVec 32 := 2#32
  let v3130 : BitVec 32 := Scalar.muli v38 c2_i32_2237
  let v3131 : BitVec 32 := Scalar.addi v3129 v3130
  let c2_i32_2228 : BitVec 32 := 2#32
  let c0_i32_2229 : BitVec 32 := 0#32
  let v3116 : BitVec 1 := Scalar.cmpi .eq c2_i32_2228 c0_i32_2229
  let c1_i32_2230 : BitVec 32 := 1#32
  let v3117 : BitVec 32 := Scalar.select v3116 c1_i32_2230 c2_i32_2228
  let v3118 : BitVec 32 := Scalar.remsi v38 v3117
  let c0_i32_2232 : BitVec 32 := 0#32
  let v3120 : BitVec 1 := Scalar.cmpi .slt v3118 c0_i32_2232
  let c0_i32_2233 : BitVec 32 := 0#32
  let v3121 : BitVec 1 := Scalar.cmpi .slt v3117 c0_i32_2233
  let v3122 : BitVec 1 := Scalar.xori v3120 v3121
  let c0_i32_2231 : BitVec 32 := 0#32
  let v3119 : BitVec 1 := Scalar.cmpi .ne v3118 c0_i32_2231
  let v3123 : BitVec 1 := Scalar.andi v3122 v3119
  let v3124 : BitVec 32 := Scalar.addi v3118 v3117
  let v3125 : BitVec 32 := Scalar.select v3123 v3124 v3118
  let c0_i32_2234 : BitVec 32 := 0#32
  let v3126 : BitVec 1 := Scalar.cmpi .eq v3125 c0_i32_2234
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let c1_i32_2235 : BitVec 32 := 1#32
  let v3127 : BitVec 32 := Scalar.subi c1_i32_2235 v53
  let v3128 : BitVec 32 := Scalar.select v3126 v53 v3127
  let v3132 : BitVec 32 := Scalar.addi v3131 v3128
  let c1_i32_2241 : BitVec 32 := 1#32
  let v3133 : BitVec 32 := Scalar.muli v3132 c1_i32_2241
  let v3134 : BitVec 32 := Scalar.addi c0_i32_2242 v3133
  v3134.toNat
def k0_off61 (d0 : Dev nD) : Fin 2 → Nat :=
  let c0_i32_306 : BitVec 32 := 0#32
  let c1024_i32_305 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v547 : BitVec 32 := Scalar.muli c1024_i32_305 v53
  let v548 : BitVec 32 := Scalar.addi c0_i32_306 v547
  let c256_i32_633 : BitVec 32 := 256#32
  let v1068 : BitVec 32 := Scalar.muli v38 c256_i32_633
  let v1069 : BitVec 32 := Scalar.addi v548 v1068
  let c64_i32_969 : BitVec 32 := 64#32
  let v1489 : BitVec 32 := Scalar.muli v19 c64_i32_969
  let v1490 : BitVec 32 := Scalar.addi v1069 v1489
  let c64_i32_1377 : BitVec 32 := 64#32
  let v1988 : BitVec 32 := Scalar.muli v19 c64_i32_1377
  let v1989 : BitVec 32 := Scalar.subi v1490 v1988
  let c256_i32_1661 : BitVec 32 := 256#32
  let v2376 : BitVec 32 := Scalar.muli v38 c256_i32_1661
  let v2377 : BitVec 32 := Scalar.subi v1989 v2376
  let c1024_i32_2258 : BitVec 32 := 1024#32
  let c1_i32_2257 : BitVec 32 := 1#32
  let c2_i32_2256 : BitVec 32 := 2#32
  let v3152 : BitVec 32 := Scalar.muli c2_i32_2256 v53
  let v3153 : BitVec 32 := Scalar.subi c1_i32_2257 v3152
  let v3154 : BitVec 32 := Scalar.muli c1024_i32_2258 v3153
  let v3155 : BitVec 32 := Scalar.addi v2377 v3154
  let v3158 : Index := Scalar.indexCast v3155
  let c0_2261 : Index := 0#32
  ![v3158.toNat, 0]
def k0_off62 (d0 : Dev nD) (c0_i32_2307 : BitVec 32) : Fin 2 → Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c512_i32_418 : BitVec 32 := 512#32
  let v727 : BitVec 32 := Scalar.muli v38 c512_i32_418
  let v728 : BitVec 32 := Scalar.addi c0_i32_419 v727
  let c128_i32_763 : BitVec 32 := 128#32
  let v1238 : BitVec 32 := Scalar.muli v19 c128_i32_763
  let v1239 : BitVec 32 := Scalar.addi v728 v1238
  let c64_i32_1043 : BitVec 32 := 64#32
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1570 : BitVec 32 := Scalar.muli c64_i32_1043 v53
  let v1571 : BitVec 32 := Scalar.addi v1239 v1570
  let c64_i32_1401 : BitVec 32 := 64#32
  let v2024 : BitVec 32 := Scalar.muli c64_i32_1401 v53
  let v2025 : BitVec 32 := Scalar.subi v1571 v2024
  let c128_i32_1755 : BitVec 32 := 128#32
  let v2510 : BitVec 32 := Scalar.muli v19 c128_i32_1755
  let v2511 : BitVec 32 := Scalar.subi v2025 v2510
  let c512_i32_2152 : BitVec 32 := 512#32
  let v3008 : BitVec 32 := Scalar.muli v38 c512_i32_2152
  let v3009 : BitVec 32 := Scalar.subi v2511 v3008
  let v3196 : BitVec 32 := Scalar.addi v38 c0_i32_2307
  let c1_i32_2308 : BitVec 32 := 1#32
  let v3197 : BitVec 32 := Scalar.addi v3196 c1_i32_2308
  let c4_i32_2309 : BitVec 32 := 4#32
  let c0_i32_2310 : BitVec 32 := 0#32
  let v3198 : BitVec 1 := Scalar.cmpi .eq c4_i32_2309 c0_i32_2310
  let c1_i32_2311 : BitVec 32 := 1#32
  let v3199 : BitVec 32 := Scalar.select v3198 c1_i32_2311 c4_i32_2309
  let v3200 : BitVec 32 := Scalar.remsi v3197 v3199
  let c0_i32_2313 : BitVec 32 := 0#32
  let v3202 : BitVec 1 := Scalar.cmpi .slt v3200 c0_i32_2313
  let c0_i32_2314 : BitVec 32 := 0#32
  let v3203 : BitVec 1 := Scalar.cmpi .slt v3199 c0_i32_2314
  let v3204 : BitVec 1 := Scalar.xori v3202 v3203
  let c0_i32_2312 : BitVec 32 := 0#32
  let v3201 : BitVec 1 := Scalar.cmpi .ne v3200 c0_i32_2312
  let v3205 : BitVec 1 := Scalar.andi v3204 v3201
  let v3206 : BitVec 32 := Scalar.addi v3200 v3199
  let v3207 : BitVec 32 := Scalar.select v3205 v3206 v3200
  let c512_i32_2315 : BitVec 32 := 512#32
  let v3208 : BitVec 32 := Scalar.muli v3207 c512_i32_2315
  let v3209 : BitVec 32 := Scalar.addi v3009 v3208
  let v3213 : Index := Scalar.indexCast v3209
  let c384_2319 : Index := 384#32
  ![v3213.toNat, 384]
def k0_off63 (d0 : Dev nD) (c0_i32_2391 : BitVec 32) : Fin 2 → Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c512_i32_531 : BitVec 32 := 512#32
  let v907 : BitVec 32 := Scalar.muli v19 c512_i32_531
  let v908 : BitVec 32 := Scalar.addi c0_i32_532 v907
  let c256_i32_837 : BitVec 32 := 256#32
  let c8_i32_5 : BitVec 32 := 8#32
  let v20 : BitVec 32 := Scalar.muli v19 c8_i32_5
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli v38 c2_i32_12
  let v40 : BitVec 32 := Scalar.subi v21 v39
  let c1_i32_20 : BitVec 32 := 1#32
  let v52 : BitVec 32 := Scalar.subi c1_i32_20 v40
  let v53 : BitVec 32 := Scalar.select v51 v40 v52
  let v1319 : BitVec 32 := Scalar.muli c256_i32_837 v53
  let v1320 : BitVec 32 := Scalar.addi v908 v1319
  let c64_i32_1132 : BitVec 32 := 64#32
  let v1705 : BitVec 32 := Scalar.muli v38 c64_i32_1132
  let v1706 : BitVec 32 := Scalar.addi v1320 v1705
  let c64_i32_1486 : BitVec 32 := 64#32
  let v2148 : BitVec 32 := Scalar.muli v38 c64_i32_1486
  let v2149 : BitVec 32 := Scalar.subi v1706 v2148
  let c256_i32_1868 : BitVec 32 := 256#32
  let v2648 : BitVec 32 := Scalar.muli c256_i32_1868 v53
  let v2649 : BitVec 32 := Scalar.subi v2149 v2648
  let c512_i32_2246 : BitVec 32 := 512#32
  let v3142 : BitVec 32 := Scalar.muli v19 c512_i32_2246
  let v3143 : BitVec 32 := Scalar.subi v2649 v3142
  let v3289 : BitVec 32 := Scalar.addi v19 c0_i32_2391
  let c1_i32_2392 : BitVec 32 := 1#32
  let v3290 : BitVec 32 := Scalar.addi v3289 c1_i32_2392
  let c4_i32_2393 : BitVec 32 := 4#32
  let c0_i32_2394 : BitVec 32 := 0#32
  let v3291 : BitVec 1 := Scalar.cmpi .eq c4_i32_2393 c0_i32_2394
  let c1_i32_2395 : BitVec 32 := 1#32
  let v3292 : BitVec 32 := Scalar.select v3291 c1_i32_2395 c4_i32_2393
  let v3293 : BitVec 32 := Scalar.remsi v3290 v3292
  let c0_i32_2397 : BitVec 32 := 0#32
  let v3295 : BitVec 1 := Scalar.cmpi .slt v3293 c0_i32_2397
  let c0_i32_2398 : BitVec 32 := 0#32
  let v3296 : BitVec 1 := Scalar.cmpi .slt v3292 c0_i32_2398
  let v3297 : BitVec 1 := Scalar.xori v3295 v3296
  let c0_i32_2396 : BitVec 32 := 0#32
  let v3294 : BitVec 1 := Scalar.cmpi .ne v3293 c0_i32_2396
  let v3298 : BitVec 1 := Scalar.andi v3297 v3294
  let v3299 : BitVec 32 := Scalar.addi v3293 v3292
  let v3300 : BitVec 32 := Scalar.select v3298 v3299 v3293
  let c512_i32_2399 : BitVec 32 := 512#32
  let v3301 : BitVec 32 := Scalar.muli v3300 c512_i32_2399
  let v3302 : BitVec 32 := Scalar.addi v3143 v3301
  let v3306 : Index := Scalar.indexCast v3302
  let c640_2403 : Index := 640#32
  ![v3306.toNat, 640]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S65536x1024 : Shape := ⟨2, ![65536, 1024]⟩
abbrev S1024x1024 : Shape := ⟨2, ![1024, 1024]⟩
abbrev S32x2048x1024 : Shape := ⟨3, ![32, 2048, 1024]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .bf16⟩
  | .hbm, ⟨2, _⟩ => ⟨S65536x1024, .f32⟩
  | .hbm, ⟨3, _⟩ => ⟨S1024x1024, .f32⟩
  | .hbm, ⟨4, _⟩ => ⟨S32x2048x1024, .f32⟩
  | .hbm, ⟨5, _⟩ => ⟨S_, .f32⟩
  | .hbm, ⟨6, _⟩ => ⟨S2048x1024, .f32⟩
  | .hbm, ⟨7, _⟩ => ⟨S2048x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Mesh.lean ====
module

public import proofs.«01_k».proof.Proof.Gen.KernelIdeal.Skeleton

/-!
# The mesh: coordinates, neighbours, strips and rows

Device `c` sits at `(x, y, z)` on a 2 × 4 × 4 mesh.  Strip `i` of the summed
matrix is scattered along its three axes in the order `ax i 0`, `ax i 1`,
`ax i 2`, and `row i p k c` is the first row of the chunk of phase `p` that
belongs to the device `k` steps along the phase's axis from `c`.
-/

@[expose] public section

open Idealize.ShloMosaic
open Cert.KernelIdeal

namespace Cert.KProof

/-- The first coordinate of a device. -/
def xC (c : Dev nD) : ℕ := if c.val % 8 / 2 % 2 = 0 then c.val % 2 else 1 - c.val % 2
/-- The second coordinate. -/
def yC (c : Dev nD) : ℕ := c.val % 8 / 2
/-- The third coordinate. -/
def zC (c : Dev nD) : ℕ := c.val / 8

/-- The device at the given coordinates, taken modulo the sides of the mesh. -/
def lid (x y z : ℕ) : Dev nD :=
  ⟨8 * (z % 4) + 2 * (y % 4) + (if y % 2 = 0 then x % 2 else 1 - x % 2), by
    have h1 : z % 4 < 4 := Nat.mod_lt _ (by decide)
    have h2 : y % 4 < 4 := Nat.mod_lt _ (by decide)
    have h3 : (if y % 2 = 0 then x % 2 else 1 - x % 2) < 2 := by split <;> omega
    show _ < 32
    omega⟩

/-- The axis along which strip `i` moves in phase `p`: 0, 1, 2 for x, y, z. -/
def ax (i p : ℕ) : ℕ := (i + p) % 3
/-- The number of devices along an axis. -/
def cnt (a : ℕ) : ℕ := if a = 0 then 2 else 4
/-- The device `k` steps along axis `a`. -/
def sh (a k : ℕ) (c : Dev nD) : Dev nD :=
  lid (xC c + if a = 0 then k else 0) (yC c + if a = 1 then k else 0) (zC c + if a = 2 then k else 0)

/-- The rows of a chunk of strip `i` after phase `p`. -/
def sz (i p : ℕ) : ℕ := match i, p with
  | 0, 0 => 1024 | 0, 1 => 256 | 1, 0 => 512 | 1, 1 => 128 | 2, 0 => 512 | 2, 1 => 256 | _, _ => 64
/-- The width of a strip. -/
def wd (i : ℕ) : ℕ := match i with | 1 => 256 | _ => 384
/-- The first column of a strip. -/
def col (i : ℕ) : ℕ := match i with | 0 => 0 | 1 => 384 | _ => 640

/-- The first row of the phase-`p` chunk of strip `i` that goes to the device
    `k` steps along the phase's axis. -/
def row (i p k : ℕ) (c : Dev nD) : ℕ := match i, p with
  | 0, 0 => 1024 * ((xC c + k) % 2)
  | 0, 1 => 1024 * xC c + 256 * ((yC c + k) % 4)
  | 0, _ => 1024 * xC c + 256 * yC c + 64 * ((zC c + k) % 4)
  | 1, 0 => 512 * ((yC c + k) % 4)
  | 1, 1 => 512 * yC c + 128 * ((zC c + k) % 4)
  | 1, _ => 512 * yC c + 128 * zC c + 64 * ((xC c + k) % 2)
  | _, 0 => 512 * ((zC c + k) % 4)
  | _, 1 => 512 * zC c + 256 * ((xC c + k) % 2)
  | _, _ => 512 * zC c + 256 * xC c + 64 * ((yC c + k) % 4)

/-- The device whose strip-0 rows are the strip-1 rows of `c`. -/
def dstB (c : Dev nD) : Dev nD := lid (yC c / 2) (2 * (yC c % 2) + zC c / 2) (2 * (zC c % 2) + xC c)
/-- Its inverse: the device whose strip-1 rows are the strip-0 rows of `c`. -/
def srcB (c : Dev nD) : Dev nD := lid (zC c % 2) (2 * xC c + yC c / 2) (2 * (yC c % 2) + zC c / 2)
/-- The device whose strip-0 rows are the strip-2 rows of `c`. -/
def dstC (c : Dev nD) : Dev nD := lid (zC c / 2) (2 * (zC c % 2) + xC c) (yC c)
/-- Its inverse. -/
def srcC (c : Dev nD) : Dev nD := lid (yC c % 2) (zC c) (2 * xC c + yC c / 2)

/-! The printed offsets in closed form. -/

/-- Offset 1: strip 0, phase 0, the rows of the device one step on, from column 0. -/
theorem off1 (c : Dev nD) : k0_off1 c = ![row 0 0 1 c, 0] := by revert c; decide +kernel
/-- Offset 2: strip 0, phase 0, the rows of the device one step on, from column 0. -/
theorem off2 (c : Dev nD) : k0_off2 c = ![row 0 0 1 c, 0] := by revert c; decide +kernel
/-- Offset 3: strip 0, phase 0, the rows of the device one step on, from column 0. -/
theorem off3 (c : Dev nD) : k0_off3 c = ![row 0 0 1 c, 0] := by revert c; decide +kernel
/-- Offset 4: strip 1, phase 0, the rows of each device further on, from column 384. -/
theorem off4 (c : Dev nD) (r : Fin 3) : k0_off4 c (BitVec.ofNat 32 (1 + r.val)) = ![row 1 0 (1 + r.val) c, 384] := by
  revert c r; decide +kernel
/-- Offset 5: strip 1, phase 0, the rows of each device further on, from column 0. -/
theorem off5 (c : Dev nD) (r : Fin 3) : k0_off5 c (BitVec.ofNat 32 (1 + r.val)) = ![row 1 0 (1 + r.val) c, 0] := by
  revert c r; decide +kernel
/-- Offset 6: strip 1, phase 0, the rows of each device further on, from column 0. -/
theorem off6 (c : Dev nD) (r : Fin 3) : k0_off6 c (BitVec.ofNat 32 (1 + r.val)) = ![row 1 0 (1 + r.val) c, 0] := by
  revert c r; decide +kernel
/-- Offset 7: strip 2, phase 0, the rows of each device further on, from column 640. -/
theorem off7 (c : Dev nD) (r : Fin 3) : k0_off7 c (BitVec.ofNat 32 (1 + r.val)) = ![row 2 0 (1 + r.val) c, 640] := by
  revert c r; decide +kernel
/-- Offset 8: strip 2, phase 0, the rows of each device further on, from column 0. -/
theorem off8 (c : Dev nD) (r : Fin 3) : k0_off8 c (BitVec.ofNat 32 (1 + r.val)) = ![row 2 0 (1 + r.val) c, 0] := by
  revert c r; decide +kernel
/-- Offset 9: strip 2, phase 0, the rows of each device further on, from column 0. -/
theorem off9 (c : Dev nD) (r : Fin 3) : k0_off9 c (BitVec.ofNat 32 (1 + r.val)) = ![row 2 0 (1 + r.val) c, 0] := by
  revert c r; decide +kernel
/-- Offset 10: strip 0, phase 0, the rows of the device itself, from column 0. -/
theorem off10 (c : Dev nD) : k0_off10 c = ![row 0 0 0 c, 0] := by revert c; decide +kernel
/-- Offset 11: strip 0, phase 0, the rows of the device itself, from column 0. -/
theorem off11 (c : Dev nD) : k0_off11 c = ![row 0 0 0 c, 0] := by revert c; decide +kernel
/-- Offset 12: strip 1, phase 0, the rows of the device itself, from column 384. -/
theorem off12 (c : Dev nD) : k0_off12 c = ![row 1 0 0 c, 384] := by revert c; decide +kernel
/-- Offset 13: strip 1, phase 0, the rows of the device itself, from column 0. -/
theorem off13 (c : Dev nD) : k0_off13 c = ![row 1 0 0 c, 0] := by revert c; decide +kernel
/-- Offset 14: strip 2, phase 0, the rows of the device itself, from column 640. -/
theorem off14 (c : Dev nD) : k0_off14 c = ![row 2 0 0 c, 640] := by revert c; decide +kernel
/-- Offset 15: strip 2, phase 0, the rows of the device itself, from column 0. -/
theorem off15 (c : Dev nD) : k0_off15 c = ![row 2 0 0 c, 0] := by revert c; decide +kernel
/-- Offset 16: strip 0, phase 0, the rows of the device itself, from column 0. -/
theorem off16 (c : Dev nD) : k0_off16 c = ![row 0 0 0 c, 0] := by revert c; decide +kernel
/-- Offset 17: strip 0, phase 1, the rows of each device further on, from column 0. -/
theorem off17 (c : Dev nD) (r : Fin 3) : k0_off17 c (BitVec.ofNat 32 (1 + r.val)) = ![row 0 1 (1 + r.val) c, 0] := by
  revert c r; decide +kernel
/-- Offset 18: strip 1, phase 0, the rows of the device itself, from column 0. -/
theorem off18 (c : Dev nD) : k0_off18 c = ![row 1 0 0 c, 0] := by revert c; decide +kernel
/-- Offset 19: strip 1, phase 1, the rows of each device further on, from column 0. -/
theorem off19 (c : Dev nD) (r : Fin 3) : k0_off19 c (BitVec.ofNat 32 (1 + r.val)) = ![row 1 1 (1 + r.val) c, 0] := by
  revert c r; decide +kernel
/-- Offset 20: strip 2, phase 0, the rows of the device itself, from column 0. -/
theorem off20 (c : Dev nD) : k0_off20 c = ![row 2 0 0 c, 0] := by revert c; decide +kernel
/-- Offset 21: strip 2, phase 1, the rows of the device one step on, from column 0. -/
theorem off21 (c : Dev nD) : k0_off21 c = ![row 2 1 1 c, 0] := by revert c; decide +kernel
/-- Offset 22: strip 0, phase 1, the rows of the device itself, from column 0. -/
theorem off22 (c : Dev nD) : k0_off22 c = ![row 0 1 0 c, 0] := by revert c; decide +kernel
/-- Offset 23: strip 0, phase 2, the rows of each device further on, from column 0. -/
theorem off23 (c : Dev nD) (r : Fin 3) : k0_off23 c (BitVec.ofNat 32 (1 + r.val)) = ![row 0 2 (1 + r.val) c, 0] := by
  revert c r; decide +kernel
/-- Offset 24: strip 1, phase 1, the rows of the device itself, from column 0. -/
theorem off24 (c : Dev nD) : k0_off24 c = ![row 1 1 0 c, 0] := by revert c; decide +kernel
/-- Offset 25: strip 1, phase 2, the rows of the device one step on, from column 0. -/
theorem off25 (c : Dev nD) : k0_off25 c = ![row 1 2 1 c, 0] := by revert c; decide +kernel
/-- Offset 26: strip 2, phase 1, the rows of the device itself, from column 0. -/
theorem off26 (c : Dev nD) : k0_off26 c = ![row 2 1 0 c, 0] := by revert c; decide +kernel
/-- Offset 27: strip 2, phase 2, the rows of each device further on, from column 0. -/
theorem off27 (c : Dev nD) (r : Fin 3) : k0_off27 c (BitVec.ofNat 32 (1 + r.val)) = ![row 2 2 (1 + r.val) c, 0] := by
  revert c r; decide +kernel
/-- Offset 28: strip 0, phase 2, the rows of the device itself, from column 0. -/
theorem off28 (c : Dev nD) : k0_off28 c = ![row 0 2 0 c, 0] := by revert c; decide +kernel
/-- Offset 29: strip 1, phase 2, the rows of the device itself, from column 0. -/
theorem off29 (c : Dev nD) : k0_off29 c = ![row 1 2 0 c, 0] := by revert c; decide +kernel
/-- Offset 30: strip 2, phase 2, the rows of the device itself, from column 0. -/
theorem off30 (c : Dev nD) : k0_off30 c = ![row 2 2 0 c, 0] := by revert c; decide +kernel
/-- Offset 31: strip 1, phase 2, the rows of the device itself, from column 0. -/
theorem off31 (c : Dev nD) : k0_off31 c = ![row 1 2 0 c, 0] := by revert c; decide +kernel
/-- Offset 32: strip 1, phase 2, the rows of the device itself, from column 0. -/
theorem off32 (c : Dev nD) : k0_off32 c = ![row 1 2 0 c, 0] := by revert c; decide +kernel
/-- Offset 33: strip 2, phase 2, the rows of the device itself, from column 0. -/
theorem off33 (c : Dev nD) : k0_off33 c = ![row 2 2 0 c, 0] := by revert c; decide +kernel
/-- Offset 34: strip 2, phase 2, the rows of the device itself, from column 0. -/
theorem off34 (c : Dev nD) : k0_off34 c = ![row 2 2 0 c, 0] := by revert c; decide +kernel
/-- Offset 35: strip 1, phase 2, the rows of the device itself, from column 0. -/
theorem off35 (c : Dev nD) : k0_off35 c = ![row 1 2 0 c, 0] := by revert c; decide +kernel
/-- Offset 36: strip 2, phase 2, the rows of the device itself, from column 0. -/
theorem off36 (c : Dev nD) : k0_off36 c = ![row 2 2 0 c, 0] := by revert c; decide +kernel
/-- Offset 37: strip 0, phase 2, the rows of the device itself, from column 0. -/
theorem off37 (c : Dev nD) : k0_off37 c = ![row 0 2 0 c, 0] := by revert c; decide +kernel
/-- Offset 38: strip 0, phase 2, the rows of the device itself, from column 0. -/
theorem off38 (c : Dev nD) : k0_off38 c = ![row 0 2 0 c, 0] := by revert c; decide +kernel
/-- Offset 39: strip 1, phase 2, the rows of the device itself, from column 0. -/
theorem off39 (c : Dev nD) : k0_off39 c = ![row 1 2 0 c, 0] := by revert c; decide +kernel
/-- Offset 40: strip 1, phase 2, the rows of the device itself, from column 384. -/
theorem off40 (c : Dev nD) : k0_off40 c = ![row 1 2 0 c, 384] := by revert c; decide +kernel
/-- Offset 41: strip 2, phase 2, the rows of the device itself, from column 0. -/
theorem off41 (c : Dev nD) : k0_off41 c = ![row 2 2 0 c, 0] := by revert c; decide +kernel
/-- Offset 42: strip 2, phase 2, the rows of the device itself, from column 640. -/
theorem off42 (c : Dev nD) : k0_off42 c = ![row 2 2 0 c, 640] := by revert c; decide +kernel
/-- Offset 43: strip 0, phase 2, the rows of each device further on, from column 0. -/
theorem off43 (c : Dev nD) (r : Fin 3) : k0_off43 c (BitVec.ofNat 32 r.val) = ![row 0 2 (1 + r.val) c, 0] := by
  revert c r; decide +kernel
/-- Offset 44: strip 0, phase 2, the rows of each device further on, from column 0. -/
theorem off44 (c : Dev nD) (r : Fin 3) : k0_off44 c (BitVec.ofNat 32 r.val) = ![row 0 2 (1 + r.val) c, 0] := by
  revert c r; decide +kernel
/-- Offset 45: strip 0, phase 1, the rows of the device itself, from column 0. -/
theorem off45 (c : Dev nD) : k0_off45 c = ![row 0 1 0 c, 0] := by revert c; decide +kernel
/-- Offset 46: strip 1, phase 2, the rows of the device one step on, from column 0. -/
theorem off46 (c : Dev nD) : k0_off46 c = ![row 1 2 1 c, 0] := by revert c; decide +kernel
/-- Offset 47: strip 1, phase 2, the rows of the device one step on, from column 384. -/
theorem off47 (c : Dev nD) : k0_off47 c = ![row 1 2 1 c, 384] := by revert c; decide +kernel
/-- Offset 48: strip 1, phase 1, the rows of the device itself, from column 0. -/
theorem off48 (c : Dev nD) : k0_off48 c = ![row 1 1 0 c, 0] := by revert c; decide +kernel
/-- Offset 49: strip 2, phase 2, the rows of each device further on, from column 0. -/
theorem off49 (c : Dev nD) (r : Fin 3) : k0_off49 c (BitVec.ofNat 32 r.val) = ![row 2 2 (1 + r.val) c, 0] := by
  revert c r; decide +kernel
/-- Offset 50: strip 2, phase 2, the rows of each device further on, from column 640. -/
theorem off50 (c : Dev nD) (r : Fin 3) : k0_off50 c (BitVec.ofNat 32 r.val) = ![row 2 2 (1 + r.val) c, 640] := by
  revert c r; decide +kernel
/-- Offset 51: strip 2, phase 1, the rows of the device itself, from column 0. -/
theorem off51 (c : Dev nD) : k0_off51 c = ![row 2 1 0 c, 0] := by revert c; decide +kernel
/-- Offset 52: strip 0, phase 1, the rows of each device further on, from column 0. -/
theorem off52 (c : Dev nD) (r : Fin 3) : k0_off52 c (BitVec.ofNat 32 r.val) = ![row 0 1 (1 + r.val) c, 0] := by
  revert c r; decide +kernel
/-- Offset 53: strip 0, phase 1, the rows of each device further on, from column 0. -/
theorem off53 (c : Dev nD) (r : Fin 3) : k0_off53 c (BitVec.ofNat 32 r.val) = ![row 0 1 (1 + r.val) c, 0] := by
  revert c r; decide +kernel
/-- Offset 54: strip 0, phase 0, the rows of the device itself, from column 0. -/
theorem off54 (c : Dev nD) : k0_off54 c = ![row 0 0 0 c, 0] := by revert c; decide +kernel
/-- Offset 55: strip 1, phase 1, the rows of each device further on, from column 0. -/
theorem off55 (c : Dev nD) (r : Fin 3) : k0_off55 c (BitVec.ofNat 32 r.val) = ![row 1 1 (1 + r.val) c, 0] := by
  revert c r; decide +kernel
/-- Offset 56: strip 1, phase 1, the rows of each device further on, from column 384. -/
theorem off56 (c : Dev nD) (r : Fin 3) : k0_off56 c (BitVec.ofNat 32 r.val) = ![row 1 1 (1 + r.val) c, 384] := by
  revert c r; decide +kernel
/-- Offset 57: strip 1, phase 0, the rows of the device itself, from column 0. -/
theorem off57 (c : Dev nD) : k0_off57 c = ![row 1 0 0 c, 0] := by revert c; decide +kernel
/-- Offset 58: strip 2, phase 1, the rows of the device one step on, from column 0. -/
theorem off58 (c : Dev nD) : k0_off58 c = ![row 2 1 1 c, 0] := by revert c; decide +kernel
/-- Offset 59: strip 2, phase 1, the rows of the device one step on, from column 640. -/
theorem off59 (c : Dev nD) : k0_off59 c = ![row 2 1 1 c, 640] := by revert c; decide +kernel
/-- Offset 60: strip 2, phase 0, the rows of the device itself, from column 0. -/
theorem off60 (c : Dev nD) : k0_off60 c = ![row 2 0 0 c, 0] := by revert c; decide +kernel
/-- Offset 61: strip 0, phase 0, the rows of the device one step on, from column 0. -/
theorem off61 (c : Dev nD) : k0_off61 c = ![row 0 0 1 c, 0] := by revert c; decide +kernel
/-- Offset 62: strip 1, phase 0, the rows of each device further on, from column 384. -/
theorem off62 (c : Dev nD) (r : Fin 3) : k0_off62 c (BitVec.ofNat 32 r.val) = ![row 1 0 (1 + r.val) c, 384] := by
  revert c r; decide +kernel
/-- Offset 63: strip 2, phase 0, the rows of each device further on, from column 640. -/
theorem off63 (c : Dev nD) (r : Fin 3) : k0_off63 c (BitVec.ofNat 32 r.val) = ![row 2 0 (1 + r.val) c, 640] := by
  revert c r; decide +kernel

/-! The printed device numbers. -/

/-- Device number 1: 1 step along the first axis. -/
theorem dev1 (c : Dev nD) : k0_dev1 c = (sh 0 1 c).val := by revert c; decide +kernel
/-- Device number 2: 1 step along the second axis. -/
theorem dev2 (c : Dev nD) : k0_dev2 c = (sh 1 1 c).val := by revert c; decide +kernel
/-- Device number 3: 1 step along the third axis. -/
theorem dev3 (c : Dev nD) : k0_dev3 c = (sh 2 1 c).val := by revert c; decide +kernel
/-- Device number 4: 2 steps along the second axis. -/
theorem dev4 (c : Dev nD) : k0_dev4 c = (sh 1 2 c).val := by revert c; decide +kernel
/-- Device number 5: 2 steps along the third axis. -/
theorem dev5 (c : Dev nD) : k0_dev5 c = (sh 2 2 c).val := by revert c; decide +kernel
/-- Device number 6: 3 steps along the second axis. -/
theorem dev6 (c : Dev nD) : k0_dev6 c = (sh 1 3 c).val := by revert c; decide +kernel
/-- Device number 7: 3 steps along the third axis. -/
theorem dev7 (c : Dev nD) : k0_dev7 c = (sh 2 3 c).val := by revert c; decide +kernel
/-- Device number 8: where strip 1's rows come from. -/
theorem dev8 (c : Dev nD) : k0_dev8 c = (srcB c).val := by revert c; decide +kernel
/-- Device number 9: where strip 1's rows go. -/
theorem dev9 (c : Dev nD) : k0_dev9 c = (dstB c).val := by revert c; decide +kernel
/-- Device number 10: where strip 2's rows come from. -/
theorem dev10 (c : Dev nD) : k0_dev10 c = (srcC c).val := by revert c; decide +kernel
/-- Device number 11: where strip 2's rows go. -/
theorem dev11 (c : Dev nD) : k0_dev11 c = (dstC c).val := by revert c; decide +kernel
/-- Device number 12: 1 step along the first axis. -/
theorem dev12 (c : Dev nD) : k0_dev12 c = (sh 0 1 c).val := by revert c; decide +kernel
/-- Device number 13: 1 step along the second axis. -/
theorem dev13 (c : Dev nD) : k0_dev13 c = (sh 1 1 c).val := by revert c; decide +kernel
/-- Device number 14: 2 steps along the second axis. -/
theorem dev14 (c : Dev nD) : k0_dev14 c = (sh 1 2 c).val := by revert c; decide +kernel
/-- Device number 15: 3 steps along the second axis. -/
theorem dev15 (c : Dev nD) : k0_dev15 c = (sh 1 3 c).val := by revert c; decide +kernel
/-- Device number 16: 1 step along the third axis. -/
theorem dev16 (c : Dev nD) : k0_dev16 c = (sh 2 1 c).val := by revert c; decide +kernel
/-- Device number 17: 2 steps along the third axis. -/
theorem dev17 (c : Dev nD) : k0_dev17 c = (sh 2 2 c).val := by revert c; decide +kernel
/-- Device number 18: 3 steps along the third axis. -/
theorem dev18 (c : Dev nD) : k0_dev18 c = (sh 2 3 c).val := by revert c; decide +kernel
/-- Device number 19: 1 step along the second axis. -/
theorem dev19 (c : Dev nD) : k0_dev19 c = (sh 1 1 c).val := by revert c; decide +kernel
/-- Device number 20: 2 steps along the second axis. -/
theorem dev20 (c : Dev nD) : k0_dev20 c = (sh 1 2 c).val := by revert c; decide +kernel
/-- Device number 21: 3 steps along the second axis. -/
theorem dev21 (c : Dev nD) : k0_dev21 c = (sh 1 3 c).val := by revert c; decide +kernel
/-- Device number 22: 1 step along the third axis. -/
theorem dev22 (c : Dev nD) : k0_dev22 c = (sh 2 1 c).val := by revert c; decide +kernel
/-- Device number 23: 2 steps along the third axis. -/
theorem dev23 (c : Dev nD) : k0_dev23 c = (sh 2 2 c).val := by revert c; decide +kernel
/-- Device number 24: 3 steps along the third axis. -/
theorem dev24 (c : Dev nD) : k0_dev24 c = (sh 2 3 c).val := by revert c; decide +kernel
/-- Device number 25: 1 step along the first axis. -/
theorem dev25 (c : Dev nD) : k0_dev25 c = (sh 0 1 c).val := by revert c; decide +kernel
/-- Device number 26: 1 step along the third axis. -/
theorem dev26 (c : Dev nD) : k0_dev26 c = (sh 2 1 c).val := by revert c; decide +kernel
/-- Device number 27: 2 steps along the third axis. -/
theorem dev27 (c : Dev nD) : k0_dev27 c = (sh 2 2 c).val := by revert c; decide +kernel
/-- Device number 28: 3 steps along the third axis. -/
theorem dev28 (c : Dev nD) : k0_dev28 c = (sh 2 3 c).val := by revert c; decide +kernel
/-- Device number 29: 1 step along the first axis. -/
theorem dev29 (c : Dev nD) : k0_dev29 c = (sh 0 1 c).val := by revert c; decide +kernel
/-- Device number 30: 1 step along the second axis. -/
theorem dev30 (c : Dev nD) : k0_dev30 c = (sh 1 1 c).val := by revert c; decide +kernel
/-- Device number 31: 2 steps along the second axis. -/
theorem dev31 (c : Dev nD) : k0_dev31 c = (sh 1 2 c).val := by revert c; decide +kernel
/-- Device number 32: 3 steps along the second axis. -/
theorem dev32 (c : Dev nD) : k0_dev32 c = (sh 1 3 c).val := by revert c; decide +kernel
/-- Device number 33: where strip 1's rows go. -/
theorem dev33 (c : Dev nD) : k0_dev33 c = (dstB c).val := by revert c; decide +kernel
/-- Device number 34: where strip 2's rows go. -/
theorem dev34 (c : Dev nD) : k0_dev34 c = (dstC c).val := by revert c; decide +kernel
/-- Device number 35: where strip 1's rows come from. -/
theorem dev35 (c : Dev nD) : k0_dev35 c = (srcB c).val := by revert c; decide +kernel
/-- Device number 36: where strip 2's rows come from. -/
theorem dev36 (c : Dev nD) : k0_dev36 c = (srcC c).val := by revert c; decide +kernel
/-- Device number 37: 1 step along the third axis. -/
theorem dev37 (c : Dev nD) : k0_dev37 c = (sh 2 1 c).val := by revert c; decide +kernel
/-- Device number 38: 2 steps along the third axis. -/
theorem dev38 (c : Dev nD) : k0_dev38 c = (sh 2 2 c).val := by revert c; decide +kernel
/-- Device number 39: 3 steps along the third axis. -/
theorem dev39 (c : Dev nD) : k0_dev39 c = (sh 2 3 c).val := by revert c; decide +kernel
/-- Device number 40: 1 step along the first axis. -/
theorem dev40 (c : Dev nD) : k0_dev40 c = (sh 0 1 c).val := by revert c; decide +kernel
/-- Device number 41: 1 step along the second axis. -/
theorem dev41 (c : Dev nD) : k0_dev41 c = (sh 1 1 c).val := by revert c; decide +kernel
/-- Device number 42: 2 steps along the second axis. -/
theorem dev42 (c : Dev nD) : k0_dev42 c = (sh 1 2 c).val := by revert c; decide +kernel
/-- Device number 43: 3 steps along the second axis. -/
theorem dev43 (c : Dev nD) : k0_dev43 c = (sh 1 3 c).val := by revert c; decide +kernel
/-- Device number 44: 1 step along the second axis. -/
theorem dev44 (c : Dev nD) : k0_dev44 c = (sh 1 1 c).val := by revert c; decide +kernel
/-- Device number 45: 2 steps along the second axis. -/
theorem dev45 (c : Dev nD) : k0_dev45 c = (sh 1 2 c).val := by revert c; decide +kernel
/-- Device number 46: 3 steps along the second axis. -/
theorem dev46 (c : Dev nD) : k0_dev46 c = (sh 1 3 c).val := by revert c; decide +kernel
/-- Device number 47: 1 step along the third axis. -/
theorem dev47 (c : Dev nD) : k0_dev47 c = (sh 2 1 c).val := by revert c; decide +kernel
/-- Device number 48: 2 steps along the third axis. -/
theorem dev48 (c : Dev nD) : k0_dev48 c = (sh 2 2 c).val := by revert c; decide +kernel
/-- Device number 49: 3 steps along the third axis. -/
theorem dev49 (c : Dev nD) : k0_dev49 c = (sh 2 3 c).val := by revert c; decide +kernel
/-- Device number 50: 1 step along the first axis. -/
theorem dev50 (c : Dev nD) : k0_dev50 c = (sh 0 1 c).val := by revert c; decide +kernel
/-- Device number 51: 1 step along the first axis. -/
theorem dev51 (c : Dev nD) : k0_dev51 c = (sh 0 1 c).val := by revert c; decide +kernel
/-- Device number 52: 1 step along the second axis. -/
theorem dev52 (c : Dev nD) : k0_dev52 c = (sh 1 1 c).val := by revert c; decide +kernel
/-- Device number 53: 2 steps along the second axis. -/
theorem dev53 (c : Dev nD) : k0_dev53 c = (sh 1 2 c).val := by revert c; decide +kernel
/-- Device number 54: 3 steps along the second axis. -/
theorem dev54 (c : Dev nD) : k0_dev54 c = (sh 1 3 c).val := by revert c; decide +kernel
/-- Device number 55: 1 step along the third axis. -/
theorem dev55 (c : Dev nD) : k0_dev55 c = (sh 2 1 c).val := by revert c; decide +kernel
/-- Device number 56: 2 steps along the third axis. -/
theorem dev56 (c : Dev nD) : k0_dev56 c = (sh 2 2 c).val := by revert c; decide +kernel
/-- Device number 57: 3 steps along the third axis. -/
theorem dev57 (c : Dev nD) : k0_dev57 c = (sh 2 3 c).val := by revert c; decide +kernel

/-! The printed conditions: whether the row exchange of strip 1 or 2 moves anything. -/

/-- Condition 1: the device takes part in strip 1's exchange. -/
theorem cond1 (c : Dev nD) : k0_cond1 c = if dstB c = c then 0#1 else 1#1 := by revert c; decide +kernel
/-- Condition 5: the device takes part in strip 1's exchange. -/
theorem cond5 (c : Dev nD) : k0_cond5 c = if dstB c = c then 0#1 else 1#1 := by revert c; decide +kernel
/-- Condition 9: the device takes part in strip 1's exchange. -/
theorem cond9 (c : Dev nD) : k0_cond9 c = if dstB c = c then 0#1 else 1#1 := by revert c; decide +kernel
/-- Condition 11: the device takes part in strip 1's exchange. -/
theorem cond11 (c : Dev nD) : k0_cond11 c = if dstB c = c then 0#1 else 1#1 := by revert c; decide +kernel
/-- Condition 3: the device takes part in strip 2's exchange. -/
theorem cond3 (c : Dev nD) : k0_cond3 c = if dstC c = c then 0#1 else 1#1 := by revert c; decide +kernel
/-- Condition 7: the device takes part in strip 2's exchange. -/
theorem cond7 (c : Dev nD) : k0_cond7 c = if dstC c = c then 0#1 else 1#1 := by revert c; decide +kernel
/-- Condition 10: the device takes part in strip 2's exchange. -/
theorem cond10 (c : Dev nD) : k0_cond10 c = if dstC c = c then 0#1 else 1#1 := by revert c; decide +kernel
/-- Condition 13: the device takes part in strip 2's exchange. -/
theorem cond13 (c : Dev nD) : k0_cond13 c = if dstC c = c then 0#1 else 1#1 := by revert c; decide +kernel
/-- Condition 6: the device takes no part in strip 1's exchange. -/
theorem cond6 (c : Dev nD) : k0_cond6 c = if dstB c = c then 1#1 else 0#1 := by revert c; decide +kernel
/-- Condition 8: the device takes no part in strip 2's exchange. -/
theorem cond8 (c : Dev nD) : k0_cond8 c = if dstC c = c then 1#1 else 0#1 := by revert c; decide +kernel

/-! The permutations of the devices. -/

/-- The device whose strip-1 rows are one's own, from there back. -/
theorem srcB_dstB (c : Dev nD) : srcB (dstB c) = c := by revert c; decide +kernel
/-- And the other way round. -/
theorem dstB_srcB (c : Dev nD) : dstB (srcB c) = c := by revert c; decide +kernel
/-- The same for strip 2. -/
theorem srcC_dstC (c : Dev nD) : srcC (dstC c) = c := by revert c; decide +kernel
/-- And the other way round. -/
theorem dstC_srcC (c : Dev nD) : dstC (srcC c) = c := by revert c; decide +kernel
/-- A device sends its strip-1 rows to itself if it receives them from itself. -/
theorem srcB_eq_iff (c : Dev nD) : srcB c = c ↔ dstB c = c := by revert c; decide +kernel
/-- The same for strip 2. -/
theorem srcC_eq_iff (c : Dev nD) : srcC c = c ↔ dstC c = c := by revert c; decide +kernel
/-- The strip-1 rows of a device are the strip-0 rows of the one it sends them to. -/
theorem row_dstB (c : Dev nD) : row 0 2 0 (dstB c) = row 1 2 0 c := by revert c; decide +kernel
/-- The strip-2 rows of a device are the strip-0 rows of the one it sends them to. -/
theorem row_dstC (c : Dev nD) : row 0 2 0 (dstC c) = row 2 2 0 c := by revert c; decide +kernel
/-- The device it receives them from has its strip-0 rows in strip 1. -/
theorem row_srcB (c : Dev nD) : row 1 2 0 (srcB c) = row 0 2 0 c := by revert c; decide +kernel
/-- And in strip 2. -/
theorem row_srcC (c : Dev nD) : row 2 2 0 (srcC c) = row 0 2 0 c := by revert c; decide +kernel

end Cert.KProof

end
-- ==== Proof.Seg.lean ====
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

/-!
# Parts of a buffer held at known contents

`seg c b q P g`: device `c` holds, at share `q`, the elements of memref `b`
whose index satisfies `P`, and their contents are those of `g`.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open scoped Classical

namespace Cert.KProof

/-- The names of the protocol's duties: transfer `j` leaving, transfer `j`
    arriving, or the `b`-th unit of the entry handshake. -/
abbrev D : Type := Fin 46 ⊕ (Fin 46 ⊕ Fin 11)

abbrev UB : Type := URounds (GSem nD τ sig) D
abbrev UU : Type := UR sig nD τ × UB

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {s s' : Shape} {e : EltTy}

/-- The elements of `b` whose index satisfies `P`. -/
def cells (b : Memref sig .tc .vmem s e) (P : s.Idx → Prop) : Finset b.view.ty.Idx :=
  (Finset.univ.filter P).map b.view.emb

/-- Device `c` holds the elements of `b` satisfying `P`, with the contents of `g`. -/
def seg (c : Dev nD) (b : Memref sig .tc .vmem s e) (q : PosShare TreeShare) (P : s.Idx → Prop) (g : s.Idx → Elt F e) : sProp 𝕄 :=
  iprop(∃ f : Buf (Elt F) (b.view.loc (c : Thread nD τ)), ⌜∀ x, P x → b.view.read (Elt F) f x = g x⌝
    ∗ (b.view.loc (c : Thread nD τ) ↦[cells b P]{q} f))

variable {c : Dev nD} {b : Memref sig .tc .vmem s e} {q : PosShare TreeShare} {P P₁ P₂ : s.Idx → Prop} {g g₁ g₂ : s.Idx → Elt F e}

/-- An element lies in the cells of a predicate if the predicate holds of it. -/
theorem mem_cells {x : s.Idx} : b.view.emb x ∈ cells b P ↔ P x := by
  unfold cells
  rw [Finset.mem_map' b.view.emb, Finset.mem_filter]
  simp

/-- Contents may be restated where they agree. -/
theorem seg_congr (hP : ∀ x, P₁ x ↔ P₂ x) (hg : ∀ x, P₁ x → g₁ x = g₂ x) :
    (seg c b q P₁ g₁ : sProp 𝕄) ⊢ seg c b q P₂ g₂ := by
  obtain rfl : P₁ = P₂ := funext fun x => propext (hP x)
  unfold seg
  iintro ⟨%f, %hf, H⟩
  iexists f
  isplitr
  · ipureintro; exact fun x hx => (hf x hx).trans (hg x hx)
  · iexact H

/-- The cells of either predicate are the union of their cells. -/
theorem cells_or : cells b (fun x => P₁ x ∨ P₂ x) = cells b P₁ ∪ cells b P₂ := by
  ext i
  unfold cells
  simp only [Finset.mem_map, Finset.mem_union, Finset.mem_filter, Finset.mem_univ, true_and]
  constructor
  · rintro ⟨x, hx | hx, rfl⟩
    · exact .inl ⟨x, hx, rfl⟩
    · exact .inr ⟨x, hx, rfl⟩
  · rintro (⟨x, hx, rfl⟩ | ⟨x, hx, rfl⟩)
    · exact ⟨x, .inl hx, rfl⟩
    · exact ⟨x, .inr hx, rfl⟩

/-- Predicates that exclude each other have disjoint cells. -/
theorem cells_disjoint (hd : ∀ x, P₁ x → P₂ x → False) : Disjoint (cells b P₁) (cells b P₂) := by
  unfold cells
  rw [Finset.disjoint_map]
  exact Finset.disjoint_filter.mpr fun x _ h₁ h₂ => hd x h₁ h₂

/-- A part is split in two. -/
theorem seg_split (P₁ P₂ : s.Idx → Prop) (hP : ∀ x, P x ↔ P₁ x ∨ P₂ x) (hd : ∀ x, P₁ x → P₂ x → False) :
    (seg c b q P g : sProp 𝕄) ⊢ iprop(seg c b q P₁ g ∗ seg c b q P₂ g) := by
  obtain rfl : P = fun x => P₁ x ∨ P₂ x := funext fun x => propext (hP x)
  unfold seg
  iintro ⟨%f, %hf, H⟩
  rw [cells_or]
  ihave H' := (pointsTo_union (cells_disjoint hd)).1 $$ H
  icases H' with ⟨H₁, H₂⟩
  isplitl [H₁]
  · iexists f
    isplitr
    · ipureintro; exact fun x hx => hf x (.inl hx)
    · iexact H₁
  · iexists f
    isplitr
    · ipureintro; exact fun x hx => hf x (.inr hx)
    · iexact H₂

/-- Two parts are joined. -/
theorem seg_join (hP : ∀ x, P x ↔ P₁ x ∨ P₂ x) (hd : ∀ x, P₁ x → P₂ x → False) (h₁ : ∀ x, P₁ x → g₁ x = g x) (h₂ : ∀ x, P₂ x → g₂ x = g x) :
    iprop(seg c b q P₁ g₁ ∗ seg c b q P₂ g₂) ⊢ (seg c b q P g : sProp 𝕄) := by
  obtain rfl : P = fun x => P₁ x ∨ P₂ x := funext fun x => propext (hP x)
  unfold seg
  iintro ⟨⟨%f₁, %hf₁, H₁⟩, ⟨%f₂, %hf₂, H₂⟩⟩
  iexists (cells b P₂).piecewise f₂ f₁
  isplitr
  · ipureintro
    rintro x (hx | hx)
    · rw [← h₁ x hx, ← hf₁ x hx]
      refine View.read_congr_at x ?_
      rw [Finset.piecewise_eq_of_notMem]
      exact fun h => hd x hx (mem_cells.mp h)
    · rw [← h₂ x hx, ← hf₂ x hx]
      refine View.read_congr_at x ?_
      rw [Finset.piecewise_eq_of_mem]
      exact mem_cells.mpr hx
  · rw [cells_or]
    iapply (pointsTo_join (cells_disjoint hd))
    isplitl [H₁]; · iexact H₁
    iexact H₂

/-- A share is split in two. -/
theorem seg_share : (seg c b q P g : sProp 𝕄) ⊢ iprop(seg c b q.left P g ∗ seg c b q.right P g) := by
  unfold seg
  iintro ⟨%f, %hf, H⟩
  ihave H' := (pointsTo_share (PosShare.mem_left_op_right q)).1 $$ H
  icases H' with ⟨H₁, H₂⟩
  isplitl [H₁]
  · iexists f
    isplitr
    · ipureintro; exact hf
    · iexact H₁
  · iexists f
    isplitr
    · ipureintro; exact hf
    · iexact H₂

/-- The two halves of a share are joined. -/
theorem seg_unshare : iprop(seg c b q.left P g ∗ seg c b q.right P g) ⊢ (seg c b q P g : sProp 𝕄) := by
  unfold seg
  iintro ⟨⟨%f₁, %hf₁, H₁⟩, ⟨%f₂, %hf₂, H₂⟩⟩
  have he : (b.view.loc (c : Thread nD τ) ↦[cells b P]{q.right} f₂ : sProp 𝕄) = (b.view.loc (c : Thread nD τ) ↦[cells b P]{q.right} f₁) := by
    refine pointsTo_congr fun i hi => ?_
    unfold cells at hi
    obtain ⟨x, hx, rfl⟩ := Finset.mem_map.mp hi
    have hx : P x := (Finset.mem_filter.mp hx).2
    have h1 := hf₁ x hx
    have h2 := hf₂ x hx
    rw [View.read_apply] at h1 h2
    exact (cast_bijective _).injective (h2.trans h1.symm)
  ihave H₂ := (Entails.of_eq he) $$ H₂
  iexists f₁
  isplitr
  · ipureintro; exact hf₁
  · iapply (pointsTo_share (PosShare.mem_left_op_right q)).2
    isplitl [H₁]; · iexact H₁
    iexact H₂

/-! ## Loads and stores -/

/-- A load through a rectangle inside the part reads the part's contents. -/
theorem seg_load {r : Rect s} {hl : b.view.LoadsAt r.toLoadRect} {α : Type} {k : (r.shape.Idx → Elt F e) → Prog (TpuEff nD τ sig (Elt F) Λ₀ .tc) α}
    {Q : α → sProp 𝕄} (hP : ∀ j, P (r.emb j)) :
    (seg c b q P g : sProp 𝕄) ⊢ iprop((seg c b q P g -∗ WP c (k (fun j => g (r.emb j))) Q) -∗ WP c (.op (.load b r.toLoadRect hl) k) Q) := by
  unfold seg
  iintro ⟨%f, %hf, H⟩ Hk
  iapply (wp_load 𝒱₀ (c : Thread nD τ) none Set.univ (m := b) (r := r.toLoadRect) (S := cells b P) (q := q) (f := f) ?_) $$ H
  · intro i hi
    unfold View.setOn at hi
    obtain ⟨x, hx, rfl⟩ := Finset.mem_map.mp hi
    refine mem_cells.mpr ?_
    rw [← Rect.map_emb_univ] at hx
    obtain ⟨j, -, rfl⟩ := Finset.mem_map.mp hx
    exact hP j
  iintro H
  have he : b.view.readAt (Elt F) r.toLoadRect f = fun j => g (r.emb j) := by
    funext j
    exact hf _ (hP j)
  rw [he]
  iapply Hk
  iexists f
  isplitr
  · ipureintro; exact hf
  · iexact H

/-- A store through a rectangle inside the part replaces the contents there. -/
theorem seg_store {r : Rect s} {w : r.shape.Idx → Elt F e} {hx : (b.access r).Stores Finset.univ} {hm : (Finset.univ : Finset r.shape.Idx) = Finset.univ ∨ ∀ a, r.stride a = 1}
    {α : Type} {k : PUnit → Prog (TpuEff nD τ sig (Elt F) Λ₀ .tc) α}
    {Q : α → sProp 𝕄} (g' : s.Idx → Elt F e) (hP : ∀ j, P (r.emb j)) (hin : ∀ j, g' (r.emb j) = w j) (hout : ∀ x, P x → (∀ j, r.emb j ≠ x) → g' x = g x) :
    (seg c b fullShare P g : sProp 𝕄) ⊢ iprop((seg c b fullShare P g' -∗ WP c (k ⟨⟩) Q) -∗ WP c (.op (.store b r w Finset.univ hx hm) k) Q) := by
  unfold seg
  iintro ⟨%f, %hf, H⟩ Hk
  iapply (wp_store 𝒱₀ (c : Thread nD τ) none Set.univ (m := b) (r := r) (Mk := Finset.univ) (S := cells b P) (f := f) ?_) $$ H
  · intro i hi
    unfold View.setOn at hi
    obtain ⟨j, -, rfl⟩ := Finset.mem_map.mp hi
    exact mem_cells.mpr (hP j)
  iintro H
  iapply Hk
  iexists (b.access r).write (Elt F) f w Finset.univ
  isplitr
  · ipureintro
    intro x hx
    by_cases h : ∃ j, r.emb j = x
    · obtain ⟨j, rfl⟩ := h
      rw [hin]
      exact View.read_write_of_mem (v := b.access r) f w (Finset.mem_univ j)
    · have h' : ∀ j, r.emb j ≠ x := fun j hj => h ⟨j, hj⟩
      rw [hout x hx h', ← hf x hx]
      refine View.read_congr_at x ?_
      refine View.write_of_not_mem _ _ _ fun hi => ?_
      unfold View.setOn at hi
      obtain ⟨j, -, hj⟩ := Finset.mem_map.mp hi
      exact h' j (b.view.emb.injective hj)
  · iexact H

/-! ## Slices and reshaped slices -/

/-- The part in a rectangle is the slice through it, whole. -/
theorem seg_slice {r : Rect s} {hr : ∀ a, r.stride a = 1} {G : r.shape.Idx → Elt F e} (hP : ∀ x, P x ↔ ∃ j, r.emb j = x) (hG : ∀ j, G j = g (r.emb j)) :
    (seg c b q P g : sProp 𝕄) = seg c (b.slice r hr) q (fun _ => True) G := by
  have hc : cells b P = cells (b.slice r hr) (fun _ => True) := by
    ext i
    unfold cells
    simp only [Finset.mem_map, Finset.mem_filter, Finset.mem_univ, true_and]
    constructor
    · rintro ⟨x, hx, rfl⟩
      obtain ⟨j, rfl⟩ := (hP x).mp hx
      exact ⟨j, rfl⟩
    · rintro ⟨j, rfl⟩
      exact ⟨r.emb j, (hP _).mpr ⟨j, rfl⟩, rfl⟩
  have hf (f : Buf (Elt F) (b.view.loc (c : Thread nD τ))) : (∀ x, P x → b.view.read (Elt F) f x = g x)
      ↔ ∀ j : r.shape.Idx, True → (b.slice r hr).view.read (Elt F) f j = G j := by
    constructor
    · intro h j _
      rw [hG]; exact h _ ((hP _).mpr ⟨j, rfl⟩)
    · intro h x hx
      obtain ⟨j, rfl⟩ := (hP x).mp hx
      rw [← hG]; exact h j trivial
  unfold seg
  congr 1
  funext f
  congr 2
  · exact propext (hf f)

/-- A memref with unit axes dropped, whole, is the memref whole. -/
theorem seg_squeeze {s' : Shape} {h : s.Squeezes s'} {G : s'.Idx → Elt F e} (hG : ∀ j, G j = g (Shape.reshapeEquiv h.numel_eq j)) :
    (seg c b q (fun _ => True) g : sProp 𝕄) = seg c (b.squeeze s' h) q (fun _ => True) G := by
  have hc : cells b (fun _ => True) = cells (b.squeeze s' h) (fun _ => True) := by
    ext i
    unfold cells
    simp only [Finset.mem_map, Finset.mem_filter, Finset.mem_univ, true_and]
    constructor
    · rintro ⟨x, rfl⟩
      exact ⟨(Shape.reshapeEquiv h.numel_eq).symm x, by
        show b.view.emb (Shape.reshapeEquiv h.numel_eq _) = _
        rw [Equiv.apply_symm_apply]⟩
    · rintro ⟨j, rfl⟩
      exact ⟨Shape.reshapeEquiv h.numel_eq j, rfl⟩
  have hf (f : Buf (Elt F) (b.view.loc (c : Thread nD τ))) : (∀ x, True → b.view.read (Elt F) f x = g x)
      ↔ ∀ j, True → (b.squeeze s' h).view.read (Elt F) f j = G j := by
    constructor
    · intro h' j _
      rw [hG]; exact h' _ trivial
    · intro h' x _
      have := h' ((Shape.reshapeEquiv h.numel_eq).symm x) trivial
      rw [hG, Equiv.apply_symm_apply] at this
      rw [← this]
      show _ = b.view.read (Elt F) f (Shape.reshapeEquiv h.numel_eq _)
      rw [Equiv.apply_symm_apply]
  unfold seg
  congr 1
  funext f
  congr 2
  · exact propext (hf f)

/-- The cells of the true predicate are all of the buffer's. -/
theorem cells_true : cells b (fun _ => True) = b.view.set := by
  unfold cells View.set
  refine congrArg _ ?_
  ext x
  simp only [Finset.mem_filter, Finset.mem_univ, true_and]

/-- A whole memref at the contents its buffer reads as. -/
theorem seg_of_pts (f : Buf (Elt F) (b.view.loc (c : Thread nD τ))) (hg : ∀ x, b.view.read (Elt F) f x = g x) :
    (b.view.loc (c : Thread nD τ) ↦[b.view.set]{q} f : sProp 𝕄) ⊢ seg c b q (fun _ => True) g := by
  unfold seg
  rw [cells_true]
  iintro H
  iexists f
  isplitr
  · ipureintro; exact fun x _ => hg x
  · iexact H

/-- The whole segment of a buffer is the buffer with those contents. -/
theorem pts_of_seg :
    (seg c b q (fun _ => True) g : sProp 𝕄) ⊢ iprop(∃ f : Buf (Elt F) (b.view.loc (c : Thread nD τ)), ⌜b.view.read (Elt F) f = g⌝
      ∗ (b.view.loc (c : Thread nD τ) ↦[b.view.set]{q} f)) := by
  unfold seg
  rw [cells_true]
  iintro ⟨%f, %hf, H⟩
  iexists f
  isplitr
  · ipureintro; exact funext fun x => hf x trivial
  · iexact H

end Cert.KProof

end
-- ==== Proof.Rows.lean ====
module

public import proofs.«01_k».proof.Proof.Seg
public import Idealize.ShloMosaic.Lib.ValueLayout

/-!
# Row ranges of matrices and slots of stacks of matrices

`rows c b q lo n G`: device `c` holds rows `lo … lo + n - 1` of the matrix `b`,
whose entry at row `r` and column `k` is `G r k`.  `slot c b s G`: it holds the
`s`-th matrix of the stack `b`, with entries `G r k`.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen
open scoped Classical

namespace Cert.KProof

variable {F : FTy → Type} [FloatOps F]

local notation "𝕄" => MT nD τ sig Unit (Elt F) ℕ UU ℕ

variable {R C : ℕ} {e : EltTy} {c : Dev nD} {q : PosShare TreeShare}

/-- Rows `lo … lo + n - 1` of a matrix, with entries `G`. -/
def rows (c : Dev nD) (b : Memref sig .tc .vmem ⟨2, ![R, C]⟩ e) (q : PosShare TreeShare) (lo n : ℕ) (G : ℕ → ℕ → Elt F e) : sProp 𝕄 :=
  seg c b q (fun x => lo ≤ (x 0).val ∧ (x 0).val < lo + n) (fun x => G (x 0).val (x 1).val)

/-- A whole matrix, with entries `G`. -/
def mat (c : Dev nD) (b : Memref sig .tc .vmem ⟨2, ![R, C]⟩ e) (q : PosShare TreeShare) (G : ℕ → ℕ → Elt F e) : sProp 𝕄 :=
  seg c b q (fun _ => True) (fun x => G (x 0).val (x 1).val)

/-- The `s`-th matrix of a stack, with entries `G`. -/
def slot {K : ℕ} (c : Dev nD) (b : Memref sig .tc .vmem ⟨3, ![K, R, C]⟩ e) (s : ℕ) (G : ℕ → ℕ → Elt F e) : sProp 𝕄 :=
  seg c b fullShare (fun x => (x 0).val = s) (fun x => G (x 1).val (x 2).val)

section Matrix

variable {b : Memref sig .tc .vmem ⟨2, ![R, C]⟩ e} {lo n : ℕ} {G G' : ℕ → ℕ → Elt F e}

/-- Rows may be described by any function that agrees on them. -/
theorem rows_congr (h : ∀ r k, lo ≤ r → r < lo + n → G r k = G' r k) : (rows c b q lo n G : sProp 𝕄) ⊢ rows c b q lo n G' :=
  seg_congr (fun _ => Iff.rfl) fun x hx => h _ _ hx.1 hx.2

/-- A run of rows is its two halves, in either order. -/
theorem rows_two (h : ℕ) (y : ℕ) :
    (rows c b q lo (2 * h) G : sProp 𝕄) ⊣⊢ iprop(rows c b q (lo + h * ((y + 0) % 2)) h G ∗ rows c b q (lo + h * ((y + 1) % 2)) h G) := by
  have hP : ∀ x : (⟨2, ![R, C]⟩ : Shape).Idx, (lo ≤ (x 0).val ∧ (x 0).val < lo + 2 * h)
      ↔ (lo + h * ((y + 0) % 2) ≤ (x 0).val ∧ (x 0).val < lo + h * ((y + 0) % 2) + h)
        ∨ (lo + h * ((y + 1) % 2) ≤ (x 0).val ∧ (x 0).val < lo + h * ((y + 1) % 2) + h) := by
    intro x
    rcases (by omega : ((y + 0) % 2 = 0 ∧ (y + 1) % 2 = 1) ∨ ((y + 0) % 2 = 1 ∧ (y + 1) % 2 = 0)) with ⟨h0, h1⟩ | ⟨h0, h1⟩ <;>
      rw [h0, h1] <;> omega
  have hd : ∀ x : (⟨2, ![R, C]⟩ : Shape).Idx, (lo + h * ((y + 0) % 2) ≤ (x 0).val ∧ (x 0).val < lo + h * ((y + 0) % 2) + h)
      → (lo + h * ((y + 1) % 2) ≤ (x 0).val ∧ (x 0).val < lo + h * ((y + 1) % 2) + h) → False := by
    intro x
    rcases (by omega : ((y + 0) % 2 = 0 ∧ (y + 1) % 2 = 1) ∨ ((y + 0) % 2 = 1 ∧ (y + 1) % 2 = 0)) with ⟨h0, h1⟩ | ⟨h0, h1⟩ <;>
      rw [h0, h1] <;> omega
  exact ⟨seg_split _ _ hP hd, seg_join hP hd (fun _ _ => rfl) (fun _ _ => rfl)⟩

/-- The four steps round an axis of four meet its four places, in one of four orders. -/
theorem mod4 (y : ℕ) : ((y + 0) % 4 = 0 ∧ (y + 1) % 4 = 1 ∧ (y + 2) % 4 = 2 ∧ (y + 3) % 4 = 3) ∨ ((y + 0) % 4 = 1 ∧ (y + 1) % 4 = 2 ∧ (y + 2) % 4 = 3 ∧ (y + 3) % 4 = 0)
    ∨ ((y + 0) % 4 = 2 ∧ (y + 1) % 4 = 3 ∧ (y + 2) % 4 = 0 ∧ (y + 3) % 4 = 1) ∨ ((y + 0) % 4 = 3 ∧ (y + 1) % 4 = 0 ∧ (y + 2) % 4 = 1 ∧ (y + 3) % 4 = 2) := by omega

/-- Four parts of a range of rows, in cyclic order from any of them. -/
theorem rows_four (h : ℕ) (y : ℕ) :
    (rows c b q lo (4 * h) G : sProp 𝕄) ⊣⊢ iprop(rows c b q (lo + h * ((y + 0) % 4)) h G ∗ rows c b q (lo + h * ((y + 1) % 4)) h G
      ∗ rows c b q (lo + h * ((y + 2) % 4)) h G ∗ rows c b q (lo + h * ((y + 3) % 4)) h G) := by
  let P (k : ℕ) (x : (⟨2, ![R, C]⟩ : Shape).Idx) : Prop := lo + h * ((y + k) % 4) ≤ (x 0).val ∧ (x 0).val < lo + h * ((y + k) % 4) + h
  have hP : ∀ x : (⟨2, ![R, C]⟩ : Shape).Idx, (lo ≤ (x 0).val ∧ (x 0).val < lo + 4 * h) ↔ P 0 x ∨ P 1 x ∨ P 2 x ∨ P 3 x := by
    intro x
    dsimp only [P]
    rcases mod4 y with ⟨h0, h1, h2, h3⟩ | ⟨h0, h1, h2, h3⟩ | ⟨h0, h1, h2, h3⟩ | ⟨h0, h1, h2, h3⟩ <;> rw [h0, h1, h2, h3] <;> omega
  have hd (j k : ℕ) (hj : j < 4) (hk : k < 4) (hjk : j ≠ k) : ∀ x : (⟨2, ![R, C]⟩ : Shape).Idx, P j x → P k x → False := by
    intro x
    dsimp only [P]
    have h4 := mod4 y
    interval_cases j <;> interval_cases k <;> first | exact absurd rfl hjk | skip
    all_goals
      rcases h4 with ⟨h0, h1, h2, h3⟩ | ⟨h0, h1, h2, h3⟩ | ⟨h0, h1, h2, h3⟩ | ⟨h0, h1, h2, h3⟩ <;>
        simp only [h0, h1, h2, h3] <;> omega
  have d0 : ∀ x, P 0 x → (P 1 x ∨ P 2 x ∨ P 3 x) → False := fun x h h' => h'.elim (hd 0 1 (by decide) (by decide) (by decide) x h)
    (·.elim (hd 0 2 (by decide) (by decide) (by decide) x h) (hd 0 3 (by decide) (by decide) (by decide) x h))
  have d1 : ∀ x, P 1 x → (P 2 x ∨ P 3 x) → False := fun x h h' => h'.elim (hd 1 2 (by decide) (by decide) (by decide) x h) (hd 1 3 (by decide) (by decide) (by decide) x h)
  constructor
  · exact (seg_split (P 0) _ hP d0).trans (sep_mono_right ((seg_split (P 1) _ (fun _ => Iff.rfl) d1).trans
      (sep_mono_right (seg_split (P 2) (P 3) (fun _ => Iff.rfl) (hd 2 3 (by decide) (by decide) (by decide))))))
  · exact (sep_mono_right ((sep_mono_right (seg_join (fun _ => Iff.rfl) (hd 2 3 (by decide) (by decide) (by decide)) (fun _ _ => rfl) (fun _ _ => rfl))).trans
      (seg_join (fun _ => Iff.rfl) d1 (fun _ _ => rfl) (fun _ _ => rfl)))).trans (seg_join hP d0 (fun _ _ => rfl) (fun _ _ => rfl))

/-- Rows are two half shares of themselves. -/
theorem rows_share : (rows c b q lo n G : sProp 𝕄) ⊣⊢ iprop(rows c b q.left lo n G ∗ rows c b q.right lo n G) := ⟨seg_share, seg_unshare⟩

/-- All the rows are the matrix. -/
theorem mat_rows : (mat c b q G : sProp 𝕄) ⊣⊢ rows c b q 0 R G :=
  have h : ∀ x : (⟨2, ![R, C]⟩ : Shape).Idx, True ↔ (0 ≤ (x 0).val ∧ (x 0).val < 0 + R) := fun x =>
    ⟨fun _ => ⟨Nat.zero_le _, by have := (x 0).isLt; rw [Nat.zero_add]; exact this⟩, fun _ => trivial⟩
  ⟨seg_congr h fun _ _ => rfl, seg_congr (fun x => (h x).symm) fun _ _ => rfl⟩

/-- A matrix is two half shares of itself. -/
theorem mat_share : (mat c b q G : sProp 𝕄) ⊣⊢ iprop(mat c b q.left G ∗ mat c b q.right G) := ⟨seg_share, seg_unshare⟩

variable {n' C' : ℕ} {off : Fin 2 → ℕ}

/-- The place in a matrix of an element of a rectangle. -/
theorem unit2 {inb : ∀ a : Fin 2, (off : Fin 2 → ℕ) a + (![n', C'] : Fin 2 → ℕ) a ≤ (![R, C] : Fin 2 → ℕ) a} (j : (Rect.unit (s := ⟨2, ![R, C]⟩) off ![n', C'] inb).shape.Idx) {lo' co' : ℕ} (h : off = ![lo', co']) :
    ((Rect.unit (s := ⟨2, ![R, C]⟩) off ![n', C'] inb).emb j 0).val = lo' + (j 0).val
      ∧ ((Rect.unit (s := ⟨2, ![R, C]⟩) off ![n', C'] inb).emb j 1).val = co' + (j 1).val := by
  subst h
  constructor
  · rw [Rect.emb_apply]; show lo' + 1 * (j 0).val = _; rw [Nat.one_mul]
  · rw [Rect.emb_apply]; show co' + 1 * (j 1).val = _; rw [Nat.one_mul]

/-- Loading a block inside the rows held. -/
theorem rows_load {α : Type} {inb : ∀ a : Fin 2, (off : Fin 2 → ℕ) a + (![n', C'] : Fin 2 → ℕ) a ≤ (![R, C] : Fin 2 → ℕ) a} {hl : b.view.LoadsAt (Rect.unit (s := ⟨2, ![R, C]⟩) off ![n', C'] inb).toLoadRect} {k : ((⟨2, ![n', C']⟩ : Shape).Idx → Elt F e) → Prog (TpuEff nD τ sig (Elt F) Λ₀ .tc) α} {Q : α → sProp 𝕄}
    {lo' co' : ℕ} (hoff : off = ![lo', co']) (h : lo ≤ lo' ∧ lo' + n' ≤ lo + n) :
    (rows c b q lo n G : sProp 𝕄) ⊢ iprop((rows c b q lo n G -∗ WP c (k (fun j => G (lo' + (j 0).val) (co' + (j 1).val))) Q)
      -∗ WP c (.op (.load b (Rect.unit (s := ⟨2, ![R, C]⟩) off ![n', C'] inb).toLoadRect hl) k) Q) := by
  have hv : (fun j => (fun x : (⟨2, ![R, C]⟩ : Shape).Idx => G (x 0).val (x 1).val) ((Rect.unit (s := ⟨2, ![R, C]⟩) off ![n', C'] inb).emb j))
      = fun j : (⟨2, ![n', C']⟩ : Shape).Idx => G (lo' + (j 0).val) (co' + (j 1).val) := by
    funext j
    show G _ _ = _
    rw [(unit2 j hoff).1, (unit2 j hoff).2]
  rw [← hv]
  refine seg_load fun j => ?_
  rw [(unit2 j hoff).1]
  have : (j 0).val < n' := (j 0).isLt
  omega

/-- Loading a block of a whole matrix. -/
theorem mat_load {α : Type} {inb : ∀ a : Fin 2, (off : Fin 2 → ℕ) a + (![n', C'] : Fin 2 → ℕ) a ≤ (![R, C] : Fin 2 → ℕ) a} {hl : b.view.LoadsAt (Rect.unit (s := ⟨2, ![R, C]⟩) off ![n', C'] inb).toLoadRect} {k : ((⟨2, ![n', C']⟩ : Shape).Idx → Elt F e) → Prog (TpuEff nD τ sig (Elt F) Λ₀ .tc) α} {Q : α → sProp 𝕄}
    {lo' co' : ℕ} (hoff : off = ![lo', co']) :
    (mat c b q G : sProp 𝕄) ⊢ iprop((mat c b q G -∗ WP c (k (fun j => G (lo' + (j 0).val) (co' + (j 1).val))) Q)
      -∗ WP c (.op (.load b (Rect.unit (s := ⟨2, ![R, C]⟩) off ![n', C'] inb).toLoadRect hl) k) Q) := by
  have hv : (fun j => (fun x : (⟨2, ![R, C]⟩ : Shape).Idx => G (x 0).val (x 1).val) ((Rect.unit (s := ⟨2, ![R, C]⟩) off ![n', C'] inb).emb j))
      = fun j : (⟨2, ![n', C']⟩ : Shape).Idx => G (lo' + (j 0).val) (co' + (j 1).val) := by
    funext j
    show G _ _ = _
    rw [(unit2 j hoff).1, (unit2 j hoff).2]
  rw [← hv]
  exact seg_load fun j => trivial

/-- Storing over all the rows held. -/
theorem rows_store {α : Type} {inb : ∀ a : Fin 2, (off : Fin 2 → ℕ) a + (![n, C] : Fin 2 → ℕ) a ≤ (![R, C] : Fin 2 → ℕ) a} {hx : (b.access (Rect.unit (s := ⟨2, ![R, C]⟩) off ![n, C] inb)).Stores Finset.univ} {hm : (Finset.univ : Finset (Rect.unit (s := ⟨2, ![R, C]⟩) off ![n, C] inb).shape.Idx) = Finset.univ ∨ ∀ a, (Rect.unit (s := ⟨2, ![R, C]⟩) off ![n, C] inb).stride a = 1} {w : (⟨2, ![n, C]⟩ : Shape).Idx → Elt F e} {k : PUnit → Prog (TpuEff nD τ sig (Elt F) Λ₀ .tc) α} {Q : α → sProp 𝕄}
    (hoff : off = ![lo, 0]) (hw : ∀ j, w j = G' (lo + (j 0).val) (j 1).val) :
    (rows c b fullShare lo n G : sProp 𝕄) ⊢ iprop((rows c b fullShare lo n G' -∗ WP c (k ⟨⟩) Q)
      -∗ WP c (.op (.store b (Rect.unit (s := ⟨2, ![R, C]⟩) off ![n, C] inb) w Finset.univ hx hm) k) Q) := by
  refine seg_store _ (fun j => ?_) (fun j => ?_) (fun x hx hj => ?_)
  · rw [(unit2 j hoff).1]
    have : (j 0).val < n := (j 0).isLt
    omega
  · show G' _ _ = _
    rw [(unit2 j hoff).1, (unit2 j hoff).2, Nat.zero_add, hw]
  · exfalso
    refine hj (ix2 ⟨(x 0).val - lo, by omega⟩ ⟨(x 1).val, (x 1).isLt⟩) ?_
    funext a
    refine Fin.ext ?_
    have h1 := (unit2 (inb := inb) (ix2 (⟨(x 0).val - lo, by omega⟩ : Fin n) (⟨(x 1).val, (x 1).isLt⟩ : Fin C)) hoff)
    match a with
    | ⟨0, _⟩ => refine h1.1.trans ?_; show lo + ((x 0).val - lo) = (x 0).val; omega
    | ⟨1, _⟩ => refine h1.2.trans ?_; show 0 + (x 1).val = (x 1).val; omega

/-- Storing over rows of a matrix held whole: the entries outside stay. -/
theorem mat_store {α : Type} {n : ℕ} {inb : ∀ a : Fin 2, (off : Fin 2 → ℕ) a + (![n, C'] : Fin 2 → ℕ) a ≤ (![R, C] : Fin 2 → ℕ) a} {hx : (b.access (Rect.unit (s := ⟨2, ![R, C]⟩) off ![n, C'] inb)).Stores Finset.univ} {hm : (Finset.univ : Finset (Rect.unit (s := ⟨2, ![R, C]⟩) off ![n, C'] inb).shape.Idx) = Finset.univ ∨ ∀ a, (Rect.unit (s := ⟨2, ![R, C]⟩) off ![n, C'] inb).stride a = 1} {w : (⟨2, ![n, C']⟩ : Shape).Idx → Elt F e} {k : PUnit → Prog (TpuEff nD τ sig (Elt F) Λ₀ .tc) α} {Q : α → sProp 𝕄}
    {lo co : ℕ} (hoff : off = ![lo, co]) (hw : ∀ j, w j = G' (lo + (j 0).val) (co + (j 1).val))
    (ho : ∀ r k, ¬ (lo ≤ r ∧ r < lo + n ∧ co ≤ k ∧ k < co + C') → G' r k = G r k) :
    (mat c b fullShare G : sProp 𝕄) ⊢ iprop((mat c b fullShare G' -∗ WP c (k ⟨⟩) Q)
      -∗ WP c (.op (.store b (Rect.unit (s := ⟨2, ![R, C]⟩) off ![n, C'] inb) w Finset.univ hx hm) k) Q) := by
  refine seg_store _ (fun j => trivial) (fun j => ?_) (fun x hx hj => ?_)
  · show G' _ _ = _
    rw [(unit2 j hoff).1, (unit2 j hoff).2, hw]
  · refine ho _ _ fun hr => ?_
    refine hj (ix2 ⟨(x 0).val - lo, by omega⟩ ⟨(x 1).val - co, by omega⟩) ?_
    funext a
    refine Fin.ext ?_
    have h1 := (unit2 (inb := inb) (ix2 (⟨(x 0).val - lo, by omega⟩ : Fin n) (⟨(x 1).val - co, by omega⟩ : Fin C')) hoff)
    match a with
    | ⟨0, _⟩ => refine h1.1.trans ?_; show lo + ((x 0).val - lo) = (x 0).val; omega
    | ⟨1, _⟩ => refine h1.2.trans ?_; show co + ((x 1).val - co) = (x 1).val; omega

/-- The rows held are the slice of the matrix through them. -/
theorem rows_slice {inb : ∀ a : Fin 2, (off : Fin 2 → ℕ) a + (![n, C] : Fin 2 → ℕ) a ≤ (![R, C] : Fin 2 → ℕ) a} {hr : ∀ a, (Rect.unit (s := ⟨2, ![R, C]⟩) off ![n, C] inb).stride a = 1} (hoff : off = ![lo, 0]) :
    (rows c b q lo n G : sProp 𝕄)
      = mat c (b.slice (Rect.unit (s := ⟨2, ![R, C]⟩) off ![n, C] inb) hr) q (fun r k => G (lo + r) k) := by
  refine seg_slice (fun x => ?_) (fun j => ?_)
  · constructor
    · rintro ⟨h1, h2⟩
      refine ⟨ix2 ⟨(x 0).val - lo, by omega⟩ ⟨(x 1).val, (x 1).isLt⟩, ?_⟩
      funext a
      refine Fin.ext ?_
      have h1 := (unit2 (inb := inb) (ix2 (⟨(x 0).val - lo, by omega⟩ : Fin n) (⟨(x 1).val, (x 1).isLt⟩ : Fin C)) hoff)
      match a with
      | ⟨0, _⟩ => refine h1.1.trans ?_; show lo + ((x 0).val - lo) = (x 0).val; omega
      | ⟨1, _⟩ => refine h1.2.trans ?_; show 0 + (x 1).val = (x 1).val; omega
    · rintro ⟨j, rfl⟩
      rw [(unit2 j hoff).1]
      have : (j 0).val < n := (j 0).isLt
      omega
  · show _ = G _ _
    rw [(unit2 j hoff).1, (unit2 j hoff).2, Nat.zero_add]

end Matrix

section Stack

variable {K : ℕ} {b : Memref sig .tc .vmem ⟨3, ![K, R, C]⟩ e} {s : ℕ} {G : ℕ → ℕ → Elt F e}

/-- The place in a stack of matrices of an element of one slot's rectangle. -/
theorem unit3 {off : Fin 3 → ℕ} {R' C' : ℕ} {inb : ∀ a : Fin 3, (off : Fin 3 → ℕ) a + (![1, R', C'] : Fin 3 → ℕ) a ≤ (![K, R, C] : Fin 3 → ℕ) a} (j : (Rect.unit (s := ⟨3, ![K, R, C]⟩) off ![1, R', C'] inb).shape.Idx) {a0 a1 a2 : ℕ} (h : off = ![a0, a1, a2]) :
    ((Rect.unit (s := ⟨3, ![K, R, C]⟩) off ![1, R', C'] inb).emb j 0).val = a0
      ∧ ((Rect.unit (s := ⟨3, ![K, R, C]⟩) off ![1, R', C'] inb).emb j 1).val = a1 + (j 1).val
      ∧ ((Rect.unit (s := ⟨3, ![K, R, C]⟩) off ![1, R', C'] inb).emb j 2).val = a2 + (j 2).val := by
  subst h
  refine ⟨?_, ?_, ?_⟩
  · rw [Rect.emb_apply]; show a0 + 1 * (j 0).val = _
    have : (j 0).val < 1 := (j 0).isLt
    omega
  · rw [Rect.emb_apply]; show a1 + 1 * (j 1).val = _; rw [Nat.one_mul]
  · rw [Rect.emb_apply]; show a2 + 1 * (j 2).val = _; rw [Nat.one_mul]

/-- Loading a matrix of a stack. -/
theorem slot_load {α : Type} {inb : ∀ a : Fin 3, (![s, 0, 0] : Fin 3 → ℕ) a + (![1, R, C] : Fin 3 → ℕ) a ≤ (![K, R, C] : Fin 3 → ℕ) a} {hl : b.view.LoadsAt (Rect.unit (s := ⟨3, ![K, R, C]⟩) ![s, 0, 0] ![1, R, C] inb).toLoadRect} {k : ((⟨3, ![1, R, C]⟩ : Shape).Idx → Elt F e) → Prog (TpuEff nD τ sig (Elt F) Λ₀ .tc) α} {Q : α → sProp 𝕄} :
    (slot c b s G : sProp 𝕄) ⊢ iprop((slot c b s G -∗ WP c (k (fun j => G (j 1).val (j 2).val)) Q)
      -∗ WP c (.op (.load b (Rect.unit (s := ⟨3, ![K, R, C]⟩) ![s, 0, 0] ![1, R, C] inb).toLoadRect hl) k) Q) := by
  have hv : (fun j => (fun x : (⟨3, ![K, R, C]⟩ : Shape).Idx => G (x 1).val (x 2).val) ((Rect.unit (s := ⟨3, ![K, R, C]⟩) ![s, 0, 0] ![1, R, C] inb).emb j))
      = fun j : (⟨3, ![1, R, C]⟩ : Shape).Idx => G (j 1).val (j 2).val := by
    funext j
    show G _ _ = _
    rw [(unit3 j rfl).2.1, (unit3 j rfl).2.2, Nat.zero_add, Nat.zero_add]
  rw [← hv]
  exact seg_load fun j => (unit3 j rfl).1

/-- A matrix of a stack is the slice of the stack there, with the unit axis dropped. -/
theorem slot_squeeze {inb : ∀ a : Fin 3, (![s, 0, 0] : Fin 3 → ℕ) a + (![1, R, C] : Fin 3 → ℕ) a ≤ (![K, R, C] : Fin 3 → ℕ) a} {hr : ∀ a, (Rect.unit (s := ⟨3, ![K, R, C]⟩) ![s, 0, 0] ![1, R, C] inb).stride a = 1} {hs : (⟨3, ![1, R, C]⟩ : Shape).Squeezes ⟨2, ![R, C]⟩} :
    (slot c b s G : sProp 𝕄)
      = mat c ((b.slice (Rect.unit (s := ⟨3, ![K, R, C]⟩) ![s, 0, 0] ![1, R, C] inb) hr).squeeze ⟨2, ![R, C]⟩ hs) fullShare G := by
  have h1 : (slot c b s G : sProp 𝕄) = seg c (b.slice (Rect.unit (s := ⟨3, ![K, R, C]⟩) ![s, 0, 0] ![1, R, C] inb) hr) fullShare (fun _ => True)
      (fun j => G (j 1).val (j 2).val) := by
    refine seg_slice (fun x => ?_) (fun j => ?_)
    · constructor
      · intro h
        refine ⟨ix3 ⟨0, Nat.one_pos⟩ ⟨(x 1).val, (x 1).isLt⟩ ⟨(x 2).val, (x 2).isLt⟩, ?_⟩
        funext a
        refine Fin.ext ?_
        have h1 := (unit3 (inb := inb) (ix3 (⟨0, Nat.one_pos⟩ : Fin 1) (⟨(x 1).val, (x 1).isLt⟩ : Fin R) (⟨(x 2).val, (x 2).isLt⟩ : Fin C)) rfl)
        match a with
        | ⟨0, _⟩ => exact h1.1.trans h.symm
        | ⟨1, _⟩ => refine h1.2.1.trans ?_; show 0 + (x 1).val = (x 1).val; omega
        | ⟨2, _⟩ => refine h1.2.2.trans ?_; show 0 + (x 2).val = (x 2).val; omega
      · rintro ⟨j, rfl⟩
        exact (unit3 j rfl).1
    · show _ = G _ _
      rw [(unit3 j rfl).2.1, (unit3 j rfl).2.2, Nat.zero_add, Nat.zero_add]
  rw [h1]
  refine seg_squeeze fun j => ?_
  obtain ⟨x, y, rfl⟩ : ∃ x y, j = ix2 x y := ⟨j 0, j 1, eq_ix2 j⟩
  rw [reshapeEquiv_ix2_1ab]
  rfl

/-- A stack of three matrices, matrix by matrix. -/
theorem slots_split {b : Memref sig .tc .vmem ⟨3, ![3, R, C]⟩ e} {g : (⟨3, ![3, R, C]⟩ : Shape).Idx → Elt F e} (G₀ G₁ G₂ : ℕ → ℕ → Elt F e)
    (h₀ : ∀ x, (x 0).val = 0 → g x = G₀ (x 1).val (x 2).val) (h₁ : ∀ x, (x 0).val = 1 → g x = G₁ (x 1).val (x 2).val)
    (h₂ : ∀ x, (x 0).val = 2 → g x = G₂ (x 1).val (x 2).val) :
    (seg c b fullShare (fun _ => True) g : sProp 𝕄) ⊢ iprop(slot c b 0 G₀ ∗ slot c b 1 G₁ ∗ slot c b 2 G₂) := by
  have hx (x : (⟨3, ![3, R, C]⟩ : Shape).Idx) : (x 0).val < 3 := (x 0).isLt
  refine (seg_split (fun x => (x 0).val = 0) (fun x => (x 0).val = 1 ∨ (x 0).val = 2) (fun x => ?_) (fun x => ?_)).trans
    (BIClass.sep_mono (seg_congr (fun _ => Iff.rfl) h₀) ((seg_split (fun x => (x 0).val = 1) (fun x => (x 0).val = 2) (fun x => Iff.rfl) (fun x => ?_)).trans
      (BIClass.sep_mono (seg_congr (fun _ => Iff.rfl) h₁) (seg_congr (fun _ => Iff.rfl) h₂))))
  · have := hx x; constructor <;> intro h <;> first | trivial | omega
  · omega
  · omega

/-- The three matrices of a stack are the stack, at some contents. -/
theorem slots_join {b : Memref sig .tc .vmem ⟨3, ![3, R, C]⟩ e} (G₀ G₁ G₂ : ℕ → ℕ → Elt F e) :
    iprop(slot c b 0 G₀ ∗ slot c b 1 G₁ ∗ slot c b 2 G₂) ⊢ (seg c b fullShare (fun _ => True)
      (fun x => if (x 0).val = 0 then G₀ (x 1).val (x 2).val else if (x 0).val = 1 then G₁ (x 1).val (x 2).val else G₂ (x 1).val (x 2).val) : sProp 𝕄) := by
  have hx (x : (⟨3, ![3, R, C]⟩ : Shape).Idx) : (x 0).val < 3 := (x 0).isLt
  refine (sep_mono_right (seg_join (P := fun x => (x 0).val = 1 ∨ (x 0).val = 2) (fun x => Iff.rfl) (fun x => by omega)
    (g := fun x => if (x 0).val = 0 then G₀ (x 1).val (x 2).val else if (x 0).val = 1 then G₁ (x 1).val (x 2).val else G₂ (x 1).val (x 2).val) ?_ ?_)).trans
    (seg_join (fun x => ?_) (fun x => by omega) ?_ (fun _ _ => rfl))
  · intro x h; simp only [h]; rfl
  · intro x h; simp only [h]; rfl
  · have := hx x; constructor <;> intro h <;> first | trivial | omega
  · intro x h; simp only [h]; rfl

end Stack

/-- Reading a stack's matrix as a matrix keeps its entries. -/
theorem cast_slot {V : Type} (G : ℕ → ℕ → V) {h : (⟨3, ![1, R, C]⟩ : Shape).numel = (⟨2, ![R, C]⟩ : Shape).numel} (j : (⟨2, ![R, C]⟩ : Shape).Idx) :
    (fun j : (⟨3, ![1, R, C]⟩ : Shape).Idx => G (j 1).val (j 2).val) (Shape.reshapeEquiv h.symm j) = G (j 0).val (j 1).val := by
  obtain ⟨x, y, rfl⟩ : ∃ x y, j = ix2 x y := ⟨j 0, j 1, eq_ix2 j⟩
  rw [reshapeEquiv_ix2_1ab]
  rfl

end Cert.KProof

end
-- ==== Proof.Args.lean ====
module

public import proofs.«01_k».proof.Proof.Rows

/-!
# The kernel's buffers

The memrefs and semaphores the kernel's body is run on, and `Ap f`: the part
`f` of the body on them.
-/

@[expose] public section

noncomputable section

open Idealize.ShloMosaic
open Cert.KernelIdeal Cert.KernelIdeal.Gen

namespace Cert.KProof

abbrev a0 : Memref sig .tc .vmem S2048x1024 .bf16 := Memref.whole cc0_stg0_0
abbrev a1 : Memref sig .tc .vmem S1024x1024 .bf16 := Memref.whole cc0_stg1_0
abbrev a2 : Memref sig .tc .vmem S2048x1024 .f32 := Memref.whole cc0_stg2_0
abbrev a3 : Memref sig .tc .vmem S2048x384 .bf16 := Memref.whole cc0_scratch0
abbrev a4 : Memref sig .tc .vmem S2048x256 .bf16 := Memref.whole cc0_scratch1
abbrev a5 : Memref sig .tc .vmem S2048x384 .bf16 := Memref.whole cc0_scratch2
abbrev a6 : Memref sig .tc .vmem S1024x1024 .bf16 := Memref.whole cc0_scratch3
abbrev a7 : Memref sig .tc .vmem S1024x384 .bf16 := Memref.whole cc0_scratch4
abbrev a8 : Memref sig .tc .vmem S3x256x384 .bf16 := Memref.whole cc0_scratch5
abbrev a9 : Memref sig .tc .vmem S3x64x384 .bf16 := Memref.whole cc0_scratch6
abbrev a10 : Memref sig .tc .vmem S3x512x256 .bf16 := Memref.whole cc0_scratch7
abbrev a11 : Memref sig .tc .vmem S3x128x256 .bf16 := Memref.whole cc0_scratch8
abbrev a12 : Memref sig .tc .vmem S64x256 .bf16 := Memref.whole cc0_scratch9
abbrev a13 : Memref sig .tc .vmem S3x512x384 .bf16 := Memref.whole cc0_scratch10
abbrev a14 : Memref sig .tc .vmem S256x384 .bf16 := Memref.whole cc0_scratch11
abbrev a15 : Memref sig .tc .vmem S3x64x384 .bf16 := Memref.whole cc0_scratch12
abbrev a16 : Memref sig .tc .vmem S3x64x384 .bf16 := Memref.whole cc0_scratch13
abbrev a17 : Memref sig .tc .vmem S3x256x384 .bf16 := Memref.whole cc0_scratch14
abbrev a18 : Memref sig .tc .vmem S1024x384 .bf16 := Memref.whole cc0_scratch15
abbrev a19 : Memref sig .tc .vmem S64x256 .bf16 := Memref.whole cc0_scratch16
abbrev a20 : Memref sig .tc .vmem S3x128x256 .bf16 := Memref.whole cc0_scratch17
abbrev a21 : Memref sig .tc .vmem S3x512x256 .bf16 := Memref.whole cc0_scratch18
abbrev a22 : Memref sig .tc .vmem S3x64x384 .bf16 := Memref.whole cc0_scratch19
abbrev a23 : Memref sig .tc .vmem S256x384 .bf16 := Memref.whole cc0_scratch20
abbrev a24 : Memref sig .tc .vmem S3x512x384 .bf16 := Memref.whole cc0_scratch21
abbrev a25 : Memref sig .tc .vmem S64x256 .bf16 := Memref.whole cc0_scratch22
abbrev a26 : Memref sig .tc .vmem S64x384 .bf16 := Memref.whole cc0_scratch23
abbrev a27 : Memref sig .tc .vmem S64x256 .bf16 := Memref.whole cc0_scratch24
abbrev a28 : Memref sig .tc .vmem S64x384 .bf16 := Memref.whole cc0_scratch25
abbrev a29 : Memref sig .tc .vmem S64x256 .bf16 := Memref.whole cc0_scratch26
abbrev a30 : Memref sig .tc .vmem S64x384 .bf16 := Memref.whole cc0_scratch27
abbrev a31 : DmaSems sig S21 := cc0_scratch28
abbrev a32 : DmaSems sig S21 := cc0_scratch29
abbrev a33 : DmaSems sig S21 := cc0_scratch30
abbrev a34 : DmaSems sig S21 := cc0_scratch31
abbrev a35 : DmaSems sig S4 := cc0_scratch32
abbrev a36 : DmaSems sig S4 := cc0_scratch33

/-- A part of the body on the kernel's buffers. -/
abbrev Ap {β : Type _} (f : ∀ (arg0 : Memref sig .tc .vmem S2048x1024 .bf16) (harg0 : arg0.IsWhole) (arg1 : Memref sig .tc .vmem S1024x1024 .bf16) (harg1 : arg1.IsWhole) (arg2 : Memref sig .tc .vmem S2048x1024 .f32) (harg2 : arg2.IsWhole) (arg3 : Memref sig .tc .vmem S2048x384 .bf16) (harg3 : arg3.IsWhole) (arg4 : Memref sig .tc .vmem S2048x256 .bf16) (harg4 : arg4.IsWhole) (arg5 : Memref sig .tc .vmem S2048x384 .bf16) (harg5 : arg5.IsWhole) (arg6 : Memref sig .tc .vmem S1024x1024 .bf16) (harg6 : arg6.IsWhole) (arg7 : Memref sig .tc .vmem S1024x384 .bf16) (harg7 : arg7.IsWhole) (arg8 : Memref sig .tc .vmem S3x256x384 .bf16) (harg8 : arg8.IsWhole) (arg9 : Memref sig .tc .vmem S3x64x384 .bf16) (harg9 : arg9.IsWhole) (arg10 : Memref sig .tc .vmem S3x512x256 .bf16) (harg10 : arg10.IsWhole) (arg11 : Memref sig .tc .vmem S3x128x256 .bf16) (harg11 : arg11.IsWhole) (arg12 : Memref sig .tc .vmem S64x256 .bf16) (harg12 : arg12.IsWhole) (arg13 : Memref sig .tc .vmem S3x512x384 .bf16) (harg13 : arg13.IsWhole) (arg14 : Memref sig .tc .vmem S256x384 .bf16) (harg14 : arg14.IsWhole) (arg15 : Memref sig .tc .vmem S3x64x384 .bf16) (harg15 : arg15.IsWhole) (arg16 : Memref sig .tc .vmem S3x64x384 .bf16) (harg16 : arg16.IsWhole) (arg17 : Memref sig .tc .vmem S3x256x384 .bf16) (harg17 : arg17.IsWhole) (arg18 : Memref sig .tc .vmem S1024x384 .bf16) (harg18 : arg18.IsWhole) (arg19 : Memref sig .tc .vmem S64x256 .bf16) (harg19 : arg19.IsWhole) (arg20 : Memref sig .tc .vmem S3x128x256 .bf16) (harg20 : arg20.IsWhole) (arg21 : Memref sig .tc .vmem S3x512x256 .bf16) (harg21 : arg21.IsWhole) (arg22 : Memref sig .tc .vmem S3x64x384 .bf16) (harg22 : arg22.IsWhole) (arg23 : Memref sig .tc .vmem S256x384 .bf16) (harg23 : arg23.IsWhole) (arg24 : Memref sig .tc .vmem S3x512x384 .bf16) (harg24 : arg24.IsWhole) (arg25 : Memref sig .tc .vmem S64x256 .bf16) (harg25 : arg25.IsWhole) (arg26 : Memref sig .tc .vmem S64x384 .bf16) (harg26 : arg26.IsWhole) (arg27 : Memref sig .tc .vmem S64x256 .bf16) (harg27 : arg27.IsWhole) (arg28 : Memref sig .tc .vmem S64x384 .bf16) (harg28 : arg28.IsWhole) (arg29 : Memref sig .tc .vmem S64x256 .bf16) (harg29 : arg29.IsWhole) (arg30 : Memref sig .tc .vmem S64x384 .bf16) (harg30 : arg30.IsWhole) (arg31 : DmaSems sig S21) (arg32 : DmaSems sig S21) (arg33 : DmaSems sig S21) (arg34 : DmaSems sig S21) (arg35 : DmaSems sig S4) (arg36 : DmaSems sig S4), β) : β :=
  f a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) a31 a32 a33 a34 a35 a36

end Cert.KProof

end
-- ==== Proof.Table.lean ====
module

public import proofs.«01_k».proof.Proof.Args

/-!
# The transfers and the entry handshake

The 46 transfers a device starts, in the order it starts them.  `rs i p k` sends
the device `k` steps along the axis its share of strip `i` in phase `p` of the
reduction; `ag i p k` sends it back the finished rows of that phase; `sh n` are
the four transfers between the layouts of the strips.  `to` is where a device's
transfer goes, `frm` where the one it receives comes from.
-/

@[expose] public section

noncomputable section

open Idealize.ShloMosaic
open Idealize.ShloMosaic.TcCoe
open Cert.KernelIdeal Cert.KernelIdeal.Gen

namespace Cert.KProof

/-- A transfer. -/
inductive Tr
  | rs (i p k : ℕ)
  | ag (i p k : ℕ)
  | sh (n : ℕ)

/-- The transfers in the order they are started. -/
def tr : Fin 46 → Tr := ![.rs 0 0 1, .rs 1 0 1, .rs 1 0 2, .rs 1 0 3, .rs 2 0 1, .rs 2 0 2, .rs 2 0 3,
  .rs 0 1 1, .rs 0 1 2, .rs 0 1 3, .rs 1 1 1, .rs 1 1 2, .rs 1 1 3, .rs 2 1 1,
  .rs 0 2 1, .rs 0 2 2, .rs 0 2 3, .rs 1 2 1, .rs 2 2 1, .rs 2 2 2, .rs 2 2 3,
  .sh 0, .sh 1, .sh 2, .sh 3,
  .ag 0 2 1, .ag 0 2 2, .ag 0 2 3, .ag 1 2 1, .ag 2 2 1, .ag 2 2 2, .ag 2 2 3,
  .ag 0 1 1, .ag 0 1 2, .ag 0 1 3, .ag 1 1 1, .ag 1 1 2, .ag 1 1 3, .ag 2 1 1,
  .ag 0 0 1, .ag 1 0 1, .ag 1 0 2, .ag 1 0 3, .ag 2 0 1, .ag 2 0 2, .ag 2 0 3]

/-- Where a device's transfer goes. -/
def Tr.to : Tr → Dev nD → Dev nD
  | .rs i p k, c => KProof.sh (ax i p) k c
  | .ag i p k, c => KProof.sh (ax i p) k c
  | .sh 0, c => dstB c
  | .sh 1, c => dstC c
  | .sh 2, c => srcB c
  | .sh _, c => srcC c

/-- Where the transfer a device receives comes from. -/
def Tr.frm : Tr → Dev nD → Dev nD
  | .rs i p k, c => KProof.sh (ax i p) (cnt (ax i p) - k) c
  | .ag i p k, c => KProof.sh (ax i p) (cnt (ax i p) - k) c
  | .sh 0, c => srcB c
  | .sh 1, c => srcC c
  | .sh 2, c => dstB c
  | .sh _, c => dstC c

/-- Whether a device takes part in the transfer. -/
def Tr.on : Tr → Dev nD → Bool
  | .sh 0, c => if dstB c = c then false else true
  | .sh 2, c => if dstB c = c then false else true
  | .sh 1, c => if dstC c = c then false else true
  | .sh 3, c => if dstC c = c then false else true
  | _, _ => true

/-- The first semaphore of strip `i` in phase `p` of the reduction; -/
def rsOff (i p : ℕ) : ℕ := match i, p with
  | 0, 0 => 0 | 0, 1 => 1 | 0, _ => 4 | 1, 0 => 0 | 1, 1 => 3 | 1, _ => 6 | _, 0 => 0 | _, 1 => 3 | _, _ => 4
/-- and of the way back. -/
def agOff (i p : ℕ) : ℕ := match i, p with
  | 0, 2 => 0 | 0, 1 => 3 | 0, _ => 6 | 1, 2 => 0 | 1, 1 => 1 | 1, _ => 4 | _, 2 => 0 | _, 1 => 3 | _, _ => 4

/-- The place at the receiver a transfer lands in, among those of its phase. -/
def slotOf (a k : ℕ) : ℕ := cnt a - 1 - k

/-- The semaphore counting a transfer's departure; -/
def Tr.sIx : Tr → ℕ
  | .rs i p k => 3 + 7 * i + rsOff i p + (k - 1)
  | .ag i p k => 45 + 7 * i + agOff i p + (k - 1)
  | .sh n => 87 + n
/-- and its arrival. -/
def Tr.rIx : Tr → ℕ
  | .rs i p k => 24 + 7 * i + rsOff i p + slotOf (ax i p) k
  | .ag i p k => 66 + 7 * i + agOff i p + slotOf (ax i p) k
  | .sh n => 91 + n

def ssem (j : Fin 46) : DmaSem sig := (⟨(tr j).sIx % 95, Nat.mod_lt _ (by decide)⟩ : Fin 95)
def rsem (j : Fin 46) : DmaSem sig := (⟨(tr j).rIx % 95, Nat.mod_lt _ (by decide)⟩ : Fin 95)

/-- Different transfers have different departure semaphores. -/
theorem ssem_inj : ∀ j j' : Fin 46, ssem j = ssem j' → j = j' := by decide +kernel
/-- Different transfers have different arrival semaphores. -/
theorem rsem_inj : ∀ j j' : Fin 46, rsem j = rsem j' → j = j' := by decide +kernel
/-- No departure semaphore is an arrival semaphore. -/
theorem ssem_ne_rsem : ∀ j j' : Fin 46, ssem j ≠ rsem j' := by decide +kernel

/-- The units a transfer raises its two semaphores by. -/
def Tr.amt : Tr → ℕ
  | .rs i p _ => RefSig.tileCredit ⟨2, ![sz i p, wd i]⟩ .bf16
  | .ag i p _ => RefSig.tileCredit ⟨2, ![sz i p, wd i]⟩ .bf16
  | .sh 0 => RefSig.tileCredit ⟨2, ![64, 256]⟩ .bf16
  | .sh 2 => RefSig.tileCredit ⟨2, ![64, 256]⟩ .bf16
  | .sh _ => RefSig.tileCredit ⟨2, ![64, 384]⟩ .bf16

/-- Every transfer carries something. -/
theorem amt_pos : ∀ j : Fin 46, 0 < (tr j).amt := by decide +kernel

/-- The device a transfer comes from sends it here. -/
theorem to_frm : ∀ (j : Fin 46) (c : Dev nD), (tr j).to ((tr j).frm c) = c := by decide +kernel
/-- The device a transfer goes to receives it from here. -/
theorem frm_to : ∀ (j : Fin 46) (c : Dev nD), (tr j).frm ((tr j).to c) = c := by decide +kernel
/-- Receiver and sender take part in a transfer together. -/
theorem on_to : ∀ (j : Fin 46) (c : Dev nD), (tr j).on ((tr j).to c) = (tr j).on c := by decide +kernel
/-- Sender and receiver take part in a transfer together. -/
theorem on_frm : ∀ (j : Fin 46) (c : Dev nD), (tr j).on ((tr j).frm c) = (tr j).on c := by decide +kernel
/-- A device that takes no part in a transfer would send it to itself. -/
theorem to_off : ∀ (j : Fin 46) (c : Dev nD), (tr j).on c = false → (tr j).to c = c := by decide +kernel

/-! ## The entry handshake -/

/-- The device the `b`-th unit of the handshake goes to. -/
def bto (b : Fin 11) (c : Dev nD) : Dev nD :=
  (![KProof.sh 0 1 c, KProof.sh 1 1 c, KProof.sh 2 1 c, KProof.sh 1 2 c, KProof.sh 2 2 c, KProof.sh 1 3 c, KProof.sh 2 3 c,
    srcB c, dstB c, srcC c, dstC c] : Fin 11 → Dev nD) b
/-- The device it comes from. -/
def bfrm (b : Fin 11) (c : Dev nD) : Dev nD :=
  (![KProof.sh 0 1 c, KProof.sh 1 3 c, KProof.sh 2 3 c, KProof.sh 1 2 c, KProof.sh 2 2 c, KProof.sh 1 1 c, KProof.sh 2 1 c,
    dstB c, srcB c, dstC c, srcC c] : Fin 11 → Dev nD) b

/-- Whether the `b`-th unit is sent by itself; -/
def bon (b : Fin 11) (c : Dev nD) : Bool :=
  if b = 8 then (if dstB c = c then false else true) else if b = 10 then (if dstC c = c then false else true) else true
/-- and how many units go with it. -/
def bamt (b : Fin 11) (c : Dev nD) : ℕ :=
  if b = 7 then (if dstB c = c then 2 else 1) else if b = 9 then (if dstC c = c then 2 else 1) else 1

/-- The device a unit of the handshake comes from sends it here. -/
theorem bto_bfrm : ∀ (b : Fin 11) (c : Dev nD), bto b (bfrm b c) = c := by decide +kernel
/-- The device a unit of the handshake goes to receives it from here. -/
theorem bfrm_bto : ∀ (b : Fin 11) (c : Dev nD), bfrm b (bto b c) = c := by decide +kernel
/-- A unit is sent by itself at both of its ends or at neither. -/
theorem bon_to : ∀ (b : Fin 11) (c : Dev nD), bon b (bto b c) = bon b c := by decide +kernel
/-- The amount of a unit is the same at both of its ends. -/
theorem bamt_to : ∀ (b : Fin 11) (c : Dev nD), bamt b (bto b c) = bamt b c := by decide +kernel
/-- Every unit of the handshake counts for something. -/
theorem bamt_pos : ∀ (b : Fin 11) (c : Dev nD), 0 < bamt b c := by decide +kernel
/-- A device receives eleven units in all. -/
theorem bar_sum : ∀ c : Dev nD, (∑ b : Fin 11, if bon b c = true then bamt b c else 0) = 11 := by decide +kernel

/-- The unit of the handshake that hands a device the landing place of its transfer. -/
def axBar (a k : ℕ) : Fin 11 := match a, k with
  | 0, _ => 0 | 1, 1 => 1 | 2, 1 => 2 | 1, 2 => 3 | 2, 2 => 4 | 1, _ => 5 | _, _ => 6
def Tr.bar : Tr → Fin 11
  | .rs i p k => axBar (ax i p) (cnt (ax i p) - k)
  | .ag i p k => axBar (ax i p) (cnt (ax i p) - k)
  | .sh 0 => 7
  | .sh 1 => 9
  | .sh 2 => 8
  | .sh _ => 10

/-- A transfer goes to the device whose unit of the handshake allows it. -/
theorem to_bto : ∀ (j : Fin 46) (c : Dev nD), (tr j).to (bto (tr j).bar c) = c := by decide +kernel
/-- That device takes part in the transfer as the sender does. -/
theorem on_bto : ∀ (j : Fin 46) (c : Dev nD), (tr j).on (bto (tr j).bar c) = (tr j).on c := by decide +kernel
/-- The unit that allows a transfer is sent by itself if the transfer takes place. -/
theorem bon_bar : ∀ (j : Fin 46) (c : Dev nD), (tr j).on c = true → bon (tr j).bar c = true := by decide +kernel

/-- The rank of an arrival semaphore among the transfers. -/
def rank (q : ℕ) : ℕ := ((List.finRange 46).map fun j => if (tr j).rIx = q then j.val + 2 else 0).sum

/-- Arrival semaphores are ranked in the order of their transfers. -/
theorem rank_rsem : ∀ j : Fin 46, rank (rsem j).val = j.val + 2 := by decide +kernel
/-- Departure semaphores have rank zero. -/
theorem rank_ssem : ∀ j : Fin 46, rank (ssem j).val = 0 := by decide +kernel

end Cert.KProof

end
-- ==== Proof.Proto.lean ====
module

public import proofs.«01_k».proof.Proof.Table
public import proofs.«01_k».proof.Proof.Rows

/-!
# The protocol across the devices

Every transfer has two cells, one counting its departure at the sender and one
its arrival at the receiver, used once each.  The departure hands the sender its
source back, the arrival hands the receiver its landing place filled.  A device
may only start a transfer when the receiver has handed it the landing place,
which it does with the units of the entry handshake.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open scoped Classical

namespace Cert.KProof

variable {F : FTy → Type} [FloatOps F]

local notation "𝕄" => MT nD τ sig Unit (Elt F) ℕ UU ℕ

/-- What the transfers carry: what the sender gives (`sp`), what the receiver gets (`rp`), and the landing place before (`ld`). -/
structure Pays (F : FTy → Type) [FloatOps F] where
  sp : Fin 46 → Dev nD → sProp (MT nD τ sig Unit (Elt F) ℕ UU ℕ)
  rp : Fin 46 → Dev nD → sProp (MT nD τ sig Unit (Elt F) ℕ UU ℕ)
  ld : Fin 46 → Dev nD → sProp (MT nD τ sig Unit (Elt F) ℕ UU ℕ)
  sps : ∀ j c, BI.Storable (upEmb : UEmb _ (MT nD τ sig Unit (Elt F) ℕ UU ℕ)) (sp j c)
  rps : ∀ j c, BI.Storable (upEmb : UEmb _ (MT nD τ sig Unit (Elt F) ℕ UU ℕ)) (rp j c)
  lds : ∀ j c, BI.Storable (upEmb : UEmb _ (MT nD τ sig Unit (Elt F) ℕ UU ℕ)) (ld j c)

variable (Y : Pays F)

instance sp_storable (j c) : BI.Storable (upEmb : UEmb _ 𝕄) (Y.sp j c) := Y.sps j c
instance rp_storable (j c) : BI.Storable (upEmb : UEmb _ 𝕄) (Y.rp j c) := Y.rps j c
instance ld_storable (j c) : BI.Storable (upEmb : UEmb _ 𝕄) (Y.ld j c) := Y.lds j c

/-! ## The cells and the schedule -/

/-- The runtime's semaphore the handshake counts on. -/
abbrev barS : Sem sig := (SemArray.scalar (sig.barrier 0 rfl) : Sems sig S_).sem

abbrev sndC (j : Fin 46) (c : Dev nD) : GSem nD τ sig := ((c : Thread nD τ), .dma (ssem j))
abbrev rcvC (j : Fin 46) (c : Dev nD) : GSem nD τ sig := ((c : Thread nD τ), .dma (rsem j))
abbrev barC (c : Dev nD) : GSem nD τ sig := ((c : Thread nD τ), .reg barS)

/-- The cells of one device. -/
abbrev Cix : Type := Fin 46 ⊕ (Fin 46 ⊕ Unit)
def csem : Cix → SemLoc sig
  | .inl j => .dma (ssem j)
  | .inr (.inl j) => .dma (rsem j)
  | .inr (.inr _) => .reg barS
abbrev kcell (ck : Dev nD × Cix) : GSem nD τ sig := ((ck.1 : Thread nD τ), csem ck.2)

/-- The cell of a duty; -/
def dsem : D → SemLoc sig
  | .inl j => .dma (ssem j)
  | .inr (.inl j) => .dma (rsem j)
  | .inr (.inr _) => .reg barS
/-- whether it is one of the device's; -/
def don : D → Dev nD → Bool
  | .inl j, c => (tr j).on c
  | .inr (.inl j), c => (tr j).on c
  | .inr (.inr b), c => bon b c
/-- its units; -/
def damt : D → Dev nD → ℕ
  | .inl j, _ => (tr j).amt
  | .inr (.inl j), _ => (tr j).amt
  | .inr (.inr b), c => bamt b c

/-- What the `b`-th unit of the handshake brings device `c`: the landing places, at the device it comes from, of `c`'s transfers there. -/
def barPay (b : Fin 11) (c : Dev nD) : sProp 𝕄 :=
  bigSep Finset.univ fun j : Fin 46 => if (tr j).bar = b ∧ (tr j).on c = true then Y.ld j ((tr j).to c) else iprop(emp)

/-- and what it hands over. -/
def dpay : D → Dev nD → sProp 𝕄
  | .inl j, c => Y.sp j c
  | .inr (.inl j), c => Y.rp j c
  | .inr (.inr b), c => barPay Y b c

instance barPay_storable (b c) : BI.Storable (upEmb : UEmb _ 𝕄) (barPay Y b c) := by
  unfold barPay
  have : ∀ j : Fin 46, BI.Storable (upEmb : UEmb _ 𝕄) (if (tr j).bar = b ∧ (tr j).on c = true then Y.ld j ((tr j).to c) else iprop(emp)) := by
    intro j; split <;> infer_instance
  infer_instance

/-- Every duty pays something. -/
theorem damt_pos (d : D) (c : Dev nD) : 0 < damt d c := by
  rcases d with j | j | b
  · exact amt_pos j
  · exact amt_pos j
  · exact bamt_pos b c

/-- One round at every cell. -/
def rd : Rounds.Schedule (GSem nD τ sig) D 𝕄 where
  duties g r := if r = 0 ∧ g.1.2 = .tc then Finset.univ.filter (fun d => dsem d = g.2 ∧ don d g.1.1 = true) else ∅
  unitless _ := False
  amount g _ d := damt d g.1.1
  payload g _ d := dpay Y d g.1.1
  amount_pos g _ d _ := damt_pos d g.1.1

instance rd_payload_storable (g : GSem nD τ sig) (r : ℕ) (d : D) : BI.Storable (upEmb : UEmb _ 𝕄) ((rd Y).payload g r d) := by
  show BI.Storable upEmb (dpay Y d g.1.1)
  rcases d with j | j | b
  · exact sp_storable Y j _
  · exact rp_storable Y j _
  · exact barPay_storable Y b _

section Sched
variable (c : Dev nD) (j : Fin 46)

/-- The duties of a cell are those on its semaphore that take place. -/
theorem duties_eq (sm : SemLoc sig) : (rd Y).duties ((c : Thread nD τ), sm) 0 = Finset.univ.filter (fun d => dsem d = sm ∧ don d c = true) :=
  by dsimp only [rd]; exact if_pos ⟨rfl, rfl⟩

/-- The one duty of a departure cell. -/
theorem duties_snd (h : (tr j).on c = true) : (rd Y).duties (sndC j c) 0 = {.inl j} := by
  rw [duties_eq]
  ext d
  rw [Finset.mem_filter, Finset.mem_singleton]
  constructor
  · rintro ⟨-, h1, -⟩
    rcases d with i | i | b
    · exact congrArg _ (ssem_inj _ _ (SemLoc.dma.inj h1))
    · exact absurd (SemLoc.dma.inj h1).symm (ssem_ne_rsem _ _)
    · exact absurd h1 (fun h => by cases h)
  · rintro rfl; exact ⟨Finset.mem_univ _, rfl, h⟩

/-- The one duty of an arrival cell. -/
theorem duties_rcv (h : (tr j).on c = true) : (rd Y).duties (rcvC j c) 0 = {.inr (.inl j)} := by
  rw [duties_eq]
  ext d
  rw [Finset.mem_filter, Finset.mem_singleton]
  constructor
  · rintro ⟨-, h1, -⟩
    rcases d with i | i | b
    · exact absurd (SemLoc.dma.inj h1) (ssem_ne_rsem _ _)
    · exact congrArg (fun i => Sum.inr (Sum.inl i)) (rsem_inj _ _ (SemLoc.dma.inj h1))
    · exact absurd h1 (fun h => by cases h)
  · rintro rfl; exact ⟨Finset.mem_univ _, rfl, h⟩

/-- A departure cell of a transfer that does not take place has no duty. -/
theorem duties_snd_off (h : (tr j).on c = false) : ∀ r, 0 ≤ r → (rd Y).duties (sndC j c) r = ∅ := by
  intro r _
  by_cases hr : r = 0
  · subst hr
    rw [duties_eq]
    refine Finset.filter_eq_empty_iff.mpr fun d _ ⟨h1, h2⟩ => ?_
    rcases d with i | i | b
    · obtain rfl := ssem_inj _ _ (SemLoc.dma.inj h1)
      exact Bool.false_ne_true (h.symm.trans h2)
    · exact absurd (SemLoc.dma.inj h1).symm (ssem_ne_rsem _ _)
    · exact absurd h1 (fun h => by cases h)
  · exact if_neg fun h => hr h.1

/-- An arrival cell of a transfer that does not take place has no duty. -/
theorem duties_rcv_off (h : (tr j).on c = false) : ∀ r, 0 ≤ r → (rd Y).duties (rcvC j c) r = ∅ := by
  intro r _
  by_cases hr : r = 0
  · subst hr
    rw [duties_eq]
    refine Finset.filter_eq_empty_iff.mpr fun d _ ⟨h1, h2⟩ => ?_
    rcases d with i | i | b
    · exact absurd (SemLoc.dma.inj h1) (ssem_ne_rsem _ _)
    · obtain rfl := rsem_inj _ _ (SemLoc.dma.inj h1)
      exact Bool.false_ne_true (h.symm.trans h2)
    · exact absurd h1 (fun h => by cases h)
  · exact if_neg fun h => hr h.1

/-- The duties of a barrier are the units of the handshake that are sent by themselves.
  -/
theorem duties_bar : (rd Y).duties (barC c) 0 = (Finset.univ.filter fun b : Fin 11 => bon b c = true).map ⟨fun b => Sum.inr (Sum.inr b), fun _ _ h => Sum.inr.inj (Sum.inr.inj h)⟩ := by
  rw [duties_eq]
  ext d
  rw [Finset.mem_filter, Finset.mem_map]
  constructor
  · rintro ⟨-, h1, h2⟩
    rcases d with i | i | b
    · exact absurd h1 (fun h => by cases h)
    · exact absurd h1 (fun h => by cases h)
    · exact ⟨b, Finset.mem_filter.mpr ⟨Finset.mem_univ _, h2⟩, rfl⟩
  · rintro ⟨b, hb, rfl⟩
    exact ⟨Finset.mem_univ _, rfl, (Finset.mem_filter.mp hb).2⟩

/-- There is no second round. -/
theorem duties_later (g : GSem nD τ sig) : ∀ r, 0 + 1 ≤ r → (rd Y).duties g r = ∅ :=
  fun r hr => if_neg fun h => by omega

/-- A departure cell expects the units of its transfer. -/
theorem expect_snd (h : (tr j).on c = true) : (rd Y).expect (sndC j c) 0 = (tr j).amt := by
  unfold Schedule.expect Schedule.amountOf
  rw [duties_snd Y c j h, Finset.sum_singleton]; rfl
/-- An arrival cell expects the units of its transfer. -/
theorem expect_rcv (h : (tr j).on c = true) : (rd Y).expect (rcvC j c) 0 = (tr j).amt := by
  unfold Schedule.expect Schedule.amountOf
  rw [duties_rcv Y c j h, Finset.sum_singleton]; rfl
/-- A barrier expects eleven units. -/
theorem expect_bar : (rd Y).expect (barC c) 0 = 11 := by
  unfold Schedule.expect Schedule.amountOf
  rw [duties_bar, Finset.sum_map, Finset.sum_filter]
  exact bar_sum c

/-- A departure cell hands back the source. -/
theorem rest_snd (h : (tr j).on c = true) : bigSep ((rd Y).duties (sndC j c) 0 \ ∅) (fun d => (rd Y).payload (sndC j c) 0 d) = Y.sp j c := by
  rw [Finset.sdiff_empty, duties_snd Y c j h, bigSep_singleton]; rfl
/-- An arrival cell hands over what has landed. -/
theorem rest_rcv (h : (tr j).on c = true) : bigSep ((rd Y).duties (rcvC j c) 0 \ ∅) (fun d => (rd Y).payload (rcvC j c) 0 d) = Y.rp j c := by
  rw [Finset.sdiff_empty, duties_rcv Y c j h, bigSep_singleton]; rfl
/-- A barrier hands over the landing places. -/
theorem rest_bar : bigSep ((rd Y).duties (barC c) 0 \ ∅) (fun d => (rd Y).payload (barC c) 0 d)
    = bigSep Finset.univ fun b : Fin 11 => if bon b c = true then barPay Y b c else iprop(emp) := by
  rw [Finset.sdiff_empty, duties_bar, bigSep_map, bigSep_filter]; rfl

end Sched

/-! ## What a device owes; the levels -/

/-- The arrivals device `c` still owes when `n` transfers are started. -/
def Ow (c : Dev nD) (n : ℕ) : CellTallies nD τ sig Unit :=
  ∑ j : Fin 46, if n ≤ j.val ∧ (tr j).on c = true then tallyAt (rcvC j ((tr j).to c)) () (tr j).amt else 0
/-- The units of the handshake it still owes when `n` are sent. -/
def Ob (c : Dev nD) (n : ℕ) : CellTallies nD τ sig Unit :=
  ∑ b : Fin 11, if n ≤ b.val ∧ bon b c = true then tallyAt (barC (bto b c)) () (bamt b c) else 0
def O₀ (c : Dev nD) : CellTallies nD τ sig Unit := Ow c 0 + Ob c 0

/-- The sum of the members from the `j`-th on is the `j`-th and those after it. -/
theorem sum_peel {N : ℕ} {M : Type} [AddCommMonoid M] (p : Fin N → Prop) [DecidablePred p] (f : Fin N → M) (j : Fin N) :
    (∑ i : Fin N, if j.val ≤ i.val ∧ p i then f i else 0) = (∑ i : Fin N, if j.val + 1 ≤ i.val ∧ p i then f i else 0) + if p j then f j else 0 := by
  have : (if p j then f j else 0) = ∑ i : Fin N, if i = j then (if p j then f j else 0) else 0 := by
    rw [Finset.sum_ite_eq' Finset.univ j (fun _ => if p j then f j else 0), if_pos (Finset.mem_univ _)]
  rw [this, ← Finset.sum_add_distrib]
  refine Finset.sum_congr rfl fun i _ => ?_
  by_cases hij : i = j
  · subst hij
    by_cases hp : p i
    · rw [if_pos ⟨le_rfl, hp⟩, if_neg (fun h => by omega), if_pos rfl, if_pos hp, zero_add]
    · rw [if_neg (fun h => hp h.2), if_neg (fun h => hp h.2), if_pos rfl, if_neg hp, zero_add]
  · have hne : i.val ≠ j.val := fun h => hij (Fin.ext h)
    rw [if_neg hij, add_zero]
    by_cases hp : j.val ≤ i.val ∧ p i
    · rw [if_pos hp, if_pos ⟨by omega, hp.2⟩]
    · rw [if_neg hp, if_neg (fun h => hp ⟨by omega, h.2⟩)]

/-- What a device owes before a transfer is that transfer and what it owes after it. -/
theorem Ow_on (c : Dev nD) (j : Fin 46) (h : (tr j).on c = true) : Ow c j.val = Ow c (j.val + 1) + tallyAt (rcvC j ((tr j).to c)) () (tr j).amt := by
  unfold Ow; rw [sum_peel (fun i => (tr i).on c = true), if_pos h]
/-- A transfer that does not take place is not owed. -/
theorem Ow_off (c : Dev nD) (j : Fin 46) (h : (tr j).on c = false) : Ow c j.val = Ow c (j.val + 1) := by
  unfold Ow; rw [sum_peel (fun i => (tr i).on c = true), if_neg (by rw [h]; decide), add_zero]
/-- What a device owes before a unit of the handshake is that unit and what it owes
  after it. -/
theorem Ob_on (c : Dev nD) (b : Fin 11) (h : bon b c = true) : Ob c b.val = Ob c (b.val + 1) + tallyAt (barC (bto b c)) () (bamt b c) := by
  unfold Ob; rw [sum_peel (fun i => bon i c = true), if_pos h]
/-- A unit that is not sent by itself is not owed. -/
theorem Ob_off (c : Dev nD) (b : Fin 11) (h : bon b c = false) : Ob c b.val = Ob c (b.val + 1) := by
  unfold Ob; rw [sum_peel (fun i => bon i c = true), if_neg (by rw [h]; decide), add_zero]
/-- After the last transfer none is owed. -/
theorem Ow_end (c : Dev nD) : Ow c 46 = 0 := Finset.sum_eq_zero fun j _ => if_neg fun h => by have := j.isLt; omega
/-- After the last unit none is owed. -/
theorem Ob_end (c : Dev nD) : Ob c 11 = 0 := Finset.sum_eq_zero fun j _ => if_neg fun h => by have := j.isLt; omega

def L (g : GSem nD τ sig) : Finset Unit := if g.1.2 = .tc then {()} else ∅
/-- The handshake at 1, an arrival above it by its rank, everything else at 0. -/
def lv (g : GSem nD τ sig) (_ : Unit) : ℕ := match g.2 with
  | .reg _ => 1
  | .dma q => rank (q : Fin 95).val

/-- Only the devices' own threads have levels. -/
theorem L_of_ne (g : GSem nD τ sig) (h : g.1.2 ≠ .tc) : L g = ∅ := if_neg h
/-- The levels of a device's thread. -/
theorem L_tc (c : Dev nD) (sm : SemLoc sig) : L ((c : Thread nD τ), sm) = {()} := if_pos rfl
/-- The level of an arrival cell is the place of its transfer. -/
theorem lv_rcv (j : Fin 46) (c : Dev nD) : lv (rcvC j c) () = j.val + 2 := rank_rsem j
/-- A departure cell has level zero. -/
theorem lv_snd (j : Fin 46) (c : Dev nD) : lv (sndC j c) () = 0 := rank_ssem j

/-- A tally counts at its own cell only. -/
theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- A sum that counts has a member that counts. -/
theorem sum_pos' {N : ℕ} {f : Fin N → CellTallies nD τ sig Unit} {g : GSem nD τ sig} {u : Unit} (h : 0 < (∑ i, f i) g u) : ∃ i, 0 < f i g u := by
  by_contra hn
  rw [Finset.sum_apply, Finsupp.finset_sum_apply] at h
  rw [Finset.sum_eq_zero fun i _ => Nat.eq_zero_of_not_pos fun h => hn ⟨i, h⟩] at h
  exact Nat.lt_irrefl 0 h

/-- A cell that a device owes is the arrival cell of a transfer still to come. -/
theorem Ow_pos {c : Dev nD} {n : ℕ} {g : GSem nD τ sig} {u : Unit} (h : 0 < Ow c n g u) : ∃ j : Fin 46, n ≤ j.val ∧ g = rcvC j ((tr j).to c) := by
  obtain ⟨j, hj⟩ := sum_pos' h
  split_ifs at hj with hc
  · exact ⟨j, hc.1, tally_pos hj⟩
  · exact absurd hj (Nat.lt_irrefl 0)
/-- A cell that the handshake owes is a barrier. -/
theorem Ob_pos {c : Dev nD} {n : ℕ} {g : GSem nD τ sig} {u : Unit} (h : 0 < Ob c n g u) : ∃ b : Fin 11, g = barC (bto b c) := by
  obtain ⟨j, hj⟩ := sum_pos' h
  split_ifs at hj with hc
  · exact ⟨j, tally_pos hj⟩
  · exact absurd hj (Nat.lt_irrefl 0)

/-- A device may wait at a level below the transfers it still owes. -/
theorem mayWait_of (c : Dev nD) (sm : SemLoc sig) (n k : ℕ) (hl : lv ((c : Thread nD τ), sm) () ≤ k) (hk : k < n + 2) :
    (levAts L lv : sProp 𝕄) ⊢ MayWait (c : Thread nD τ) sm () (Ow c n) :=
  MayOwe.of_cut (L := L) (lev := lv) k (fun p hp => by rw [Finset.mem_singleton.mp hp, L_tc]; exact Finset.mem_singleton_self _)
    (fun g u hg => by obtain ⟨j, -, rfl⟩ := Ow_pos hg; exact Finset.mem_singleton_self _)
    (fun p hp => by rw [Finset.mem_singleton.mp hp]; exact hl)
    (fun g u hg => by obtain ⟨j, hj, rfl⟩ := Ow_pos hg; show k < lv (rcvC j ((tr j).to c)) (); rw [lv_rcv]; omega)

/-- At the start a device may wait at level zero. -/
theorem mayWait_start (c : Dev nD) (sm : SemLoc sig) (hl : lv ((c : Thread nD τ), sm) () = 0) :
    (levAts L lv : sProp 𝕄) ⊢ MayWait (c : Thread nD τ) sm () (O₀ c) := by
  have hp : ∀ {g : GSem nD τ sig} {u : Unit}, 0 < O₀ c g u → (∃ j : Fin 46, g = rcvC j ((tr j).to c)) ∨ ∃ b : Fin 11, g = barC (bto b c) := by
    intro g u hg
    unfold O₀ at hg
    rw [Pi.add_apply, Finsupp.add_apply] at hg
    rcases Nat.eq_zero_or_pos (Ow c 0 g u) with h0 | h0
    · exact .inr (Ob_pos (by omega : 0 < Ob c 0 g u))
    · obtain ⟨j, -, hj⟩ := Ow_pos h0; exact .inl ⟨j, hj⟩
  exact MayOwe.of_cut (L := L) (lev := lv) 0 (fun p hp => by rw [Finset.mem_singleton.mp hp, L_tc]; exact Finset.mem_singleton_self _)
    (fun g u hg => by rcases hp hg with ⟨j, rfl⟩ | ⟨b, rfl⟩ <;> exact Finset.mem_singleton_self _)
    (fun p hp => by rw [Finset.mem_singleton.mp hp]; exact hl.le)
    (fun g u hg => by
      rcases hp hg with ⟨j, rfl⟩ | ⟨b, rfl⟩
      · show 0 < lv (rcvC j ((tr j).to c)) (); rw [lv_rcv]; omega
      · exact Nat.one_pos)

/-! ## The state of a device's transfers -/

/-- The invariants of all the cells, and that each is in use. -/
def records (K : Dev nD × Cix → ℕ) : sProp 𝕄 :=
  iprop(bigSep Finset.univ (fun ck : Dev nD × Cix => cellInv ER (rd Y) (K ck) (kcell ck)) ∗ bigSep Finset.univ (fun ck : Dev nD × Cix => reached ER (kcell ck) 0))

instance records_persistent (K : Dev nD × Cix → ℕ) : BI.Persistent (records Y K) := by unfold records; infer_instance

/-- A member of a family. -/
theorem bs_elim {I : Type} [Fintype I] {Φ : I → sProp 𝕄} (i : I) : (bigSep Finset.univ Φ : sProp 𝕄) ⊢ Φ i := bigSep_elim (Finset.mem_univ i)

/-- The records hold the invariant of every cell. -/
theorem records_inv (K : Dev nD × Cix → ℕ) (ck : Dev nD × Cix) : records Y K ⊢ cellInv ER (rd Y) (K ck) (kcell ck) := by
  unfold records; iintro ⟨H, -⟩; iapply (bs_elim (Φ := fun ck : Dev nD × Cix => cellInv ER (rd Y) (K ck) (kcell ck)) ck); iexact H
/-- The records say that every cell has begun its round. -/
theorem records_reached (K : Dev nD × Cix → ℕ) (ck : Dev nD × Cix) : records Y K ⊢ reached ER (kcell ck) 0 := by
  unfold records; iintro ⟨-, H⟩; iapply (bs_elim (Φ := fun ck : Dev nD × Cix => reached ER (kcell ck) 0) ck); iexact H

variable (c : Dev nD) (j : Fin 46)

/-- The credit of an arrival. -/
def rcr : sProp 𝕄 := if (tr j).on c = true then cred (tallyAt (rcvC j c) () (tr j).amt) else iprop(emp)
def scr : sProp 𝕄 := if (tr j).on c = true then cred (tallyAt (sndC j c) () (tr j).amt) else iprop(emp)

/-- A transfer not started, its landing place aside; -/
def pend₀ : sProp 𝕄 :=
  iprop(dutyTok ER (sndC j c) 0 (.inl j) ∗ dutyTok ER (rcvC j ((tr j).to c)) 0 (.inr (.inl j)) ∗ atPos ER (sndC j c) 0 ∅ 0 ∗ atPos ER (rcvC j c) 0 ∅ 0 ∗ rcr c j)
def pend : sProp 𝕄 := iprop(pend₀ c j ∗ Y.ld j ((tr j).to c))
/-- started; -/
def sent : sProp 𝕄 := iprop(scr c j ∗ atPos ER (sndC j c) 0 ∅ 0 ∗ atPos ER (rcvC j c) 0 ∅ 0 ∗ rcr c j)
/-- its departure waited for; -/
def half : sProp 𝕄 := iprop(semVal (sndC j c) 0 ∗ atPos ER (rcvC j c) 0 ∅ 0 ∗ rcr c j)
/-- and its arrival too. -/
def fin : sProp 𝕄 := iprop(semVal (sndC j c) 0 ∗ semVal (rcvC j c) 0)

/-- The state of a transfer when `n` are started and `m` waited for, `h` whether the departure of the next is. -/
def item (n m : ℕ) (h : Bool) (j : Fin 46) : sProp 𝕄 :=
  if j.val < m then fin c j else if j.val = m ∧ h = true then half c j else if j.val < n then sent c j else pend Y c j

/-- Device `c` between two operations: `n` transfers started, `m` waited for. -/
def gs (K : Dev nD × Cix → ℕ) (n m : ℕ) (h : Bool) : sProp 𝕄 :=
  iprop(records Y K ∗ levAts L lv ∗ semVal (barC c) 0 ∗ (∃ W, owes (c : Thread nD τ) (Ow c n) W) ∗ bigSep Finset.univ (item Y c n m h))

variable {Y c j} {K : Dev nD × Cix → ℕ} {n m : ℕ} {h : Bool} {α : Type}

/-- Before its start a transfer is pending. -/
theorem item_start (hm : m ≤ j.val) (hh : m = j.val → h = false) : item Y c j.val m h j = pend Y c j := by
  unfold item
  rw [if_neg (by omega), if_neg, if_neg (by omega)]
  rintro ⟨h1, h2⟩; rw [hh h1.symm] at h2; exact Bool.false_ne_true h2
/-- After its start a transfer is under way. -/
theorem item_started (hm : m ≤ j.val) (hh : m = j.val → h = false) : item Y c (j.val + 1) m h j = sent c j := by
  unfold item
  rw [if_neg (by omega), if_neg, if_pos (by omega)]
  rintro ⟨h1, h2⟩; rw [hh h1.symm] at h2; exact Bool.false_ne_true h2
/-- Starting a transfer changes no other one. -/
theorem item_n_ne (i : Fin 46) (hi : i ≠ j) : item Y c (j.val + 1) m h i = item Y c j.val m h i := by
  unfold item
  have : i.val ≠ j.val := fun h => hi (Fin.ext h)
  by_cases h1 : i.val < j.val
  · rw [if_pos (by omega : i.val < j.val + 1), if_pos h1]
  · rw [if_neg (by omega : ¬ i.val < j.val + 1), if_neg h1]

/-- Before its first wait a transfer is under way. -/
theorem item_sent (hn : j.val < n) : item Y c n j.val false j = sent c j := by
  unfold item
  rw [if_neg (by omega), if_neg (fun h => Bool.false_ne_true h.2), if_pos hn]
/-- Between its two waits a transfer has left. -/
theorem item_half : item Y c n j.val true j = half c j := by
  unfold item
  rw [if_neg (by omega), if_pos ⟨rfl, rfl⟩]
/-- After its two waits a transfer is finished. -/
theorem item_fin : item Y c n (j.val + 1) false j = fin c j := by
  unfold item
  rw [if_pos (by omega)]
/-- The first wait of a transfer changes no other one. -/
theorem item_h_ne (i : Fin 46) (hi : i ≠ j) : item Y c n j.val true i = item Y c n j.val false i := by
  unfold item
  have : i.val ≠ j.val := fun h => hi (Fin.ext h)
  rw [if_neg (fun h : i.val = j.val ∧ true = true => this h.1), if_neg (fun h : i.val = j.val ∧ false = true => this h.1)]
/-- The second wait of a transfer changes no other one. -/
theorem item_m_ne (i : Fin 46) (hi : i ≠ j) : item Y c n (j.val + 1) false i = item Y c n j.val true i := by
  unfold item
  have : i.val ≠ j.val := fun h => hi (Fin.ext h)
  rw [if_neg (fun h : i.val = j.val + 1 ∧ false = true => Bool.false_ne_true h.2), if_neg (fun h : i.val = j.val ∧ true = true => this h.1)]
  by_cases h1 : i.val < j.val
  · rw [if_pos (by omega : i.val < j.val + 1), if_pos h1]
  · rw [if_neg (by omega : ¬ i.val < j.val + 1), if_neg h1]

/-- A transfer is started: the source goes, and the receiver's landing place is filled by the contents of the source. -/
theorem send_rule (j : Fin 46) {n : Dev nD} (hn : n = (tr j).to c) (hon : (tr j).on c = true) (hm : m < j.val ∨ (m = j.val ∧ h = false))
    {s : Shape} {e : EltTy} {src : Memref sig .tc .vmem s e} {dst : Memref sig .tc .vmem s e} {sS rS : DmaSem sig} (hs : sS = ssem j) (hr : rS = rsem j)
    {hsc : (dst : Memref sig (Dev.tc n : Thread nD τ).2.kind .vmem s e).view.ref.isScScratch = false}
    {hsrc : src.view.WordExact} {hdst : (dst : Memref sig (Dev.tc n : Thread nD τ).2.kind .vmem s e).view.WordExact}
    {hsem : DmaTarget.Typed .vmem (.dma rS) (.remote (Dev.tc n : Thread nD τ) (dst : Memref sig (Dev.tc n : Thread nD τ).2.kind .vmem s e) (.dma sS) hsc)}
    {k : PUnit → Prog (TpuEff nD τ sig (Elt F) Λ₀ .tc) α} {Q : α → sProp 𝕄}
    (q : PosShare TreeShare) (g : s.Idx → Elt F e) (hamt : dst.view.dmaCredit = (tr j).amt)
    (hsp : Y.sp j c ⊣⊢ seg c src q (fun _ => True) g)
    (hld : Y.ld j ((tr j).to c) ⊢ iprop(∃ g₀, seg ((tr j).to c) dst fullShare (fun _ => True) g₀))
    (hrp : seg ((tr j).to c) dst fullShare (fun _ => True) g ⊢ Y.rp j ((tr j).to c)) :
    iprop(gs Y c K j.val m h ∗ Y.sp j c)
      ⊢ iprop((gs Y c K (j.val + 1) m h -∗ WP c (k ⟨⟩) Q)
          -∗ WP c (.op (.enqueueDma src (.remote (Dev.tc n : Thread nD τ) (dst : Memref sig (Dev.tc n : Thread nD τ).2.kind .vmem s e) (.dma sS) hsc) (.dma rS) hsrc hdst hsem) k) Q) := by
  subst hn hs hr
  have hm1 : m ≤ j.val := by omega
  have hm2 : m = j.val → h = false := fun e => hm.elim (fun h => by omega) (·.2)
  unfold gs
  iintro ⟨⟨#HR, #HL, Hz, ⟨%W, HO⟩, HI⟩, Hsp⟩ Hk
  ihave HI' := (bigSep_univ_update (Ψ := item Y c (j.val + 1) m h) j fun i hi => item_n_ne i hi) $$ HI
  rw [item_start hm1 hm2, item_started hm1 hm2]
  icases HI' with ⟨Hp, HI⟩
  unfold pend pend₀ sent
  icases Hp with ⟨⟨Ht1, Ht2, Ha1, Ha2, Hcr⟩, Hld⟩
  ihave Hsrc := hsp.1 $$ Hsp
  ihave Hdst := hld $$ Hld
  icases Hdst with ⟨%g₀, Hdst⟩
  unfold seg
  rw [cells_true, cells_true]
  icases Hsrc with ⟨%f, %hf, Hsrc⟩
  icases Hdst with ⟨%fd, -, Hdst⟩
  have hf' : src.view.read (Elt F) f = g := funext fun x => hf x trivial
  iapply (Rounds.wp_send_pointsTo 𝒱₀ ER (rd Y) (c : Thread nD τ) none (κ₁ := K (c, .inl j)) (κ₂ := K ((tr j).to c, .inr (.inl j)))
    (r₁ := 0) (r₂ := 0) (d₁ := .inl j) (d₂ := .inr (.inl j)) (fd := fd) (fs := f) (q := q)
    (by rw [duties_snd Y c j hon]; exact Finset.mem_singleton_self _)
    (by rw [duties_rcv Y _ j ((on_to j c).trans hon)]; exact Finset.mem_singleton_self _)
    () () (tr j).amt (show dst.view.amount (.dma (rsem j)) = _ from hamt) rfl rfl (Ow c (j.val + 1)) (Ow_on c j hon) (W := W)
    (by
      refine BI.Entails.trans ?_ hsp.2
      unfold seg; rw [cells_true]
      show (_ : sProp 𝕄) ⊢ _
      iintro H; iexists f
      isplitr; · ipureintro; exact hf
      iexact H)
    (by
      refine BI.Entails.trans ?_ hrp
      unfold seg; rw [cells_true]
      show (_ : sProp 𝕄) ⊢ _
      iintro H; iexists _
      isplitr
      rotate_left
      · iexact H
      · ipureintro
        intro x _
        rw [View.read_write_of_mem _ _ (Finset.mem_univ _), hf'])) $$ [HO Ht1 Ht2 Hsrc Hdst]
  · isplitr; · iapply (records_inv Y K (c, .inl j)); iexact HR
    isplitr; · iapply (records_inv Y K ((tr j).to c, .inr (.inl j))); iexact HR
    isplitl [Hsrc]; · iexact Hsrc
    isplitl [Hdst]; · iexact Hdst
    isplitl [HO]; · iexact HO
    isplitl [Ht1]; · iexact Ht1
    isplitr; · iapply (records_reached Y K (c, .inl j)); iexact HR
    isplitl [Ht2]; · iexact Ht2
    iapply (records_reached Y K ((tr j).to c, .inr (.inl j))); iexact HR
  iintro ⟨Hc, HO⟩
  iapply Hk
  isplitr; · iexact HR
  isplitr; · iexact HL
  isplitl [Hz]; · iexact Hz
  isplitl [HO]; · iexists W; iexact HO
  iapply HI
  unfold scr
  rw [if_pos hon]
  isplitl [Hc]; · iexact Hc
  isplitl [Ha1]; · iexact Ha1
  isplitl [Ha2]; · iexact Ha2
  iexact Hcr

/-- A transfer the device takes no part in is passed over; its own landing place stays with it. -/
theorem send_skip (j : Fin 46) (hon : (tr j).on c = false) (hm : m < j.val ∨ (m = j.val ∧ h = false)) :
    gs Y c K j.val m h ⊢ iprop(gs Y c K (j.val + 1) m h ∗ Y.ld j c) := by
  have hm1 : m ≤ j.val := by omega
  have hm2 : m = j.val → h = false := fun e => hm.elim (fun h => by omega) (·.2)
  unfold gs
  rw [Ow_off c j hon]
  iintro ⟨#HR, #HL, Hz, HO, HI⟩
  ihave HI' := (bigSep_univ_update (Ψ := item Y c (j.val + 1) m h) j fun i hi => item_n_ne i hi) $$ HI
  rw [item_start hm1 hm2, item_started hm1 hm2]
  icases HI' with ⟨Hp, HI⟩
  unfold pend pend₀ sent scr
  rw [if_neg (by rw [hon]; decide), to_off j c hon]
  icases Hp with ⟨⟨Ht1, Ht2, Ha1, Ha2, Hcr⟩, Hld⟩
  isplitr [Hld]
  · isplitr; · iexact HR
    isplitr; · iexact HL
    isplitl [Hz]; · iexact Hz
    isplitl [HO]; · iexact HO
    iapply HI
    isplitr; · iempintro
    isplitl [Ha1]; · iexact Ha1
    isplitl [Ha2]; · iexact Ha2
    iexact Hcr
  · iexact Hld

/-- The wait for a departure hands the source back. -/
theorem wait_send (j : Fin 46) (hon : (tr j).on c = true) (hn : j.val < n) {s s' : Shape} {e e' : EltTy} {src : Memref sig .tc .vmem s' e'} {dst : Memref sig .tc .vmem s e} {sS : DmaSem sig}
    (hs : sS = ssem j) (hamt : dst.view.dmaCredit = (tr j).amt) {hsrc : src.view.WordExact} {hdst : dst.view.WordExact}
    {k : PUnit → Prog (TpuEff nD τ sig (Elt F) Λ₀ .tc) α} {Q : α → sProp 𝕄} :
    gs Y c K n j.val false
      ⊢ iprop(((gs Y c K n j.val true ∗ Y.sp j c) -∗ WP c (k ⟨⟩) Q) -∗ WP c (.op (.waitDma2 sS src dst hsrc hdst) k) Q) := by
  subst hs
  unfold gs
  iintro ⟨#HR, #HL, Hz, ⟨%W, HO⟩, HI⟩ Hk
  ihave HI' := (bigSep_univ_update (Ψ := item Y c n j.val true) j fun i hi => item_h_ne i hi) $$ HI
  rw [item_sent hn, item_half]
  icases HI' with ⟨Hp, HI⟩
  unfold sent half scr
  rw [if_pos hon]
  icases Hp with ⟨Hc, Ha1, Ha2, Hcr⟩
  iapply (Rounds.wp_wait_rest_token 𝒱₀ ER (rd Y) (c : Thread nD τ) none (κ := K (c, .inl j))
      (wpE_waitDma2_eq 𝒱₀ (c : Thread nD τ) none Set.univ) (Set.mem_univ _) () (O := Ow c n) (W := W) (R := 0) (m := 0) (T := ∅)
      (by rw [Nat.zero_add, expect_snd Y c j hon, hamt])) $$ [Hc HO Ha1]
  · isplitr; · iapply (records_inv Y K (c, .inl j)); iexact HR
    isplitl [Hc]; · rw [hamt]; iexact Hc
    isplitl [HO]; · iexact HO
    isplitr; · iapply (mayWait_of c _ n 0 (lv_snd j c).le (by omega)); iexact HL
    iexact Ha1
  iintro ⟨HO, Ha1, -, Hpay⟩
  ihave Hsp := (Entails.of_eq (rest_snd Y c j hon)) $$ Hpay
  imod (Rounds.cell_close ER (rd Y) (Set.mem_univ (K (c, .inl j))) (fun h => h) (R := 0 + 1) (duties_later Y (sndC j c))) $$ [Ha1] with Hs
  · isplitr; · iapply (records_inv Y K (c, .inl j)); iexact HR
    iexact Ha1
  iapply Hk
  isplitr [Hsp]
  · isplitr; · iexact HR
    isplitr; · iexact HL
    isplitl [Hz]; · iexact Hz
    isplitl [HO]; · iexists _; iexact HO
    iapply HI
    isplitl [Hs]; · iexact Hs
    isplitl [Ha2]; · iexact Ha2
    iexact Hcr
  · iexact Hsp

/-- The wait for an arrival hands the landing place over, filled. -/
theorem wait_recv (j : Fin 46) (hon : (tr j).on c = true) (hn : j.val < n) {s s' : Shape} {e e' : EltTy} {src : Memref sig .tc .vmem s' e'} {dst : Memref sig .tc .vmem s e} {rS : DmaSem sig}
    (hs : rS = rsem j) (hamt : dst.view.dmaCredit = (tr j).amt) {hsrc : src.view.WordExact} {hdst : dst.view.WordExact}
    {k : PUnit → Prog (TpuEff nD τ sig (Elt F) Λ₀ .tc) α} {Q : α → sProp 𝕄} :
    gs Y c K n j.val true
      ⊢ iprop(((gs Y c K n (j.val + 1) false ∗ Y.rp j c) -∗ WP c (k ⟨⟩) Q) -∗ WP c (.op (.waitDma2 rS src dst hsrc hdst) k) Q) := by
  subst hs
  unfold gs
  iintro ⟨#HR, #HL, Hz, ⟨%W, HO⟩, HI⟩ Hk
  ihave HI' := (bigSep_univ_update (Ψ := item Y c n (j.val + 1) false) j fun i hi => item_m_ne i hi) $$ HI
  rw [item_half, item_fin]
  icases HI' with ⟨Hp, HI⟩
  unfold half fin rcr
  rw [if_pos hon]
  icases Hp with ⟨Hs, Ha2, Hc⟩
  iapply (Rounds.wp_wait_rest_token 𝒱₀ ER (rd Y) (c : Thread nD τ) none (κ := K (c, .inr (.inl j)))
      (wpE_waitDma2_eq 𝒱₀ (c : Thread nD τ) none Set.univ) (Set.mem_univ _) () (O := Ow c n) (W := W) (R := 0) (m := 0) (T := ∅)
      (by rw [Nat.zero_add, expect_rcv Y c j hon, hamt])) $$ [Hc HO Ha2]
  · isplitr; · iapply (records_inv Y K (c, .inr (.inl j))); iexact HR
    isplitl [Hc]; · rw [hamt]; iexact Hc
    isplitl [HO]; · iexact HO
    isplitr; · iapply (mayWait_of c _ n (j.val + 2) (lv_rcv j c).le (by omega)); iexact HL
    iexact Ha2
  iintro ⟨HO, Ha2, -, Hpay⟩
  ihave Hrp := (Entails.of_eq (rest_rcv Y c j hon)) $$ Hpay
  imod (Rounds.cell_close ER (rd Y) (Set.mem_univ (K (c, .inr (.inl j)))) (fun h => h) (R := 0 + 1) (duties_later Y (rcvC j c))) $$ [Ha2] with Hr
  · isplitr; · iapply (records_inv Y K (c, .inr (.inl j))); iexact HR
    iexact Ha2
  iapply Hk
  isplitr [Hrp]
  · isplitr; · iexact HR
    isplitr; · iexact HL
    isplitl [Hz]; · iexact Hz
    isplitl [HO]; · iexists _; iexact HO
    iapply HI
    isplitl [Hs]; · iexact Hs
    iexact Hr
  · iexact Hrp

/-- A transfer the device takes no part in is not waited for. -/
theorem wait_skip (j : Fin 46) (hon : (tr j).on c = false) (hn : j.val < n) {p : Prog (TpuEff nD τ sig (Elt F) Λ₀ .tc) α} {Q : α → sProp 𝕄} :
    gs Y c K n j.val false ⊢ iprop((gs Y c K n (j.val + 1) false -∗ WP c p Q) -∗ WP c p Q) := by
  unfold gs
  iintro ⟨#HR, #HL, Hz, HO, HI⟩ Hk
  ihave HI' := (bigSep_univ_update (Ψ := item Y c n (j.val + 1) false) j fun i hi => (item_m_ne i hi).trans (item_h_ne i hi)) $$ HI
  rw [item_sent hn, item_fin]
  icases HI' with ⟨Hp, HI⟩
  unfold sent fin
  icases Hp with ⟨-, Ha1, Ha2, -⟩
  imod (Rounds.cell_close ER (rd Y) (Set.mem_univ (K (c, .inl j))) (fun h => h) (R := 0) (duties_snd_off Y c j hon)) $$ [Ha1] with Hs
  · isplitr; · iapply (records_inv Y K (c, .inl j)); iexact HR
    iexact Ha1
  imod (Rounds.cell_close ER (rd Y) (Set.mem_univ (K (c, .inr (.inl j)))) (fun h => h) (R := 0) (duties_rcv_off Y c j hon)) $$ [Ha2] with Hr
  · isplitr; · iapply (records_inv Y K (c, .inr (.inl j))); iexact HR
    iexact Ha2
  iapply Hk
  isplitr; · iexact HR
  isplitr; · iexact HL
  isplitl [Hz]; · iexact Hz
  isplitl [HO]; · iexact HO
  iapply HI
  isplitl [Hs]; · iexact Hs
  iexact Hr

/-! ## The entry handshake -/

/-- The `b`-th unit, not yet sent: the right to send it and the landing places that go with it. -/
def bpend (Y : Pays F) (c : Dev nD) (b : Fin 11) : sProp 𝕄 := iprop(dutyTok ER (barC (bto b c)) 0 (.inr (.inr b)) ∗ barPay Y b (bto b c))

/-- Device `c` in the handshake, `b` units sent. -/
def gb (Y : Pays F) (c : Dev nD) (K : Dev nD × Cix → ℕ) (b : ℕ) : sProp 𝕄 :=
  iprop(records Y K ∗ levAts L lv ∗ cred (tallyAt (barC c) () 11) ∗ atPos ER (barC c) 0 ∅ 0 ∗ (∃ W, owes (c : Thread nD τ) (Ow c 0 + Ob c b) W)
    ∗ bigSep Finset.univ (pend₀ (F := F) c) ∗ bigSep Finset.univ (fun j : Fin 46 => if (tr j).on c = true then iprop(emp) else Y.ld j c)
    ∗ bigSep Finset.univ (fun i : Fin 11 => if b ≤ i.val then bpend Y c i else iprop(emp)))

/-- The units still to give are the next one and those after it. -/
theorem gb_peel (b : Fin 11) : (bigSep Finset.univ (fun i : Fin 11 => if b.val ≤ i.val then bpend Y c i else iprop(emp)) : sProp 𝕄)
    ⊢ iprop(bpend Y c b ∗ bigSep Finset.univ (fun i : Fin 11 => if b.val + 1 ≤ i.val then bpend Y c i else iprop(emp))) := by
  iintro H
  ihave H := (bigSep_univ_update (Ψ := fun i : Fin 11 => if b.val + 1 ≤ i.val then bpend Y c i else iprop(emp)) b fun i hi => by
    have : i.val ≠ b.val := fun h => hi (Fin.ext h)
    by_cases h : b.val ≤ i.val
    · rw [if_pos h, if_pos (by omega)]
    · rw [if_neg h, if_neg (by omega)]) $$ H
  rw [if_pos (le_refl b.val), if_neg (by omega : ¬ b.val + 1 ≤ b.val)]
  icases H with ⟨H1, H2⟩
  isplitl [H1]; · iexact H1
  iapply H2
  iempintro

/-- A unit of the handshake is sent. -/
theorem signal_rule (b : Fin 11) (hon : bon b c = true) {n : Dev nD} (hn : n = bto b c) {sem : Sem sig} (hs : sem = barS) {k' : ℕ} (hk : bamt b c = k')
    {k : PUnit → Prog (TpuEff nD τ sig (Elt F) Λ₀ .tc) α} {Q : α → sProp 𝕄} :
    gb Y c K b.val ⊢ iprop((gb Y c K (b.val + 1) -∗ WP c (k ⟨⟩) Q) -∗ WP c (.op (.semSignal (Dev.tc n : Thread nD τ) sem k') k) Q) := by
  subst hn hs hk
  unfold gb
  iintro ⟨#HR, #HL, Hcr, Hat, ⟨%W, HO⟩, Hp, Hl, Hb⟩ Hk
  ihave Hb := (gb_peel b) $$ Hb
  unfold bpend
  icases Hb with ⟨⟨Ht, Hpay⟩, Hb⟩
  iapply (Rounds.wp_signal 𝒱₀ ER (rd Y) (c : Thread nD τ) none (dst := (bto b c : Thread nD τ)) (κ := K (bto b c, .inr (.inr ())))
      (d := .inr (.inr b)) (r := 0) (by rw [duties_bar]; exact Finset.mem_map.mpr ⟨b, Finset.mem_filter.mpr ⟨Finset.mem_univ _, (bon_to b c).trans hon⟩, rfl⟩)
      (bamt_to b c) () (O₀ := Ow c 0 + Ob c b.val) (Ow c 0 + Ob c (b.val + 1)) (by rw [Ob_on c b hon, add_assoc]) (W := W))
    $$ [HO Ht Hpay]
  · isplitr; · iapply (records_inv Y K (bto b c, .inr (.inr ()))); iexact HR
    isplitl [HO]; · iexact HO
    isplitl [Ht]; · iexact Ht
    isplitl [Hpay]; · iapply (Entails.of_eq (show barPay Y b (bto b c) = (rd Y).payload (barC (bto b c)) 0 (.inr (.inr b)) from rfl)); iexact Hpay
    iapply (records_reached Y K (bto b c, .inr (.inr ()))); iexact HR
  iintro HO
  iapply Hk
  isplitr; · iexact HR
  isplitr; · iexact HL
  isplitl [Hcr]; · iexact Hcr
  isplitl [Hat]; · iexact Hat
  isplitl [HO]; · iexists W; iexact HO
  isplitl [Hp]; · iexact Hp
  isplitl [Hl]; · iexact Hl
  iexact Hb

/-- A unit sent together with another is passed over. -/
theorem signal_skip (b : Fin 11) (hon : bon b c = false) : gb Y c K b.val ⊢ gb Y c K (b.val + 1) := by
  unfold gb
  rw [Ob_off c b hon]
  iintro ⟨#HR, #HL, Hcr, Hat, HO, Hp, Hl, Hb⟩
  ihave Hb := (gb_peel b) $$ Hb
  icases Hb with ⟨-, Hb⟩
  isplitr; · iexact HR
  isplitr; · iexact HL
  isplitl [Hcr]; · iexact Hcr
  isplitl [Hat]; · iexact Hat
  isplitl [HO]; · iexact HO
  isplitl [Hp]; · iexact Hp
  isplitl [Hl]; · iexact Hl
  iexact Hb

/-- A family of nothing is nothing. -/
theorem bs_emp {I : Type} (s : Finset I) : (bigSep s (fun _ => iprop(emp)) : sProp 𝕄) = iprop(emp) := BI.bigSep_emp_const s

/-- Everything entails itself. -/
theorem bs_refl (P : sProp 𝕄) : Idealize.SL.BI.Entails P P := BI.Entails.refl _

/-- A family is dealt to the values of a function. -/
theorem bs_deal {I J : Type} [Fintype I] [Fintype J] (f : I → J) (Φ : I → sProp 𝕄) :
    (bigSep Finset.univ Φ : sProp 𝕄) ⊢ bigSep Finset.univ fun j => bigSep Finset.univ fun i => if f i = j then Φ i else iprop(emp) := by
  rw [BI.bigSep_univ_comm]
  refine bigSep_mono fun i _ => ?_
  rw [BI.bigSep_univ_at _ (f i), if_pos rfl, BI.bigSep_congr (Ψ := fun _ => iprop(emp)) fun j hj => if_neg (Finset.ne_of_mem_erase hj).symm, bs_emp]
  show (_ : sProp 𝕄) ⊢ _
  iintro H
  isplitl [H]; · iexact H
  iempintro

/-- All the landing places of a device's transfers: those of its own it kept, and those the handshake brought. -/
theorem lands_join : iprop((bigSep Finset.univ fun b : Fin 11 => if bon b c = true then barPay Y b c else iprop(emp))
      ∗ bigSep Finset.univ (fun j : Fin 46 => if (tr j).on c = true then iprop(emp) else Y.ld j c))
    ⊢ (bigSep Finset.univ fun j : Fin 46 => Y.ld j ((tr j).to c) : sProp 𝕄) := by
  have h1 : (bigSep Finset.univ fun b : Fin 11 => if bon b c = true then barPay Y b c else iprop(emp) : sProp 𝕄)
      ⊢ bigSep Finset.univ fun j : Fin 46 => if (tr j).on c = true then Y.ld j ((tr j).to c) else iprop(emp) := by
    refine BI.Entails.trans (Q := bigSep Finset.univ fun b : Fin 11 => bigSep Finset.univ fun j : Fin 46 => if (tr j).bar = b ∧ (tr j).on c = true then Y.ld j ((tr j).to c) else iprop(emp)) ?_ ?_
    · refine bigSep_mono fun b _ => ?_
      by_cases hb : bon b c = true
      · rw [if_pos hb]; unfold barPay; exact BI.Entails.refl _
      · rw [if_neg hb]
        refine BI.Entails.trans (Entails.of_eq (bigSep_emp_const Finset.univ).symm) (bigSep_mono fun j _ => ?_)
        have h : ¬ ((tr j).bar = b ∧ (tr j).on c = true) := fun h => hb (h.1 ▸ bon_bar j c h.2)
        rw [if_neg h]
        exact bs_refl _
    · rw [BI.bigSep_univ_comm]
      refine bigSep_mono fun j _ => ?_
      by_cases hj : (tr j).on c = true
      · rw [if_pos hj]
        refine (bs_elim (tr j).bar).trans ?_
        rw [if_pos ⟨rfl, hj⟩]
      · rw [if_neg hj]; show (_ : sProp 𝕄) ⊢ _; iintro -; iempintro
  refine (sep_mono_left h1).trans ?_
  rw [← bigSep_sep']
  refine bigSep_mono fun j _ => ?_
  by_cases hj : (tr j).on c = true
  · rw [if_pos hj, if_pos hj]; show (_ : sProp 𝕄) ⊢ _; iintro ⟨H, -⟩; iexact H
  · rw [if_neg hj, if_neg hj, to_off j c (by simpa using hj)]; show (_ : sProp 𝕄) ⊢ _; iintro ⟨-, H⟩; iexact H

/-- The landing places at a device, dealt to the units of the handshake that hand them over. -/
theorem lands_deal : (bigSep Finset.univ fun j : Fin 46 => Y.ld j c : sProp 𝕄)
    ⊢ iprop(bigSep Finset.univ (fun b : Fin 11 => barPay Y b (bto b c)) ∗ bigSep Finset.univ (fun j : Fin 46 => if (tr j).on c = true then iprop(emp) else Y.ld j c)) := by
  have h1 : (bigSep Finset.univ fun j : Fin 46 => if (tr j).on c = true then Y.ld j c else iprop(emp) : sProp 𝕄)
      ⊢ bigSep Finset.univ (fun b : Fin 11 => barPay Y b (bto b c)) := by
    refine (bs_deal (fun j : Fin 46 => (tr j).bar) _).trans ?_
    refine bigSep_mono fun b _ => ?_
    unfold barPay
    refine bigSep_mono fun j _ => ?_
    by_cases hb : (tr j).bar = b
    · subst hb
      rw [if_pos rfl, to_bto, on_bto]
      by_cases hj : (tr j).on c = true
      · rw [if_pos hj, if_pos ⟨rfl, hj⟩]; exact bs_refl _
      · rw [if_neg hj, if_neg (fun h => hj h.2)]; exact bs_refl _
    · rw [if_neg hb, if_neg (fun h => hb h.1)]; exact bs_refl _
  refine BI.Entails.trans ?_ (sep_mono_left h1)
  rw [← bigSep_sep']
  refine bigSep_mono fun j _ => ?_
  by_cases hj : (tr j).on c = true
  · rw [if_pos hj, if_pos hj]; show (_ : sProp 𝕄) ⊢ _; iintro H; isplitl [H]; · iexact H
    iempintro
  · rw [if_neg hj, if_neg hj]; show (_ : sProp 𝕄) ⊢ _; iintro H; isplitr; · iempintro
    iexact H

/-- The handshake is waited for. -/
theorem bar_wait {sem : Sem sig} (hs : sem = barS) {k' : ℕ} (hk : k' = 11) {k : PUnit → Prog (TpuEff nD τ sig (Elt F) Λ₀ .tc) α} {Q : α → sProp 𝕄} :
    gb Y c K 11 ⊢ iprop((gs Y c K 0 0 false -∗ WP c (k ⟨⟩) Q) -∗ WP c (.op (.semWait sem k') k) Q) := by
  subst hs hk
  unfold gb
  rw [Ob_end, add_zero]
  iintro ⟨#HR, #HL, Hcr, Hat, ⟨%W, HO⟩, Hp, Hl, -⟩ Hk
  iapply (Rounds.wp_wait_rest_token 𝒱₀ ER (rd Y) (c : Thread nD τ) none (κ := K (c, .inr (.inr ())))
      (wpE_semWait_eq 𝒱₀ (c : Thread nD τ) none Set.univ) (Set.mem_univ _) () (O := Ow c 0) (W := W) (R := 0) (m := 0) (T := ∅)
      (by rw [Nat.zero_add, expect_bar])) $$ [Hcr HO Hat]
  · isplitr; · iapply (records_inv Y K (c, .inr (.inr ()))); iexact HR
    isplitl [Hcr]; · iexact Hcr
    isplitl [HO]; · iexact HO
    isplitr; · iapply (mayWait_of c (.reg barS) 0 1 (le_refl _) (by omega)); iexact HL
    iexact Hat
  iintro ⟨HO, Hat, -, Hpay⟩
  ihave Hpay := (Entails.of_eq (rest_bar Y c)) $$ Hpay
  imod (Rounds.cell_close ER (rd Y) (Set.mem_univ (K (c, .inr (.inr ())))) (fun h => h) (R := 0 + 1) (duties_later Y (barC c))) $$ [Hat] with Hz
  · isplitr; · iapply (records_inv Y K (c, .inr (.inr ()))); iexact HR
    iexact Hat
  ihave Hld := lands_join $$ [Hpay Hl]
  · isplitl [Hpay]; · iexact Hpay
    iexact Hl
  iapply Hk
  unfold gs
  isplitr; · iexact HR
  isplitr; · iexact HL
  isplitl [Hz]; · iexact Hz
  isplitl [HO]; · iexists _; iexact HO
  have e : (item Y c 0 0 false : Fin 46 → sProp 𝕄) = fun j => iprop(pend₀ c j ∗ Y.ld j ((tr j).to c)) := by
    funext j
    unfold item
    rw [if_neg (Nat.not_lt_zero _), if_neg (fun h => Bool.false_ne_true h.2), if_neg (Nat.not_lt_zero _)]
    rfl
  rw [e, bigSep_sep']
  isplitl [Hp]; · iexact Hp
  iexact Hld

/-- At the end everything is counted and nothing is owed. -/
theorem gs_end : gs Y c K 46 46 false ⊢ iprop((∃ W, owes (c : Thread nD τ) 0 W) ∗ semVal (barC c) 0
    ∗ bigSep Finset.univ fun j : Fin 46 => iprop(semVal (sndC j c) 0 ∗ semVal (rcvC j c) 0)) := by
  unfold gs
  rw [Ow_end]
  have e : (item Y c 46 46 false : Fin 46 → sProp 𝕄) = fun j => iprop(semVal (sndC j c) 0 ∗ semVal (rcvC j c) 0) := by
    funext j
    unfold item
    rw [if_pos j.isLt]; rfl
  rw [e]
  iintro ⟨-, -, Hz, HO, HI⟩
  isplitl [HO]; · iexact HO
  isplitl [Hz]; · iexact Hz
  iexact HI

end Cert.KProof

end
-- ==== Proof.Contents.lean ====
module

public import proofs.«01_k».proof.Proof.Proto

/-!
# What the kernel computes, and what its transfers carry

`T c` and `W c` are the two inputs of device `c`.  `Fc i p c` is what `c` holds
of strip `i` when the reduction has passed `p` phases; `Yn c` is the product of
its finished rows; `Gs i` the finished strip `i` as it is passed round, and
`Gout c` the output of `c`.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F]

local notation "𝕄" => MT nD τ sig Unit (Elt F) ℕ UU ℕ

/-- The inputs of all devices, entry by entry. -/
structure Ins (F : FTy → Type) where
  T : Dev nD → ℕ → ℕ → Elt F .bf16
  W : Dev nD → ℕ → ℕ → Elt F .bf16

variable (X : Ins F)

/-- Strip `i` of device `c` after `p` phases of the reduction. -/
def Fc (i : ℕ) : ℕ → Dev nD → ℕ → ℕ → Elt F .bf16
  | 0, c, r, k => X.T c r (col i + k)
  | p + 1, c, r, k =>
    if cnt (ax i p) = 2 then FloatOps.addf (Fc i p c r k) (Fc i p (KProof.sh (ax i p) 1 c) r k)
    else FloatOps.addf (FloatOps.addf (FloatOps.addf (Fc i p c r k) (Fc i p (KProof.sh (ax i p) 1 c) r k)) (Fc i p (KProof.sh (ax i p) 2 c) r k))
      (Fc i p (KProof.sh (ax i p) 3 c) r k)

/-- The product of the finished rows of device `c`. -/
def Yv (c : Dev nD) : FVec F S64x1024 .f32 :=
  k0_pay26 (fun j => Fc X 0 3 c (row 0 2 0 c + (j 0).val) (j 1).val) (fun j => X.W c (j 0).val (j 1).val)
    (fun j => Fc X 1 3 (srcB c) (row 0 2 0 c + (j 0).val) (j 1).val) (fun j => X.W c (384 + (j 0).val) (j 1).val)
    (fun j => Fc X 2 3 (srcC c) (row 0 2 0 c + (j 0).val) (j 1).val) (fun j => X.W c (640 + (j 0).val) (j 1).val)

def Yn (c : Dev nD) (r n : ℕ) : F .f32 := Yv X c (ix2 ⟨r % 64, Nat.mod_lt _ (by decide)⟩ ⟨n % 1024, Nat.mod_lt _ (by decide)⟩)

/-- The device that finishes the `q`-th 64 rows. -/
def own (q : ℕ) : Dev nD := lid (q / 16) (q / 4 % 4) (q % 4)

/-- The finished strip `i`. -/
def Gs (i r k : ℕ) : Elt F .bf16 := FloatOps.truncf .bf16 bitsLt_bf16_f32 (Yn X (own (r / 64)) (r % 64) (col i + k))

/-- The finished strips 1 and 2 of the rows device `c` finishes. -/
def Zb (c : Dev nD) (r k : ℕ) : Elt F .bf16 := FloatOps.truncf .bf16 bitsLt_bf16_f32 (Yn X c r (384 + k))
def Zc (c : Dev nD) (r k : ℕ) : Elt F .bf16 := FloatOps.truncf .bf16 bitsLt_bf16_f32 (Yn X c r (640 + k))

/-- The output of device `c`. -/
def Gout (c : Dev nD) (r n : ℕ) : Elt F .f32 :=
  if n < 384 ∧ row 0 2 0 c ≤ r ∧ r < row 0 2 0 c + 64 then Yn X c (r - row 0 2 0 c) n
  else FloatOps.extf .f32 bitsLt_bf16_f32 (FloatOps.truncf .bf16 bitsLt_bf16_f32 (Yn X (own (r / 64)) (r % 64) n) : F .bf16)

/-- Rows of strip `i`'s accumulator. -/
def accR (i : ℕ) (c : Dev nD) (q : PosShare TreeShare) (lo n : ℕ) (G : ℕ → ℕ → Elt F .bf16) : sProp 𝕄 :=
  match i with
  | 0 => rows c a3 q lo n G
  | 1 => rows c a4 q lo n G
  | _ => rows c a5 q lo n G

/-- The place a transfer lands in, holding `G`. -/
def land (t : Tr) (c : Dev nD) (G : ℕ → ℕ → Elt F .bf16) : sProp 𝕄 :=
  match t with
  | .rs 0 0 _ => mat c a7 fullShare G
  | .rs 0 1 k => slot c a8 (3 - k) G
  | .rs 0 _ k => slot c a9 (3 - k) G
  | .rs 1 0 k => slot c a10 (3 - k) G
  | .rs 1 1 k => slot c a11 (3 - k) G
  | .rs 1 _ _ => mat c a12 fullShare G
  | .rs _ 0 k => slot c a13 (3 - k) G
  | .rs _ 1 _ => mat c a14 fullShare G
  | .rs _ _ k => slot c a15 (3 - k) G
  | .ag 0 2 k => slot c a16 (3 - k) G
  | .ag 0 1 k => slot c a17 (3 - k) G
  | .ag 0 _ _ => mat c a18 fullShare G
  | .ag 1 2 _ => mat c a19 fullShare G
  | .ag 1 1 k => slot c a20 (3 - k) G
  | .ag 1 _ k => slot c a21 (3 - k) G
  | .ag _ 2 k => slot c a22 (3 - k) G
  | .ag _ 1 _ => mat c a23 fullShare G
  | .ag _ _ k => slot c a24 (3 - k) G
  | .sh 0 => mat c a25 fullShare G
  | .sh 1 => mat c a26 fullShare G
  | .sh 2 => mat c a29 fullShare G
  | .sh _ => mat c a30 fullShare G

/-- The share of the finished rows a transfer reads. -/
def shr (a k : ℕ) : PosShare TreeShare :=
  if a = 0 then fullShare else if k = 1 then fullShare.left else if k = 2 then fullShare.right.left else fullShare.right.right

/-- What a transfer of `c` carries; -/
def sc (t : Tr) (c : Dev nD) : ℕ → ℕ → Elt F .bf16 :=
  match t with
  | .rs i p k => fun r l => Fc X i p c (row i p k c + r) l
  | .ag i p _ => fun r l => Gs X i (row i p 0 c + r) l
  | .sh 0 => fun r l => Fc X 1 3 c (row 1 2 0 c + r) l
  | .sh 1 => fun r l => Fc X 2 3 c (row 2 2 0 c + r) l
  | .sh 2 => Zb X c
  | .sh _ => Zc X c

/-- what one received by `c` brings; -/
def rc (t : Tr) (c : Dev nD) : ℕ → ℕ → Elt F .bf16 :=
  match t with
  | .rs i p k => fun r l => Fc X i p ((Tr.rs i p k).frm c) (row i p 0 c + r) l
  | .ag i p k => fun r l => Gs X i (row i p (cnt (ax i p) - k) c + r) l
  | .sh 0 => fun r l => Fc X 1 3 (srcB c) (row 0 2 0 c + r) l
  | .sh 1 => fun r l => Fc X 2 3 (srcC c) (row 0 2 0 c + r) l
  | .sh 2 => Zb X (dstB c)
  | .sh _ => Zc X (dstC c)

/-- and what the sender hands over. -/
def srcP (t : Tr) (c : Dev nD) : sProp 𝕄 :=
  match t with
  | .rs i p k => accR i c fullShare (row i p k c) (sz i p) (Fc X i p c)
  | .ag i p k => accR i c (shr (ax i p) k) (row i p 0 c) (sz i p) (Gs X i)
  | .sh 0 => rows c a4 fullShare (row 1 2 0 c) 64 (Fc X 1 3 c)
  | .sh 1 => rows c a5 fullShare (row 2 2 0 c) 64 (Fc X 2 3 c)
  | .sh 2 => mat c a27 fullShare (Zb X c)
  | .sh _ => mat c a28 fullShare (Zc X c)

section Store
variable {s : Shape} {e : EltTy} {c : Dev nD} {R C : ℕ}
instance seg_storable (b : Memref sig .tc .vmem s e) (q) (P : s.Idx → Prop) (g : s.Idx → Elt F e) :
    BI.Storable (upEmb : UEmb _ 𝕄) (seg c b q P g) := by unfold seg; infer_instance
instance rows_storable (b : Memref sig .tc .vmem ⟨2, ![R, C]⟩ e) (q) (lo n) (G : ℕ → ℕ → Elt F e) :
    BI.Storable (upEmb : UEmb _ 𝕄) (rows c b q lo n G) := by unfold rows; infer_instance
instance mat_storable (b : Memref sig .tc .vmem ⟨2, ![R, C]⟩ e) (q) (G : ℕ → ℕ → Elt F e) :
    BI.Storable (upEmb : UEmb _ 𝕄) (mat c b q G) := by unfold mat; infer_instance
instance slot_storable {K : ℕ} (b : Memref sig .tc .vmem ⟨3, ![K, R, C]⟩ e) (n : ℕ) (G : ℕ → ℕ → Elt F e) :
    BI.Storable (upEmb : UEmb _ 𝕄) (slot c b n G) := by unfold slot; infer_instance
instance land_storable (t : Tr) (G : ℕ → ℕ → Elt F .bf16) : BI.Storable (upEmb : UEmb _ 𝕄) (land t c G) := by
  unfold land; split <;> infer_instance
instance accR_storable (i q lo n) (G : ℕ → ℕ → Elt F .bf16) : BI.Storable (upEmb : UEmb _ 𝕄) (accR i c q lo n G) := by
  unfold accR; split <;> infer_instance
instance srcP_storable (t : Tr) : BI.Storable (upEmb : UEmb _ 𝕄) (srcP X t c) := by
  unfold srcP; split <;> infer_instance
end Store

/-- What the transfers carry. -/
abbrev pays : Pays F where
  sp j c := srcP X (tr j) c
  rp j c := land (tr j) c (rc X (tr j) c)
  ld j c := iprop(∃ G, land (tr j) c G)
  sps _ _ := inferInstance
  rps _ _ := inferInstance
  lds _ _ := inferInstance

/-- A landing place with known contents is a landing place. -/
theorem rp_ld (t : Tr) (c : Dev nD) (G : ℕ → ℕ → Elt F .bf16) : (land t c G : sProp 𝕄) ⊢ iprop(∃ G, land t c G) := by
  iintro H; iexists G; iexact H

/-! ## Where the rows go -/

/-- A device keeps the rows that its partner sends it. -/
theorem row_to : ∀ (i p k : Fin 4) (c : Dev nD), i.val < 3 → p.val < 3 → 1 ≤ k.val → k.val < cnt (ax i p) → row i p 0 (KProof.sh (ax i p) k c) = row i p k c := by decide +kernel
/-- The rows that come back from a partner are the ones sent to it. -/
theorem row_back : ∀ (i p k : Fin 4) (c : Dev nD), i.val < 3 → p.val < 3 → 1 ≤ k.val → k.val < cnt (ax i p) → row i p (cnt (ax i p) - k) (KProof.sh (ax i p) k c) = row i p 0 c := by decide +kernel
/-- Going the rest of the way round an axis returns to the device. -/
theorem sh_back : ∀ (i p k : Fin 4) (c : Dev nD), i.val < 3 → p.val < 3 → 1 ≤ k.val → k.val < cnt (ax i p) → KProof.sh (ax i p) (cnt (ax i p) - k) (KProof.sh (ax i p) k c) = c := by decide +kernel
/-- A device finishes the rows that start at its own first row. -/
theorem own_row : ∀ (c : Dev nD), own (row 0 2 0 c / 64) = c ∧ row 0 2 0 c % 64 = 0 := by decide +kernel

/-- The finisher of a row, and the place of the row among its 64. -/
theorem own_at (c : Dev nD) (r : ℕ) (h : r < 64) : own ((row 0 2 0 c + r) / 64) = c ∧ (row 0 2 0 c + r) % 64 = r := by
  obtain ⟨h1, h2⟩ := own_row c
  constructor
  · rw [show (row 0 2 0 c + r) / 64 = row 0 2 0 c / 64 by omega, h1]
  · omega

/-- A transfer in range. -/
def Tr.ok : Tr → Prop
  | .rs i p k => i < 3 ∧ p < 3 ∧ 1 ≤ k ∧ k < cnt (ax i p)
  | .ag i p k => i < 3 ∧ p < 3 ∧ 1 ≤ k ∧ k < cnt (ax i p)
  | .sh n => n < 4
instance : DecidablePred Tr.ok := fun t => by cases t <;> unfold Tr.ok <;> infer_instance
/-- Every transfer has a strip, a phase and a step in range. -/
theorem tr_ok : ∀ j : Fin 46, (tr j).ok := by decide +kernel

/-- No axis has more than four devices. -/
theorem cnt_le (a : ℕ) : cnt a ≤ 4 := by unfold cnt; split <;> omega

/-- What the receiver of a well-formed transfer gets is what its sender sends. -/
theorem rc_to_of (t : Tr) (ht : t.ok) (c : Dev nD) : rc X t (t.to c) = sc X t c := by
  match t, ht with
  | .rs i p k, ht =>
    obtain ⟨hi, hp, h1, h2⟩ := ht
    have h4 := cnt_le (ax i p)
    have e1 := row_to ⟨i, by omega⟩ ⟨p, by omega⟩ ⟨k, by omega⟩ c hi hp h1 h2
    have e2 := sh_back ⟨i, by omega⟩ ⟨p, by omega⟩ ⟨k, by omega⟩ c hi hp h1 h2
    funext r l
    show Fc X i p (KProof.sh (ax i p) (cnt (ax i p) - k) (KProof.sh (ax i p) k c)) (row i p 0 (KProof.sh (ax i p) k c) + r) l = Fc X i p c (row i p k c + r) l
    rw [e2, e1]
  | .ag i p k, ht =>
    obtain ⟨hi, hp, h1, h2⟩ := ht
    have h4 := cnt_le (ax i p)
    have e1 := row_back ⟨i, by omega⟩ ⟨p, by omega⟩ ⟨k, by omega⟩ c hi hp h1 h2
    funext r l
    show Gs X i (row i p (cnt (ax i p) - k) (KProof.sh (ax i p) k c) + r) l = Gs X i (row i p 0 c + r) l
    rw [e1]
  | .sh 0, _ =>
    funext r l
    show Fc X 1 3 (srcB (dstB c)) (row 0 2 0 (dstB c) + r) l = Fc X 1 3 c (row 1 2 0 c + r) l
    rw [srcB_dstB, row_dstB]
  | .sh 1, _ =>
    funext r l
    show Fc X 2 3 (srcC (dstC c)) (row 0 2 0 (dstC c) + r) l = Fc X 2 3 c (row 2 2 0 c + r) l
    rw [srcC_dstC, row_dstC]
  | .sh 2, _ =>
    show Zb X (dstB (srcB c)) = Zb X c
    rw [dstB_srcB]
  | .sh 3, _ =>
    show Zc X (dstC (srcC c)) = Zc X c
    rw [dstC_srcC]
  | .sh (n + 4), ht => exact absurd ht (by unfold Tr.ok; omega)

/-- What the receiver of a transfer gets is what its sender sends. -/
theorem rc_to (j : Fin 46) (c : Dev nD) : rc X (tr j) ((tr j).to c) = sc X (tr j) c := rc_to_of X _ (tr_ok j) c

/-! ## Starting a transfer, and waiting for it -/

variable (K : Dev nD × Cix → ℕ) {c : Dev nD} {α : Type}

/-- The device's part of the protocol, `n` transfers started, `m` waited for, `h` whether the next one's departure was. -/
abbrev pg (c : Dev nD) (n m : ℕ) (h : Bool) : sProp 𝕄 := gs (pays X) c K n m h

/-- What a transfer received brings. -/
abbrev RP (t : Tr) (c : Dev nD) : sProp 𝕄 := land t c (rc X t c)
/-- A landing place, at any contents. -/
abbrev LD (t : Tr) (c : Dev nD) : sProp 𝕄 := iprop(∃ G, land t c G)

/-- Where a transfer has landed there is a landing place. -/
theorem RP_LD (t : Tr) (c : Dev nD) : RP X t c ⊢ LD t c := rp_ld t c _

/-- A device that takes part starts its next transfer: it gives up the source and is one
  transfer further. -/
theorem send (j : Fin 46) (t : Tr) (ht : tr j = t) {m : ℕ} {h : Bool} {n : Dev nD} (hn : n = t.to c) (hon : t.on c = true) (hm : m < j.val ∨ (m = j.val ∧ h = false))
    {R C : ℕ} {src dst : Memref sig .tc .vmem ⟨2, ![R, C]⟩ .bf16} {sS rS : DmaSem sig} (hs : sS = ssem j) (hr : rS = rsem j)
    {hsc : (dst : Memref sig (Dev.tc n : Thread nD τ).2.kind .vmem _ .bf16).view.ref.isScScratch = false}
    {hsrc : src.view.WordExact} {hdst : (dst : Memref sig (Dev.tc n : Thread nD τ).2.kind .vmem _ .bf16).view.WordExact}
    {hsem : DmaTarget.Typed .vmem (.dma rS) (.remote (Dev.tc n : Thread nD τ) (dst : Memref sig (Dev.tc n : Thread nD τ).2.kind .vmem _ .bf16) (.dma sS) hsc)}
    {k : PUnit → Prog (TpuEff nD τ sig (Elt F) Λ₀ .tc) α} {Q : α → sProp 𝕄}
    (hamt : dst.view.dmaCredit = t.amt) (q : PosShare TreeShare)
    (hsp : srcP X t c = mat c src q (sc X t c)) (hd : ∀ (c : Dev nD) (G : ℕ → ℕ → Elt F .bf16), (land t c G : sProp 𝕄) = mat c dst fullShare G) :
    iprop(pg X K c j.val m h ∗ srcP X t c)
      ⊢ iprop((pg X K c (j.val + 1) m h -∗ WP c (k ⟨⟩) Q)
          -∗ WP c (.op (.enqueueDma src (.remote (Dev.tc n : Thread nD τ) (dst : Memref sig (Dev.tc n : Thread nD τ).2.kind .vmem _ .bf16) (.dma sS) hsc) (.dma rS) hsrc hdst hsem) k) Q) := by
  subst ht
  refine send_rule (Y := pays X) j hn hon hm hs hr q (fun x => sc X (tr j) c (x 0).val (x 1).val) hamt ?_ ?_ ?_
  · show srcP X (tr j) c ⊣⊢ _
    rw [hsp]
    exact ⟨bs_refl _, bs_refl _⟩
  · show iprop(∃ G, land (tr j) ((tr j).to c) G) ⊢ _
    iintro ⟨%G, H⟩
    iexists fun x => G (x 0).val (x 1).val
    iapply (show (land (tr j) ((tr j).to c) G : sProp 𝕄) ⊢ seg ((tr j).to c) dst fullShare (fun _ => True) (fun x => G (x 0).val (x 1).val) from Entails.of_eq (hd ((tr j).to c) G))
    iexact H
  · show _ ⊢ land (tr j) ((tr j).to c) (rc X (tr j) ((tr j).to c))
    rw [rc_to, hd]
    exact bs_refl _

/-- A device that takes no part passes a transfer over and keeps its landing place. -/
theorem skipSend (j : Fin 46) (t : Tr) (ht : tr j = t) {m : ℕ} {h : Bool} (hon : t.on c = false) (hm : m < j.val ∨ (m = j.val ∧ h = false)) :
    pg X K c j.val m h ⊢ iprop(pg X K c (j.val + 1) m h ∗ LD t c) := by
  subst ht; exact send_skip (Y := pays X) j hon hm

/-- A device waits for the departure of a transfer and has its source back. -/
theorem waitS (j : Fin 46) (t : Tr) (ht : tr j = t) (hon : t.on c = true) {n : ℕ} (hn : j.val < n) {s s' : Shape} {e e' : EltTy} {src : Memref sig .tc .vmem s' e'} {dst : Memref sig .tc .vmem s e} {sS : DmaSem sig}
    (hs : sS = ssem j) (hamt : dst.view.dmaCredit = t.amt) {hsrc : src.view.WordExact} {hdst : dst.view.WordExact}
    {k : PUnit → Prog (TpuEff nD τ sig (Elt F) Λ₀ .tc) α} {Q : α → sProp 𝕄} :
    pg X K c n j.val false
      ⊢ iprop(((pg X K c n j.val true ∗ srcP X t c) -∗ WP c (k ⟨⟩) Q) -∗ WP c (.op (.waitDma2 sS src dst hsrc hdst) k) Q) := by
  subst ht; exact wait_send (Y := pays X) j hon hn hs hamt

/-- A device waits for the arrival of a transfer and has what it carries. -/
theorem waitR (j : Fin 46) (t : Tr) (ht : tr j = t) (hon : t.on c = true) {n : ℕ} (hn : j.val < n) {s s' : Shape} {e e' : EltTy} {src : Memref sig .tc .vmem s' e'} {dst : Memref sig .tc .vmem s e} {rS : DmaSem sig}
    (hs : rS = rsem j) (hamt : dst.view.dmaCredit = t.amt) {hsrc : src.view.WordExact} {hdst : dst.view.WordExact}
    {k : PUnit → Prog (TpuEff nD τ sig (Elt F) Λ₀ .tc) α} {Q : α → sProp 𝕄} :
    pg X K c n j.val true
      ⊢ iprop(((pg X K c n (j.val + 1) false ∗ RP X t c) -∗ WP c (k ⟨⟩) Q) -∗ WP c (.op (.waitDma2 rS src dst hsrc hdst) k) Q) := by
  subst ht; exact wait_recv (Y := pays X) j hon hn hs hamt

/-- A device that takes no part passes over the two waits of a transfer. -/
theorem skipWait (j : Fin 46) (t : Tr) (ht : tr j = t) (hon : t.on c = false) {n : ℕ} (hn : j.val < n) {p : Prog (TpuEff nD τ sig (Elt F) Λ₀ .tc) α} {Q : α → sProp 𝕄} :
    pg X K c n j.val false ⊢ iprop((pg X K c n (j.val + 1) false -∗ WP c p Q) -∗ WP c p Q) := by
  subst ht; exact wait_skip (Y := pays X) j hon hn

/-! ## The output, leaf by leaf -/

/-- The pieces of the output in the order they are written. -/
def lf : Fin 24 → ℕ × ℕ × ℕ := ![(0, 2, 0), (1, 2, 0), (2, 2, 0), (0, 2, 1), (0, 2, 2), (0, 2, 3), (1, 2, 1), (2, 2, 1), (2, 2, 2), (2, 2, 3),
  (0, 1, 1), (0, 1, 2), (0, 1, 3), (1, 1, 1), (1, 1, 2), (1, 1, 3), (2, 1, 1), (0, 0, 1), (1, 0, 1), (1, 0, 2), (1, 0, 3), (2, 0, 1), (2, 0, 2), (2, 0, 3)]

/-- Entry `(r, n)` lies in the piece `l` of device `c`. -/
def inLf (l : Fin 24) (c : Dev nD) (r n : ℕ) : Prop :=
  row (lf l).1 (lf l).2.1 (lf l).2.2 c ≤ r ∧ r < row (lf l).1 (lf l).2.1 (lf l).2.2 c + sz (lf l).1 (lf l).2.1
    ∧ col (lf l).1 ≤ n ∧ n < col (lf l).1 + wd (lf l).1
instance : Decidable (inLf l c r n) := by unfold inLf; infer_instance

/-- The output with its first `N` pieces written. -/
def outSt (c : Dev nD) (N : ℕ) : sProp 𝕄 :=
  iprop(∃ g : ℕ → ℕ → Elt F .f32, ⌜∀ (l : Fin 24) (r n : ℕ), l.val < N → inLf l c r n → g r n = Gout X c r n⌝ ∗ mat c a2 fullShare g)

/-- A load from the output changes nothing. -/
theorem out_load {n' C' : ℕ} {off : Fin 2 → ℕ} {N : ℕ} {inb : ∀ a : Fin 2, (off : Fin 2 → ℕ) a + (![n', C'] : Fin 2 → ℕ) a ≤ (![2048, 1024] : Fin 2 → ℕ) a} {hl : a2.view.LoadsAt (Rect.unit (s := ⟨2, ![2048, 1024]⟩) off ![n', C'] inb).toLoadRect} {k : ((⟨2, ![n', C']⟩ : Shape).Idx → Elt F .f32) → Prog (TpuEff nD τ sig (Elt F) Λ₀ .tc) α} {Q : α → sProp 𝕄}
    {lo' co' : ℕ} (hoff : off = ![lo', co']) :
    outSt X c N ⊢ iprop((∀ v, outSt X c N -∗ WP c (k v) Q)
      -∗ WP c (.op (.load a2 (Rect.unit (s := ⟨2, ![2048, 1024]⟩) off ![n', C'] inb).toLoadRect hl) k) Q) := by
  unfold outSt
  iintro ⟨%g, %hg, H⟩ HK
  iapply (mat_load hoff) $$ H
  iintro H
  iapply HK
  iexists g
  isplitr
  · ipureintro; exact hg
  · iexact H

/-- The next store into the output writes the rows that it should. -/
theorem out_store (l : Fin 24) {off : Fin 2 → ℕ} {n C' : ℕ} {inb : ∀ a : Fin 2, (off : Fin 2 → ℕ) a + (![n, C'] : Fin 2 → ℕ) a ≤ (![2048, 1024] : Fin 2 → ℕ) a} {hx : (a2.access (Rect.unit (s := ⟨2, ![2048, 1024]⟩) off ![n, C'] inb)).Stores Finset.univ} {hm : (Finset.univ : Finset (Rect.unit (s := ⟨2, ![2048, 1024]⟩) off ![n, C'] inb).shape.Idx) = Finset.univ ∨ ∀ a, (Rect.unit (s := ⟨2, ![2048, 1024]⟩) off ![n, C'] inb).stride a = 1} {w : (⟨2, ![n, C']⟩ : Shape).Idx → Elt F .f32} {k : PUnit → Prog (TpuEff nD τ sig (Elt F) Λ₀ .tc) α} {Q : α → sProp 𝕄}
    {lo co : ℕ} (hoff : off = ![lo, co]) (hw : ∀ j, w j = Gout X c (lo + (j 0).val) (co + (j 1).val))
    (hl : lo = row (lf l).1 (lf l).2.1 (lf l).2.2 c ∧ n = sz (lf l).1 (lf l).2.1 ∧ co = col (lf l).1 ∧ C' = wd (lf l).1) :
    outSt X c l.val ⊢ iprop((outSt X c (l.val + 1) -∗ WP c (k ⟨⟩) Q)
      -∗ WP c (.op (.store a2 (Rect.unit (s := ⟨2, ![2048, 1024]⟩) off ![n, C'] inb) w Finset.univ hx hm) k) Q) := by
  unfold outSt
  iintro ⟨%g, %hg, H⟩ HK
  iapply (mat_store (G' := fun r k => if lo ≤ r ∧ r < lo + n ∧ co ≤ k ∧ k < co + C' then Gout X c r k else g r k) hoff (fun j => ?_) (fun r k h => if_neg h)) $$ H
  · have h0 : (j 0).val < n := (j 0).isLt
    have h1 : (j 1).val < C' := (j 1).isLt
    rw [if_pos ⟨by omega, by omega, by omega, by omega⟩]
    exact hw j
  iintro H
  iapply HK
  iexists (fun r k => if lo ≤ r ∧ r < lo + n ∧ co ≤ k ∧ k < co + C' then Gout X c r k else g r k)
  isplitr
  · ipureintro
    intro l' r k hl' hin
    obtain ⟨rfl, rfl, rfl, rfl⟩ := hl
    by_cases hc : l'.val = l.val
    · obtain rfl : l' = l := Fin.ext hc
      exact if_pos hin
    · show (if _ then _ else _) = _
      rw [hg l' r k (by omega) hin, ite_self]
  · iexact H

/-- All the pieces are the whole output. -/
theorem lf_cover : ∀ (c : Dev nD) (q : Fin 32) (i : Fin 3), ∃ l : Fin 24, (lf l).1 = i.val
    ∧ row (lf l).1 (lf l).2.1 (lf l).2.2 c ≤ 64 * q.val ∧ 64 * q.val + 64 ≤ row (lf l).1 (lf l).2.1 (lf l).2.2 c + sz (lf l).1 (lf l).2.1 := by decide +kernel

/-- After its 24 stores the output holds what it should everywhere. -/
theorem out_all : outSt X c 24 ⊢ mat c a2 fullShare (Gout X c) := by
  unfold outSt
  iintro ⟨%g, %hg, H⟩
  iapply (show (mat c a2 fullShare g : sProp 𝕄) ⊢ mat c a2 fullShare (Gout X c) from seg_congr (fun _ => Iff.rfl) fun x _ => ?_)
  · have h0 : (x 0).val < 2048 := (x 0).isLt
    have h1 : (x 1).val < 1024 := (x 1).isLt
    let i : Fin 3 := if (x 1).val < 384 then 0 else if (x 1).val < 640 then 1 else 2
    obtain ⟨l, e, h2, h3⟩ := lf_cover c ⟨(x 0).val / 64, by omega⟩ i
    refine hg l _ _ l.isLt ?_
    unfold inLf
    dsimp only at h2 h3
    have h4 : col i.val ≤ (x 1).val ∧ (x 1).val < col i.val + wd i.val := by
      dsimp only [i]
      by_cases ha : (x 1).val < 384
      · rw [if_pos ha]; exact ⟨Nat.zero_le _, ha⟩
      · rw [if_neg ha]
        by_cases hb : (x 1).val < 640
        · rw [if_pos hb]; show 384 ≤ _ ∧ _ < 384 + 256; omega
        · rw [if_neg hb]; show 640 ≤ _ ∧ _ < 640 + 384; omega
    rw [e] at h2 h3 ⊢
    exact ⟨by omega, by omega, h4.1, h4.2⟩
  iexact H

/-- The rows of the other stores do not meet the rows that a device finishes itself. -/
theorem leaf_apart : ∀ (i p k : Fin 4) (c : Dev nD), i.val < 3 → p.val < 3 → k.val < cnt (ax i p) → (p.val < 2 → 1 ≤ k.val) → (i.val = 0 → 1 ≤ k.val) → i.val = 0 →
    row i p k c + sz i p ≤ row 0 2 0 c ∨ row 0 2 0 c + 64 ≤ row i p k c := by decide +kernel

/-- Strips 1 and 2 lie right of strip 0. -/
theorem col_ge (i : ℕ) (h : i ≠ 0) : 384 ≤ col i := by
  unfold col
  split
  · exact absurd rfl h
  · exact le_rfl
  · decide

/-- The output away from the rows the device finishes itself is the finished strips. -/
theorem Gout_Gs (i p k : ℕ) (h : i < 3 ∧ p < 3 ∧ k < cnt (ax i p) ∧ (p < 2 → 1 ≤ k) ∧ (i = 0 → 1 ≤ k)) (r l : ℕ) (hr : r < sz i p) :
    Gout X c (row i p k c + r) (col i + l) = FloatOps.extf .f32 bitsLt_bf16_f32 (Gs X i (row i p k c + r) l : F .bf16) := by
  obtain ⟨hi, hp, hk, h1, h2⟩ := h
  unfold Gout Gs
  rw [if_neg]
  rintro ⟨h3, h4, h5⟩
  have h6 := cnt_le (ax i p)
  by_cases hi0 : i = 0
  · have := leaf_apart ⟨i, by omega⟩ ⟨p, by omega⟩ ⟨k, by omega⟩ c hi hp hk h1 h2 hi0
    dsimp only at this
    omega
  · have := col_ge i hi0
    omega

/-! ## The values stored -/

/-- A slot read as a matrix has the same contents. -/
theorem cast_slot' {R C : ℕ} {V : Type} (G : ℕ → ℕ → V) (h : (⟨3, ![1, R, C]⟩ : Shape).ShapeCasts ⟨2, ![R, C]⟩) :
    shapeCast ⟨2, ![R, C]⟩ (fun j : (⟨3, ![1, R, C]⟩ : Shape).Idx => G (j 1).val (j 2).val) h = fun j => G (j 0).val (j 1).val := by
  funext j
  exact cast_slot G (h := h.symm) j

/-- Rows may be named by equal numbers. -/
theorem rows_at {R C : ℕ} {e : EltTy} {q} {b : Memref sig .tc .vmem ⟨2, ![R, C]⟩ e} {lo lo' n n' : ℕ} {G : ℕ → ℕ → Elt F e} (h : lo = lo') (hn : n = n') :
    (rows c b q lo n G : sProp 𝕄) ⊢ rows c b q lo' n' G := by subst h hn; exact bs_refl _

end Cert.KProof

end
-- ==== Proof.Steps.lean ====
module

public import proofs.«01_k».proof.Proof.Contents
public import proofs.«01_k».proof.Proof.Args

/-!
# The steps of the body

The rules of the transfers, with what is checked of each of them in one place.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- A program that has returned meets what holds of its result. -/
theorem ret_ok {α : Type} {K : α → sProp 𝕄} {a : α} : K a ⊢ WP c (Prog.ret a : Prog (TpuEff nD τ sig (Elt F) Λ₀ .tc) α) K := by
  show (_ : sProp 𝕄) ⊢ wp _ _ _ _ _; rw [wp_ret]; exact fupd_intro

variable {α : Type} {c}

/-- The send of transfer `i`. -/
theorem sendT (i : ℕ) (t : Tr) (hi : i < 46 := by decide) {K : α → sProp 𝕄} {m : ℕ} {h : Bool} {n : Dev nD}
    {R C : ℕ} {src dst : Memref sig .tc .vmem ⟨2, ![R, C]⟩ .bf16} {sS rS : DmaSem sig}
    {hsc : (dst : Memref sig (Dev.tc n : Thread nD τ).2.kind .vmem _ .bf16).view.ref.isScScratch = false}
    {hsrc : src.view.WordExact} {hdst : (dst : Memref sig (Dev.tc n : Thread nD τ).2.kind .vmem _ .bf16).view.WordExact}
    {hsem : DmaTarget.Typed .vmem (.dma rS) (.remote (Dev.tc n : Thread nD τ) (dst : Memref sig (Dev.tc n : Thread nD τ).2.kind .vmem _ .bf16) (.dma sS) hsc)}
    {k : PUnit → Prog (TpuEff nD τ sig (Elt F) Λ₀ .tc) α} (q : PosShare TreeShare)
    (hside : tr ⟨i, hi⟩ = t ∧ t.on c = true ∧ (m < i ∨ (m = i ∧ h = false)) ∧ sS = ssem ⟨i, hi⟩ ∧ rS = rsem ⟨i, hi⟩ ∧ dst.view.dmaCredit = t.amt ∧ n = t.to c
      ∧ srcP X t c = mat c src q (sc X t c) ∧ ∀ (c : Dev nD) (G : ℕ → ℕ → Elt F .bf16), (land t c G : sProp 𝕄) = mat c dst fullShare G) :
    pg X Λ c i m h
      ⊢ iprop(srcP X t c -∗ (pg X Λ c (i + 1) m h -∗ WP c (k ⟨⟩) K)
          -∗ WP c (.op (.enqueueDma src (.remote (Dev.tc n : Thread nD τ) (dst : Memref sig (Dev.tc n : Thread nD τ).2.kind .vmem _ .bf16) (.dma sS) hsc) (.dma rS) hsrc hdst hsem) k) K) := by
  obtain ⟨ht, hon, hm, hs, hr, ha, hn, hsp, hd⟩ := hside
  iintro H Hs
  iapply (send X Λ ⟨i, hi⟩ t ht hn hon hm hs hr ha q hsp hd) $$ [H Hs]
  iframe

/-- Loading a slot that was received. -/
theorem slotL (t : Tr) {R C n : ℕ} {b : Memref sig .tc .vmem ⟨3, ![n, R, C]⟩ .bf16} {j : ℕ}
    {inb : ∀ a : Fin 3, (![j, 0, 0] : Fin 3 → ℕ) a + (![1, R, C] : Fin 3 → ℕ) a ≤ (![n, R, C] : Fin 3 → ℕ) a} {hl : b.view.LoadsAt (Rect.unit (s := ⟨3, ![n, R, C]⟩) ![j, 0, 0] ![1, R, C] inb).toLoadRect}
    {k : ((⟨3, ![1, R, C]⟩ : Shape).Idx → Elt F .bf16) → Prog (TpuEff nD τ sig (Elt F) Λ₀ .tc) α} {K : α → sProp 𝕄}
    (hside : ∀ G : ℕ → ℕ → Elt F .bf16, (land t c G : sProp 𝕄) = slot c b j G) :
    RP X t c ⊢ iprop((RP X t c -∗ WP c (k (fun j => rc X t c (j 1).val (j 2).val)) K)
      -∗ WP c (.op (.load b (Rect.unit (s := ⟨3, ![n, R, C]⟩) ![j, 0, 0] ![1, R, C] inb).toLoadRect hl) k) K) := by
  show (land t c (rc X t c) : sProp 𝕄) ⊢ iprop((land t c (rc X t c) -∗ _) -∗ _)
  rw [hside]; exact slot_load

/-- Loading a matrix that was received. -/
theorem matL (t : Tr) {R C : ℕ} {b : Memref sig .tc .vmem ⟨2, ![R, C]⟩ .bf16}
    {inb : ∀ a : Fin 2, (![0, 0] : Fin 2 → ℕ) a + (![R, C] : Fin 2 → ℕ) a ≤ (![R, C] : Fin 2 → ℕ) a} {hl : b.view.LoadsAt (Rect.unit (s := ⟨2, ![R, C]⟩) ![0, 0] ![R, C] inb).toLoadRect}
    {k : ((⟨2, ![R, C]⟩ : Shape).Idx → Elt F .bf16) → Prog (TpuEff nD τ sig (Elt F) Λ₀ .tc) α} {K : α → sProp 𝕄}
    (hside : ∀ G : ℕ → ℕ → Elt F .bf16, (land t c G : sProp 𝕄) = mat c b fullShare G) :
    RP X t c ⊢ iprop((RP X t c -∗ WP c (k (fun j => rc X t c (j 0).val (j 1).val)) K)
      -∗ WP c (.op (.load b (Rect.unit (s := ⟨2, ![R, C]⟩) ![0, 0] ![R, C] inb).toLoadRect hl) k) K) := by
  have h : (fun j : (⟨2, ![R, C]⟩ : Shape).Idx => rc X t c (j 0).val (j 1).val) = fun j => rc X t c (0 + (j 0).val) (0 + (j 1).val) := by
    simp only [Nat.zero_add]
  show (land t c (rc X t c) : sProp 𝕄) ⊢ iprop((land t c (rc X t c) -∗ _) -∗ _)
  rw [hside, h]; exact mat_load rfl

/-- Storing a whole matrix. -/
theorem matS {R C : ℕ} {b : Memref sig .tc .vmem ⟨2, ![R, C]⟩ .bf16} {inb : ∀ a : Fin 2, (![0, 0] : Fin 2 → ℕ) a + (![R, C] : Fin 2 → ℕ) a ≤ (![R, C] : Fin 2 → ℕ) a}
    {w : (⟨2, ![R, C]⟩ : Shape).Idx → Elt F .bf16} {hx : (b.access (Rect.unit (s := ⟨2, ![R, C]⟩) ![0, 0] ![R, C] inb)).Stores Finset.univ}
    {hm : (Finset.univ : Finset (Rect.unit (s := ⟨2, ![R, C]⟩) ![0, 0] ![R, C] inb).shape.Idx) = Finset.univ ∨ ∀ a, (Rect.unit (s := ⟨2, ![R, C]⟩) ![0, 0] ![R, C] inb).stride a = 1}
    {k : PUnit → Prog (TpuEff nD τ sig (Elt F) Λ₀ .tc) α} {K : α → sProp 𝕄} {G G' : ℕ → ℕ → Elt F .bf16} (hw : ∀ j, w j = G' (j 0).val (j 1).val) :
    (mat c b fullShare G : sProp 𝕄) ⊢ iprop((mat c b fullShare G' -∗ WP c (k ⟨⟩) K)
      -∗ WP c (.op (.store b (Rect.unit (s := ⟨2, ![R, C]⟩) ![0, 0] ![R, C] inb) w Finset.univ hx hm) k) K) := by
  iintro H HK
  ihave H := mat_rows.1 $$ H
  iapply (rows_store (G' := G') rfl fun j => ?_) $$ H
  · rw [hw, Nat.zero_add]
  iintro H
  iapply HK
  iapply mat_rows.2 $$ H

/-- A choice between a program and going on at once, after which `M` holds. -/
theorem cutD {b : Prop} [Decidable b] {K : α → sProp 𝕄} (A M : sProp 𝕄) {R : Prog (TpuEff nD τ sig (Elt F) Λ₀ .tc) α} {p : b → Prog (TpuEff nD τ sig (Elt F) Λ₀ .tc) α}
    (h1 : ∀ h, A ⊢ iprop((M -∗ WP c R K) -∗ WP c (p h) K)) (h2 : ¬ b → A ⊢ iprop((M -∗ WP c R K) -∗ WP c R K)) :
    A ⊢ iprop((M -∗ WP c R K) -∗ WP c (if h : b then p h else R) K) := by
  by_cases h : b
  · rw [dif_pos h]; exact h1 h
  · rw [dif_neg h]; exact h2 h

/-- What is left where a transfer is not made. -/
abbrev offp (t : Tr) (c : Dev nD) (P : sProp 𝕄) : sProp 𝕄 := if t.on c = true then iprop(emp) else P

/-- The printed condition of strip 1's exchange says whether the device takes part in
  it. -/
theorem shB {x : BitVec 1} (hx : x = if dstB c = c then 0#1 else 1#1) :
    (x = 1#1 → (Tr.sh 0).on c = true ∧ (Tr.sh 2).on c = true) ∧ (x ≠ 1#1 → ((Tr.sh 0).on c = false ∧ (Tr.sh 2).on c = false) ∧ dstB c = c) := by
  subst hx
  by_cases h : dstB c = c <;> simp [Tr.on, h]

/-- The printed condition of strip 2's exchange says whether the device takes part in
  it. -/
theorem shC {x : BitVec 1} (hx : x = if dstC c = c then 0#1 else 1#1) :
    (x = 1#1 → (Tr.sh 1).on c = true ∧ (Tr.sh 3).on c = true) ∧ (x ≠ 1#1 → ((Tr.sh 1).on c = false ∧ (Tr.sh 3).on c = false) ∧ dstC c = c) := by
  subst hx
  by_cases h : dstC c = c <;> simp [Tr.on, h]

/-- So does its negation, for strip 1. -/
theorem shB' {x : BitVec 1} (hx : x = if dstB c = c then 1#1 else 0#1) :
    (x ≠ 1#1 → (Tr.sh 0).on c = true ∧ (Tr.sh 2).on c = true) ∧ (x = 1#1 → ((Tr.sh 0).on c = false ∧ (Tr.sh 2).on c = false) ∧ dstB c = c) := by
  subst hx
  by_cases h : dstB c = c <;> simp [Tr.on, h]

/-- So does its negation, for strip 2. -/
theorem shC' {x : BitVec 1} (hx : x = if dstC c = c then 1#1 else 0#1) :
    (x ≠ 1#1 → (Tr.sh 1).on c = true ∧ (Tr.sh 3).on c = true) ∧ (x = 1#1 → ((Tr.sh 1).on c = false ∧ (Tr.sh 3).on c = false) ∧ dstC c = c) := by
  subst hx
  by_cases h : dstC c = c <;> simp [Tr.on, h]

/-- The tests the kernel makes of a bit and of its opposite. -/
theorem bit_ne : ∀ x : BitVec 1, Scalar.cmpi .ne (Scalar.extui x : BitVec 32) 0#32 = x := by decide
/-- The printed negation of a condition. -/
theorem bit_not {P : Prop} [Decidable P] {x : BitVec 1} (hx : x = if P then 0#1 else 1#1) :
    Scalar.cmpi .ne (Scalar.extui (Scalar.xori x 1#1) : BitVec 32) 0#32 = if P then 1#1 else 0#1 := by
  subst hx
  by_cases h : P
  · simp only [h, if_true]; decide
  · simp only [h, if_false]; decide

/-- Storing a piece of the output. -/
theorem outT (l : ℕ) (i p k : ℕ) (hl : l < 24 := by decide) {off : Fin 2 → ℕ} {n C' : ℕ} {inb : ∀ a : Fin 2, (off : Fin 2 → ℕ) a + (![n, C'] : Fin 2 → ℕ) a ≤ (![2048, 1024] : Fin 2 → ℕ) a}
    {w : (⟨2, ![n, C']⟩ : Shape).Idx → Elt F .f32} {hx : (a2.access (Rect.unit (s := ⟨2, ![2048, 1024]⟩) off ![n, C'] inb)).Stores Finset.univ}
    {hm : (Finset.univ : Finset (Rect.unit (s := ⟨2, ![2048, 1024]⟩) off ![n, C'] inb).shape.Idx) = Finset.univ ∨ ∀ a, (Rect.unit (s := ⟨2, ![2048, 1024]⟩) off ![n, C'] inb).stride a = 1}
    {kk : PUnit → Prog (TpuEff nD τ sig (Elt F) Λ₀ .tc) α} {K : α → sProp 𝕄}
    (hs : off = ![row i p k c, col i] ∧ n = sz i p ∧ C' = wd i ∧ lf ⟨l, hl⟩ = (i, p, k) ∧ (i < 3 ∧ p < 3 ∧ k < cnt (ax i p) ∧ (p < 2 → 1 ≤ k) ∧ (i = 0 → 1 ≤ k)))
    (hw : ∀ j, w j = FloatOps.extf .f32 bitsLt_bf16_f32 (Gs X i (row i p k c + (j 0).val) (j 1).val : F .bf16)) :
    outSt X c l ⊢ iprop((outSt X c (l + 1) -∗ WP c (kk ⟨⟩) K)
      -∗ WP c (.op (.store a2 (Rect.unit (s := ⟨2, ![2048, 1024]⟩) off ![n, C'] inb) w Finset.univ hx hm) kk) K) := by
  obtain ⟨ho, hn, hC, he, hk⟩ := hs
  refine out_store X ⟨l, hl⟩ ho (fun j => ?_) ?_
  · rw [hw, Gout_Gs X i p k hk _ _ (by have : (j 0).val < n := (j 0).isLt; omega)]
  · rw [he]; exact ⟨rfl, hn, rfl, hC⟩

/-- The finished rows of strip 1 come from the device whose strip-0 rows they are. -/
theorem Gs_B (c : Dev nD) (r k : ℕ) (h : r < 64) : Gs X 1 (row 1 2 0 c + r) k = Zb X (dstB c) r k := by
  rw [← row_dstB]; unfold Gs Zb; rw [(own_at _ r h).1, (own_at _ r h).2]; rfl

/-- The finished rows of strip 2 come from the device whose strip-0 rows they are. -/
theorem Gs_C (c : Dev nD) (r k : ℕ) (h : r < 64) : Gs X 2 (row 2 2 0 c + r) k = Zc X (dstC c) r k := by
  rw [← row_dstC]; unfold Gs Zc; rw [(own_at _ r h).1, (own_at _ r h).2]; rfl

/-- The finished rows of strip 0 are the device's own product. -/
theorem Gs_A (c : Dev nD) (r k : ℕ) (h : r < 64) : Gs X 0 (row 0 2 0 c + r) k = FloatOps.truncf .bf16 bitsLt_bf16_f32 (Yn X c r k) := by
  unfold Gs; rw [(own_at _ r h).1, (own_at _ r h).2]; show FloatOps.truncf .bf16 bitsLt_bf16_f32 (Yn X c r (0 + k)) = _; rw [Nat.zero_add]

variable {s s' : Shape} {e e' : EltTy} {src : Memref sig .tc .vmem s' e'} {dst : Memref sig .tc .vmem s e} {sS : DmaSem sig}
  {hsrc : src.view.WordExact} {hdst : dst.view.WordExact} {k : PUnit → Prog (TpuEff nD τ sig (Elt F) Λ₀ .tc) α}

/-- The sender's wait of transfer `i`: what was sent comes back. -/
theorem waitST (i : ℕ) (t : Tr) (hi : i < 46 := by decide) {K : α → sProp 𝕄} {n : ℕ}
    (hside : tr ⟨i, hi⟩ = t ∧ t.on c = true ∧ i < n ∧ sS = ssem ⟨i, hi⟩ ∧ dst.view.dmaCredit = t.amt) :
    pg X Λ c n i false
      ⊢ iprop(((pg X Λ c n i true ∗ srcP X t c) -∗ WP c (k ⟨⟩) K) -∗ WP c (.op (.waitDma2 sS src dst hsrc hdst) k) K) := by
  obtain ⟨ht, hon, hn, hs, ha⟩ := hside
  exact waitS X Λ ⟨i, hi⟩ t ht hon hn hs ha

/-- The receiver's wait of transfer `i`: what was received arrives. -/
theorem waitRT (i : ℕ) (t : Tr) (hi : i < 46 := by decide) {K : α → sProp 𝕄} {n : ℕ}
    (hside : tr ⟨i, hi⟩ = t ∧ t.on c = true ∧ i < n ∧ sS = rsem ⟨i, hi⟩ ∧ dst.view.dmaCredit = t.amt) :
    pg X Λ c n i true
      ⊢ iprop(((pg X Λ c n (i + 1) false ∗ RP X t c) -∗ WP c (k ⟨⟩) K) -∗ WP c (.op (.waitDma2 sS src dst hsrc hdst) k) K) := by
  obtain ⟨ht, hon, hn, hs, ha⟩ := hside
  exact waitR X Λ ⟨i, hi⟩ t ht hon hn hs ha

/-- Both waits of transfer `i`. -/
theorem waitT (i : ℕ) (t : Tr) (hi : i < 46 := by decide) {K : α → sProp 𝕄} {n : ℕ} {s₂ s₃ : Shape} {e₂ e₃ : EltTy} {src₂ : Memref sig .tc .vmem s₃ e₃} {dst₂ : Memref sig .tc .vmem s₂ e₂}
    {rS : DmaSem sig} {hsrc₂ : src₂.view.WordExact} {hdst₂ : dst₂.view.WordExact}
    (hside : tr ⟨i, hi⟩ = t ∧ t.on c = true ∧ i < n ∧ (sS = ssem ⟨i, hi⟩ ∧ dst.view.dmaCredit = t.amt) ∧ rS = rsem ⟨i, hi⟩ ∧ dst₂.view.dmaCredit = t.amt) :
    pg X Λ c n i false
      ⊢ iprop(((pg X Λ c n (i + 1) false ∗ srcP X t c ∗ RP X t c) -∗ WP c (k ⟨⟩) K)
          -∗ WP c (.op (.waitDma2 sS src dst hsrc hdst) fun _ => .op (.waitDma2 rS src₂ dst₂ hsrc₂ hdst₂) k) K) := by
  obtain ⟨ht, hon, hn, ⟨hs, ha⟩, hr, ha₂⟩ := hside
  iintro H HK
  iapply (waitST X Λ i t hi (hside := ?_)) $$ H
  · exact ⟨ht, hon, hn, hs, ha⟩
  iintro ⟨H, Hs⟩
  iapply (waitRT X Λ i t hi (hside := ?_)) $$ H
  · exact ⟨ht, hon, hn, hr, ha₂⟩
  iintro ⟨H, Hr⟩
  iapply HK; iframe

/-- A transfer that is not made is not sent. -/
theorem skipST (i : ℕ) (t : Tr) (hi : i < 46 := by decide) {m : ℕ} {h : Bool} (hside : tr ⟨i, hi⟩ = t ∧ t.on c = false ∧ (m < i ∨ (m = i ∧ h = false))) :
    pg X Λ c i m h ⊢ iprop(pg X Λ c (i + 1) m h ∗ LD t c) := by
  obtain ⟨ht, hon, hm⟩ := hside
  exact skipSend X Λ ⟨i, hi⟩ t ht hon hm

/-- A transfer that is not made is not waited for. -/
theorem skipWT (i : ℕ) (t : Tr) (hi : i < 46 := by decide) {K : α → sProp 𝕄} {n : ℕ} {p : Prog (TpuEff nD τ sig (Elt F) Λ₀ .tc) α} (hside : tr ⟨i, hi⟩ = t ∧ t.on c = false ∧ i < n) :
    pg X Λ c n i false ⊢ iprop((pg X Λ c n (i + 1) false -∗ WP c p K) -∗ WP c p K) := by
  obtain ⟨ht, hon, hn⟩ := hside
  exact skipWait X Λ ⟨i, hi⟩ t ht hon hn

end Cert.KProof

end
-- ==== Proof.PartsA.lean ====
module

public import proofs.«01_k».proof.Proof.Steps

/-!
# The handshake

Each theorem states what one part of the body needs and what it leaves:
every device tells its partners that it is there, and waits until they all have told it.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- The handshake of a device, where `b` units have been dealt with. -/
abbrev pb (c : Dev nD) (b : ℕ) : sProp 𝕄 := gb (pays X) c Λ b

variable {c} in
/-- Asking for the device. -/
theorem devT {k : Dev nD → Prog (TpuEff nD τ sig (Elt F) Λ₀ .tc) α} {K : α → sProp 𝕄} :
    WP c (k c) K ⊢ WP c (.op .deviceId k) K := by
  show (_ : sProp 𝕄) ⊢ wp _ _ _ _ _
  rw [wp_deviceId]

variable {c} in
/-- The `b`-th unit is sent. -/
theorem sigT (b : ℕ) (hb : b < 11 := by decide) {n : Dev nD} {sem : Sem sig} {k' : ℤ}
    {k : PUnit → Prog (TpuEff nD τ sig (Elt F) Λ₀ .tc) α} {K : α → sProp 𝕄}
    (hside : bon ⟨b, hb⟩ c = true ∧ n = bto ⟨b, hb⟩ c ∧ sem = barS ∧ k' = (bamt ⟨b, hb⟩ c : ℤ)) :
    pb X Λ c b ⊢ iprop((pb X Λ c (b + 1) -∗ WP c (k ⟨⟩) K) -∗ WP c (.op (.semSignal (Dev.tc n : Thread nD τ) sem k') k) K) := by
  obtain ⟨h1, h2, h3, rfl⟩ := hside
  exact signal_rule ⟨b, hb⟩ h1 h2 h3 rfl

variable {c} in
/-- The `b`-th unit is not sent by itself. -/
theorem skpT (b : ℕ) (hb : b < 11 := by decide) (hside : bon ⟨b, hb⟩ c = false) : pb X Λ c b ⊢ pb X Λ c (b + 1) :=
  signal_skip ⟨b, hb⟩ hside

variable {c} in
/-- All units have come. -/
theorem barT {sem : Sem sig} {k' : ℤ} {k : PUnit → Prog (TpuEff nD τ sig (Elt F) Λ₀ .tc) α} {K : α → sProp 𝕄} (hside : sem = barS ∧ k' = ((11 : ℕ) : ℤ)) :
    pb X Λ c 11 ⊢ iprop((pg X Λ c 0 0 false -∗ WP c (k ⟨⟩) K) -∗ WP c (.op (.semWait sem k') k) K) := by
  obtain ⟨h, rfl⟩ := hside
  exact bar_wait h rfl

/-- Part 9 of the body gives the first unit of the handshake. -/
theorem part9 {v19 v38 v53 v298 v316 : _} (hb : v298 = SemArray.scalar (sig.barrier 0 rfl)) {K : _ → sProp 𝕄} :
    iprop(pb X Λ c 0) ⊢ iprop((∀ r, (pb X Λ c 1) -∗ K r) -∗ WP c (Ap (k0_part9 (F := F)) c v19 v38 v53 v298 v316) K) := by
  subst hb
  unfold Ap
  rw [k0_part9_eq_skeleton]
  unfold k0_part9_skel
  simp only [semSignalWord, semSignalHereWord, semWaitWord, Prog.lift, Prog.bind_op, Prog.bind_ret, Prog.pure_eq_ret]
  iintro H HK
  iapply (sigT X Λ 0 (hside := ?_)) $$ H
  · exact ⟨rfl, Fin.ext (dev1 c), rfl, rfl⟩
  iintro H
  iapply ret_ok; iapply HK; iframe

/-- Part 10 of the body gives the next two units of the handshake. -/
theorem part10 {v38 v53 v298 v346 v349 v350 v351 : _} (hb : v298 = SemArray.scalar (sig.barrier 0 rfl)) {K : _ → sProp 𝕄} :
    iprop(pb X Λ c 1) ⊢ iprop((∀ r, (pb X Λ c 3) -∗ K r) -∗ WP c (Ap (k0_part10 (F := F)) c v38 v53 v298 v346 v349 v350 v351) K) := by
  subst hb
  unfold Ap
  rw [k0_part10_eq_skeleton]
  unfold k0_part10_skel
  simp only [semSignalWord, semSignalHereWord, semWaitWord, Prog.lift, Prog.bind_op, Prog.bind_ret, Prog.pure_eq_ret]
  iintro H HK
  iapply (sigT X Λ 1 (hside := ?_)) $$ H
  · exact ⟨rfl, Fin.ext (dev2 c), rfl, rfl⟩
  iintro H
  iapply (sigT X Λ 2 (hside := ?_)) $$ H
  · exact ⟨rfl, Fin.ext (dev3 c), rfl, rfl⟩
  iintro H
  iapply ret_ok; iapply HK; iframe

/-- Part 12 of the body gives the next two units of the handshake. -/
theorem part12 {v38 v53 v298 v406 v417 v419 v420 v421 v422 : _} (hb : v298 = SemArray.scalar (sig.barrier 0 rfl)) {K : _ → sProp 𝕄} :
    iprop(pb X Λ c 3) ⊢ iprop((∀ r, (pb X Λ c 5) -∗ K r) -∗ WP c (Ap (k0_part12 (F := F)) c v38 v53 v298 v406 v417 v419 v420 v421 v422) K) := by
  subst hb
  unfold Ap
  rw [k0_part12_eq_skeleton]
  unfold k0_part12_skel
  simp only [semSignalWord, semSignalHereWord, semWaitWord, Prog.lift, Prog.bind_op, Prog.bind_ret, Prog.pure_eq_ret]
  iintro H HK
  iapply (sigT X Λ 3 (hside := ?_)) $$ H
  · exact ⟨rfl, Fin.ext (dev4 c), rfl, rfl⟩
  iintro H
  iapply (sigT X Λ 4 (hside := ?_)) $$ H
  · exact ⟨rfl, Fin.ext (dev5 c), rfl, rfl⟩
  iintro H
  iapply ret_ok; iapply HK; iframe

/-- Part 14 of the body gives the last units of the handshake, waits for its own, and
  copies the first chunk of strip 0. -/
theorem part14 {v53 v128 v203 v249 v295 v296 v297 v298 v466 v494 : _} (hb : v298 = SemArray.scalar (sig.barrier 0 rfl)) (hB : v296 = if dstB c = c then 0#1 else 1#1) (hC : v297 = if dstC c = c then 0#1 else 1#1) {G : ℕ → ℕ → Elt F .bf16} {K : _ → sProp 𝕄} :
    iprop(pb X Λ c 5 ∗ mat c a0 fullShare (X.T c) ∗ rows c a3 fullShare (row 0 0 1 c) 1024 G) ⊢ iprop((∀ r, (pg X Λ c 0 0 false ∗ mat c a0 fullShare (X.T c) ∗ rows c a3 fullShare (row 0 0 1 c) 1024 (Fc X 0 0 c)) -∗ K r) -∗ WP c (Ap (k0_part14 (F := F)) c v53 v128 v203 v249 v295 v296 v297 v298 v466 v494) K) := by
  subst hb
  unfold Ap
  rw [k0_part14_eq_skeleton]
  unfold k0_part14_skel
  simp only [semSignalWord, semSignalHereWord, semWaitWord, Prog.lift, Prog.bind_op, Prog.bind_ret, Prog.pure_eq_ret]
  iintro ⟨H, H0, H1⟩ HK
  iapply (sigT X Λ 5 (hside := ?_)) $$ H
  · exact ⟨rfl, Fin.ext (dev6 c), rfl, rfl⟩
  iintro H
  iapply (sigT X Λ 6 (hside := ?_)) $$ H
  · exact ⟨rfl, Fin.ext (dev7 c), rfl, rfl⟩
  iintro H
  iapply (cutD (pb X Λ c 7) (iprop(if dstB c = c then pb X Λ c 7 else pb X Λ c 9)) ?_ ?_) $$ H
  · intro h
    have hd : dstB c ≠ c := fun e => by rw [cond1 c, if_pos e] at h; exact absurd h (by decide)
    rw [if_neg hd]
    iintro H HK
    iapply (sigT X Λ 7 (hside := ?_)) $$ H
    · exact ⟨rfl, Fin.ext (dev8 c), rfl, by simp [bamt, hd] <;> rfl⟩
    iintro H
    iapply (sigT X Λ 8 (hside := ?_)) $$ H
    · exact ⟨by simp [bon, hd], Fin.ext (dev9 c), rfl, by simp [bamt] <;> rfl⟩
    iintro H
    iapply HK; iexact H
  · intro h
    have hd : dstB c = c := by
      by_contra e
      exact h (by rw [cond1 c, if_neg e])
    rw [if_pos hd]
    iintro H HK
    iapply HK; iexact H
  iintro H
  iapply (cutD (iprop(if dstB c = c then pb X Λ c 7 else pb X Λ c 9)) (pb X Λ c 9) ?_ ?_) $$ H
  · intro h
    have hd : dstB c = c := (shB' (bit_not hB)).2 h |>.2
    rw [if_pos hd]
    iintro H HK
    iapply devT
    iapply (sigT X Λ 7 (n := c) (hside := ?_)) $$ H
    · exact ⟨rfl, show c = srcB c from ((srcB_eq_iff c).2 hd).symm, rfl, by simp [bamt, hd] <;> rfl⟩
    iintro H
    ihave H := (skpT X Λ 8 (hside := by simp [bon, hd])) $$ H
    iapply HK; iexact H
  · intro h
    have hd : dstB c ≠ c := fun e => h (by rw [bit_not hB, if_pos e])
    rw [if_neg hd]
    iintro H HK
    iapply HK; iexact H
  iintro H
  iapply (cutD (pb X Λ c 9) (iprop(if dstC c = c then pb X Λ c 9 else pb X Λ c 11)) ?_ ?_) $$ H
  · intro h
    have hd : dstC c ≠ c := fun e => by rw [cond3 c, if_pos e] at h; exact absurd h (by decide)
    rw [if_neg hd]
    iintro H HK
    iapply (sigT X Λ 9 (hside := ?_)) $$ H
    · exact ⟨rfl, Fin.ext (dev10 c), rfl, by simp [bamt, hd] <;> rfl⟩
    iintro H
    iapply (sigT X Λ 10 (hside := ?_)) $$ H
    · exact ⟨by simp [bon, hd], Fin.ext (dev11 c), rfl, by simp [bamt] <;> rfl⟩
    iintro H
    iapply HK; iexact H
  · intro h
    have hd : dstC c = c := by
      by_contra e
      exact h (by rw [cond3 c, if_neg e])
    rw [if_pos hd]
    iintro H HK
    iapply HK; iexact H
  iintro H
  iapply (cutD (iprop(if dstC c = c then pb X Λ c 9 else pb X Λ c 11)) (pb X Λ c 11) ?_ ?_) $$ H
  · intro h
    have hd : dstC c = c := (shC' (bit_not hC)).2 h |>.2
    rw [if_pos hd]
    iintro H HK
    iapply devT
    iapply (sigT X Λ 9 (n := c) (hside := ?_)) $$ H
    · exact ⟨rfl, show c = srcC c from ((srcC_eq_iff c).2 hd).symm, rfl, by simp [bamt, hd] <;> rfl⟩
    iintro H
    ihave H := (skpT X Λ 10 (hside := by simp [bon, hd])) $$ H
    iapply HK; iexact H
  · intro h
    have hd : dstC c ≠ c := fun e => h (by rw [bit_not hC, if_pos e])
    rw [if_neg hd]
    iintro H HK
    iapply HK; iexact H
  iintro H
  iapply (barT X Λ (hside := ?_)) $$ H
  · exact ⟨rfl, rfl⟩
  iintro H
  iapply (mat_load (off1 c)) $$ H0; iintro H0
  iapply (rows_load (off2 c) ⟨le_rfl, le_rfl⟩) $$ H1; iintro H1
  iapply (rows_store (off2 c) (G' := Fc X 0 0 c) fun j => ?_) $$ H1
  · simp only [k0_pay1, shapeCast_self, cast_slot'] <;> rfl
  iintro H1
  iapply ret_ok; iapply HK; iframe

end Cert.KProof

end
-- ==== Proof.PartsB.lean ====
module

public import proofs.«01_k».proof.Proof.Steps

/-!
# The first half of the reduction

Each theorem states what one part of the body needs and what it leaves:
the sends of the first two phases, and the sums of the first.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- Part 15 of the body starts strip 0's transfer 1 of reduction phase 0. -/
theorem part15 {v19 v38 v53 v522 c2 c0 : _} {K : _ → sProp 𝕄} :
    iprop(pg X Λ c 0 0 false ∗ srcP X (.rs 0 0 1) c)
      ⊢ iprop((∀ r, pg X Λ c 1 0 false -∗ K r) -∗ WP c (Ap (k0_part15 (F := F)) c v19 v38 v53 v522 c2 c0) K) := by
  unfold Ap
  rw [k0_part15_eq_skeleton]
  unfold k0_part15_skel
  simp only [Prog.lift, Prog.bind_op, Prog.bind_ret, Prog.pure_eq_ret]
  iintro ⟨H, Hs0⟩ HK
  iapply (sendT X Λ 0 (.rs 0 0 1) (q := fullShare) (hside := ?_)) $$ H Hs0
  · exact ⟨rfl, rfl, by decide, rfl, rfl, rfl, Fin.ext (dev12 c), rows_slice (off3 c), fun _ _ => rfl⟩
  iintro H
  iapply ret_ok; iapply HK; iframe

/-- Part 16 of the body writes the copied rows of strip 1. -/
theorem part16 {v38 v559 : _} {G₁ G₂ : ℕ → ℕ → Elt F .bf16} {K : _ → sProp 𝕄} :
    iprop(mat c a0 fullShare (X.T c) ∗ rows c a4 fullShare (row 1 0 1 c) 512 G₁ ∗ rows c a4 fullShare (row 1 0 2 c) 512 G₂)
      ⊢ iprop((∀ r, (mat c a0 fullShare (X.T c) ∗ rows c a4 fullShare (row 1 0 1 c) 512 (Fc X 1 0 c) ∗ rows c a4 fullShare (row 1 0 2 c) 512 (Fc X 1 0 c)) -∗ K r) -∗ WP c (Ap (k0_part16 (F := F)) c v38 v559) K) := by
  unfold Ap
  rw [k0_part16_eq_skeleton]
  unfold k0_part16_skel
  simp only [Prog.lift, Prog.bind_op, Prog.bind_ret, Prog.pure_eq_ret]
  iintro ⟨H0, H1, H2⟩ HK
  iapply (mat_load (off4 c 0)) $$ H0; iintro H0
  iapply (rows_load (off5 c 0) ⟨le_rfl, le_rfl⟩) $$ H1; iintro H1
  iapply (rows_store (off5 c 0) (G' := Fc X 1 0 c) fun j => ?_) $$ H1
  · simp only [k0_pay2, shapeCast_self, cast_slot', Nat.zero_add] <;> rfl
  iintro H1
  iapply (mat_load (off4 c 1)) $$ H0; iintro H0
  iapply (rows_load (off5 c 1) ⟨le_rfl, le_rfl⟩) $$ H2; iintro H2
  iapply (rows_store (off5 c 1) (G' := Fc X 1 0 c) fun j => ?_) $$ H2
  · simp only [k0_pay3, shapeCast_self, cast_slot', Nat.zero_add] <;> rfl
  iintro H2
  iapply ret_ok; iapply HK; iframe

/-- Part 17 of the body writes the copied rows of strip 1. -/
theorem part17 {v38 v591 v592 v593 v594 v595 : _} {G₁ : ℕ → ℕ → Elt F .bf16} {K : _ → sProp 𝕄} :
    iprop(mat c a0 fullShare (X.T c) ∗ rows c a4 fullShare (row 1 0 3 c) 512 G₁)
      ⊢ iprop((∀ r, (mat c a0 fullShare (X.T c) ∗ rows c a4 fullShare (row 1 0 3 c) 512 (Fc X 1 0 c)) -∗ K r) -∗ WP c (Ap (k0_part17 (F := F)) c v38 v591 v592 v593 v594 v595) K) := by
  unfold Ap
  rw [k0_part17_eq_skeleton]
  unfold k0_part17_skel
  simp only [Prog.lift, Prog.bind_op, Prog.bind_ret, Prog.pure_eq_ret]
  iintro ⟨H0, H1⟩ HK
  iapply (mat_load (off4 c 2)) $$ H0; iintro H0
  iapply (rows_load (off5 c 2) ⟨le_rfl, le_rfl⟩) $$ H1; iintro H1
  iapply (rows_store (off5 c 2) (G' := Fc X 1 0 c) fun j => ?_) $$ H1
  · simp only [k0_pay4, shapeCast_self, cast_slot', Nat.zero_add] <;> rfl
  iintro H1
  iapply ret_ok; iapply HK; iframe

/-- Part 18 of the body starts strip 1's transfer 1 of reduction phase 0. -/
theorem part18 {v19 v38 v53 v620 v633 : _} {K : _ → sProp 𝕄} :
    iprop(pg X Λ c 1 0 false ∗ srcP X (.rs 1 0 1) c)
      ⊢ iprop((∀ r, pg X Λ c 2 0 false -∗ K r) -∗ WP c (Ap (k0_part18 (F := F)) c v19 v38 v53 v620 v633) K) := by
  unfold Ap
  rw [k0_part18_eq_skeleton]
  unfold k0_part18_skel
  simp only [Prog.lift, Prog.bind_op, Prog.bind_ret, Prog.pure_eq_ret]
  iintro ⟨H, Hs1⟩ HK
  iapply (sendT X Λ 1 (.rs 1 0 1) (q := fullShare) (hside := ?_)) $$ H Hs1
  · exact ⟨rfl, rfl, by decide, rfl, rfl, rfl, Fin.ext (dev13 c), rows_slice (off6 c 0), fun _ _ => slot_squeeze⟩
  iintro H
  iapply ret_ok; iapply HK; iframe

/-- Part 19 of the body starts strip 1's transfer 2 of reduction phase 0. -/
theorem part19 {v19 v38 v53 v659 v663 v664 v665 v666 c0 : _} {K : _ → sProp 𝕄} :
    iprop(pg X Λ c 2 0 false ∗ srcP X (.rs 1 0 2) c)
      ⊢ iprop((∀ r, pg X Λ c 3 0 false -∗ K r) -∗ WP c (Ap (k0_part19 (F := F)) c v19 v38 v53 v659 v663 v664 v665 v666 c0) K) := by
  unfold Ap
  rw [k0_part19_eq_skeleton]
  unfold k0_part19_skel
  simp only [Prog.lift, Prog.bind_op, Prog.bind_ret, Prog.pure_eq_ret]
  iintro ⟨H, Hs2⟩ HK
  iapply (sendT X Λ 2 (.rs 1 0 2) (q := fullShare) (hside := ?_)) $$ H Hs2
  · exact ⟨rfl, rfl, by decide, rfl, rfl, rfl, Fin.ext (dev14 c), rows_slice (off6 c 1), fun _ _ => slot_squeeze⟩
  iintro H
  iapply ret_ok; iapply HK; iframe

/-- Part 20 of the body starts strip 1's transfer 3 of reduction phase 0. -/
theorem part20 {v19 v38 v53 v698 c2 v701 c1 : _} {K : _ → sProp 𝕄} :
    iprop(pg X Λ c 3 0 false ∗ srcP X (.rs 1 0 3) c)
      ⊢ iprop((∀ r, pg X Λ c 4 0 false -∗ K r) -∗ WP c (Ap (k0_part20 (F := F)) c v19 v38 v53 v698 c2 v701 c1) K) := by
  unfold Ap
  rw [k0_part20_eq_skeleton]
  unfold k0_part20_skel
  simp only [Prog.lift, Prog.bind_op, Prog.bind_ret, Prog.pure_eq_ret]
  iintro ⟨H, Hs3⟩ HK
  iapply (sendT X Λ 3 (.rs 1 0 3) (q := fullShare) (hside := ?_)) $$ H Hs3
  · exact ⟨rfl, rfl, by decide, rfl, rfl, rfl, Fin.ext (dev15 c), rows_slice (off6 c 2), fun _ _ => slot_squeeze⟩
  iintro H
  iapply ret_ok; iapply HK; iframe

/-- Part 21 of the body writes the copied rows of strip 2. -/
theorem part21 {v19 v731 v732 v733 v736 : _} {G₁ G₂ : ℕ → ℕ → Elt F .bf16} {K : _ → sProp 𝕄} :
    iprop(mat c a0 fullShare (X.T c) ∗ rows c a5 fullShare (row 2 0 1 c) 512 G₁ ∗ rows c a5 fullShare (row 2 0 2 c) 512 G₂)
      ⊢ iprop((∀ r, (mat c a0 fullShare (X.T c) ∗ rows c a5 fullShare (row 2 0 1 c) 512 (Fc X 2 0 c) ∗ rows c a5 fullShare (row 2 0 2 c) 512 (Fc X 2 0 c)) -∗ K r) -∗ WP c (Ap (k0_part21 (F := F)) c v19 v731 v732 v733 v736) K) := by
  unfold Ap
  rw [k0_part21_eq_skeleton]
  unfold k0_part21_skel
  simp only [Prog.lift, Prog.bind_op, Prog.bind_ret, Prog.pure_eq_ret]
  iintro ⟨H0, H1, H2⟩ HK
  iapply (mat_load (off7 c 0)) $$ H0; iintro H0
  iapply (rows_load (off8 c 0) ⟨le_rfl, le_rfl⟩) $$ H1; iintro H1
  iapply (rows_store (off8 c 0) (G' := Fc X 2 0 c) fun j => ?_) $$ H1
  · simp only [k0_pay5, shapeCast_self, cast_slot', Nat.zero_add] <;> rfl
  iintro H1
  iapply (mat_load (off7 c 1)) $$ H0; iintro H0
  iapply (rows_load (off8 c 1) ⟨le_rfl, le_rfl⟩) $$ H2; iintro H2
  iapply (rows_store (off8 c 1) (G' := Fc X 2 0 c) fun j => ?_) $$ H2
  · simp only [k0_pay6, shapeCast_self, cast_slot', Nat.zero_add] <;> rfl
  iintro H2
  iapply ret_ok; iapply HK; iframe

/-- Part 22 of the body writes the copied rows of strip 2. -/
theorem part22 {v19 v38 v771 v772 v773 c0 : _} {G₁ : ℕ → ℕ → Elt F .bf16} {K : _ → sProp 𝕄} :
    iprop(mat c a0 fullShare (X.T c) ∗ rows c a5 fullShare (row 2 0 3 c) 512 G₁)
      ⊢ iprop((∀ r, (mat c a0 fullShare (X.T c) ∗ rows c a5 fullShare (row 2 0 3 c) 512 (Fc X 2 0 c)) -∗ K r) -∗ WP c (Ap (k0_part22 (F := F)) c v19 v38 v771 v772 v773 c0) K) := by
  unfold Ap
  rw [k0_part22_eq_skeleton]
  unfold k0_part22_skel
  simp only [Prog.lift, Prog.bind_op, Prog.bind_ret, Prog.pure_eq_ret]
  iintro ⟨H0, H1⟩ HK
  iapply (mat_load (off7 c 2)) $$ H0; iintro H0
  iapply (rows_load (off8 c 2) ⟨le_rfl, le_rfl⟩) $$ H1; iintro H1
  iapply (rows_store (off8 c 2) (G' := Fc X 2 0 c) fun j => ?_) $$ H1
  · simp only [k0_pay7, shapeCast_self, cast_slot', Nat.zero_add] <;> rfl
  iintro H1
  iapply ret_ok; iapply HK; iframe

/-- Part 23 of the body starts strip 2's transfer 1 of reduction phase 0. -/
theorem part23 {v19 v38 v53 v800 v805 v810 v811 : _} {K : _ → sProp 𝕄} :
    iprop(pg X Λ c 4 0 false ∗ srcP X (.rs 2 0 1) c)
      ⊢ iprop((∀ r, pg X Λ c 5 0 false -∗ K r) -∗ WP c (Ap (k0_part23 (F := F)) c v19 v38 v53 v800 v805 v810 v811) K) := by
  unfold Ap
  rw [k0_part23_eq_skeleton]
  unfold k0_part23_skel
  simp only [Prog.lift, Prog.bind_op, Prog.bind_ret, Prog.pure_eq_ret]
  iintro ⟨H, Hs4⟩ HK
  iapply (sendT X Λ 4 (.rs 2 0 1) (q := fullShare) (hside := ?_)) $$ H Hs4
  · exact ⟨rfl, rfl, by decide, rfl, rfl, rfl, Fin.ext (dev16 c), rows_slice (off9 c 0), fun _ _ => slot_squeeze⟩
  iintro H
  iapply ret_ok; iapply HK; iframe

/-- Part 24 of the body starts strip 2's transfer 2 of reduction phase 0. -/
theorem part24 {v19 v38 v53 v839 v843 v844 v845 : _} {K : _ → sProp 𝕄} :
    iprop(pg X Λ c 5 0 false ∗ srcP X (.rs 2 0 2) c)
      ⊢ iprop((∀ r, pg X Λ c 6 0 false -∗ K r) -∗ WP c (Ap (k0_part24 (F := F)) c v19 v38 v53 v839 v843 v844 v845) K) := by
  unfold Ap
  rw [k0_part24_eq_skeleton]
  unfold k0_part24_skel
  simp only [Prog.lift, Prog.bind_op, Prog.bind_ret, Prog.pure_eq_ret]
  iintro ⟨H, Hs5⟩ HK
  iapply (sendT X Λ 5 (.rs 2 0 2) (q := fullShare) (hside := ?_)) $$ H Hs5
  · exact ⟨rfl, rfl, by decide, rfl, rfl, rfl, Fin.ext (dev17 c), rows_slice (off9 c 1), fun _ _ => slot_squeeze⟩
  iintro H
  iapply ret_ok; iapply HK; iframe

/-- Part 25 of the body starts strip 2's transfer 3 of reduction phase 0 and writes the
  copied rows of strip 0. -/
theorem part25 {v19 v38 v53 v518 v609 v878 c2 : _} {G₁ : ℕ → ℕ → Elt F .bf16} {K : _ → sProp 𝕄} :
    iprop(pg X Λ c 6 0 false ∗ srcP X (.rs 2 0 3) c ∗ mat c a0 fullShare (X.T c) ∗ rows c a3 fullShare (row 0 0 0 c) 1024 G₁)
      ⊢ iprop((∀ r, (pg X Λ c 7 0 false ∗ mat c a0 fullShare (X.T c) ∗ rows c a3 fullShare (row 0 0 0 c) 1024 (Fc X 0 0 c)) -∗ K r) -∗ WP c (Ap (k0_part25 (F := F)) c v19 v38 v53 v518 v609 v878 c2) K) := by
  unfold Ap
  rw [k0_part25_eq_skeleton]
  unfold k0_part25_skel
  simp only [Prog.lift, Prog.bind_op, Prog.bind_ret, Prog.pure_eq_ret]
  iintro ⟨H, Hs6, H0, H1⟩ HK
  iapply (sendT X Λ 6 (.rs 2 0 3) (q := fullShare) (hside := ?_)) $$ H Hs6
  · exact ⟨rfl, rfl, by decide, rfl, rfl, rfl, Fin.ext (dev18 c), rows_slice (off9 c 2), fun _ _ => slot_squeeze⟩
  iintro H
  iapply (mat_load (off10 c)) $$ H0; iintro H0
  iapply (rows_load (off11 c) ⟨le_rfl, le_rfl⟩) $$ H1; iintro H1
  iapply (rows_store (off11 c) (G' := Fc X 0 0 c) fun j => ?_) $$ H1
  · simp only [k0_pay8, shapeCast_self, cast_slot'] <;> rfl
  iintro H1
  iapply ret_ok; iapply HK; iframe

/-- Part 26 of the body writes the copied rows of strip 1 and the copied rows of strip
  2, waits for strip 0's transfer 1 of reduction phase 0 and writes strip 0's sums after
  1 phase. -/
theorem part26 {v539 v548 v609 v789 : _} {G₁ G₂ G₃ : ℕ → ℕ → Elt F .bf16} {K : _ → sProp 𝕄} :
    iprop(pg X Λ c 7 0 false ∗ mat c a0 fullShare (X.T c) ∗ mat c a1 fullShare (X.W c) ∗ rows c a6 fullShare 0 1024 G₃ ∗ rows c a4 fullShare (row 1 0 0 c) 512 G₁ ∗ rows c a5 fullShare (row 2 0 0 c) 512 G₂ ∗ rows c a3 fullShare (row 0 0 0 c) 1024 (Fc X 0 0 c))
      ⊢ iprop((∀ r, (pg X Λ c 7 1 false ∗ srcP X (.rs 0 0 1) c ∗ RP X (.rs 0 0 1) c ∗ mat c a0 fullShare (X.T c) ∗ mat c a1 fullShare (X.W c) ∗ rows c a6 fullShare 0 1024 (X.W c) ∗ rows c a4 fullShare (row 1 0 0 c) 512 (Fc X 1 0 c) ∗ rows c a5 fullShare (row 2 0 0 c) 512 (Fc X 2 0 c) ∗ rows c a3 fullShare (row 0 0 0 c) 1024 (Fc X 0 1 c)) -∗ K r) -∗ WP c (Ap (k0_part26 (F := F)) c v539 v548 v609 v789) K) := by
  unfold Ap
  rw [k0_part26_eq_skeleton]
  unfold k0_part26_skel
  simp only [Prog.lift, Prog.bind_op, Prog.bind_ret, Prog.pure_eq_ret]
  iintro ⟨H, H0, HW, HB, H1, H2, H3⟩ HK
  iapply (mat_load (off12 c)) $$ H0; iintro H0
  iapply (rows_load (off13 c) ⟨le_rfl, le_rfl⟩) $$ H1; iintro H1
  iapply (rows_store (off13 c) (G' := Fc X 1 0 c) fun j => ?_) $$ H1
  · simp only [k0_pay9, shapeCast_self, cast_slot', Nat.zero_add] <;> rfl
  iintro H1
  iapply (mat_load (off14 c)) $$ H0; iintro H0
  iapply (rows_load (off15 c) ⟨le_rfl, le_rfl⟩) $$ H2; iintro H2
  iapply (rows_store (off15 c) (G' := Fc X 2 0 c) fun j => ?_) $$ H2
  · simp only [k0_pay10, shapeCast_self, cast_slot', Nat.zero_add] <;> rfl
  iintro H2
  iapply (mat_load (lo' := 0) (co' := 0) rfl) $$ HW; iintro HW
  iapply (rows_load (lo' := 0) (co' := 0) rfl ⟨le_rfl, le_rfl⟩) $$ HB; iintro HB
  iapply (rows_store (G' := X.W c) rfl fun j => ?_) $$ HB
  · simp only [k0_pay11, shapeCast_self, Nat.zero_add]
  iintro HB
  iapply (waitT X Λ 0 (.rs 0 0 1) (hside := ?_)) $$ H
  · exact ⟨rfl, rfl, by decide, ⟨rfl, rfl⟩, rfl, rfl⟩
  iintro ⟨H, Hs0, Hr0⟩
  iapply (rows_load (off16 c) ⟨le_rfl, le_rfl⟩) $$ H3; iintro H3
  iapply (matL X (.rs 0 0 1) fun _ => rfl) $$ Hr0; iintro Hr0
  iapply (rows_load (off16 c) ⟨le_rfl, le_rfl⟩) $$ H3; iintro H3
  iapply (rows_store (off16 c) (G' := Fc X 0 1 c) fun j => ?_) $$ H3
  · simp only [k0_pay12, shapeCast_self, cast_slot', Nat.zero_add] <;> rfl
  iintro H3
  iapply ret_ok; iapply HK; iframe

/-- Part 28 of the body starts strip 0's transfer 1 of reduction phase 1. -/
theorem part28 {v19 v38 v53 v548 : _} {K : _ → sProp 𝕄} :
    iprop(pg X Λ c 7 1 false ∗ srcP X (.rs 0 1 1) c)
      ⊢ iprop((∀ r, pg X Λ c 8 1 false -∗ K r) -∗ WP c (Ap (k0_part28 (F := F)) c v19 v38 v53 v548) K) := by
  unfold Ap
  rw [k0_part28_eq_skeleton]
  unfold k0_part28_skel
  simp only [Prog.lift, Prog.bind_op, Prog.bind_ret, Prog.pure_eq_ret]
  iintro ⟨H, Hs7⟩ HK
  iapply (sendT X Λ 7 (.rs 0 1 1) (q := fullShare) (hside := ?_)) $$ H Hs7
  · exact ⟨rfl, rfl, by decide, rfl, rfl, rfl, Fin.ext (dev19 c), rows_slice (off17 c 0), fun _ _ => slot_squeeze⟩
  iintro H
  iapply ret_ok; iapply HK; iframe

/-- Part 29 of the body starts strip 0's transfer 2 of reduction phase 1. -/
theorem part29 {v19 v38 v53 v548 v1020 c0 : _} {K : _ → sProp 𝕄} :
    iprop(pg X Λ c 8 1 false ∗ srcP X (.rs 0 1 2) c)
      ⊢ iprop((∀ r, pg X Λ c 9 1 false -∗ K r) -∗ WP c (Ap (k0_part29 (F := F)) c v19 v38 v53 v548 v1020 c0) K) := by
  unfold Ap
  rw [k0_part29_eq_skeleton]
  unfold k0_part29_skel
  simp only [Prog.lift, Prog.bind_op, Prog.bind_ret, Prog.pure_eq_ret]
  iintro ⟨H, Hs8⟩ HK
  iapply (sendT X Λ 8 (.rs 0 1 2) (q := fullShare) (hside := ?_)) $$ H Hs8
  · exact ⟨rfl, rfl, by decide, rfl, rfl, rfl, Fin.ext (dev20 c), rows_slice (off17 c 1), fun _ _ => slot_squeeze⟩
  iintro H
  iapply ret_ok; iapply HK; iframe

/-- Part 30 of the body starts strip 0's transfer 3 of reduction phase 1 and waits for
  strip 1's transfer 1 of reduction phase 0. -/
theorem part30 {v38 v548 v639 v1058 : _} {K : _ → sProp 𝕄} :
    iprop(pg X Λ c 9 1 false ∗ srcP X (.rs 0 1 3) c)
      ⊢ iprop((∀ r, (pg X Λ c 10 2 false ∗ srcP X (.rs 1 0 1) c ∗ RP X (.rs 1 0 1) c) -∗ K r) -∗ WP c (Ap (k0_part30 (F := F)) c v38 v548 v639 v1058) K) := by
  unfold Ap
  rw [k0_part30_eq_skeleton]
  unfold k0_part30_skel
  simp only [Prog.lift, Prog.bind_op, Prog.bind_ret, Prog.pure_eq_ret]
  iintro ⟨H, Hs9⟩ HK
  iapply (sendT X Λ 9 (.rs 0 1 3) (q := fullShare) (hside := ?_)) $$ H Hs9
  · exact ⟨rfl, rfl, by decide, rfl, rfl, rfl, Fin.ext (dev21 c), rows_slice (off17 c 2), fun _ _ => slot_squeeze⟩
  iintro H
  iapply (waitT X Λ 1 (.rs 1 0 1) (hside := ?_)) $$ H
  · exact ⟨rfl, rfl, by decide, ⟨rfl, rfl⟩, rfl, rfl⟩
  iintro ⟨H, Hs1, Hr1⟩
  iapply ret_ok; iapply HK; iframe

/-- Part 31 of the body waits for strip 1's transfer 2 of reduction phase 0 and strip
  1's transfer 3 of reduction phase 0. -/
theorem part31 {v678 v717 v728 : _} {K : _ → sProp 𝕄} :
    iprop(pg X Λ c 10 2 false ∗ rows c a4 fullShare (row 1 0 0 c) 512 (Fc X 1 0 c))
      ⊢ iprop((∀ r, (⌜r = addf (fun j => Fc X 1 0 c (row 1 0 0 c + (j 0).val) (j 1).val) fun j => rc X (.rs 1 0 3) c (j 0).val (j 1).val⌝ ∗ pg X Λ c 10 4 false ∗ srcP X (.rs 1 0 2) c ∗ RP X (.rs 1 0 2) c ∗ srcP X (.rs 1 0 3) c ∗ RP X (.rs 1 0 3) c ∗ rows c a4 fullShare (row 1 0 0 c) 512 (Fc X 1 0 c)) -∗ K r) -∗ WP c (Ap (k0_part31 (F := F)) c v678 v717 v728) K) := by
  unfold Ap
  rw [k0_part31_eq_skeleton]
  unfold k0_part31_skel
  simp only [Prog.lift, Prog.bind_op, Prog.bind_ret, Prog.pure_eq_ret]
  iintro ⟨H, H1⟩ HK
  iapply (waitT X Λ 2 (.rs 1 0 2) (hside := ?_)) $$ H
  · exact ⟨rfl, rfl, by decide, ⟨rfl, rfl⟩, rfl, rfl⟩
  iintro ⟨H, Hs2, Hr2⟩
  iapply (waitT X Λ 3 (.rs 1 0 3) (hside := ?_)) $$ H
  · exact ⟨rfl, rfl, by decide, ⟨rfl, rfl⟩, rfl, rfl⟩
  iintro ⟨H, Hs3, Hr3⟩
  iapply (rows_load (off18 c) ⟨le_rfl, le_rfl⟩) $$ H1; iintro H1
  iapply (slotL X (.rs 1 0 3) fun _ => rfl) $$ Hr3; iintro Hr3
  iapply ret_ok; iapply HK; iframe
  ipureintro
  simp only [k0_pay13, shapeCast_self, cast_slot', Nat.zero_add]

/-- Part 32 of the body writes strip 1's sums after 1 phase. -/
theorem part32 {v19 v38 v53 v728 v1110 : _} (hv : v1110 = addf (fun j => Fc X 1 0 c (row 1 0 0 c + (j 0).val) (j 1).val) fun j => rc X (.rs 1 0 3) c (j 0).val (j 1).val) {K : _ → sProp 𝕄} :
    iprop(RP X (.rs 1 0 2) c ∗ RP X (.rs 1 0 1) c ∗ rows c a4 fullShare (row 1 0 0 c) 512 (Fc X 1 0 c))
      ⊢ iprop((∀ r, (RP X (.rs 1 0 2) c ∗ RP X (.rs 1 0 1) c ∗ rows c a4 fullShare (row 1 0 0 c) 512 (Fc X 1 1 c)) -∗ K r) -∗ WP c (Ap (k0_part32 (F := F)) c v19 v38 v53 v728 v1110) K) := by
  subst hv
  unfold Ap
  rw [k0_part32_eq_skeleton]
  unfold k0_part32_skel
  simp only [Prog.lift, Prog.bind_op, Prog.bind_ret, Prog.pure_eq_ret]
  iintro ⟨Hr2, Hr1, H1⟩ HK
  iapply (slotL X (.rs 1 0 2) fun _ => rfl) $$ Hr2; iintro Hr2
  iapply (slotL X (.rs 1 0 1) fun _ => rfl) $$ Hr1; iintro Hr1
  iapply (rows_load (off18 c) ⟨le_rfl, le_rfl⟩) $$ H1; iintro H1
  iapply (rows_store (off18 c) (G' := Fc X 1 1 c) fun j => ?_) $$ H1
  · simp only [k0_pay14, shapeCast_self, cast_slot', Nat.zero_add] <;> rfl
  iintro H1
  iapply ret_ok; iapply HK; iframe

/-- Part 33 of the body starts strip 1's transfer 1 of reduction phase 1. -/
theorem part33 {v19 v38 v728 v1146 v1147 c2 : _} {K : _ → sProp 𝕄} :
    iprop(pg X Λ c 10 4 false ∗ srcP X (.rs 1 1 1) c)
      ⊢ iprop((∀ r, pg X Λ c 11 4 false -∗ K r) -∗ WP c (Ap (k0_part33 (F := F)) c v19 v38 v728 v1146 v1147 c2) K) := by
  unfold Ap
  rw [k0_part33_eq_skeleton]
  unfold k0_part33_skel
  simp only [Prog.lift, Prog.bind_op, Prog.bind_ret, Prog.pure_eq_ret]
  iintro ⟨H, Hs10⟩ HK
  iapply (sendT X Λ 10 (.rs 1 1 1) (q := fullShare) (hside := ?_)) $$ H Hs10
  · exact ⟨rfl, rfl, by decide, rfl, rfl, rfl, Fin.ext (dev22 c), rows_slice (off19 c 0), fun _ _ => slot_squeeze⟩
  iintro H
  iapply ret_ok; iapply HK; iframe

/-- Part 34 of the body starts strip 1's transfer 2 of reduction phase 1. -/
theorem part34 {v19 v38 v53 v728 v1170 v1183 : _} {K : _ → sProp 𝕄} :
    iprop(pg X Λ c 11 4 false ∗ srcP X (.rs 1 1 2) c)
      ⊢ iprop((∀ r, pg X Λ c 12 4 false -∗ K r) -∗ WP c (Ap (k0_part34 (F := F)) c v19 v38 v53 v728 v1170 v1183) K) := by
  unfold Ap
  rw [k0_part34_eq_skeleton]
  unfold k0_part34_skel
  simp only [Prog.lift, Prog.bind_op, Prog.bind_ret, Prog.pure_eq_ret]
  iintro ⟨H, Hs11⟩ HK
  iapply (sendT X Λ 11 (.rs 1 1 2) (q := fullShare) (hside := ?_)) $$ H Hs11
  · exact ⟨rfl, rfl, by decide, rfl, rfl, rfl, Fin.ext (dev23 c), rows_slice (off19 c 1), fun _ _ => slot_squeeze⟩
  iintro H
  iapply ret_ok; iapply HK; iframe

/-- Part 35 of the body starts strip 1's transfer 3 of reduction phase 1 and sees leave
  strip 2's transfer 1 of reduction phase 0. -/
theorem part35 {v19 v38 v53 v728 v819 v1209 v1213 v1214 v1215 v1216 v1217 : _} {K : _ → sProp 𝕄} :
    iprop(pg X Λ c 12 4 false ∗ srcP X (.rs 1 1 3) c)
      ⊢ iprop((∀ r, (pg X Λ c 13 4 true ∗ srcP X (.rs 2 0 1) c) -∗ K r) -∗ WP c (Ap (k0_part35 (F := F)) c v19 v38 v53 v728 v819 v1209 v1213 v1214 v1215 v1216 v1217) K) := by
  unfold Ap
  rw [k0_part35_eq_skeleton]
  unfold k0_part35_skel
  simp only [Prog.lift, Prog.bind_op, Prog.bind_ret, Prog.pure_eq_ret]
  iintro ⟨H, Hs12⟩ HK
  iapply (sendT X Λ 12 (.rs 1 1 3) (q := fullShare) (hside := ?_)) $$ H Hs12
  · exact ⟨rfl, rfl, by decide, rfl, rfl, rfl, Fin.ext (dev24 c), rows_slice (off19 c 2), fun _ _ => slot_squeeze⟩
  iintro H
  iapply (waitST X Λ 4 (.rs 2 0 1) (hside := ?_)) $$ H
  · exact ⟨rfl, rfl, by decide, rfl, rfl⟩
  iintro ⟨H, Hs4⟩
  iapply ret_ok; iapply HK; iframe

/-- Part 36 of the body receives strip 2's transfer 1 of reduction phase 0, waits for
  strip 2's transfer 2 of reduction phase 0 and sees leave strip 2's transfer 3 of
  reduction phase 0. -/
theorem part36 {v858 v897 : _} {K : _ → sProp 𝕄} :
    iprop(pg X Λ c 13 4 true)
      ⊢ iprop((∀ r, (pg X Λ c 13 6 true ∗ RP X (.rs 2 0 1) c ∗ srcP X (.rs 2 0 2) c ∗ RP X (.rs 2 0 2) c ∗ srcP X (.rs 2 0 3) c) -∗ K r) -∗ WP c (Ap (k0_part36 (F := F)) c v858 v897) K) := by
  unfold Ap
  rw [k0_part36_eq_skeleton]
  unfold k0_part36_skel
  simp only [Prog.lift, Prog.bind_op, Prog.bind_ret, Prog.pure_eq_ret]
  iintro H HK
  iapply (waitRT X Λ 4 (.rs 2 0 1) (hside := ?_)) $$ H
  · exact ⟨rfl, rfl, by decide, rfl, rfl⟩
  iintro ⟨H, Hr4⟩
  iapply (waitT X Λ 5 (.rs 2 0 2) (hside := ?_)) $$ H
  · exact ⟨rfl, rfl, by decide, ⟨rfl, rfl⟩, rfl, rfl⟩
  iintro ⟨H, Hs5, Hr5⟩
  iapply (waitST X Λ 6 (.rs 2 0 3) (hside := ?_)) $$ H
  · exact ⟨rfl, rfl, by decide, rfl, rfl⟩
  iintro ⟨H, Hs6⟩
  iapply ret_ok; iapply HK; iframe

/-- Part 37 of the body receives strip 2's transfer 3 of reduction phase 0 and writes
  strip 2's sums after 1 phase. -/
theorem part37 {v19 v38 v53 v908 : _} {K : _ → sProp 𝕄} :
    iprop(pg X Λ c 13 6 true ∗ RP X (.rs 2 0 2) c ∗ RP X (.rs 2 0 1) c ∗ rows c a5 fullShare (row 2 0 0 c) 512 (Fc X 2 0 c))
      ⊢ iprop((∀ r, (pg X Λ c 13 7 false ∗ RP X (.rs 2 0 3) c ∗ RP X (.rs 2 0 2) c ∗ RP X (.rs 2 0 1) c ∗ rows c a5 fullShare (row 2 0 0 c) 512 (Fc X 2 1 c)) -∗ K r) -∗ WP c (Ap (k0_part37 (F := F)) c v19 v38 v53 v908) K) := by
  unfold Ap
  rw [k0_part37_eq_skeleton]
  unfold k0_part37_skel
  simp only [Prog.lift, Prog.bind_op, Prog.bind_ret, Prog.pure_eq_ret]
  iintro ⟨H, Hr5, Hr4, H1⟩ HK
  iapply (waitRT X Λ 6 (.rs 2 0 3) (hside := ?_)) $$ H
  · exact ⟨rfl, rfl, by decide, rfl, rfl⟩
  iintro ⟨H, Hr6⟩
  iapply (rows_load (off20 c) ⟨le_rfl, le_rfl⟩) $$ H1; iintro H1
  iapply (slotL X (.rs 2 0 3) fun _ => rfl) $$ Hr6; iintro Hr6
  iapply (slotL X (.rs 2 0 2) fun _ => rfl) $$ Hr5; iintro Hr5
  iapply (slotL X (.rs 2 0 1) fun _ => rfl) $$ Hr4; iintro Hr4
  iapply (rows_load (off20 c) ⟨le_rfl, le_rfl⟩) $$ H1; iintro H1
  iapply (rows_store (off20 c) (G' := Fc X 2 1 c) fun j => ?_) $$ H1
  · simp only [k0_pay15, shapeCast_self, cast_slot', Nat.zero_add] <;> rfl
  iintro H1
  iapply ret_ok; iapply HK; iframe

end Cert.KProof

end
-- ==== Proof.PartsC.lean ====
module

public import proofs.«01_k».proof.Proof.Steps

/-!
# The second half of the reduction

Each theorem states what one part of the body needs and what it leaves:
the sends of the last phase, and the sums of the last two.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- Part 38 of the body starts strip 2's transfer 1 of reduction phase 1 and waits for
  strip 0's transfer 1 of reduction phase 1. -/
theorem part38 {v38 v53 v908 v980 v1307 v1308 : _} {K : _ → sProp 𝕄} :
    iprop(pg X Λ c 13 7 false ∗ srcP X (.rs 2 1 1) c)
      ⊢ iprop((∀ r, (pg X Λ c 14 8 false ∗ srcP X (.rs 0 1 1) c ∗ RP X (.rs 0 1 1) c) -∗ K r) -∗ WP c (Ap (k0_part38 (F := F)) c v38 v53 v908 v980 v1307 v1308) K) := by
  unfold Ap
  rw [k0_part38_eq_skeleton]
  unfold k0_part38_skel
  simp only [Prog.lift, Prog.bind_op, Prog.bind_ret, Prog.pure_eq_ret]
  iintro ⟨H, Hs13⟩ HK
  iapply (sendT X Λ 13 (.rs 2 1 1) (q := fullShare) (hside := ?_)) $$ H Hs13
  · exact ⟨rfl, rfl, by decide, rfl, rfl, rfl, Fin.ext (dev25 c), rows_slice (off21 c), fun _ _ => rfl⟩
  iintro H
  iapply (waitT X Λ 7 (.rs 0 1 1) (hside := ?_)) $$ H
  · exact ⟨rfl, rfl, by decide, ⟨rfl, rfl⟩, rfl, rfl⟩
  iintro ⟨H, Hs7, Hr7⟩
  iapply ret_ok; iapply HK; iframe

/-- Part 39 of the body waits for strip 0's transfer 2 of reduction phase 1 and strip
  0's transfer 3 of reduction phase 1. -/
theorem part39 {v1019 v1058 v1069 : _} {K : _ → sProp 𝕄} :
    iprop(pg X Λ c 14 8 false ∗ rows c a3 fullShare (row 0 1 0 c) 256 (Fc X 0 1 c))
      ⊢ iprop((∀ r, (⌜r.1 = (addf (fun j => Fc X 0 1 c (row 0 1 0 c + (j 0).val) (j 1).val) fun j => rc X (.rs 0 1 3) c (j 0).val (j 1).val) ∧ r.2 = fun j => rc X (.rs 0 1 2) c (j 1).val (j 2).val⌝ ∗ pg X Λ c 14 10 false ∗ srcP X (.rs 0 1 2) c ∗ RP X (.rs 0 1 2) c ∗ srcP X (.rs 0 1 3) c ∗ RP X (.rs 0 1 3) c ∗ rows c a3 fullShare (row 0 1 0 c) 256 (Fc X 0 1 c)) -∗ K r) -∗ WP c (Ap (k0_part39 (F := F)) c v1019 v1058 v1069) K) := by
  unfold Ap
  rw [k0_part39_eq_skeleton]
  unfold k0_part39_skel
  simp only [Prog.lift, Prog.bind_op, Prog.bind_ret, Prog.pure_eq_ret]
  iintro ⟨H, H1⟩ HK
  iapply (waitT X Λ 8 (.rs 0 1 2) (hside := ?_)) $$ H
  · exact ⟨rfl, rfl, by decide, ⟨rfl, rfl⟩, rfl, rfl⟩
  iintro ⟨H, Hs8, Hr8⟩
  iapply (waitT X Λ 9 (.rs 0 1 3) (hside := ?_)) $$ H
  · exact ⟨rfl, rfl, by decide, ⟨rfl, rfl⟩, rfl, rfl⟩
  iintro ⟨H, Hs9, Hr9⟩
  iapply (rows_load (off22 c) ⟨le_rfl, le_rfl⟩) $$ H1; iintro H1
  iapply (slotL X (.rs 0 1 3) fun _ => rfl) $$ Hr9; iintro Hr9
  iapply (slotL X (.rs 0 1 2) fun _ => rfl) $$ Hr8; iintro Hr8
  iapply ret_ok; iapply HK; iframe
  ipureintro
  simp only [k0_pay16, shapeCast_self, cast_slot', Nat.zero_add, and_self]

/-- Part 40 of the body writes strip 0's sums after 2 phases. -/
theorem part40 {v19 v38 v53 v1069 v1361 v1362 : _} (hv : v1361 = (addf (fun j => Fc X 0 1 c (row 0 1 0 c + (j 0).val) (j 1).val) fun j => rc X (.rs 0 1 3) c (j 0).val (j 1).val) ∧ v1362 = fun j => rc X (.rs 0 1 2) c (j 1).val (j 2).val) {K : _ → sProp 𝕄} :
    iprop(RP X (.rs 0 1 1) c ∗ rows c a3 fullShare (row 0 1 0 c) 256 (Fc X 0 1 c))
      ⊢ iprop((∀ r, (RP X (.rs 0 1 1) c ∗ rows c a3 fullShare (row 0 1 0 c) 256 (Fc X 0 2 c)) -∗ K r) -∗ WP c (Ap (k0_part40 (F := F)) c v19 v38 v53 v1069 v1361 v1362) K) := by
  obtain ⟨rfl, rfl⟩ := hv
  unfold Ap
  rw [k0_part40_eq_skeleton]
  unfold k0_part40_skel
  simp only [Prog.lift, Prog.bind_op, Prog.bind_ret, Prog.pure_eq_ret]
  iintro ⟨Hr7, H1⟩ HK
  iapply (slotL X (.rs 0 1 1) fun _ => rfl) $$ Hr7; iintro Hr7
  iapply (rows_load (off22 c) ⟨le_rfl, le_rfl⟩) $$ H1; iintro H1
  iapply (rows_store (off22 c) (G' := Fc X 0 2 c) fun j => ?_) $$ H1
  · simp only [k0_pay17, shapeCast_self, cast_slot', Nat.zero_add] <;> rfl
  iintro H1
  iapply ret_ok; iapply HK; iframe

/-- Part 41 of the body starts strip 0's transfer 1 of reduction phase 2. -/
theorem part41 {v19 v38 v1069 v1397 v1398 v1399 : _} {K : _ → sProp 𝕄} :
    iprop(pg X Λ c 14 10 false ∗ srcP X (.rs 0 2 1) c)
      ⊢ iprop((∀ r, pg X Λ c 15 10 false -∗ K r) -∗ WP c (Ap (k0_part41 (F := F)) c v19 v38 v1069 v1397 v1398 v1399) K) := by
  unfold Ap
  rw [k0_part41_eq_skeleton]
  unfold k0_part41_skel
  simp only [Prog.lift, Prog.bind_op, Prog.bind_ret, Prog.pure_eq_ret]
  iintro ⟨H, Hs14⟩ HK
  iapply (sendT X Λ 14 (.rs 0 2 1) (q := fullShare) (hside := ?_)) $$ H Hs14
  · exact ⟨rfl, rfl, by decide, rfl, rfl, rfl, Fin.ext (dev26 c), rows_slice (off23 c 0), fun _ _ => slot_squeeze⟩
  iintro H
  iapply ret_ok; iapply HK; iframe

/-- Part 42 of the body starts strip 0's transfer 2 of reduction phase 2. -/
theorem part42 {v19 v38 v53 v1069 v1421 v1434 c1 : _} {K : _ → sProp 𝕄} :
    iprop(pg X Λ c 15 10 false ∗ srcP X (.rs 0 2 2) c)
      ⊢ iprop((∀ r, pg X Λ c 16 10 false -∗ K r) -∗ WP c (Ap (k0_part42 (F := F)) c v19 v38 v53 v1069 v1421 v1434 c1) K) := by
  unfold Ap
  rw [k0_part42_eq_skeleton]
  unfold k0_part42_skel
  simp only [Prog.lift, Prog.bind_op, Prog.bind_ret, Prog.pure_eq_ret]
  iintro ⟨H, Hs15⟩ HK
  iapply (sendT X Λ 15 (.rs 0 2 2) (q := fullShare) (hside := ?_)) $$ H Hs15
  · exact ⟨rfl, rfl, by decide, rfl, rfl, rfl, Fin.ext (dev27 c), rows_slice (off23 c 1), fun _ _ => slot_squeeze⟩
  iintro H
  iapply ret_ok; iapply HK; iframe

/-- Part 43 of the body starts strip 0's transfer 3 of reduction phase 2 and sees leave
  strip 1's transfer 1 of reduction phase 1. -/
theorem part43 {v19 v38 v53 v1069 v1150 v1460 v1464 v1465 v1466 v1469 : _} {K : _ → sProp 𝕄} :
    iprop(pg X Λ c 16 10 false ∗ srcP X (.rs 0 2 3) c)
      ⊢ iprop((∀ r, (pg X Λ c 17 10 true ∗ srcP X (.rs 1 1 1) c) -∗ K r) -∗ WP c (Ap (k0_part43 (F := F)) c v19 v38 v53 v1069 v1150 v1460 v1464 v1465 v1466 v1469) K) := by
  unfold Ap
  rw [k0_part43_eq_skeleton]
  unfold k0_part43_skel
  simp only [Prog.lift, Prog.bind_op, Prog.bind_ret, Prog.pure_eq_ret]
  iintro ⟨H, Hs16⟩ HK
  iapply (sendT X Λ 16 (.rs 0 2 3) (q := fullShare) (hside := ?_)) $$ H Hs16
  · exact ⟨rfl, rfl, by decide, rfl, rfl, rfl, Fin.ext (dev28 c), rows_slice (off23 c 2), fun _ _ => slot_squeeze⟩
  iintro H
  iapply (waitST X Λ 10 (.rs 1 1 1) (hside := ?_)) $$ H
  · exact ⟨rfl, rfl, by decide, rfl, rfl⟩
  iintro ⟨H, Hs10⟩
  iapply ret_ok; iapply HK; iframe

/-- Part 44 of the body receives strip 1's transfer 1 of reduction phase 1, waits for
  strip 1's transfer 2 of reduction phase 1 and sees leave strip 1's transfer 3 of
  reduction phase 1. -/
theorem part44 {v1189 v1228 : _} {K : _ → sProp 𝕄} :
    iprop(pg X Λ c 17 10 true)
      ⊢ iprop((∀ r, (pg X Λ c 17 12 true ∗ RP X (.rs 1 1 1) c ∗ srcP X (.rs 1 1 2) c ∗ RP X (.rs 1 1 2) c ∗ srcP X (.rs 1 1 3) c) -∗ K r) -∗ WP c (Ap (k0_part44 (F := F)) c v1189 v1228) K) := by
  unfold Ap
  rw [k0_part44_eq_skeleton]
  unfold k0_part44_skel
  simp only [Prog.lift, Prog.bind_op, Prog.bind_ret, Prog.pure_eq_ret]
  iintro H HK
  iapply (waitRT X Λ 10 (.rs 1 1 1) (hside := ?_)) $$ H
  · exact ⟨rfl, rfl, by decide, rfl, rfl⟩
  iintro ⟨H, Hr10⟩
  iapply (waitT X Λ 11 (.rs 1 1 2) (hside := ?_)) $$ H
  · exact ⟨rfl, rfl, by decide, ⟨rfl, rfl⟩, rfl, rfl⟩
  iintro ⟨H, Hs11, Hr11⟩
  iapply (waitST X Λ 12 (.rs 1 1 3) (hside := ?_)) $$ H
  · exact ⟨rfl, rfl, by decide, rfl, rfl⟩
  iintro ⟨H, Hs12⟩
  iapply ret_ok; iapply HK; iframe

/-- Part 45 of the body receives strip 1's transfer 3 of reduction phase 1 and writes
  strip 1's sums after 2 phases. -/
theorem part45 {v19 v38 v53 v1239 : _} {K : _ → sProp 𝕄} :
    iprop(pg X Λ c 17 12 true ∗ RP X (.rs 1 1 2) c ∗ RP X (.rs 1 1 1) c ∗ rows c a4 fullShare (row 1 1 0 c) 128 (Fc X 1 1 c))
      ⊢ iprop((∀ r, (pg X Λ c 17 13 false ∗ RP X (.rs 1 1 3) c ∗ RP X (.rs 1 1 2) c ∗ RP X (.rs 1 1 1) c ∗ rows c a4 fullShare (row 1 1 0 c) 128 (Fc X 1 2 c)) -∗ K r) -∗ WP c (Ap (k0_part45 (F := F)) c v19 v38 v53 v1239) K) := by
  unfold Ap
  rw [k0_part45_eq_skeleton]
  unfold k0_part45_skel
  simp only [Prog.lift, Prog.bind_op, Prog.bind_ret, Prog.pure_eq_ret]
  iintro ⟨H, Hr11, Hr10, H1⟩ HK
  iapply (waitRT X Λ 12 (.rs 1 1 3) (hside := ?_)) $$ H
  · exact ⟨rfl, rfl, by decide, rfl, rfl⟩
  iintro ⟨H, Hr12⟩
  iapply (rows_load (off24 c) ⟨le_rfl, le_rfl⟩) $$ H1; iintro H1
  iapply (slotL X (.rs 1 1 3) fun _ => rfl) $$ Hr12; iintro Hr12
  iapply (slotL X (.rs 1 1 2) fun _ => rfl) $$ Hr11; iintro Hr11
  iapply (slotL X (.rs 1 1 1) fun _ => rfl) $$ Hr10; iintro Hr10
  iapply (rows_load (off24 c) ⟨le_rfl, le_rfl⟩) $$ H1; iintro H1
  iapply (rows_store (off24 c) (G' := Fc X 1 2 c) fun j => ?_) $$ H1
  · simp only [k0_pay18, shapeCast_self, cast_slot', Nat.zero_add] <;> rfl
  iintro H1
  iapply ret_ok; iapply HK; iframe

/-- Part 46 of the body starts strip 1's transfer 1 of reduction phase 2, waits for
  strip 2's transfer 1 of reduction phase 1 and writes strip 2's sums after 2 phases. -/
theorem part46 {v38 v53 v1239 v1311 v1320 v1558 v1559 c2 : _} {K : _ → sProp 𝕄} :
    iprop(pg X Λ c 17 13 false ∗ srcP X (.rs 1 2 1) c ∗ rows c a5 fullShare (row 2 1 0 c) 256 (Fc X 2 1 c))
      ⊢ iprop((∀ r, (pg X Λ c 18 14 false ∗ srcP X (.rs 2 1 1) c ∗ RP X (.rs 2 1 1) c ∗ rows c a5 fullShare (row 2 1 0 c) 256 (Fc X 2 2 c)) -∗ K r) -∗ WP c (Ap (k0_part46 (F := F)) c v38 v53 v1239 v1311 v1320 v1558 v1559 c2) K) := by
  unfold Ap
  rw [k0_part46_eq_skeleton]
  unfold k0_part46_skel
  simp only [Prog.lift, Prog.bind_op, Prog.bind_ret, Prog.pure_eq_ret]
  iintro ⟨H, Hs17, H1⟩ HK
  iapply (sendT X Λ 17 (.rs 1 2 1) (q := fullShare) (hside := ?_)) $$ H Hs17
  · exact ⟨rfl, rfl, by decide, rfl, rfl, rfl, Fin.ext (dev29 c), rows_slice (off25 c), fun _ _ => rfl⟩
  iintro H
  iapply (waitT X Λ 13 (.rs 2 1 1) (hside := ?_)) $$ H
  · exact ⟨rfl, rfl, by decide, ⟨rfl, rfl⟩, rfl, rfl⟩
  iintro ⟨H, Hs13, Hr13⟩
  iapply (rows_load (off26 c) ⟨le_rfl, le_rfl⟩) $$ H1; iintro H1
  iapply (matL X (.rs 2 1 1) fun _ => rfl) $$ Hr13; iintro Hr13
  iapply (rows_load (off26 c) ⟨le_rfl, le_rfl⟩) $$ H1; iintro H1
  iapply (rows_store (off26 c) (G' := Fc X 2 2 c) fun j => ?_) $$ H1
  · simp only [k0_pay19, shapeCast_self, cast_slot', Nat.zero_add] <;> rfl
  iintro H1
  iapply ret_ok; iapply HK; iframe

/-- Part 47 of the body starts strip 2's transfer 1 of reduction phase 2. -/
theorem part47 {v19 v38 v53 v1320 v1590 v1591 c0 : _} {K : _ → sProp 𝕄} :
    iprop(pg X Λ c 18 14 false ∗ srcP X (.rs 2 2 1) c)
      ⊢ iprop((∀ r, pg X Λ c 19 14 false -∗ K r) -∗ WP c (Ap (k0_part47 (F := F)) c v19 v38 v53 v1320 v1590 v1591 c0) K) := by
  unfold Ap
  rw [k0_part47_eq_skeleton]
  unfold k0_part47_skel
  simp only [Prog.lift, Prog.bind_op, Prog.bind_ret, Prog.pure_eq_ret]
  iintro ⟨H, Hs18⟩ HK
  iapply (sendT X Λ 18 (.rs 2 2 1) (q := fullShare) (hside := ?_)) $$ H Hs18
  · exact ⟨rfl, rfl, by decide, rfl, rfl, rfl, Fin.ext (dev30 c), rows_slice (off27 c 0), fun _ _ => slot_squeeze⟩
  iintro H
  iapply ret_ok; iapply HK; iframe

/-- Part 49 of the body starts strip 2's transfer 2 of reduction phase 2. -/
theorem part49 {v19 v38 v53 v1320 : _} {K : _ → sProp 𝕄} :
    iprop(pg X Λ c 19 14 false ∗ srcP X (.rs 2 2 2) c)
      ⊢ iprop((∀ r, pg X Λ c 20 14 false -∗ K r) -∗ WP c (Ap (k0_part49 (F := F)) c v19 v38 v53 v1320) K) := by
  unfold Ap
  rw [k0_part49_eq_skeleton]
  unfold k0_part49_skel
  simp only [Prog.lift, Prog.bind_op, Prog.bind_ret, Prog.pure_eq_ret]
  iintro ⟨H, Hs19⟩ HK
  iapply (sendT X Λ 19 (.rs 2 2 2) (q := fullShare) (hside := ?_)) $$ H Hs19
  · exact ⟨rfl, rfl, by decide, rfl, rfl, rfl, Fin.ext (dev31 c), rows_slice (off27 c 1), fun _ _ => slot_squeeze⟩
  iintro H
  iapply ret_ok; iapply HK; iframe

/-- Part 50 of the body starts strip 2's transfer 3 of reduction phase 2, waits for
  strip 0's transfer 1 of reduction phase 2 and sees leave strip 0's transfer 2 of
  reduction phase 2. -/
theorem part50 {v38 v1320 v1401 v1440 : _} {K : _ → sProp 𝕄} :
    iprop(pg X Λ c 20 14 false ∗ srcP X (.rs 2 2 3) c)
      ⊢ iprop((∀ r, (pg X Λ c 21 15 true ∗ srcP X (.rs 0 2 1) c ∗ RP X (.rs 0 2 1) c ∗ srcP X (.rs 0 2 2) c) -∗ K r) -∗ WP c (Ap (k0_part50 (F := F)) c v38 v1320 v1401 v1440) K) := by
  unfold Ap
  rw [k0_part50_eq_skeleton]
  unfold k0_part50_skel
  simp only [Prog.lift, Prog.bind_op, Prog.bind_ret, Prog.pure_eq_ret]
  iintro ⟨H, Hs20⟩ HK
  iapply (sendT X Λ 20 (.rs 2 2 3) (q := fullShare) (hside := ?_)) $$ H Hs20
  · exact ⟨rfl, rfl, by decide, rfl, rfl, rfl, Fin.ext (dev32 c), rows_slice (off27 c 2), fun _ _ => slot_squeeze⟩
  iintro H
  iapply (waitT X Λ 14 (.rs 0 2 1) (hside := ?_)) $$ H
  · exact ⟨rfl, rfl, by decide, ⟨rfl, rfl⟩, rfl, rfl⟩
  iintro ⟨H, Hs14, Hr14⟩
  iapply (waitST X Λ 15 (.rs 0 2 2) (hside := ?_)) $$ H
  · exact ⟨rfl, rfl, by decide, rfl, rfl⟩
  iintro ⟨H, Hs15⟩
  iapply ret_ok; iapply HK; iframe

/-- Part 51 of the body receives strip 0's transfer 2 of reduction phase 2 and waits for
  strip 0's transfer 3 of reduction phase 2. -/
theorem part51 {v1479 v1490 v1724 c0 : _} {K : _ → sProp 𝕄} :
    iprop(pg X Λ c 21 15 true ∗ RP X (.rs 0 2 1) c ∗ rows c a3 fullShare (row 0 2 0 c) 64 (Fc X 0 2 c))
      ⊢ iprop((∀ r, (⌜r = fun j => Fc X 0 3 c (row 0 2 0 c + (j 0).val) (j 1).val⌝ ∗ pg X Λ c 21 17 false ∗ RP X (.rs 0 2 2) c ∗ srcP X (.rs 0 2 3) c ∗ RP X (.rs 0 2 3) c ∗ RP X (.rs 0 2 1) c ∗ rows c a3 fullShare (row 0 2 0 c) 64 (Fc X 0 2 c)) -∗ K r) -∗ WP c (Ap (k0_part51 (F := F)) c v1479 v1490 v1724 c0) K) := by
  unfold Ap
  rw [k0_part51_eq_skeleton]
  unfold k0_part51_skel
  simp only [Prog.lift, Prog.bind_op, Prog.bind_ret, Prog.pure_eq_ret]
  iintro ⟨H, Hr14, H1⟩ HK
  iapply (waitRT X Λ 15 (.rs 0 2 2) (hside := ?_)) $$ H
  · exact ⟨rfl, rfl, by decide, rfl, rfl⟩
  iintro ⟨H, Hr15⟩
  iapply (waitT X Λ 16 (.rs 0 2 3) (hside := ?_)) $$ H
  · exact ⟨rfl, rfl, by decide, ⟨rfl, rfl⟩, rfl, rfl⟩
  iintro ⟨H, Hs16, Hr16⟩
  iapply (rows_load (off28 c) ⟨le_rfl, le_rfl⟩) $$ H1; iintro H1
  iapply (slotL X (.rs 0 2 3) fun _ => rfl) $$ Hr16; iintro Hr16
  iapply (slotL X (.rs 0 2 2) fun _ => rfl) $$ Hr15; iintro Hr15
  iapply (slotL X (.rs 0 2 1) fun _ => rfl) $$ Hr14; iintro Hr14
  iapply ret_ok; iapply HK; iframe
  ipureintro
  simp only [k0_pay20, shapeCast_self, cast_slot', Nat.zero_add] <;> rfl

/-- Part 52 of the body writes strip 0's sums after 3 phases, waits for strip 1's
  transfer 1 of reduction phase 2, writes strip 1's sums after 3 phases and sees leave
  strip 2's transfer 1 of reduction phase 2. -/
theorem part52 {v1490 v1562 v1571 v1617 v1753 : _} (hv : v1753 = fun j => Fc X 0 3 c (row 0 2 0 c + (j 0).val) (j 1).val) {K : _ → sProp 𝕄} :
    iprop(pg X Λ c 21 17 false ∗ rows c a3 fullShare (row 0 2 0 c) 64 (Fc X 0 2 c) ∗ rows c a4 fullShare (row 1 2 0 c) 64 (Fc X 1 2 c))
      ⊢ iprop((∀ r, (pg X Λ c 21 18 true ∗ srcP X (.rs 1 2 1) c ∗ RP X (.rs 1 2 1) c ∗ srcP X (.rs 2 2 1) c ∗ rows c a3 fullShare (row 0 2 0 c) 64 (Fc X 0 3 c) ∗ rows c a4 fullShare (row 1 2 0 c) 64 (Fc X 1 3 c)) -∗ K r) -∗ WP c (Ap (k0_part52 (F := F)) c v1490 v1562 v1571 v1617 v1753) K) := by
  subst hv
  unfold Ap
  rw [k0_part52_eq_skeleton]
  unfold k0_part52_skel
  simp only [Prog.lift, Prog.bind_op, Prog.bind_ret, Prog.pure_eq_ret]
  iintro ⟨H, H1, H2⟩ HK
  iapply (rows_load (off28 c) ⟨le_rfl, le_rfl⟩) $$ H1; iintro H1
  iapply (rows_store (off28 c) (G' := Fc X 0 3 c) fun j => ?_) $$ H1
  · simp only [k0_pay21, shapeCast_self, cast_slot', Nat.zero_add] <;> rfl
  iintro H1
  iapply (waitT X Λ 17 (.rs 1 2 1) (hside := ?_)) $$ H
  · exact ⟨rfl, rfl, by decide, ⟨rfl, rfl⟩, rfl, rfl⟩
  iintro ⟨H, Hs17, Hr17⟩
  iapply (rows_load (off29 c) ⟨le_rfl, le_rfl⟩) $$ H2; iintro H2
  iapply (matL X (.rs 1 2 1) fun _ => rfl) $$ Hr17; iintro Hr17
  iapply (rows_load (off29 c) ⟨le_rfl, le_rfl⟩) $$ H2; iintro H2
  iapply (rows_store (off29 c) (G' := Fc X 1 3 c) fun j => ?_) $$ H2
  · simp only [k0_pay22, shapeCast_self, cast_slot', Nat.zero_add] <;> rfl
  iintro H2
  iapply (waitST X Λ 18 (.rs 2 2 1) (hside := ?_)) $$ H
  · exact ⟨rfl, rfl, by decide, rfl, rfl⟩
  iintro ⟨H, Hs18⟩
  iapply ret_ok; iapply HK; iframe

/-- Part 53 of the body receives strip 2's transfer 1 of reduction phase 2, waits for
  strip 2's transfer 2 of reduction phase 2 and sees leave strip 2's transfer 3 of
  reduction phase 2. -/
theorem part53 {v1656 v1695 : _} {K : _ → sProp 𝕄} :
    iprop(pg X Λ c 21 18 true)
      ⊢ iprop((∀ r, (pg X Λ c 21 20 true ∗ RP X (.rs 2 2 1) c ∗ srcP X (.rs 2 2 2) c ∗ RP X (.rs 2 2 2) c ∗ srcP X (.rs 2 2 3) c) -∗ K r) -∗ WP c (Ap (k0_part53 (F := F)) c v1656 v1695) K) := by
  unfold Ap
  rw [k0_part53_eq_skeleton]
  unfold k0_part53_skel
  simp only [Prog.lift, Prog.bind_op, Prog.bind_ret, Prog.pure_eq_ret]
  iintro H HK
  iapply (waitRT X Λ 18 (.rs 2 2 1) (hside := ?_)) $$ H
  · exact ⟨rfl, rfl, by decide, rfl, rfl⟩
  iintro ⟨H, Hr18⟩
  iapply (waitT X Λ 19 (.rs 2 2 2) (hside := ?_)) $$ H
  · exact ⟨rfl, rfl, by decide, ⟨rfl, rfl⟩, rfl, rfl⟩
  iintro ⟨H, Hs19, Hr19⟩
  iapply (waitST X Λ 20 (.rs 2 2 3) (hside := ?_)) $$ H
  · exact ⟨rfl, rfl, by decide, rfl, rfl⟩
  iintro ⟨H, Hs20⟩
  iapply ret_ok; iapply HK; iframe

end Cert.KProof

end
-- ==== Proof.PartsD.lean ====
module

public import proofs.«01_k».proof.Proof.Steps

/-!
# The exchange of the finished rows

Each theorem states what one part of the body needs and what it leaves:
the last sum, the three strips brought together, the product, and the strips sent
back.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- The rows exchanged for the product, kept where their device is the one that needs them. -/
theorem keepB (h : dstB c = c) : rc X (.sh 0) c = fun r l => Fc X 1 3 c (row 1 2 0 c + r) l := by
  funext r l
  show Fc X 1 3 (srcB c) (row 0 2 0 c + r) l = _
  rw [(srcB_eq_iff c).2 h, ← row_dstB, h]

/-- A device that takes no part in strip 2's exchange has its own rows as those it would
  receive. -/
theorem keepC (h : dstC c = c) : rc X (.sh 1) c = fun r l => Fc X 2 3 c (row 2 2 0 c + r) l := by
  funext r l
  show Fc X 2 3 (srcC c) (row 0 2 0 c + r) l = _
  rw [(srcC_eq_iff c).2 h, ← row_dstC, h]

/-- The last sum of strip 2, and strips 1 and 2 on their way to the product. -/
theorem part54 {v203 v295 v296 v297 v1490 v1571 v1706 : _} {K : _ → sProp 𝕄} :
    iprop(pg X Λ c 21 20 true ∗ RP X (.rs 2 2 2) c ∗ RP X (.rs 2 2 1) c ∗ rows c a5 fullShare (row 2 2 0 c) 64 (Fc X 2 2 c) ∗ srcP X (.sh 0) c
        ∗ rows c a3 fullShare (row 0 2 0 c) 64 (Fc X 0 3 c))
      ⊢ iprop((∀ r, (⌜r = fun j => Fc X 0 3 c (row 0 2 0 c + (j 0).val) (j 1).val⌝ ∗ pg X Λ c 23 21 false ∗ RP X (.rs 2 2 3) c ∗ RP X (.rs 2 2 2) c ∗ RP X (.rs 2 2 1) c
          ∗ rows c a3 fullShare (row 0 2 0 c) 64 (Fc X 0 3 c)
          ∗ offp (.sh 0) c iprop(srcP X (.sh 0) c ∗ RP X (.sh 0) c) ∗ offp (.sh 1) c iprop(srcP X (.sh 1) c ∗ RP X (.sh 1) c)) -∗ K r)
        -∗ WP c (Ap (k0_part54 (F := F)) c v203 v295 v296 v297 v1490 v1571 v1706) K) := by
  unfold Ap
  rw [k0_part54_eq_skeleton]
  unfold k0_part54_skel
  simp only [Prog.lift, Prog.bind_op, Prog.bind_ret, Prog.pure_eq_ret]
  iintro ⟨H, Hr19, Hr18, H1, Hs0, H3⟩ HK
  iapply (waitRT X Λ 20 (.rs 2 2 3) (hside := ?_)) $$ H
  · exact ⟨rfl, rfl, by decide, rfl, rfl⟩
  iintro ⟨H, Hr20⟩
  iapply (rows_load (off30 c) ⟨le_rfl, le_rfl⟩) $$ H1; iintro H1
  iapply (slotL X (.rs 2 2 3) fun _ => rfl) $$ Hr20; iintro Hr20
  iapply (slotL X (.rs 2 2 2) fun _ => rfl) $$ Hr19; iintro Hr19
  iapply (slotL X (.rs 2 2 1) fun _ => rfl) $$ Hr18; iintro Hr18
  iapply (rows_load (off30 c) ⟨le_rfl, le_rfl⟩) $$ H1; iintro H1
  iapply (rows_store (off30 c) (G' := Fc X 2 3 c) fun j => ?_) $$ H1
  · simp only [k0_pay23, shapeCast_self, cast_slot', Nat.zero_add] <;> rfl
  iintro H1
  ihave H1 := (Entails.of_eq (show rows c a5 fullShare (row 2 2 0 c) 64 (Fc X 2 3 c) = srcP X (.sh 1) c from rfl)) $$ H1
  iapply (cutD (iprop(pg X Λ c 21 21 false ∗ srcP X (.sh 0) c)) (iprop(pg X Λ c 22 21 false ∗ offp (.sh 0) c iprop(srcP X (.sh 0) c ∗ LD (.sh 0) c))) ?_ ?_) $$ [H Hs0]
  · intro h
    unfold offp
    rw [if_pos ((shB (cond5 c)).1 h).1]
    iintro ⟨H, Hs⟩ HK
    iapply (sendT X Λ 21 (.sh 0) (q := fullShare) (hside := ?_)) $$ H Hs
    · exact ⟨rfl, ((shB (cond5 c)).1 h).1, by decide, rfl, rfl, rfl, Fin.ext (dev33 c), rows_slice (off31 c), fun _ _ => rfl⟩
    iintro H
    iapply HK; iframe
  · intro h
    unfold offp
    rw [if_neg (by rw [((shB (cond5 c)).2 h).1.1]; decide)]
    iintro ⟨H, Hs⟩ HK
    ihave H := (skipST X Λ 21 (.sh 0) (hside := ⟨rfl, ((shB (cond5 c)).2 h).1.1, by decide⟩)) $$ H
    iapply HK
    icases H with ⟨H, Hl⟩
    iframe
  · iframe
  iintro ⟨H, Ho⟩
  iapply (cutD (offp (.sh 0) c iprop(srcP X (.sh 0) c ∗ LD (.sh 0) c)) (offp (.sh 0) c iprop(srcP X (.sh 0) c ∗ RP X (.sh 0) c)) ?_ ?_) $$ Ho
  · intro h
    unfold offp
    rw [if_neg (by rw [((shB' (cond6 c)).2 h).1.1]; decide), if_neg (by rw [((shB' (cond6 c)).2 h).1.1]; decide)]
    unfold RP LD
    rw [keepB X c ((shB' (cond6 c)).2 h).2]
    simp only [land, srcP]
    iintro ⟨Hs, %G, Hl⟩ HK
    iapply (rows_load (off32 c) ⟨le_rfl, le_rfl⟩) $$ Hs; iintro Hs
    iapply (mat_load rfl) $$ Hl; iintro Hl
    iapply (matS (G' := fun r l => Fc X 1 3 c (row 1 2 0 c + r) l) fun j => ?_) $$ Hl
    · simp only [k0_pay24, shapeCast_self, Nat.zero_add]
    iintro Hl
    iapply HK; iframe
  · intro h
    unfold offp
    rw [if_pos ((shB' (cond6 c)).1 h).1, if_pos ((shB' (cond6 c)).1 h).1]
    iintro He HK
    iapply HK; iexact He
  iintro Ho
  iapply (cutD (iprop(pg X Λ c 22 21 false ∗ srcP X (.sh 1) c)) (iprop(pg X Λ c 23 21 false ∗ offp (.sh 1) c iprop(srcP X (.sh 1) c ∗ LD (.sh 1) c))) ?_ ?_) $$ [H H1]
  · intro h
    unfold offp
    rw [if_pos ((shC (cond7 c)).1 h).1]
    iintro ⟨H, Hs⟩ HK
    iapply (sendT X Λ 22 (.sh 1) (q := fullShare) (hside := ?_)) $$ H Hs
    · exact ⟨rfl, ((shC (cond7 c)).1 h).1, by decide, rfl, rfl, rfl, Fin.ext (dev34 c), rows_slice (off33 c), fun _ _ => rfl⟩
    iintro H
    iapply HK; iframe
  · intro h
    unfold offp
    rw [if_neg (by rw [((shC (cond7 c)).2 h).1.1]; decide)]
    iintro ⟨H, Hs⟩ HK
    ihave H := (skipST X Λ 22 (.sh 1) (hside := ⟨rfl, ((shC (cond7 c)).2 h).1.1, by decide⟩)) $$ H
    iapply HK
    icases H with ⟨H, Hl⟩
    iframe
  · iframe
  iintro ⟨H, Hp⟩
  iapply (cutD (offp (.sh 1) c iprop(srcP X (.sh 1) c ∗ LD (.sh 1) c)) (offp (.sh 1) c iprop(srcP X (.sh 1) c ∗ RP X (.sh 1) c)) ?_ ?_) $$ Hp
  · intro h
    unfold offp
    rw [if_neg (by rw [((shC' (cond8 c)).2 h).1.1]; decide), if_neg (by rw [((shC' (cond8 c)).2 h).1.1]; decide)]
    unfold RP LD
    rw [keepC X c ((shC' (cond8 c)).2 h).2]
    simp only [land, srcP]
    iintro ⟨Hs, %G, Hl⟩ HK
    iapply (rows_load (off34 c) ⟨le_rfl, le_rfl⟩) $$ Hs; iintro Hs
    iapply (mat_load rfl) $$ Hl; iintro Hl
    iapply (matS (G' := fun r l => Fc X 2 3 c (row 2 2 0 c + r) l) fun j => ?_) $$ Hl
    · simp only [k0_pay25, shapeCast_self, Nat.zero_add]
    iintro Hl
    iapply HK; iframe
  · intro h
    unfold offp
    rw [if_pos ((shC' (cond8 c)).1 h).1, if_pos ((shC' (cond8 c)).1 h).1]
    iintro He HK
    iapply HK; iexact He
  iintro Hp
  iapply (rows_load (off28 c) ⟨le_rfl, le_rfl⟩) $$ H3; iintro H3
  iapply ret_ok; iapply HK; iframe
  ipureintro
  simp only [Nat.zero_add]

/-- An element of the product by its row and column. -/
theorem Yv_at (j : S64x1024.Idx) (r n : ℕ) (hr : (j 0).val = r) (hn : (j 1).val = n) : Yv X c j = Yn X c r n := by
  have h0 : (j 0).val < 64 := (j 0).isLt
  have h1 : (j 1).val < 1024 := (j 1).isLt
  unfold Yn
  refine congrArg _ ?_
  rw [eq_ix2 j]
  subst hr hn
  congr 1
  · exact Fin.ext (Nat.mod_eq_of_lt h0).symm
  · exact Fin.ext (Nat.mod_eq_of_lt h1).symm

/-- The product of the finished rows, and its three strips. -/
theorem part55 {v203 v295 v296 v297 v1490 v1836 : _} (hv : v1836 = fun j => Fc X 0 3 c (row 0 2 0 c + (j 0).val) (j 1).val) {G₁ G₂ : ℕ → ℕ → Elt F .bf16} {K : _ → sProp 𝕄} :
    iprop(pg X Λ c 23 21 false ∗ offp (.sh 0) c iprop(srcP X (.sh 0) c ∗ RP X (.sh 0) c) ∗ offp (.sh 1) c iprop(srcP X (.sh 1) c ∗ RP X (.sh 1) c)
        ∗ rows c a6 fullShare 0 1024 (X.W c) ∗ rows c a3 fullShare (row 0 2 0 c) 64 (Fc X 0 3 c) ∗ mat c a27 fullShare G₁ ∗ mat c a28 fullShare G₂)
      ⊢ iprop((∀ r, (⌜r.1 = Yv X c⌝ ∗ pg X Λ c 23 23 false ∗ srcP X (.sh 0) c ∗ RP X (.sh 0) c ∗ srcP X (.sh 1) c ∗ RP X (.sh 1) c
          ∗ rows c a6 fullShare 0 1024 (X.W c) ∗ rows c a3 fullShare (row 0 2 0 c) 64 (Gs X 0) ∗ mat c a27 fullShare (Zb X c) ∗ mat c a28 fullShare (Zc X c)) -∗ K r)
        -∗ WP c (Ap (k0_part55 (F := F)) c v203 v295 v296 v297 v1490 v1836) K) := by
  subst hv
  unfold Ap
  rw [k0_part55_eq_skeleton]
  unfold k0_part55_skel
  simp only [Prog.lift, Prog.bind_op, Prog.bind_ret, Prog.pure_eq_ret]
  iintro ⟨H, Ho, Hp, HB, H3, H27, H28⟩ HK
  iapply (rows_load (lo' := 0) (co' := 0) rfl (by decide)) $$ HB; iintro HB
  iapply (cutD (iprop(pg X Λ c 23 21 false ∗ offp (.sh 0) c iprop(srcP X (.sh 0) c ∗ RP X (.sh 0) c))) (iprop(pg X Λ c 23 22 false ∗ srcP X (.sh 0) c ∗ RP X (.sh 0) c)) ?_ ?_) $$ [H Ho]
  · intro h
    unfold offp
    rw [if_pos ((shB (cond9 c)).1 h).1]
    iintro ⟨H, -⟩ HK
    iapply (waitT X Λ 21 (.sh 0) (hside := ?_)) $$ H
    · exact ⟨rfl, ((shB (cond9 c)).1 h).1, by decide, ⟨rfl, rfl⟩, rfl, rfl⟩
    iintro H
    iapply HK; iexact H
  · intro h
    unfold offp
    rw [if_neg (by rw [((shB (cond9 c)).2 h).1.1]; decide)]
    iintro ⟨H, Hs⟩ HK
    iapply (skipWT X Λ 21 (.sh 0) (hside := ?_)) $$ H
    · exact ⟨rfl, ((shB (cond9 c)).2 h).1.1, by decide⟩
    iintro H
    iapply HK; iframe
  · iframe
  iintro ⟨H, Hs0, Hr0⟩
  iapply (matL X (.sh 0) fun _ => rfl) $$ Hr0; iintro Hr0
  iapply (rows_load (lo' := 384) (co' := 0) rfl (by decide)) $$ HB; iintro HB
  iapply (cutD (iprop(pg X Λ c 23 22 false ∗ offp (.sh 1) c iprop(srcP X (.sh 1) c ∗ RP X (.sh 1) c))) (iprop(pg X Λ c 23 23 false ∗ srcP X (.sh 1) c ∗ RP X (.sh 1) c)) ?_ ?_) $$ [H Hp]
  · intro h
    unfold offp
    rw [if_pos ((shC (cond10 c)).1 h).1]
    iintro ⟨H, -⟩ HK
    iapply (waitT X Λ 22 (.sh 1) (hside := ?_)) $$ H
    · exact ⟨rfl, ((shC (cond10 c)).1 h).1, by decide, ⟨rfl, rfl⟩, rfl, rfl⟩
    iintro H
    iapply HK; iexact H
  · intro h
    unfold offp
    rw [if_neg (by rw [((shC (cond10 c)).2 h).1.1]; decide)]
    iintro ⟨H, Hs⟩ HK
    iapply (skipWT X Λ 22 (.sh 1) (hside := ?_)) $$ H
    · exact ⟨rfl, ((shC (cond10 c)).2 h).1.1, by decide⟩
    iintro H
    iapply HK; iframe
  · iframe
  iintro ⟨H, Hs1, Hr1⟩
  iapply (matL X (.sh 1) fun _ => rfl) $$ Hr1; iintro Hr1
  iapply (rows_load (lo' := 640) (co' := 0) rfl (by decide)) $$ HB; iintro HB
  have hY : k0_pay26 (fun j => Fc X 0 3 c (row 0 2 0 c + (j 0).val) (j 1).val) (fun j => X.W c (0 + (j 0).val) (0 + (j 1).val))
      (fun j => rc X (.sh 0) c (j 0).val (j 1).val) (fun j => X.W c (384 + (j 0).val) (0 + (j 1).val))
      (fun j => rc X (.sh 1) c (j 0).val (j 1).val) (fun j => X.W c (640 + (j 0).val) (0 + (j 1).val)) = Yv X c := by
    simp only [Nat.zero_add]; rfl
  iapply (rows_load (off28 c) ⟨le_rfl, le_rfl⟩) $$ H3; iintro H3
  iapply (rows_store (off28 c) (G' := Gs X 0) fun j => ?_) $$ H3
  · unfold k0_pay27
    rw [hY]
    have h0 : (j 0).val < 64 := (j 0).isLt
    have h1 : (j 1).val < 384 := (j 1).isLt
    rw [Gs_A X c _ _ h0]
    simp only [shapeCast_self]
    exact congrArg _ (Yv_at X c _ _ _ (by simp) (by simp))
  iintro H3
  iapply (mat_load rfl) $$ H27; iintro H27
  iapply (matS (G' := Zb X c) fun j => ?_) $$ H27
  · unfold k0_pay28
    rw [hY]
    simp only [shapeCast_self]
    exact congrArg _ (Yv_at X c _ _ _ (by simp) (by simp))
  iintro H27
  iapply (mat_load rfl) $$ H28; iintro H28
  iapply (matS (G' := Zc X c) fun j => ?_) $$ H28
  · unfold k0_pay29
    rw [hY]
    simp only [shapeCast_self]
    exact congrArg _ (Yv_at X c _ _ _ (by simp) (by simp))
  iintro H28
  iapply ret_ok; iapply HK; iframe
  ipureintro
  exact hY

/-- Strips 1 and 2 of the product on their way back. -/
theorem part56 {v19 v38 v53 v128 v249 v296 v297 v1867 : _} (hB : v296 = if dstB c = c then 0#1 else 1#1) (hC : v297 = if dstC c = c then 0#1 else 1#1) {K : _ → sProp 𝕄} :
    iprop(pg X Λ c 23 23 false ∗ srcP X (.sh 2) c ∗ srcP X (.sh 3) c)
      ⊢ iprop((∀ r, (pg X Λ c 25 23 false ∗ offp (.sh 2) c iprop(srcP X (.sh 2) c ∗ RP X (.sh 2) c) ∗ offp (.sh 3) c iprop(srcP X (.sh 3) c ∗ RP X (.sh 3) c)) -∗ K r)
        -∗ WP c (Ap (k0_part56 (F := F)) c v19 v38 v53 v128 v249 v296 v297 v1867) K) := by
  unfold Ap
  rw [k0_part56_eq_skeleton]
  unfold k0_part56_skel
  simp only [Prog.lift, Prog.bind_op, Prog.bind_ret, Prog.pure_eq_ret]
  iintro ⟨H, Hs23, Hs24⟩ HK
  iapply (cutD (iprop(pg X Λ c 23 23 false ∗ srcP X (.sh 2) c)) (iprop(pg X Λ c 24 23 false ∗ offp (.sh 2) c iprop(srcP X (.sh 2) c ∗ LD (.sh 2) c))) ?_ ?_) $$ [H Hs23]
  · intro h
    unfold offp
    rw [if_pos ((shB (cond11 c)).1 h).2]
    iintro ⟨H, Hs⟩ HK
    iapply (sendT X Λ 23 (.sh 2) (q := fullShare) (hside := ?_)) $$ H Hs
    · exact ⟨rfl, ((shB (cond11 c)).1 h).2, by decide, rfl, rfl, rfl, Fin.ext (dev35 c), rfl, fun _ _ => rfl⟩
    iintro H
    iapply HK; iframe
  · intro h
    unfold offp
    rw [if_neg (by rw [((shB (cond11 c)).2 h).1.2]; decide)]
    iintro ⟨H, Hs⟩ HK
    ihave H := (skipST X Λ 23 (.sh 2) (hside := ⟨rfl, ((shB (cond11 c)).2 h).1.2, by decide⟩)) $$ H
    iapply HK
    icases H with ⟨H, Hl⟩
    iframe
  · iframe
  iintro ⟨H, Ho⟩
  iapply (cutD (offp (.sh 2) c iprop(srcP X (.sh 2) c ∗ LD (.sh 2) c)) (offp (.sh 2) c iprop(srcP X (.sh 2) c ∗ RP X (.sh 2) c)) ?_ ?_) $$ Ho
  · intro h
    have hd := (shB' (bit_not hB)).2 h
    unfold offp
    rw [if_neg (by rw [hd.1.2]; decide), if_neg (by rw [hd.1.2]; decide)]
    unfold RP LD
    simp only [land, srcP, rc, hd.2]
    iintro ⟨Hs, %G, Hl⟩ HK
    iapply (mat_load rfl) $$ Hs; iintro Hs
    iapply (mat_load rfl) $$ Hl; iintro Hl
    iapply (matS (G' := Zb X c) fun j => ?_) $$ Hl
    · simp only [k0_pay30, shapeCast_self]
      exact congrArg₂ _ (Nat.zero_add _) (Nat.zero_add _)
    iintro Hl
    iapply HK; iframe
  · intro h
    have hd := (shB' (bit_not hB)).1 h
    unfold offp
    rw [if_pos hd.2, if_pos hd.2]
    iintro He HK
    iapply HK; iexact He
  iintro Ho
  iapply (cutD (iprop(pg X Λ c 24 23 false ∗ srcP X (.sh 3) c)) (iprop(pg X Λ c 25 23 false ∗ offp (.sh 3) c iprop(srcP X (.sh 3) c ∗ LD (.sh 3) c))) ?_ ?_) $$ [H Hs24]
  · intro h
    unfold offp
    rw [if_pos ((shC (cond13 c)).1 h).2]
    iintro ⟨H, Hs⟩ HK
    iapply (sendT X Λ 24 (.sh 3) (q := fullShare) (hside := ?_)) $$ H Hs
    · exact ⟨rfl, ((shC (cond13 c)).1 h).2, by decide, rfl, rfl, rfl, Fin.ext (dev36 c), rfl, fun _ _ => rfl⟩
    iintro H
    iapply HK; iframe
  · intro h
    unfold offp
    rw [if_neg (by rw [((shC (cond13 c)).2 h).1.2]; decide)]
    iintro ⟨H, Hs⟩ HK
    ihave H := (skipST X Λ 24 (.sh 3) (hside := ⟨rfl, ((shC (cond13 c)).2 h).1.2, by decide⟩)) $$ H
    iapply HK
    icases H with ⟨H, Hl⟩
    iframe
  · iframe
  iintro ⟨H, Hp⟩
  iapply (cutD (offp (.sh 3) c iprop(srcP X (.sh 3) c ∗ LD (.sh 3) c)) (offp (.sh 3) c iprop(srcP X (.sh 3) c ∗ RP X (.sh 3) c)) ?_ ?_) $$ Hp
  · intro h
    have hd := (shC' (bit_not hC)).2 h
    unfold offp
    rw [if_neg (by rw [hd.1.2]; decide), if_neg (by rw [hd.1.2]; decide)]
    unfold RP LD
    simp only [land, srcP, rc, hd.2]
    iintro ⟨Hs, %G, Hl⟩ HK
    iapply (mat_load rfl) $$ Hs; iintro Hs
    iapply (mat_load rfl) $$ Hl; iintro Hl
    iapply (matS (G' := Zc X c) fun j => ?_) $$ Hl
    · simp only [k0_pay31, shapeCast_self]
      exact congrArg₂ _ (Nat.zero_add _) (Nat.zero_add _)
    iintro Hl
    iapply HK; iframe
  · intro h
    have hd := (shC' (bit_not hC)).1 h
    unfold offp
    rw [if_pos hd.2, if_pos hd.2]
    iintro He HK
    iapply HK; iexact He
  iintro Hp
  iapply ret_ok; iapply HK; iframe

/-- Part 57 of the body starts strip 0's transfer 1 back of phase 2. -/
theorem part57 {v19 v38 v53 v1887 v1898 v1899 : _} {K : _ → sProp 𝕄} :
    iprop(pg X Λ c 25 23 false ∗ srcP X (.ag 0 2 1) c)
      ⊢ iprop((∀ r, pg X Λ c 26 23 false -∗ K r) -∗ WP c (Ap (k0_part57 (F := F)) c v19 v38 v53 v1887 v1898 v1899) K) := by
  unfold Ap
  rw [k0_part57_eq_skeleton]
  unfold k0_part57_skel
  simp only [Prog.lift, Prog.bind_op, Prog.bind_ret, Prog.pure_eq_ret]
  iintro ⟨H, Hs25⟩ HK
  iapply (sendT X Λ 25 (.ag 0 2 1) (q := (shr 2 1)) (hside := ?_)) $$ H Hs25
  · exact ⟨rfl, rfl, by decide, rfl, rfl, rfl, Fin.ext (dev37 c), rows_slice (off37 c), fun _ _ => slot_squeeze⟩
  iintro H
  iapply ret_ok; iapply HK; iframe

/-- Part 58 of the body starts strip 0's transfer 2 back of phase 2. -/
theorem part58 {v19 v38 v53 v1924 v1934 c0_i32_1340 : _} {K : _ → sProp 𝕄} :
    iprop(pg X Λ c 26 23 false ∗ srcP X (.ag 0 2 2) c)
      ⊢ iprop((∀ r, pg X Λ c 27 23 false -∗ K r) -∗ WP c (Ap (k0_part58 (F := F)) c v19 v38 v53 v1924 v1934 c0_i32_1340) K) := by
  unfold Ap
  rw [k0_part58_eq_skeleton]
  unfold k0_part58_skel
  simp only [Prog.lift, Prog.bind_op, Prog.bind_ret, Prog.pure_eq_ret]
  iintro ⟨H, Hs26⟩ HK
  iapply (sendT X Λ 26 (.ag 0 2 2) (q := (shr 2 2)) (hside := ?_)) $$ H Hs26
  · exact ⟨rfl, rfl, by decide, rfl, rfl, rfl, Fin.ext (dev38 c), rows_slice (off37 c), fun _ _ => slot_squeeze⟩
  iintro H
  iapply ret_ok; iapply HK; iframe

/-- The last send of the finished rows of strip 0; the product put out, and strip 1 come back. -/
theorem part59 {v19 v38 v53 v128 v296 v1490 v1571 v1850 v1961 v1963 v1964 v1969 : _} (hB : v296 = if dstB c = c then 0#1 else 1#1) (hv : v1850 = Yv X c) {G : ℕ → ℕ → Elt F .f32} {G₁ : ℕ → ℕ → Elt F .bf16} {K : _ → sProp 𝕄} :
    iprop(pg X Λ c 27 23 false ∗ srcP X (.ag 0 2 3) c ∗ mat c a2 fullShare G ∗ offp (.sh 2) c iprop(srcP X (.sh 2) c ∗ RP X (.sh 2) c) ∗ rows c a4 fullShare (row 1 2 0 c) 64 G₁)
      ⊢ iprop((∀ r, (pg X Λ c 28 24 false ∗ srcP X (.sh 2) c ∗ RP X (.sh 2) c ∗ outSt X c 1 ∗ rows c a4 fullShare (row 1 2 0 c) 64 (Gs X 1)) -∗ K r)
        -∗ WP c (Ap (k0_part59 (F := F)) c v19 v38 v53 v128 v296 v1490 v1571 v1850 v1961 v1963 v1964 v1969) K) := by
  subst hv
  unfold Ap
  rw [k0_part59_eq_skeleton]
  unfold k0_part59_skel
  simp only [Prog.lift, Prog.bind_op, Prog.bind_ret, Prog.pure_eq_ret]
  iintro ⟨H, Hs27, HO, Ho, H1⟩ HK
  iapply (sendT X Λ 27 (.ag 0 2 3) (q := (shr 2 3)) (hside := ?_)) $$ H Hs27
  · exact ⟨rfl, rfl, by decide, rfl, rfl, rfl, Fin.ext (dev39 c), rows_slice (off37 c), fun _ _ => slot_squeeze⟩
  iintro H
  iapply (mat_load (off38 c)) $$ HO; iintro HO
  iapply (mat_store (G' := fun r k => if row 0 2 0 c ≤ r ∧ r < row 0 2 0 c + 64 ∧ 0 ≤ k ∧ k < 0 + 1024 then Yn X c (r - row 0 2 0 c) k else G r k) (off38 c) (fun j => ?_) (fun r k h => if_neg h)) $$ HO
  · have h0 : (j 0).val < 64 := (j 0).isLt
    have h1 : (j 1).val < 1024 := (j 1).isLt
    rw [if_pos ⟨by omega, by omega, by omega, by omega⟩]
    exact Yv_at X c _ _ _ (by omega) (by omega)
  iintro HO
  iapply (cutD (iprop(pg X Λ c 28 23 false ∗ offp (.sh 2) c iprop(srcP X (.sh 2) c ∗ RP X (.sh 2) c))) (iprop(pg X Λ c 28 24 false ∗ srcP X (.sh 2) c ∗ RP X (.sh 2) c)) ?_ ?_) $$ [H Ho]
  · intro h
    have hd := (shB ((bit_ne _).trans hB)).1 h
    unfold offp
    rw [if_pos hd.2]
    iintro ⟨H, -⟩ HK
    iapply (waitT X Λ 23 (.sh 2) (hside := ?_)) $$ H
    · exact ⟨rfl, hd.2, by decide, ⟨rfl, rfl⟩, rfl, rfl⟩
    iintro H
    iapply HK; iexact H
  · intro h
    have hd := ((shB ((bit_ne _).trans hB)).2 h).1
    unfold offp
    rw [if_neg (by rw [hd.2]; decide)]
    iintro ⟨H, Hs⟩ HK
    iapply (skipWT X Λ 23 (.sh 2) (hside := ?_)) $$ H
    · exact ⟨rfl, hd.2, by decide⟩
    iintro H
    iapply HK; iframe
  · iframe
  iintro ⟨H, Hs23, Hr23⟩
  iapply (matL X (.sh 2) fun _ => rfl) $$ Hr23; iintro Hr23
  iapply (rows_load (off29 c) ⟨le_rfl, le_rfl⟩) $$ H1; iintro H1
  iapply (rows_store (off29 c) (G' := Gs X 1) fun j => ?_) $$ H1
  · rw [Gs_B X c _ _ (j 0).isLt]
    simp only [k0_pay32, shapeCast_self] <;> rfl
  iintro H1
  ihave HO : outSt X c 1 $$ [HO]
  · unfold outSt
    iexists fun r k => if row 0 2 0 c ≤ r ∧ r < row 0 2 0 c + 64 ∧ 0 ≤ k ∧ k < 0 + 1024 then Yn X c (r - row 0 2 0 c) k else G r k
    isplitr
    · ipureintro
      intro l r n hl hi
      obtain rfl : l = 0 := Fin.ext (by omega)
      have hi' : row 0 2 0 c ≤ r ∧ r < row 0 2 0 c + 64 ∧ 0 ≤ n ∧ n < 0 + 384 := hi
      show (if _ then _ else _) = _
      unfold Gout
      rw [if_pos ⟨by omega, by omega, by omega, by omega⟩, if_pos ⟨by omega, by omega, by omega⟩]
    · iexact HO
  iapply ret_ok; iapply HK; iframe

/-- Strip 1 sent on and put out, and strip 2 come back. -/
theorem part60 {v19 v38 v53 v249 v297 v1571 v1706 v1999 v2001 : _} (hC : v297 = if dstC c = c then 0#1 else 1#1) {G : ℕ → ℕ → Elt F .bf16} {K : _ → sProp 𝕄} :
    iprop(pg X Λ c 28 24 false ∗ srcP X (.ag 1 2 1) c ∗ RP X (.sh 2) c ∗ outSt X c 1 ∗ offp (.sh 3) c iprop(srcP X (.sh 3) c ∗ RP X (.sh 3) c) ∗ rows c a5 fullShare (row 2 2 0 c) 64 G)
      ⊢ iprop((∀ r, (⌜r.2.2 = fun j => rc X (.sh 3) c (j 0).val (j 1).val⌝ ∗ pg X Λ c 29 25 false ∗ RP X (.sh 2) c ∗ srcP X (.sh 3) c ∗ RP X (.sh 3) c ∗ outSt X c 2 ∗ rows c a5 fullShare (row 2 2 0 c) 64 G) -∗ K r)
        -∗ WP c (Ap (k0_part60 (F := F)) c v19 v38 v53 v249 v297 v1571 v1706 v1999 v2001) K) := by
  unfold Ap
  rw [k0_part60_eq_skeleton]
  unfold k0_part60_skel
  simp only [Prog.lift, Prog.bind_op, Prog.bind_ret, Prog.pure_eq_ret]
  iintro ⟨H, Hs28, Hr23, HO, Ho, H2⟩ HK
  iapply (sendT X Λ 28 (.ag 1 2 1) (q := (shr 0 1)) (hside := ?_)) $$ H Hs28
  · exact ⟨rfl, rfl, by decide, rfl, rfl, rfl, Fin.ext (dev40 c), rows_slice (off39 c), fun _ _ => rfl⟩
  iintro H
  iapply (matL X (.sh 2) fun _ => rfl) $$ Hr23; iintro Hr23
  iapply (out_load X (off40 c)) $$ HO; iintro %_ HO
  iapply (outT X 1 1 2 0 (hs := ?_) (hw := ?_)) $$ HO
  · exact ⟨off40 c, rfl, rfl, rfl, by decide⟩
  · intro j
    rw [Gs_B X c _ _ (j 0).isLt]
    rfl
  iintro HO
  iapply (cutD (iprop(pg X Λ c 29 24 false ∗ offp (.sh 3) c iprop(srcP X (.sh 3) c ∗ RP X (.sh 3) c))) (iprop(pg X Λ c 29 25 false ∗ srcP X (.sh 3) c ∗ RP X (.sh 3) c)) ?_ ?_) $$ [H Ho]
  · intro h
    have hd := (shC ((bit_ne _).trans hC)).1 h
    unfold offp
    rw [if_pos hd.2]
    iintro ⟨H, -⟩ HK
    iapply (waitT X Λ 24 (.sh 3) (hside := ?_)) $$ H
    · exact ⟨rfl, hd.2, by decide, ⟨rfl, rfl⟩, rfl, rfl⟩
    iintro H
    iapply HK; iexact H
  · intro h
    have hd := ((shC ((bit_ne _).trans hC)).2 h).1
    unfold offp
    rw [if_neg (by rw [hd.2]; decide)]
    iintro ⟨H, Hs⟩ HK
    iapply (skipWT X Λ 24 (.sh 3) (hside := ?_)) $$ H
    · exact ⟨rfl, hd.2, by decide⟩
    iintro H
    iapply HK; iframe
  · iframe
  iintro ⟨H, Hs24, Hr24⟩
  iapply (matL X (.sh 3) fun _ => rfl) $$ Hr24; iintro Hr24
  iapply (rows_load (off30 c) ⟨le_rfl, le_rfl⟩) $$ H2; iintro H2
  iapply ret_ok; iapply HK; iframe
  ipureintro
  simp only [k0_pay34, shapeCast_self]

/-- The finished strip 2 kept. -/
theorem part61 {v19 v38 v53 v2036 : _} (hv : v2036 = fun j => rc X (.sh 3) c (j 0).val (j 1).val) {G : ℕ → ℕ → Elt F .bf16} {K : _ → sProp 𝕄} :
    rows c a5 fullShare (row 2 2 0 c) 64 G ⊢ iprop((∀ r, rows c a5 fullShare (row 2 2 0 c) 64 (Gs X 2) -∗ K r) -∗ WP c (Ap (k0_part61 (F := F)) c v19 v38 v53 v2036) K) := by
  subst hv
  unfold Ap
  rw [k0_part61_eq_skeleton]
  unfold k0_part61_skel
  simp only [Prog.lift, Prog.bind_op, Prog.bind_ret, Prog.pure_eq_ret]
  iintro H2 HK
  iapply (rows_store (off30 c) (G' := Gs X 2) fun j => ?_) $$ H2
  · rw [Gs_C X c _ _ (j 0).isLt]; rfl
  iintro H2
  iapply ret_ok; iapply HK; iexact H2

/-- Part 62 of the body starts strip 2's transfer 1 back of phase 2. -/
theorem part62 {v19 v38 v53 : _} {K : _ → sProp 𝕄} :
    iprop(pg X Λ c 29 25 false ∗ srcP X (.ag 2 2 1) c)
      ⊢ iprop((∀ r, pg X Λ c 30 25 false -∗ K r) -∗ WP c (Ap (k0_part62 (F := F)) c v19 v38 v53) K) := by
  unfold Ap
  rw [k0_part62_eq_skeleton]
  unfold k0_part62_skel
  simp only [Prog.lift, Prog.bind_op, Prog.bind_ret, Prog.pure_eq_ret]
  iintro ⟨H, Hs29⟩ HK
  iapply (sendT X Λ 29 (.ag 2 2 1) (q := (shr 1 1)) (hside := ?_)) $$ H Hs29
  · exact ⟨rfl, rfl, by decide, rfl, rfl, rfl, Fin.ext (dev41 c), rows_slice (off41 c), fun _ _ => slot_squeeze⟩
  iintro H
  iapply ret_ok; iapply HK; iframe

/-- Part 63 of the body starts strip 2's transfer 2 back of phase 2. -/
theorem part63 {v19 v38 v53 : _} {K : _ → sProp 𝕄} :
    iprop(pg X Λ c 30 25 false ∗ srcP X (.ag 2 2 2) c)
      ⊢ iprop((∀ r, pg X Λ c 31 25 false -∗ K r) -∗ WP c (Ap (k0_part63 (F := F)) c v19 v38 v53) K) := by
  unfold Ap
  rw [k0_part63_eq_skeleton]
  unfold k0_part63_skel
  simp only [Prog.lift, Prog.bind_op, Prog.bind_ret, Prog.pure_eq_ret]
  iintro ⟨H, Hs30⟩ HK
  iapply (sendT X Λ 30 (.ag 2 2 2) (q := (shr 1 2)) (hside := ?_)) $$ H Hs30
  · exact ⟨rfl, rfl, by decide, rfl, rfl, rfl, Fin.ext (dev42 c), rows_slice (off41 c), fun _ _ => slot_squeeze⟩
  iintro H
  iapply ret_ok; iapply HK; iframe

/-- Part 64 of the body starts strip 2's transfer 3 back of phase 2, writes strip 2's
  part of the output and waits for strip 0's transfer 1 back of phase 2. -/
theorem part64 {v38 v1706 v1904 : _} {K : _ → sProp 𝕄} :
    iprop(pg X Λ c 31 25 false ∗ srcP X (.ag 2 2 3) c ∗ RP X (.sh 3) c ∗ outSt X c 2)
      ⊢ iprop((∀ r, (pg X Λ c 32 26 false ∗ srcP X (.ag 0 2 1) c ∗ RP X (.ag 0 2 1) c ∗ RP X (.sh 3) c ∗ outSt X c 3) -∗ K r) -∗ WP c (Ap (k0_part64 (F := F)) c v38 v1706 v1904) K) := by
  unfold Ap
  rw [k0_part64_eq_skeleton]
  unfold k0_part64_skel
  simp only [Prog.lift, Prog.bind_op, Prog.bind_ret, Prog.pure_eq_ret]
  iintro ⟨H, Hs31, Hr24, HO⟩ HK
  iapply (sendT X Λ 31 (.ag 2 2 3) (q := (shr 1 3)) (hside := ?_)) $$ H Hs31
  · exact ⟨rfl, rfl, by decide, rfl, rfl, rfl, Fin.ext (dev43 c), rows_slice (off41 c), fun _ _ => slot_squeeze⟩
  iintro H
  iapply (matL X (.sh 3) fun _ => rfl) $$ Hr24; iintro Hr24
  iapply (out_load X (off42 c)) $$ HO; iintro %_ HO
  iapply (outT X 2 2 2 0 (hs := ?_) (hw := ?_)) $$ HO
  · exact ⟨off42 c, rfl, rfl, rfl, by decide⟩
  · intro j
    rw [Gs_C X c _ _ (j 0).isLt]
    rfl
  iintro HO
  iapply (waitT X Λ 25 (.ag 0 2 1) (hside := ?_)) $$ H
  · exact ⟨rfl, rfl, by decide, ⟨rfl, rfl⟩, rfl, rfl⟩
  iintro ⟨H, Hs25, Hr25⟩
  iapply ret_ok; iapply HK; iframe

end Cert.KProof

end
-- ==== Proof.PartsE.lean ====
module

public import proofs.«01_k».proof.Proof.Steps

/-!
# The gathering

Each theorem states what one part of the body needs and what it leaves:
the sends of the finished rows, and the received rows kept and put out.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- Part 65 of the body waits for strip 0's transfer 2 back of phase 2 and strip 0's
  transfer 3 back of phase 2. -/
theorem part65 {v19 v1941 v1978 : _} {K : _ → sProp 𝕄} :
    iprop(pg X Λ c 32 26 false)
      ⊢ iprop((∀ r, (pg X Λ c 32 28 false ∗ srcP X (.ag 0 2 2) c ∗ RP X (.ag 0 2 2) c ∗ srcP X (.ag 0 2 3) c ∗ RP X (.ag 0 2 3) c) -∗ K r) -∗ WP c (Ap (k0_part65 (F := F)) c v19 v1941 v1978) K) := by
  unfold Ap
  rw [k0_part65_eq_skeleton]
  unfold k0_part65_skel
  simp only [Prog.lift, Prog.bind_op, Prog.bind_ret, Prog.pure_eq_ret]
  iintro H HK
  iapply (waitT X Λ 26 (.ag 0 2 2) (hside := ?_)) $$ H
  · exact ⟨rfl, rfl, by decide, ⟨rfl, rfl⟩, rfl, rfl⟩
  iintro ⟨H, Hs26, Hr26⟩
  iapply (waitT X Λ 27 (.ag 0 2 3) (hside := ?_)) $$ H
  · exact ⟨rfl, rfl, by decide, ⟨rfl, rfl⟩, rfl, rfl⟩
  iintro ⟨H, Hs27, Hr27⟩
  iapply ret_ok; iapply HK; iframe

/-- Part 66 of the body writes finished rows of strip 0 and strip 0's part of the
  output. -/
theorem part66 {v19 v1989 v2193 v2194 v2195 : _} {G021 : ℕ → ℕ → Elt F .bf16} {K : _ → sProp 𝕄} :
    iprop(RP X (.ag 0 2 3) c ∗ RP X (.ag 0 2 2) c ∗ rows c a3 fullShare (row 0 2 1 c) 64 G021 ∗ outSt X c 3)
      ⊢ iprop((∀ r, (⌜r.2 = fun j => rc X (.ag 0 2 2) c (j 0).val (j 1).val⌝ ∗ RP X (.ag 0 2 3) c ∗ RP X (.ag 0 2 2) c ∗ rows c a3 fullShare (row 0 2 1 c) 64 (Gs X 0) ∗ outSt X c 4) -∗ K r) -∗ WP c (Ap (k0_part66 (F := F)) c v19 v1989 v2193 v2194 v2195) K) := by
  unfold Ap
  rw [k0_part66_eq_skeleton]
  unfold k0_part66_skel
  simp only [Prog.lift, Prog.bind_op, Prog.bind_ret, Prog.pure_eq_ret]
  iintro ⟨Hr27, Hr26, L021, HO⟩ HK
  iapply (slotL X (.ag 0 2 3) fun _ => rfl) $$ Hr27; iintro Hr27
  iapply (rows_load (off43 c 0) ⟨le_rfl, le_rfl⟩) $$ L021; iintro L021
  iapply (rows_store (off43 c 0) (G' := Gs X 0) fun j => ?_) $$ L021
  · simp only [k0_pay36, shapeCast_self, cast_slot', Nat.zero_add] <;> rfl
  iintro L021
  iapply (slotL X (.ag 0 2 3) fun _ => rfl) $$ Hr27; iintro Hr27
  iapply (out_load X (off44 c 0)) $$ HO; iintro %_ HO
  iapply (outT X 3 0 2 1 (hs := ⟨off44 c 0, rfl, rfl, rfl, by decide⟩) (hw := fun j => ?_)) $$ HO
  · simp only [k0_pay37, shapeCast_self, cast_slot', Nat.zero_add] <;> rfl
  iintro HO
  iapply (slotL X (.ag 0 2 2) fun _ => rfl) $$ Hr26; iintro Hr26
  iapply ret_ok; iapply HK; iframe
  ipureintro
  simp only [k0_pay38, shapeCast_self, cast_slot', Nat.zero_add] <;> rfl

/-- Part 67 of the body writes finished rows of strip 0 and strip 0's part of the
  output. -/
theorem part67 {v19 v1989 v2228 v2230 : _} (hv : v2230 = fun j => rc X (.ag 0 2 2) c (j 0).val (j 1).val) {G022 G023 : ℕ → ℕ → Elt F .bf16} {K : _ → sProp 𝕄} :
    iprop(RP X (.ag 0 2 2) c ∗ RP X (.ag 0 2 1) c ∗ rows c a3 fullShare (row 0 2 2 c) 64 G022 ∗ rows c a3 fullShare (row 0 2 3 c) 64 G023 ∗ outSt X c 4)
      ⊢ iprop((∀ r, (RP X (.ag 0 2 2) c ∗ RP X (.ag 0 2 1) c ∗ rows c a3 fullShare (row 0 2 2 c) 64 (Gs X 0) ∗ rows c a3 fullShare (row 0 2 3 c) 64 (Gs X 0) ∗ outSt X c 6) -∗ K r) -∗ WP c (Ap (k0_part67 (F := F)) c v19 v1989 v2228 v2230) K) := by
  subst hv
  unfold Ap
  rw [k0_part67_eq_skeleton]
  unfold k0_part67_skel
  simp only [Prog.lift, Prog.bind_op, Prog.bind_ret, Prog.pure_eq_ret]
  iintro ⟨Hr26, Hr25, L022, L023, HO⟩ HK
  iapply (rows_load (off43 c 1) ⟨le_rfl, le_rfl⟩) $$ L022; iintro L022
  iapply (rows_store (off43 c 1) (G' := Gs X 0) fun j => ?_) $$ L022
  · simp only [k0_pay39, shapeCast_self, cast_slot', Nat.zero_add] <;> rfl
  iintro L022
  iapply (slotL X (.ag 0 2 2) fun _ => rfl) $$ Hr26; iintro Hr26
  iapply (out_load X (off44 c 1)) $$ HO; iintro %_ HO
  iapply (outT X 4 0 2 2 (hs := ⟨off44 c 1, rfl, rfl, rfl, by decide⟩) (hw := fun j => ?_)) $$ HO
  · simp only [k0_pay40, shapeCast_self, cast_slot', Nat.zero_add] <;> rfl
  iintro HO
  iapply (slotL X (.ag 0 2 1) fun _ => rfl) $$ Hr25; iintro Hr25
  iapply (rows_load (off43 c 2) ⟨le_rfl, le_rfl⟩) $$ L023; iintro L023
  iapply (rows_store (off43 c 2) (G' := Gs X 0) fun j => ?_) $$ L023
  · simp only [k0_pay41, shapeCast_self, cast_slot', Nat.zero_add] <;> rfl
  iintro L023
  iapply (slotL X (.ag 0 2 1) fun _ => rfl) $$ Hr25; iintro Hr25
  iapply (out_load X (off44 c 2)) $$ HO; iintro %_ HO
  iapply (outT X 5 0 2 3 (hs := ⟨off44 c 2, rfl, rfl, rfl, by decide⟩) (hw := fun j => ?_)) $$ HO
  · simp only [k0_pay42, shapeCast_self, cast_slot', Nat.zero_add] <;> rfl
  iintro HO
  iapply ret_ok; iapply HK; iframe

/-- Part 69 of the body starts strip 0's transfer 1 back of phase 1. -/
theorem part69 {v19 v38 v53 : _} {K : _ → sProp 𝕄} :
    iprop(pg X Λ c 32 28 false ∗ srcP X (.ag 0 1 1) c)
      ⊢ iprop((∀ r, pg X Λ c 33 28 false -∗ K r) -∗ WP c (Ap (k0_part69 (F := F)) c v19 v38 v53) K) := by
  unfold Ap
  rw [k0_part69_eq_skeleton]
  unfold k0_part69_skel
  simp only [Prog.lift, Prog.bind_op, Prog.bind_ret, Prog.pure_eq_ret]
  iintro ⟨H, Hs32⟩ HK
  iapply (sendT X Λ 32 (.ag 0 1 1) (q := (shr 1 1)) (hside := ?_)) $$ H Hs32
  · exact ⟨rfl, rfl, by decide, rfl, rfl, rfl, Fin.ext (dev44 c), rows_slice (off45 c), fun _ _ => slot_squeeze⟩
  iintro H
  iapply ret_ok; iapply HK; iframe

/-- Part 70 of the body starts strip 0's transfer 2 back of phase 1. -/
theorem part70 {v19 v38 v53 : _} {K : _ → sProp 𝕄} :
    iprop(pg X Λ c 33 28 false ∗ srcP X (.ag 0 1 2) c)
      ⊢ iprop((∀ r, pg X Λ c 34 28 false -∗ K r) -∗ WP c (Ap (k0_part70 (F := F)) c v19 v38 v53) K) := by
  unfold Ap
  rw [k0_part70_eq_skeleton]
  unfold k0_part70_skel
  simp only [Prog.lift, Prog.bind_op, Prog.bind_ret, Prog.pure_eq_ret]
  iintro ⟨H, Hs33⟩ HK
  iapply (sendT X Λ 33 (.ag 0 1 2) (q := (shr 1 2)) (hside := ?_)) $$ H Hs33
  · exact ⟨rfl, rfl, by decide, rfl, rfl, rfl, Fin.ext (dev45 c), rows_slice (off45 c), fun _ _ => slot_squeeze⟩
  iintro H
  iapply ret_ok; iapply HK; iframe

/-- Part 71 of the body starts strip 0's transfer 3 back of phase 1, waits for strip 1's
  transfer 1 back of phase 2 and writes finished rows of strip 1 and strip 1's part of
  the output. -/
theorem part71 {v19 v38 v53 v1571 v1989 v2016 : _} {G121 : ℕ → ℕ → Elt F .bf16} {K : _ → sProp 𝕄} :
    iprop(pg X Λ c 34 28 false ∗ srcP X (.ag 0 1 3) c ∗ rows c a4 fullShare (row 1 2 1 c) 64 G121 ∗ outSt X c 6)
      ⊢ iprop((∀ r, (pg X Λ c 35 29 false ∗ srcP X (.ag 1 2 1) c ∗ RP X (.ag 1 2 1) c ∗ rows c a4 fullShare (row 1 2 1 c) 64 (Gs X 1) ∗ outSt X c 7) -∗ K r) -∗ WP c (Ap (k0_part71 (F := F)) c v19 v38 v53 v1571 v1989 v2016) K) := by
  unfold Ap
  rw [k0_part71_eq_skeleton]
  unfold k0_part71_skel
  simp only [Prog.lift, Prog.bind_op, Prog.bind_ret, Prog.pure_eq_ret]
  iintro ⟨H, Hs34, L121, HO⟩ HK
  iapply (sendT X Λ 34 (.ag 0 1 3) (q := (shr 1 3)) (hside := ?_)) $$ H Hs34
  · exact ⟨rfl, rfl, by decide, rfl, rfl, rfl, Fin.ext (dev46 c), rows_slice (off45 c), fun _ _ => slot_squeeze⟩
  iintro H
  iapply (waitT X Λ 28 (.ag 1 2 1) (hside := ?_)) $$ H
  · exact ⟨rfl, rfl, by decide, ⟨rfl, rfl⟩, rfl, rfl⟩
  iintro ⟨H, Hs28, Hr28⟩
  iapply (matL X (.ag 1 2 1) fun _ => rfl) $$ Hr28; iintro Hr28
  iapply (rows_load (off46 c) ⟨le_rfl, le_rfl⟩) $$ L121; iintro L121
  iapply (rows_store (off46 c) (G' := Gs X 1) fun j => ?_) $$ L121
  · simp only [k0_pay43, shapeCast_self, cast_slot', Nat.zero_add] <;> rfl
  iintro L121
  iapply (matL X (.ag 1 2 1) fun _ => rfl) $$ Hr28; iintro Hr28
  iapply (out_load X (off47 c)) $$ HO; iintro %_ HO
  iapply (outT X 6 1 2 1 (hs := ⟨off47 c, rfl, rfl, rfl, by decide⟩) (hw := fun j => ?_)) $$ HO
  · simp only [k0_pay44, shapeCast_self, cast_slot', Nat.zero_add] <;> rfl
  iintro HO
  iapply ret_ok; iapply HK; iframe

/-- Part 72 of the body starts strip 1's transfer 1 back of phase 1. -/
theorem part72 {v19 v38 v53 v2399 c4_i32_1681 v2400 : _} {K : _ → sProp 𝕄} :
    iprop(pg X Λ c 35 29 false ∗ srcP X (.ag 1 1 1) c)
      ⊢ iprop((∀ r, pg X Λ c 36 29 false -∗ K r) -∗ WP c (Ap (k0_part72 (F := F)) c v19 v38 v53 v2399 c4_i32_1681 v2400) K) := by
  unfold Ap
  rw [k0_part72_eq_skeleton]
  unfold k0_part72_skel
  simp only [Prog.lift, Prog.bind_op, Prog.bind_ret, Prog.pure_eq_ret]
  iintro ⟨H, Hs35⟩ HK
  iapply (sendT X Λ 35 (.ag 1 1 1) (q := (shr 2 1)) (hside := ?_)) $$ H Hs35
  · exact ⟨rfl, rfl, by decide, rfl, rfl, rfl, Fin.ext (dev47 c), rows_slice (off48 c), fun _ _ => slot_squeeze⟩
  iintro H
  iapply ret_ok; iapply HK; iframe

/-- Part 74 of the body starts strip 1's transfer 2 back of phase 1. -/
theorem part74 {v19 v38 v53 : _} {K : _ → sProp 𝕄} :
    iprop(pg X Λ c 36 29 false ∗ srcP X (.ag 1 1 2) c)
      ⊢ iprop((∀ r, pg X Λ c 37 29 false -∗ K r) -∗ WP c (Ap (k0_part74 (F := F)) c v19 v38 v53) K) := by
  unfold Ap
  rw [k0_part74_eq_skeleton]
  unfold k0_part74_skel
  simp only [Prog.lift, Prog.bind_op, Prog.bind_ret, Prog.pure_eq_ret]
  iintro ⟨H, Hs36⟩ HK
  iapply (sendT X Λ 36 (.ag 1 1 2) (q := (shr 2 2)) (hside := ?_)) $$ H Hs36
  · exact ⟨rfl, rfl, by decide, rfl, rfl, rfl, Fin.ext (dev48 c), rows_slice (off48 c), fun _ _ => slot_squeeze⟩
  iintro H
  iapply ret_ok; iapply HK; iframe

/-- Part 75 of the body starts strip 1's transfer 3 back of phase 1, waits for strip 2's
  transfer 1 back of phase 2 and sees leave strip 2's transfer 2 back of phase 2. -/
theorem part75 {v19 v2025 v2064 v2101 : _} {K : _ → sProp 𝕄} :
    iprop(pg X Λ c 37 29 false ∗ srcP X (.ag 1 1 3) c)
      ⊢ iprop((∀ r, (pg X Λ c 38 30 true ∗ srcP X (.ag 2 2 1) c ∗ RP X (.ag 2 2 1) c ∗ srcP X (.ag 2 2 2) c) -∗ K r) -∗ WP c (Ap (k0_part75 (F := F)) c v19 v2025 v2064 v2101) K) := by
  unfold Ap
  rw [k0_part75_eq_skeleton]
  unfold k0_part75_skel
  simp only [Prog.lift, Prog.bind_op, Prog.bind_ret, Prog.pure_eq_ret]
  iintro ⟨H, Hs37⟩ HK
  iapply (sendT X Λ 37 (.ag 1 1 3) (q := (shr 2 3)) (hside := ?_)) $$ H Hs37
  · exact ⟨rfl, rfl, by decide, rfl, rfl, rfl, Fin.ext (dev49 c), rows_slice (off48 c), fun _ _ => slot_squeeze⟩
  iintro H
  iapply (waitT X Λ 29 (.ag 2 2 1) (hside := ?_)) $$ H
  · exact ⟨rfl, rfl, by decide, ⟨rfl, rfl⟩, rfl, rfl⟩
  iintro ⟨H, Hs29, Hr29⟩
  iapply (waitST X Λ 30 (.ag 2 2 2) (hside := ?_)) $$ H
  · exact ⟨rfl, rfl, by decide, rfl, rfl⟩
  iintro ⟨H, Hs30⟩
  iapply ret_ok; iapply HK; iframe

/-- Part 76 of the body receives strip 2's transfer 2 back of phase 2 and waits for
  strip 2's transfer 3 back of phase 2. -/
theorem part76 {v38 v2138 v2149 : _} {K : _ → sProp 𝕄} :
    iprop(pg X Λ c 38 30 true)
      ⊢ iprop((∀ r, (pg X Λ c 38 32 false ∗ RP X (.ag 2 2 2) c ∗ srcP X (.ag 2 2 3) c ∗ RP X (.ag 2 2 3) c) -∗ K r) -∗ WP c (Ap (k0_part76 (F := F)) c v38 v2138 v2149) K) := by
  unfold Ap
  rw [k0_part76_eq_skeleton]
  unfold k0_part76_skel
  simp only [Prog.lift, Prog.bind_op, Prog.bind_ret, Prog.pure_eq_ret]
  iintro H HK
  iapply (waitRT X Λ 30 (.ag 2 2 2) (hside := ?_)) $$ H
  · exact ⟨rfl, rfl, by decide, rfl, rfl⟩
  iintro ⟨H, Hr30⟩
  iapply (waitT X Λ 31 (.ag 2 2 3) (hside := ?_)) $$ H
  · exact ⟨rfl, rfl, by decide, ⟨rfl, rfl⟩, rfl, rfl⟩
  iintro ⟨H, Hs31, Hr31⟩
  iapply ret_ok; iapply HK; iframe

/-- Part 77 of the body writes finished rows of strip 2 and strip 2's part of the
  output. -/
theorem part77 {v38 v2149 v2561 : _} {G221 G222 : ℕ → ℕ → Elt F .bf16} {K : _ → sProp 𝕄} :
    iprop(RP X (.ag 2 2 3) c ∗ RP X (.ag 2 2 2) c ∗ rows c a5 fullShare (row 2 2 1 c) 64 G221 ∗ rows c a5 fullShare (row 2 2 2 c) 64 G222 ∗ outSt X c 7)
      ⊢ iprop((∀ r, (⌜r = fun j => FloatOps.extf .f32 bitsLt_bf16_f32 (rc X (.ag 2 2 2) c (j 0).val (j 1).val : F .bf16)⌝ ∗ RP X (.ag 2 2 3) c ∗ RP X (.ag 2 2 2) c ∗ rows c a5 fullShare (row 2 2 1 c) 64 (Gs X 2) ∗ rows c a5 fullShare (row 2 2 2 c) 64 (Gs X 2) ∗ outSt X c 8) -∗ K r) -∗ WP c (Ap (k0_part77 (F := F)) c v38 v2149 v2561) K) := by
  unfold Ap
  rw [k0_part77_eq_skeleton]
  unfold k0_part77_skel
  simp only [Prog.lift, Prog.bind_op, Prog.bind_ret, Prog.pure_eq_ret]
  iintro ⟨Hr31, Hr30, L221, L222, HO⟩ HK
  iapply (slotL X (.ag 2 2 3) fun _ => rfl) $$ Hr31; iintro Hr31
  iapply (rows_load (off49 c 0) ⟨le_rfl, le_rfl⟩) $$ L221; iintro L221
  iapply (rows_store (off49 c 0) (G' := Gs X 2) fun j => ?_) $$ L221
  · simp only [k0_pay45, shapeCast_self, cast_slot', Nat.zero_add] <;> rfl
  iintro L221
  iapply (slotL X (.ag 2 2 3) fun _ => rfl) $$ Hr31; iintro Hr31
  iapply (out_load X (off50 c 0)) $$ HO; iintro %_ HO
  iapply (outT X 7 2 2 1 (hs := ⟨off50 c 0, rfl, rfl, rfl, by decide⟩) (hw := fun j => ?_)) $$ HO
  · simp only [k0_pay46, shapeCast_self, cast_slot', Nat.zero_add] <;> rfl
  iintro HO
  iapply (slotL X (.ag 2 2 2) fun _ => rfl) $$ Hr30; iintro Hr30
  iapply (rows_load (off49 c 1) ⟨le_rfl, le_rfl⟩) $$ L222; iintro L222
  iapply (rows_store (off49 c 1) (G' := Gs X 2) fun j => ?_) $$ L222
  · simp only [k0_pay47, shapeCast_self, cast_slot', Nat.zero_add] <;> rfl
  iintro L222
  iapply (slotL X (.ag 2 2 2) fun _ => rfl) $$ Hr30; iintro Hr30
  iapply ret_ok; iapply HK; iframe
  ipureintro
  simp only [k0_pay48, shapeCast_self, cast_slot', Nat.zero_add] <;> rfl

/-- Part 78 of the body writes strip 2's part of the output and finished rows of strip
  2. -/
theorem part78 {v38 v53 v2149 v2595 : _} (hv : v2595 = fun j => FloatOps.extf .f32 bitsLt_bf16_f32 (rc X (.ag 2 2 2) c (j 0).val (j 1).val : F .bf16)) {G223 : ℕ → ℕ → Elt F .bf16} {K : _ → sProp 𝕄} :
    iprop(RP X (.ag 2 2 1) c ∗ rows c a5 fullShare (row 2 2 3 c) 64 G223 ∗ outSt X c 8)
      ⊢ iprop((∀ r, (RP X (.ag 2 2 1) c ∗ rows c a5 fullShare (row 2 2 3 c) 64 (Gs X 2) ∗ outSt X c 10) -∗ K r) -∗ WP c (Ap (k0_part78 (F := F)) c v38 v53 v2149 v2595) K) := by
  subst hv
  unfold Ap
  rw [k0_part78_eq_skeleton]
  unfold k0_part78_skel
  simp only [Prog.lift, Prog.bind_op, Prog.bind_ret, Prog.pure_eq_ret]
  iintro ⟨Hr29, L223, HO⟩ HK
  iapply (out_load X (off50 c 1)) $$ HO; iintro %_ HO
  iapply (outT X 8 2 2 2 (hs := ⟨off50 c 1, rfl, rfl, rfl, by decide⟩) (hw := fun j => ?_)) $$ HO
  · simp only [shapeCast_self, cast_slot', Nat.zero_add] <;> rfl
  iintro HO
  iapply (slotL X (.ag 2 2 1) fun _ => rfl) $$ Hr29; iintro Hr29
  iapply (rows_load (off49 c 2) ⟨le_rfl, le_rfl⟩) $$ L223; iintro L223
  iapply (rows_store (off49 c 2) (G' := Gs X 2) fun j => ?_) $$ L223
  · simp only [k0_pay49, shapeCast_self, cast_slot', Nat.zero_add] <;> rfl
  iintro L223
  iapply (slotL X (.ag 2 2 1) fun _ => rfl) $$ Hr29; iintro Hr29
  iapply (out_load X (off50 c 2)) $$ HO; iintro %_ HO
  iapply (outT X 9 2 2 3 (hs := ⟨off50 c 2, rfl, rfl, rfl, by decide⟩) (hw := fun j => ?_)) $$ HO
  · simp only [k0_pay50, shapeCast_self, cast_slot', Nat.zero_add] <;> rfl
  iintro HO
  iapply ret_ok; iapply HK; iframe

/-- Part 79 of the body starts strip 2's transfer 1 back of phase 1 and waits for strip
  0's transfer 1 back of phase 1. -/
theorem part79 {v19 v38 v53 v2149 v2292 v2623 v2625 v2626 v2627 v2628 v2629 : _} {K : _ → sProp 𝕄} :
    iprop(pg X Λ c 38 32 false ∗ srcP X (.ag 2 1 1) c)
      ⊢ iprop((∀ r, (pg X Λ c 39 33 false ∗ srcP X (.ag 0 1 1) c ∗ RP X (.ag 0 1 1) c) -∗ K r) -∗ WP c (Ap (k0_part79 (F := F)) c v19 v38 v53 v2149 v2292 v2623 v2625 v2626 v2627 v2628 v2629) K) := by
  unfold Ap
  rw [k0_part79_eq_skeleton]
  unfold k0_part79_skel
  simp only [Prog.lift, Prog.bind_op, Prog.bind_ret, Prog.pure_eq_ret]
  iintro ⟨H, Hs38⟩ HK
  iapply (sendT X Λ 38 (.ag 2 1 1) (q := (shr 0 1)) (hside := ?_)) $$ H Hs38
  · exact ⟨rfl, rfl, by decide, rfl, rfl, rfl, Fin.ext (dev50 c), rows_slice (off51 c), fun _ _ => rfl⟩
  iintro H
  iapply (waitT X Λ 32 (.ag 0 1 1) (hside := ?_)) $$ H
  · exact ⟨rfl, rfl, by decide, ⟨rfl, rfl⟩, rfl, rfl⟩
  iintro ⟨H, Hs32, Hr32⟩
  iapply ret_ok; iapply HK; iframe

/-- Part 80 of the body waits for strip 0's transfer 2 back of phase 1 and strip 0's
  transfer 3 back of phase 1. -/
theorem part80 {v38 v2329 v2366 : _} {K : _ → sProp 𝕄} :
    iprop(pg X Λ c 39 33 false)
      ⊢ iprop((∀ r, (pg X Λ c 39 35 false ∗ srcP X (.ag 0 1 2) c ∗ RP X (.ag 0 1 2) c ∗ srcP X (.ag 0 1 3) c ∗ RP X (.ag 0 1 3) c) -∗ K r) -∗ WP c (Ap (k0_part80 (F := F)) c v38 v2329 v2366) K) := by
  unfold Ap
  rw [k0_part80_eq_skeleton]
  unfold k0_part80_skel
  simp only [Prog.lift, Prog.bind_op, Prog.bind_ret, Prog.pure_eq_ret]
  iintro H HK
  iapply (waitT X Λ 33 (.ag 0 1 2) (hside := ?_)) $$ H
  · exact ⟨rfl, rfl, by decide, ⟨rfl, rfl⟩, rfl, rfl⟩
  iintro ⟨H, Hs33, Hr33⟩
  iapply (waitT X Λ 34 (.ag 0 1 3) (hside := ?_)) $$ H
  · exact ⟨rfl, rfl, by decide, ⟨rfl, rfl⟩, rfl, rfl⟩
  iintro ⟨H, Hs34, Hr34⟩
  iapply ret_ok; iapply HK; iframe

/-- Part 81 of the body writes finished rows of strip 0 and strip 0's part of the
  output. -/
theorem part81 {v38 v2377 v2686 : _} {G011 : ℕ → ℕ → Elt F .bf16} {K : _ → sProp 𝕄} :
    iprop(RP X (.ag 0 1 3) c ∗ rows c a3 fullShare (row 0 1 1 c) 256 G011 ∗ outSt X c 10)
      ⊢ iprop((∀ r, (RP X (.ag 0 1 3) c ∗ rows c a3 fullShare (row 0 1 1 c) 256 (Gs X 0) ∗ outSt X c 11) -∗ K r) -∗ WP c (Ap (k0_part81 (F := F)) c v38 v2377 v2686) K) := by
  unfold Ap
  rw [k0_part81_eq_skeleton]
  unfold k0_part81_skel
  simp only [Prog.lift, Prog.bind_op, Prog.bind_ret, Prog.pure_eq_ret]
  iintro ⟨Hr34, L011, HO⟩ HK
  iapply (slotL X (.ag 0 1 3) fun _ => rfl) $$ Hr34; iintro Hr34
  iapply (rows_load (off52 c 0) ⟨le_rfl, le_rfl⟩) $$ L011; iintro L011
  iapply (rows_store (off52 c 0) (G' := Gs X 0) fun j => ?_) $$ L011
  · simp only [k0_pay51, shapeCast_self, cast_slot', Nat.zero_add] <;> rfl
  iintro L011
  iapply (slotL X (.ag 0 1 3) fun _ => rfl) $$ Hr34; iintro Hr34
  iapply (out_load X (off53 c 0)) $$ HO; iintro %_ HO
  iapply (outT X 10 0 1 1 (hs := ⟨off53 c 0, rfl, rfl, rfl, by decide⟩) (hw := fun j => ?_)) $$ HO
  · simp only [k0_pay52, shapeCast_self, cast_slot', Nat.zero_add] <;> rfl
  iintro HO
  iapply ret_ok; iapply HK; iframe

/-- Part 82 of the body writes finished rows of strip 0 and strip 0's part of the
  output. -/
theorem part82 {v38 v2377 v2714 v2715 v2720 : _} {G012 G013 : ℕ → ℕ → Elt F .bf16} {K : _ → sProp 𝕄} :
    iprop(RP X (.ag 0 1 2) c ∗ RP X (.ag 0 1 1) c ∗ rows c a3 fullShare (row 0 1 2 c) 256 G012 ∗ rows c a3 fullShare (row 0 1 3 c) 256 G013 ∗ outSt X c 11)
      ⊢ iprop((∀ r, (RP X (.ag 0 1 2) c ∗ RP X (.ag 0 1 1) c ∗ rows c a3 fullShare (row 0 1 2 c) 256 (Gs X 0) ∗ rows c a3 fullShare (row 0 1 3 c) 256 (Gs X 0) ∗ outSt X c 12) -∗ K r) -∗ WP c (Ap (k0_part82 (F := F)) c v38 v2377 v2714 v2715 v2720) K) := by
  unfold Ap
  rw [k0_part82_eq_skeleton]
  unfold k0_part82_skel
  simp only [Prog.lift, Prog.bind_op, Prog.bind_ret, Prog.pure_eq_ret]
  iintro ⟨Hr33, Hr32, L012, L013, HO⟩ HK
  iapply (slotL X (.ag 0 1 2) fun _ => rfl) $$ Hr33; iintro Hr33
  iapply (rows_load (off52 c 1) ⟨le_rfl, le_rfl⟩) $$ L012; iintro L012
  iapply (rows_store (off52 c 1) (G' := Gs X 0) fun j => ?_) $$ L012
  · simp only [k0_pay53, shapeCast_self, cast_slot', Nat.zero_add] <;> rfl
  iintro L012
  iapply (slotL X (.ag 0 1 2) fun _ => rfl) $$ Hr33; iintro Hr33
  iapply (out_load X (off53 c 1)) $$ HO; iintro %_ HO
  iapply (outT X 11 0 1 2 (hs := ⟨off53 c 1, rfl, rfl, rfl, by decide⟩) (hw := fun j => ?_)) $$ HO
  · simp only [k0_pay54, shapeCast_self, cast_slot', Nat.zero_add] <;> rfl
  iintro HO
  iapply (slotL X (.ag 0 1 1) fun _ => rfl) $$ Hr32; iintro Hr32
  iapply (rows_load (off52 c 2) ⟨le_rfl, le_rfl⟩) $$ L013; iintro L013
  iapply (rows_store (off52 c 2) (G' := Gs X 0) fun j => ?_) $$ L013
  · simp only [k0_pay55, shapeCast_self, cast_slot', Nat.zero_add] <;> rfl
  iintro L013
  iapply ret_ok; iapply HK; iframe

/-- Part 83 of the body writes strip 0's part of the output and starts strip 0's
  transfer 1 back of phase 0. -/
theorem part83 {v19 v38 v53 v2749 : _} {K : _ → sProp 𝕄} :
    iprop(pg X Λ c 39 35 false ∗ RP X (.ag 0 1 1) c ∗ srcP X (.ag 0 0 1) c ∗ outSt X c 12)
      ⊢ iprop((∀ r, (pg X Λ c 40 35 false ∗ RP X (.ag 0 1 1) c ∗ outSt X c 13) -∗ K r) -∗ WP c (Ap (k0_part83 (F := F)) c v19 v38 v53 v2749) K) := by
  unfold Ap
  rw [k0_part83_eq_skeleton]
  unfold k0_part83_skel
  simp only [Prog.lift, Prog.bind_op, Prog.bind_ret, Prog.pure_eq_ret]
  iintro ⟨H, Hr32, Hs39, HO⟩ HK
  iapply (slotL X (.ag 0 1 1) fun _ => rfl) $$ Hr32; iintro Hr32
  iapply (out_load X (off53 c 2)) $$ HO; iintro %_ HO
  iapply (outT X 12 0 1 3 (hs := ⟨off53 c 2, rfl, rfl, rfl, by decide⟩) (hw := fun j => ?_)) $$ HO
  · simp only [k0_pay56, shapeCast_self, cast_slot', Nat.zero_add] <;> rfl
  iintro HO
  iapply (sendT X Λ 39 (.ag 0 0 1) (q := (shr 0 1)) (hside := ?_)) $$ H Hs39
  · exact ⟨rfl, rfl, by decide, rfl, rfl, rfl, Fin.ext (dev51 c), rows_slice (off54 c), fun _ _ => rfl⟩
  iintro H
  iapply ret_ok; iapply HK; iframe

/-- Part 84 of the body waits for strip 1's transfer 1 back of phase 1 and strip 1's
  transfer 2 back of phase 1. -/
theorem part84 {v2426 v2463 : _} {K : _ → sProp 𝕄} :
    iprop(pg X Λ c 40 35 false)
      ⊢ iprop((∀ r, (pg X Λ c 40 37 false ∗ srcP X (.ag 1 1 1) c ∗ RP X (.ag 1 1 1) c ∗ srcP X (.ag 1 1 2) c ∗ RP X (.ag 1 1 2) c) -∗ K r) -∗ WP c (Ap (k0_part84 (F := F)) c v2426 v2463) K) := by
  unfold Ap
  rw [k0_part84_eq_skeleton]
  unfold k0_part84_skel
  simp only [Prog.lift, Prog.bind_op, Prog.bind_ret, Prog.pure_eq_ret]
  iintro H HK
  iapply (waitT X Λ 35 (.ag 1 1 1) (hside := ?_)) $$ H
  · exact ⟨rfl, rfl, by decide, ⟨rfl, rfl⟩, rfl, rfl⟩
  iintro ⟨H, Hs35, Hr35⟩
  iapply (waitT X Λ 36 (.ag 1 1 2) (hside := ?_)) $$ H
  · exact ⟨rfl, rfl, by decide, ⟨rfl, rfl⟩, rfl, rfl⟩
  iintro ⟨H, Hs36, Hr36⟩
  iapply ret_ok; iapply HK; iframe

/-- Part 85 of the body waits for strip 1's transfer 3 back of phase 1 and writes
  finished rows of strip 1. -/
theorem part85 {v19 v2500 v2511 : _} {G111 : ℕ → ℕ → Elt F .bf16} {K : _ → sProp 𝕄} :
    iprop(pg X Λ c 40 37 false ∗ rows c a4 fullShare (row 1 1 1 c) 128 G111)
      ⊢ iprop((∀ r, (⌜r = fun j => FloatOps.extf .f32 bitsLt_bf16_f32 (rc X (.ag 1 1 3) c (j 0).val (j 1).val : F .bf16)⌝ ∗ pg X Λ c 40 38 false ∗ srcP X (.ag 1 1 3) c ∗ RP X (.ag 1 1 3) c ∗ rows c a4 fullShare (row 1 1 1 c) 128 (Gs X 1)) -∗ K r) -∗ WP c (Ap (k0_part85 (F := F)) c v19 v2500 v2511) K) := by
  unfold Ap
  rw [k0_part85_eq_skeleton]
  unfold k0_part85_skel
  simp only [Prog.lift, Prog.bind_op, Prog.bind_ret, Prog.pure_eq_ret]
  iintro ⟨H, L111⟩ HK
  iapply (waitT X Λ 37 (.ag 1 1 3) (hside := ?_)) $$ H
  · exact ⟨rfl, rfl, by decide, ⟨rfl, rfl⟩, rfl, rfl⟩
  iintro ⟨H, Hs37, Hr37⟩
  iapply (slotL X (.ag 1 1 3) fun _ => rfl) $$ Hr37; iintro Hr37
  iapply (rows_load (off55 c 0) ⟨le_rfl, le_rfl⟩) $$ L111; iintro L111
  iapply (rows_store (off55 c 0) (G' := Gs X 1) fun j => ?_) $$ L111
  · simp only [k0_pay57, shapeCast_self, cast_slot', Nat.zero_add] <;> rfl
  iintro L111
  iapply (slotL X (.ag 1 1 3) fun _ => rfl) $$ Hr37; iintro Hr37
  iapply ret_ok; iapply HK; iframe
  ipureintro
  simp only [k0_pay58, shapeCast_self, cast_slot', Nat.zero_add] <;> rfl

/-- Part 86 of the body writes strip 1's part of the output and finished rows of strip
  1. -/
theorem part86 {v19 v2511 v2844 : _} (hv : v2844 = fun j => FloatOps.extf .f32 bitsLt_bf16_f32 (rc X (.ag 1 1 3) c (j 0).val (j 1).val : F .bf16)) {G112 : ℕ → ℕ → Elt F .bf16} {K : _ → sProp 𝕄} :
    iprop(RP X (.ag 1 1 2) c ∗ rows c a4 fullShare (row 1 1 2 c) 128 G112 ∗ outSt X c 13)
      ⊢ iprop((∀ r, (RP X (.ag 1 1 2) c ∗ rows c a4 fullShare (row 1 1 2 c) 128 (Gs X 1) ∗ outSt X c 15) -∗ K r) -∗ WP c (Ap (k0_part86 (F := F)) c v19 v2511 v2844) K) := by
  subst hv
  unfold Ap
  rw [k0_part86_eq_skeleton]
  unfold k0_part86_skel
  simp only [Prog.lift, Prog.bind_op, Prog.bind_ret, Prog.pure_eq_ret]
  iintro ⟨Hr36, L112, HO⟩ HK
  iapply (out_load X (off56 c 0)) $$ HO; iintro %_ HO
  iapply (outT X 13 1 1 1 (hs := ⟨off56 c 0, rfl, rfl, rfl, by decide⟩) (hw := fun j => ?_)) $$ HO
  · simp only [shapeCast_self, cast_slot', Nat.zero_add] <;> rfl
  iintro HO
  iapply (slotL X (.ag 1 1 2) fun _ => rfl) $$ Hr36; iintro Hr36
  iapply (rows_load (off55 c 1) ⟨le_rfl, le_rfl⟩) $$ L112; iintro L112
  iapply (rows_store (off55 c 1) (G' := Gs X 1) fun j => ?_) $$ L112
  · simp only [k0_pay59, shapeCast_self, cast_slot', Nat.zero_add] <;> rfl
  iintro L112
  iapply (slotL X (.ag 1 1 2) fun _ => rfl) $$ Hr36; iintro Hr36
  iapply (out_load X (off56 c 1)) $$ HO; iintro %_ HO
  iapply (outT X 14 1 1 2 (hs := ⟨off56 c 1, rfl, rfl, rfl, by decide⟩) (hw := fun j => ?_)) $$ HO
  · simp only [k0_pay60, shapeCast_self, cast_slot', Nat.zero_add] <;> rfl
  iintro HO
  iapply ret_ok; iapply HK; iframe

/-- Part 87 of the body writes finished rows of strip 1 and strip 1's part of the
  output. -/
theorem part87 {v38 v2511 v2875 v2876 v2877 c0_i32_2066 : _} {G113 : ℕ → ℕ → Elt F .bf16} {K : _ → sProp 𝕄} :
    iprop(RP X (.ag 1 1 1) c ∗ rows c a4 fullShare (row 1 1 3 c) 128 G113 ∗ outSt X c 15)
      ⊢ iprop((∀ r, (RP X (.ag 1 1 1) c ∗ rows c a4 fullShare (row 1 1 3 c) 128 (Gs X 1) ∗ outSt X c 16) -∗ K r) -∗ WP c (Ap (k0_part87 (F := F)) c v38 v2511 v2875 v2876 v2877 c0_i32_2066) K) := by
  unfold Ap
  rw [k0_part87_eq_skeleton]
  unfold k0_part87_skel
  simp only [Prog.lift, Prog.bind_op, Prog.bind_ret, Prog.pure_eq_ret]
  iintro ⟨Hr35, L113, HO⟩ HK
  iapply (slotL X (.ag 1 1 1) fun _ => rfl) $$ Hr35; iintro Hr35
  iapply (rows_load (off55 c 2) ⟨le_rfl, le_rfl⟩) $$ L113; iintro L113
  iapply (rows_store (off55 c 2) (G' := Gs X 1) fun j => ?_) $$ L113
  · simp only [k0_pay61, shapeCast_self, cast_slot', Nat.zero_add] <;> rfl
  iintro L113
  iapply (slotL X (.ag 1 1 1) fun _ => rfl) $$ Hr35; iintro Hr35
  iapply (out_load X (off56 c 2)) $$ HO; iintro %_ HO
  iapply (outT X 15 1 1 3 (hs := ⟨off56 c 2, rfl, rfl, rfl, by decide⟩) (hw := fun j => ?_)) $$ HO
  · simp only [k0_pay62, shapeCast_self, cast_slot', Nat.zero_add] <;> rfl
  iintro HO
  iapply ret_ok; iapply HK; iframe

/-- Part 88 of the body starts strip 1's transfer 1 back of phase 0. -/
theorem part88 {v19 v38 v53 v2907 v2909 v2910 v2911 v2912 c0_i32_2089 : _} {K : _ → sProp 𝕄} :
    iprop(pg X Λ c 40 38 false ∗ srcP X (.ag 1 0 1) c)
      ⊢ iprop((∀ r, pg X Λ c 41 38 false -∗ K r) -∗ WP c (Ap (k0_part88 (F := F)) c v19 v38 v53 v2907 v2909 v2910 v2911 v2912 c0_i32_2089) K) := by
  unfold Ap
  rw [k0_part88_eq_skeleton]
  unfold k0_part88_skel
  simp only [Prog.lift, Prog.bind_op, Prog.bind_ret, Prog.pure_eq_ret]
  iintro ⟨H, Hs40⟩ HK
  iapply (sendT X Λ 40 (.ag 1 0 1) (q := (shr 1 1)) (hside := ?_)) $$ H Hs40
  · exact ⟨rfl, rfl, by decide, rfl, rfl, rfl, Fin.ext (dev52 c), rows_slice (off57 c), fun _ _ => slot_squeeze⟩
  iintro H
  iapply ret_ok; iapply HK; iframe

/-- Part 89 of the body starts strip 1's transfer 2 back of phase 0. -/
theorem part89 {v19 v38 v53 v2944 v2946 v2947 v2948 : _} {K : _ → sProp 𝕄} :
    iprop(pg X Λ c 41 38 false ∗ srcP X (.ag 1 0 2) c)
      ⊢ iprop((∀ r, pg X Λ c 42 38 false -∗ K r) -∗ WP c (Ap (k0_part89 (F := F)) c v19 v38 v53 v2944 v2946 v2947 v2948) K) := by
  unfold Ap
  rw [k0_part89_eq_skeleton]
  unfold k0_part89_skel
  simp only [Prog.lift, Prog.bind_op, Prog.bind_ret, Prog.pure_eq_ret]
  iintro ⟨H, Hs41⟩ HK
  iapply (sendT X Λ 41 (.ag 1 0 2) (q := (shr 1 2)) (hside := ?_)) $$ H Hs41
  · exact ⟨rfl, rfl, by decide, rfl, rfl, rfl, Fin.ext (dev53 c), rows_slice (off57 c), fun _ _ => slot_squeeze⟩
  iintro H
  iapply ret_ok; iapply HK; iframe

/-- Part 90 of the body starts strip 1's transfer 3 back of phase 0 and sees leave strip
  2's transfer 1 back of phase 1. -/
theorem part90 {v19 v38 v53 v2511 v2640 v2981 v2983 : _} {K : _ → sProp 𝕄} :
    iprop(pg X Λ c 42 38 false ∗ srcP X (.ag 1 0 3) c)
      ⊢ iprop((∀ r, (pg X Λ c 43 38 true ∗ srcP X (.ag 2 1 1) c) -∗ K r) -∗ WP c (Ap (k0_part90 (F := F)) c v19 v38 v53 v2511 v2640 v2981 v2983) K) := by
  unfold Ap
  rw [k0_part90_eq_skeleton]
  unfold k0_part90_skel
  simp only [Prog.lift, Prog.bind_op, Prog.bind_ret, Prog.pure_eq_ret]
  iintro ⟨H, Hs42⟩ HK
  iapply (sendT X Λ 42 (.ag 1 0 3) (q := (shr 1 3)) (hside := ?_)) $$ H Hs42
  · exact ⟨rfl, rfl, by decide, rfl, rfl, rfl, Fin.ext (dev54 c), rows_slice (off57 c), fun _ _ => slot_squeeze⟩
  iintro H
  iapply (waitST X Λ 38 (.ag 2 1 1) (hside := ?_)) $$ H
  · exact ⟨rfl, rfl, by decide, rfl, rfl⟩
  iintro ⟨H, Hs38⟩
  iapply ret_ok; iapply HK; iframe

/-- Part 91 of the body receives strip 2's transfer 1 back of phase 1 and writes
  finished rows of strip 2 and strip 2's part of the output. -/
theorem part91 {v19 v38 v53 v2149 : _} {G211 : ℕ → ℕ → Elt F .bf16} {K : _ → sProp 𝕄} :
    iprop(pg X Λ c 43 38 true ∗ rows c a5 fullShare (row 2 1 1 c) 256 G211 ∗ outSt X c 16)
      ⊢ iprop((∀ r, (pg X Λ c 43 39 false ∗ RP X (.ag 2 1 1) c ∗ rows c a5 fullShare (row 2 1 1 c) 256 (Gs X 2) ∗ outSt X c 17) -∗ K r) -∗ WP c (Ap (k0_part91 (F := F)) c v19 v38 v53 v2149) K) := by
  unfold Ap
  rw [k0_part91_eq_skeleton]
  unfold k0_part91_skel
  simp only [Prog.lift, Prog.bind_op, Prog.bind_ret, Prog.pure_eq_ret]
  iintro ⟨H, L211, HO⟩ HK
  iapply (waitRT X Λ 38 (.ag 2 1 1) (hside := ?_)) $$ H
  · exact ⟨rfl, rfl, by decide, rfl, rfl⟩
  iintro ⟨H, Hr38⟩
  iapply (matL X (.ag 2 1 1) fun _ => rfl) $$ Hr38; iintro Hr38
  iapply (rows_load (off58 c) ⟨le_rfl, le_rfl⟩) $$ L211; iintro L211
  iapply (rows_store (off58 c) (G' := Gs X 2) fun j => ?_) $$ L211
  · simp only [k0_pay63, shapeCast_self, cast_slot', Nat.zero_add] <;> rfl
  iintro L211
  iapply (matL X (.ag 2 1 1) fun _ => rfl) $$ Hr38; iintro Hr38
  iapply (out_load X (off59 c)) $$ HO; iintro %_ HO
  iapply (outT X 16 2 1 1 (hs := ⟨off59 c, rfl, rfl, rfl, by decide⟩) (hw := fun j => ?_)) $$ HO
  · simp only [k0_pay64, shapeCast_self, cast_slot', Nat.zero_add] <;> rfl
  iintro HO
  iapply ret_ok; iapply HK; iframe

/-- Part 92 of the body starts strip 2's transfer 1 back of phase 0. -/
theorem part92 {v19 v38 v53 v3041 v3051 : _} {K : _ → sProp 𝕄} :
    iprop(pg X Λ c 43 39 false ∗ srcP X (.ag 2 0 1) c)
      ⊢ iprop((∀ r, pg X Λ c 44 39 false -∗ K r) -∗ WP c (Ap (k0_part92 (F := F)) c v19 v38 v53 v3041 v3051) K) := by
  unfold Ap
  rw [k0_part92_eq_skeleton]
  unfold k0_part92_skel
  simp only [Prog.lift, Prog.bind_op, Prog.bind_ret, Prog.pure_eq_ret]
  iintro ⟨H, Hs43⟩ HK
  iapply (sendT X Λ 43 (.ag 2 0 1) (q := (shr 2 1)) (hside := ?_)) $$ H Hs43
  · exact ⟨rfl, rfl, by decide, rfl, rfl, rfl, Fin.ext (dev55 c), rows_slice (off60 c), fun _ _ => slot_squeeze⟩
  iintro H
  iapply ret_ok; iapply HK; iframe

/-- Part 93 of the body starts strip 2's transfer 2 back of phase 0. -/
theorem part93 {v19 v38 v53 v3078 v3080 v3081 v3082 v3085 : _} {K : _ → sProp 𝕄} :
    iprop(pg X Λ c 44 39 false ∗ srcP X (.ag 2 0 2) c)
      ⊢ iprop((∀ r, pg X Λ c 45 39 false -∗ K r) -∗ WP c (Ap (k0_part93 (F := F)) c v19 v38 v53 v3078 v3080 v3081 v3082 v3085) K) := by
  unfold Ap
  rw [k0_part93_eq_skeleton]
  unfold k0_part93_skel
  simp only [Prog.lift, Prog.bind_op, Prog.bind_ret, Prog.pure_eq_ret]
  iintro ⟨H, Hs44⟩ HK
  iapply (sendT X Λ 44 (.ag 2 0 2) (q := (shr 2 2)) (hside := ?_)) $$ H Hs44
  · exact ⟨rfl, rfl, by decide, rfl, rfl, rfl, Fin.ext (dev56 c), rows_slice (off60 c), fun _ _ => slot_squeeze⟩
  iintro H
  iapply ret_ok; iapply HK; iframe

/-- Part 94 of the body starts strip 2's transfer 3 back of phase 0 and waits for strip
  0's transfer 1 back of phase 0. -/
theorem part94 {v19 v38 v53 v2649 v2778 v3115 v3117 v3118 v3119 v3120 : _} {K : _ → sProp 𝕄} :
    iprop(pg X Λ c 45 39 false ∗ srcP X (.ag 2 0 3) c)
      ⊢ iprop((∀ r, (pg X Λ c 46 40 false ∗ srcP X (.ag 0 0 1) c ∗ RP X (.ag 0 0 1) c) -∗ K r) -∗ WP c (Ap (k0_part94 (F := F)) c v19 v38 v53 v2649 v2778 v3115 v3117 v3118 v3119 v3120) K) := by
  unfold Ap
  rw [k0_part94_eq_skeleton]
  unfold k0_part94_skel
  simp only [Prog.lift, Prog.bind_op, Prog.bind_ret, Prog.pure_eq_ret]
  iintro ⟨H, Hs45⟩ HK
  iapply (sendT X Λ 45 (.ag 2 0 3) (q := (shr 2 3)) (hside := ?_)) $$ H Hs45
  · exact ⟨rfl, rfl, by decide, rfl, rfl, rfl, Fin.ext (dev57 c), rows_slice (off60 c), fun _ _ => slot_squeeze⟩
  iintro H
  iapply (waitT X Λ 39 (.ag 0 0 1) (hside := ?_)) $$ H
  · exact ⟨rfl, rfl, by decide, ⟨rfl, rfl⟩, rfl, rfl⟩
  iintro ⟨H, Hs39, Hr39⟩
  iapply ret_ok; iapply HK; iframe

/-- Part 95 of the body writes strip 0's part of the output, waits for strip 1's
  transfer 1 back of phase 0 and sees leave strip 1's transfer 2 back of phase 0. -/
theorem part95 {v2377 v2924 v2961 v3152 c1_i32_2257 : _} {K : _ → sProp 𝕄} :
    iprop(pg X Λ c 46 40 false ∗ RP X (.ag 0 0 1) c ∗ outSt X c 17)
      ⊢ iprop((∀ r, (pg X Λ c 46 41 true ∗ RP X (.ag 0 0 1) c ∗ srcP X (.ag 1 0 1) c ∗ RP X (.ag 1 0 1) c ∗ srcP X (.ag 1 0 2) c ∗ outSt X c 18) -∗ K r) -∗ WP c (Ap (k0_part95 (F := F)) c v2377 v2924 v2961 v3152 c1_i32_2257) K) := by
  unfold Ap
  rw [k0_part95_eq_skeleton]
  unfold k0_part95_skel
  simp only [Prog.lift, Prog.bind_op, Prog.bind_ret, Prog.pure_eq_ret]
  iintro ⟨H, Hr39, HO⟩ HK
  iapply (matL X (.ag 0 0 1) fun _ => rfl) $$ Hr39; iintro Hr39
  iapply (out_load X (off61 c)) $$ HO; iintro %_ HO
  iapply (outT X 17 0 0 1 (hs := ⟨off61 c, rfl, rfl, rfl, by decide⟩) (hw := fun j => ?_)) $$ HO
  · simp only [k0_pay65, shapeCast_self, cast_slot', Nat.zero_add] <;> rfl
  iintro HO
  iapply (waitT X Λ 40 (.ag 1 0 1) (hside := ?_)) $$ H
  · exact ⟨rfl, rfl, by decide, ⟨rfl, rfl⟩, rfl, rfl⟩
  iintro ⟨H, Hs40, Hr40⟩
  iapply (waitST X Λ 41 (.ag 1 0 2) (hside := ?_)) $$ H
  · exact ⟨rfl, rfl, by decide, rfl, rfl⟩
  iintro ⟨H, Hs41⟩
  iapply ret_ok; iapply HK; iframe

/-- Part 96 of the body receives strip 1's transfer 2 back of phase 0 and waits for
  strip 1's transfer 3 back of phase 0. -/
theorem part96 {v38 v2998 v3177 c0_i32_2288 : _} {K : _ → sProp 𝕄} :
    iprop(pg X Λ c 46 41 true)
      ⊢ iprop((∀ r, (pg X Λ c 46 43 false ∗ RP X (.ag 1 0 2) c ∗ srcP X (.ag 1 0 3) c ∗ RP X (.ag 1 0 3) c) -∗ K r) -∗ WP c (Ap (k0_part96 (F := F)) c v38 v2998 v3177 c0_i32_2288) K) := by
  unfold Ap
  rw [k0_part96_eq_skeleton]
  unfold k0_part96_skel
  simp only [Prog.lift, Prog.bind_op, Prog.bind_ret, Prog.pure_eq_ret]
  iintro H HK
  iapply (waitRT X Λ 41 (.ag 1 0 2) (hside := ?_)) $$ H
  · exact ⟨rfl, rfl, by decide, rfl, rfl⟩
  iintro ⟨H, Hr41⟩
  iapply (waitT X Λ 42 (.ag 1 0 3) (hside := ?_)) $$ H
  · exact ⟨rfl, rfl, by decide, ⟨rfl, rfl⟩, rfl, rfl⟩
  iintro ⟨H, Hs42, Hr42⟩
  iapply ret_ok; iapply HK; iframe

/-- Part 97 of the body writes strip 1's part of the output. -/
theorem part97 {v38 v3009 v3207 c512_i32_2315 : _} {K : _ → sProp 𝕄} :
    iprop(RP X (.ag 1 0 3) c ∗ RP X (.ag 1 0 2) c ∗ outSt X c 18)
      ⊢ iprop((∀ r, (RP X (.ag 1 0 3) c ∗ RP X (.ag 1 0 2) c ∗ outSt X c 20) -∗ K r) -∗ WP c (Ap (k0_part97 (F := F)) c v38 v3009 v3207 c512_i32_2315) K) := by
  unfold Ap
  rw [k0_part97_eq_skeleton]
  unfold k0_part97_skel
  simp only [Prog.lift, Prog.bind_op, Prog.bind_ret, Prog.pure_eq_ret]
  iintro ⟨Hr42, Hr41, HO⟩ HK
  iapply (slotL X (.ag 1 0 3) fun _ => rfl) $$ Hr42; iintro Hr42
  iapply (out_load X (off62 c 0)) $$ HO; iintro %_ HO
  iapply (outT X 18 1 0 1 (hs := ⟨off62 c 0, rfl, rfl, rfl, by decide⟩) (hw := fun j => ?_)) $$ HO
  · simp only [k0_pay66, shapeCast_self, cast_slot', Nat.zero_add] <;> rfl
  iintro HO
  iapply (slotL X (.ag 1 0 2) fun _ => rfl) $$ Hr41; iintro Hr41
  iapply (out_load X (off62 c 1)) $$ HO; iintro %_ HO
  iapply (outT X 19 1 0 2 (hs := ⟨off62 c 1, rfl, rfl, rfl, by decide⟩) (hw := fun j => ?_)) $$ HO
  · simp only [k0_pay67, shapeCast_self, cast_slot', Nat.zero_add] <;> rfl
  iintro HO
  iapply ret_ok; iapply HK; iframe

/-- Part 98 of the body writes strip 1's part of the output, waits for strip 2's
  transfer 1 back of phase 0 and sees leave strip 2's transfer 2 back of phase 0. -/
theorem part98 {v3009 v3058 v3237 v3238 v3239 v3240 c0_i32_2340 : _} {K : _ → sProp 𝕄} :
    iprop(pg X Λ c 46 43 false ∗ RP X (.ag 1 0 1) c ∗ outSt X c 20)
      ⊢ iprop((∀ r, (pg X Λ c 46 44 true ∗ RP X (.ag 1 0 1) c ∗ srcP X (.ag 2 0 1) c ∗ RP X (.ag 2 0 1) c ∗ srcP X (.ag 2 0 2) c ∗ outSt X c 21) -∗ K r) -∗ WP c (Ap (k0_part98 (F := F)) c v3009 v3058 v3237 v3238 v3239 v3240 c0_i32_2340) K) := by
  unfold Ap
  rw [k0_part98_eq_skeleton]
  unfold k0_part98_skel
  simp only [Prog.lift, Prog.bind_op, Prog.bind_ret, Prog.pure_eq_ret]
  iintro ⟨H, Hr40, HO⟩ HK
  iapply (slotL X (.ag 1 0 1) fun _ => rfl) $$ Hr40; iintro Hr40
  iapply (out_load X (off62 c 2)) $$ HO; iintro %_ HO
  iapply (outT X 20 1 0 3 (hs := ⟨off62 c 2, rfl, rfl, rfl, by decide⟩) (hw := fun j => ?_)) $$ HO
  · simp only [k0_pay68, shapeCast_self, cast_slot', Nat.zero_add] <;> rfl
  iintro HO
  iapply (waitT X Λ 43 (.ag 2 0 1) (hside := ?_)) $$ H
  · exact ⟨rfl, rfl, by decide, ⟨rfl, rfl⟩, rfl, rfl⟩
  iintro ⟨H, Hs43, Hr43⟩
  iapply (waitST X Λ 44 (.ag 2 0 2) (hside := ?_)) $$ H
  · exact ⟨rfl, rfl, by decide, rfl, rfl⟩
  iintro ⟨H, Hs44⟩
  iapply ret_ok; iapply HK; iframe

/-- Part 99 of the body receives strip 2's transfer 2 back of phase 0 and waits for
  strip 2's transfer 3 back of phase 0. -/
theorem part99 {v19 v3095 v3132 : _} {K : _ → sProp 𝕄} :
    iprop(pg X Λ c 46 44 true)
      ⊢ iprop((∀ r, (pg X Λ c 46 46 false ∗ RP X (.ag 2 0 2) c ∗ srcP X (.ag 2 0 3) c ∗ RP X (.ag 2 0 3) c) -∗ K r) -∗ WP c (Ap (k0_part99 (F := F)) c v19 v3095 v3132) K) := by
  unfold Ap
  rw [k0_part99_eq_skeleton]
  unfold k0_part99_skel
  simp only [Prog.lift, Prog.bind_op, Prog.bind_ret, Prog.pure_eq_ret]
  iintro H HK
  iapply (waitRT X Λ 44 (.ag 2 0 2) (hside := ?_)) $$ H
  · exact ⟨rfl, rfl, by decide, rfl, rfl⟩
  iintro ⟨H, Hr44⟩
  iapply (waitT X Λ 45 (.ag 2 0 3) (hside := ?_)) $$ H
  · exact ⟨rfl, rfl, by decide, ⟨rfl, rfl⟩, rfl, rfl⟩
  iintro ⟨H, Hs45, Hr45⟩
  iapply ret_ok; iapply HK; iframe

/-- Part 100 of the body writes strip 2's part of the output. -/
theorem part100 {v19 v3143 v3292 v3293 v3294 v3295 c0_i32_2398 : _} {K : _ → sProp 𝕄} :
    iprop(RP X (.ag 2 0 3) c ∗ RP X (.ag 2 0 2) c ∗ outSt X c 21)
      ⊢ iprop((∀ r, (RP X (.ag 2 0 3) c ∗ RP X (.ag 2 0 2) c ∗ outSt X c 23) -∗ K r) -∗ WP c (Ap (k0_part100 (F := F)) c v19 v3143 v3292 v3293 v3294 v3295 c0_i32_2398) K) := by
  unfold Ap
  rw [k0_part100_eq_skeleton]
  unfold k0_part100_skel
  simp only [Prog.lift, Prog.bind_op, Prog.bind_ret, Prog.pure_eq_ret]
  iintro ⟨Hr45, Hr44, HO⟩ HK
  iapply (slotL X (.ag 2 0 3) fun _ => rfl) $$ Hr45; iintro Hr45
  iapply (out_load X (off63 c 0)) $$ HO; iintro %_ HO
  iapply (outT X 21 2 0 1 (hs := ⟨off63 c 0, rfl, rfl, rfl, by decide⟩) (hw := fun j => ?_)) $$ HO
  · simp only [k0_pay69, shapeCast_self, cast_slot', Nat.zero_add] <;> rfl
  iintro HO
  iapply (slotL X (.ag 2 0 2) fun _ => rfl) $$ Hr44; iintro Hr44
  iapply (out_load X (off63 c 1)) $$ HO; iintro %_ HO
  iapply (outT X 22 2 0 2 (hs := ⟨off63 c 1, rfl, rfl, rfl, by decide⟩) (hw := fun j => ?_)) $$ HO
  · simp only [k0_pay70, shapeCast_self, cast_slot', Nat.zero_add] <;> rfl
  iintro HO
  iapply ret_ok; iapply HK; iframe

end Cert.KProof

end
-- ==== Proof.Chunks.lean ====
module

public import proofs.«01_k».proof.Proof.Steps

/-!
# Chunks

The chunks of the strips, how they are divided and put together, and the programs
that only ask for their device.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F]

local notation "𝕄" => MT nD τ sig Unit (Elt F) ℕ UU ℕ

variable (X : Ins F) {c : Dev nD} {α : Type}

/-! Programs that only ask for their device. -/

/-- What a program returns that does nothing but ask for its device. -/
def ev (c : Dev nD) {α : Type} : Prog (TpuEff nD τ sig (Elt F) Λ₀ .tc) α → Option α
  | .ret a => some a
  | .op .deviceId k => ev c (k c)
  | .op _ _ => none

/-- Evaluating a program that begins with a pure part evaluates the rest at its value.
  -/
theorem ev_bind {β : Type} (p : Prog (TpuEff nD τ sig (Elt F) Λ₀ .tc) β) (k : β → Prog (TpuEff nD τ sig (Elt F) Λ₀ .tc) α) (b : β) :
    ev c p = some b → ev c (p >>= k) = ev c (k b) := by
  induction p with
  | ret a => intro h; obtain rfl : a = b := Option.some.inj h; rfl
  | op e f ih =>
    cases e <;> intro h <;> first | exact ih c h | exact absurd h (by simp [ev])

/-- Such a program leaves everything as it is. -/
theorem wp_ev {K : α → sProp 𝕄} (p : Prog (TpuEff nD τ sig (Elt F) Λ₀ .tc) α) (a : α) : ev c p = some a → K a ⊢ WP c p K := by
  induction p with
  | ret b => intro h; obtain rfl : b = a := Option.some.inj h; exact ret_ok c
  | op e f ih =>
    cases e <;> intro h <;> first | exact (show (_ : sProp 𝕄) ⊢ wp _ _ _ _ _ from by rw [wp_deviceId]; exact ih c h) | exact absurd h (by simp [ev])

/-- A program that only computes may be skipped, whatever its value. -/
theorem skpS {K : α → sProp 𝕄} {p : Prog (TpuEff nD τ sig (Elt F) Λ₀ .tc) α} (hside : ∃ a, ev c p = some a) : iprop(∀ a, K a) ⊢ WP c p K := by
  obtain ⟨a, h⟩ := hside
  iintro H
  iapply (wp_ev p a h)
  iapply H

/-- A program followed by another is run by running the first and then the second. -/
theorem bindT {β : Type} {p : Prog (TpuEff nD τ sig (Elt F) Λ₀ .tc) β} {k : β → Prog (TpuEff nD τ sig (Elt F) Λ₀ .tc) α} {K : α → sProp 𝕄} :
    WP c p (fun b => WP c (k b) K) ⊢ WP c (p >>= k) K := by
  show (_ : sProp 𝕄) ⊢ wp _ _ _ _ _
  rw [wp_bind]

/-! The chunks of a strip, phase by phase. -/

/-- The coordinate along an axis. -/
def cy (a : ℕ) (c : Dev nD) : ℕ := match a with | 0 => xC c | 1 => yC c | _ => zC c
/-- The first row of the chunk that phase `p` divides. -/
def bas (i p : ℕ) (c : Dev nD) : ℕ := match p with | 0 => 0 | p + 1 => row i p 0 c

/-- The first row of a chunk, as the base of its phase plus a whole number of chunks. -/
theorem row_bas (i p : ℕ) (hi : i < 3) (hp : p < 3) (k : ℕ) (c : Dev nD) : row i p k c = bas i p c + sz i p * ((cy (ax i p) c + k) % cnt (ax i p)) := by
  have h0 : row 0 0 0 c = 1024 * xC c := by revert c; decide +kernel
  have h1 : row 0 1 0 c = 1024 * xC c + 256 * yC c := by revert c; decide +kernel
  have h2 : row 1 0 0 c = 512 * yC c := by revert c; decide +kernel
  have h3 : row 1 1 0 c = 512 * yC c + 128 * zC c := by revert c; decide +kernel
  have h4 : row 2 0 0 c = 512 * zC c := by revert c; decide +kernel
  have h5 : row 2 1 0 c = 512 * zC c + 256 * xC c := by revert c; decide +kernel
  have hs : ∀ a b : ℕ, a = 0 + a := fun a _ => (Nat.zero_add a).symm
  match i, p, hi, hp with
  | 0, 0, _, _ => exact hs _ 0
  | 1, 0, _, _ => exact hs _ 0
  | 2, 0, _, _ => exact hs _ 0
  | 0, 1, _, _ => exact congrArg (· + 256 * ((yC c + k) % 4)) h0.symm
  | 0, 2, _, _ => exact congrArg (· + 64 * ((zC c + k) % 4)) h1.symm
  | 1, 1, _, _ => exact congrArg (· + 128 * ((zC c + k) % 4)) h2.symm
  | 1, 2, _, _ => exact congrArg (· + 64 * ((xC c + k) % 2)) h3.symm
  | 2, 1, _, _ => exact congrArg (· + 256 * ((xC c + k) % 2)) h4.symm
  | 2, 2, _, _ => exact congrArg (· + 64 * ((yC c + k) % 4)) h5.symm

section Split
variable {R C : ℕ} {e : EltTy} {q : PosShare TreeShare} (b : Memref sig .tc .vmem ⟨2, ![R, C]⟩ e) (i p lo n N : ℕ) {G G' G₀ G₁ G₂ G₃ : ℕ → ℕ → Elt F e}

/-- The rows of a phase along an axis of four devices are its four chunks. -/
theorem four (h : lo = bas i p c ∧ n = sz i p ∧ N = 4 * n ∧ cnt (ax i p) = 4 ∧ i < 3 ∧ p < 3) :
    (rows c b q lo N G : sProp 𝕄) ⊣⊢ iprop(rows c b q (row i p 0 c) n G ∗ rows c b q (row i p 1 c) n G ∗ rows c b q (row i p 2 c) n G ∗ rows c b q (row i p 3 c) n G) := by
  obtain ⟨rfl, rfl, rfl, h4, hi, hp⟩ := h
  rw [row_bas i p hi hp 0, row_bas i p hi hp 1, row_bas i p hi hp 2, row_bas i p hi hp 3, h4]
  exact rows_four (sz i p) (cy (ax i p) c)

/-- The rows of a phase along an axis of two devices are its two chunks. -/
theorem two (h : lo = bas i p c ∧ n = sz i p ∧ N = 2 * n ∧ cnt (ax i p) = 2 ∧ i < 3 ∧ p < 3) :
    (rows c b q lo N G : sProp 𝕄) ⊣⊢ iprop(rows c b q (row i p 0 c) n G ∗ rows c b q (row i p 1 c) n G) := by
  obtain ⟨rfl, rfl, rfl, h4, hi, hp⟩ := h
  rw [row_bas i p hi hp 0, row_bas i p hi hp 1, h4]
  exact rows_two (sz i p) (cy (ax i p) c)

/-- A chunk divided, or put together again. -/
theorem spl4 (h : lo = bas i p c ∧ n = sz i p ∧ N = 4 * n ∧ cnt (ax i p) = 4 ∧ i < 3 ∧ p < 3) :
    rows c b q lo N G ⊢ (iprop(rows c b q (row i p 0 c) n G ∗ rows c b q (row i p 1 c) n G ∗ rows c b q (row i p 2 c) n G ∗ rows c b q (row i p 3 c) n G) : sProp 𝕄) :=
  (four b i p lo n N h).1
/-- Four chunks join to the rows of their phase. -/
theorem jn4 (h : lo = bas i p c ∧ n = sz i p ∧ N = 4 * n ∧ cnt (ax i p) = 4 ∧ i < 3 ∧ p < 3) :
    iprop(rows c b q (row i p 0 c) n G ∗ rows c b q (row i p 1 c) n G ∗ rows c b q (row i p 2 c) n G ∗ rows c b q (row i p 3 c) n G) ⊢ (rows c b q lo N G : sProp 𝕄) :=
  (four b i p lo n N h).2
/-- The rows of a phase along an axis of two devices split into its two chunks. -/
theorem spl2 (h : lo = bas i p c ∧ n = sz i p ∧ N = 2 * n ∧ cnt (ax i p) = 2 ∧ i < 3 ∧ p < 3) :
    rows c b q lo N G ⊢ (iprop(rows c b q (row i p 0 c) n G ∗ rows c b q (row i p 1 c) n G) : sProp 𝕄) :=
  (two b i p lo n N h).1
/-- Two chunks join to the rows of their phase. -/
theorem jn2 (h : lo = bas i p c ∧ n = sz i p ∧ N = 2 * n ∧ cnt (ax i p) = 2 ∧ i < 3 ∧ p < 3) :
    iprop(rows c b q (row i p 0 c) n G ∗ rows c b q (row i p 1 c) n G) ⊢ (rows c b q lo N G : sProp 𝕄) :=
  (two b i p lo n N h).2

/-- A whole buffer at any contents. -/
def buf {s : Shape} (c : Dev nD) (b : Memref sig .tc .vmem s e) : sProp 𝕄 := iprop(∃ g : s.Idx → Elt F e, seg c b fullShare (fun _ => True) g)

/-- A buffer with known contents is a buffer. -/
theorem mat_buf : mat c b fullShare G ⊢ (buf c b : sProp 𝕄) := by
  unfold buf mat
  iintro H; iexists _; iexact H
/-- A buffer has some contents. -/
theorem buf_mat : buf c b ⊢ (iprop(∃ G, mat c b fullShare G) : sProp 𝕄) := by
  unfold buf mat
  iintro ⟨%g, H⟩
  have hg : ∃ G : ℕ → ℕ → Elt F e, ∀ x : (⟨2, ![R, C]⟩ : Shape).Idx, g x = G (x 0).val (x 1).val := by
    by_cases hn : Nonempty (⟨2, ![R, C]⟩ : Shape).Idx
    · obtain ⟨x₀⟩ := hn
      refine ⟨fun r k => if h : r < R ∧ k < C then g (ix2 ⟨r, h.1⟩ ⟨k, h.2⟩) else g x₀, fun x => ?_⟩
      have h0 : (x 0).val < R := (x 0).isLt
      have h1 : (x 1).val < C := (x 1).isLt
      simp only [h0, h1, and_self, dif_pos]
      exact congrArg g (eq_ix2 x)
    · exact ⟨fun _ _ => default, fun x => absurd ⟨x⟩ hn⟩
  obtain ⟨G, hG⟩ := hg
  iexists G
  iapply (seg_congr (fun _ => Iff.rfl) fun x _ => hG x)
  iexact H

/-- The four chunks of the first phase, with any contents, are the whole accumulator. -/
theorem end4 (h : n = sz i 0 ∧ R = 4 * n ∧ cnt (ax i 0) = 4 ∧ i < 3) :
    iprop(rows c b fullShare (row i 0 0 c) n G₀ ∗ rows c b fullShare (row i 0 1 c) n G₁ ∗ rows c b fullShare (row i 0 2 c) n G₂ ∗ rows c b fullShare (row i 0 3 c) n G₃) ⊢ (buf c b : sProp 𝕄) := by
  obtain ⟨hn, hR, h4, hi⟩ := h
  let g : ℕ → ℕ → Elt F e := fun r k => if row i 0 0 c ≤ r ∧ r < row i 0 0 c + n then G₀ r k else if row i 0 1 c ≤ r ∧ r < row i 0 1 c + n then G₁ r k
    else if row i 0 2 c ≤ r ∧ r < row i 0 2 c + n then G₂ r k else G₃ r k
  have hr (k : ℕ) : row i 0 k c = 0 + n * ((cy (ax i 0) c + k) % 4) := by rw [row_bas i 0 hi (by decide) k c, h4, hn]; rfl
  have hs (j k : ℕ) (hj : j < 4) (hk : k < 4) (hjk : j ≠ k) (r : ℕ) (h : row i 0 j c ≤ r ∧ r < row i 0 j c + n) (h' : row i 0 k c ≤ r ∧ r < row i 0 k c + n) : False := by
    rw [hr] at h h'
    have hne : (cy (ax i 0) c + j) % 4 ≠ (cy (ax i 0) c + k) % 4 := by omega
    rcases Nat.lt_or_gt_of_ne hne with hl | hl
    · have := Nat.mul_le_mul_left n (Nat.succ_le_of_lt hl); rw [Nat.mul_succ] at this; omega
    · have := Nat.mul_le_mul_left n (Nat.succ_le_of_lt hl); rw [Nat.mul_succ] at this; omega
  iintro ⟨H0, H1, H2, H3⟩
  iapply (mat_buf b (G := g))
  iapply (mat_rows).2
  iapply (jn4 b i 0 0 n R ⟨rfl, hn, hR, h4, hi, by decide⟩)
  isplitl [H0]
  · iapply (rows_congr (G := G₀) fun r k h h' => ?_) $$ H0
    exact (if_pos ⟨h, h'⟩).symm
  isplitl [H1]
  · iapply (rows_congr (G := G₁) fun r k h h' => ?_) $$ H1
    exact ((if_neg (fun x => hs 0 1 (by decide) (by decide) (by decide) r x ⟨h, h'⟩)).trans (if_pos ⟨h, h'⟩)).symm
  isplitl [H2]
  · iapply (rows_congr (G := G₂) fun r k h h' => ?_) $$ H2
    exact ((if_neg (fun x => hs 0 2 (by decide) (by decide) (by decide) r x ⟨h, h'⟩)).trans ((if_neg (fun x => hs 1 2 (by decide) (by decide) (by decide) r x ⟨h, h'⟩)).trans (if_pos ⟨h, h'⟩))).symm
  · iapply (rows_congr (G := G₃) fun r k h h' => ?_) $$ H3
    exact ((if_neg (fun x => hs 0 3 (by decide) (by decide) (by decide) r x ⟨h, h'⟩)).trans ((if_neg (fun x => hs 1 3 (by decide) (by decide) (by decide) r x ⟨h, h'⟩)).trans
      (if_neg (fun x => hs 2 3 (by decide) (by decide) (by decide) r x ⟨h, h'⟩)))).symm

/-- The two chunks of the first phase, with any contents, are the whole accumulator. -/
theorem end2 (h : n = sz i 0 ∧ R = 2 * n ∧ cnt (ax i 0) = 2 ∧ i < 3) :
    iprop(rows c b fullShare (row i 0 0 c) n G₀ ∗ rows c b fullShare (row i 0 1 c) n G₁) ⊢ (buf c b : sProp 𝕄) := by
  obtain ⟨hn, hR, h4, hi⟩ := h
  let g : ℕ → ℕ → Elt F e := fun r k => if row i 0 0 c ≤ r ∧ r < row i 0 0 c + n then G₀ r k else G₁ r k
  have hr (k : ℕ) : row i 0 k c = 0 + n * ((cy (ax i 0) c + k) % 2) := by rw [row_bas i 0 hi (by decide) k c, h4, hn]; rfl
  have hs (r : ℕ) (h : row i 0 0 c ≤ r ∧ r < row i 0 0 c + n) (h' : row i 0 1 c ≤ r ∧ r < row i 0 1 c + n) : False := by
    rw [hr] at h h'
    have hne : (cy (ax i 0) c + 0) % 2 ≠ (cy (ax i 0) c + 1) % 2 := by omega
    rcases Nat.lt_or_gt_of_ne hne with hl | hl
    · have := Nat.mul_le_mul_left n (Nat.succ_le_of_lt hl); rw [Nat.mul_succ] at this; omega
    · have := Nat.mul_le_mul_left n (Nat.succ_le_of_lt hl); rw [Nat.mul_succ] at this; omega
  iintro ⟨H0, H1⟩
  iapply (mat_buf b (G := g))
  iapply (mat_rows).2
  iapply (jn2 b i 0 0 n R ⟨rfl, hn, hR, h4, hi, by decide⟩)
  isplitl [H0]
  · iapply (rows_congr (G := G₀) fun r k h h' => ?_) $$ H0
    exact (if_pos ⟨h, h'⟩).symm
  · iapply (rows_congr (G := G₁) fun r k h h' => ?_) $$ H1
    exact (if_neg (fun x => hs r x ⟨h, h'⟩)).symm

end Split

/-! What a transfer reads, and what it is made of. -/

section Src
variable (b : Memref sig .tc .vmem ⟨2, ![2048, 384]⟩ .bf16)

/-- A chunk of the accumulator is what a transfer of the reduction takes away. -/
theorem toS {C : ℕ} (b : Memref sig .tc .vmem ⟨2, ![2048, C]⟩ .bf16) (i p k n : ℕ) (h : (∀ q lo n G, (accR i c q lo n G : sProp 𝕄) = rows c b q lo n G) ∧ n = sz i p) :
    rows c b fullShare (row i p k c) n (Fc X i p c) ⊢ srcP X (.rs i p k) c := by
  obtain ⟨h, rfl⟩ := h
  exact Entails.of_eq (h _ _ _ _).symm
/-- What a transfer of the reduction took away is a chunk of the accumulator. -/
theorem ofS {C : ℕ} (b : Memref sig .tc .vmem ⟨2, ![2048, C]⟩ .bf16) (i p k n : ℕ) (h : (∀ q lo n G, (accR i c q lo n G : sProp 𝕄) = rows c b q lo n G) ∧ n = sz i p) :
    srcP X (.rs i p k) c ⊢ rows c b fullShare (row i p k c) n (Fc X i p c) := by
  obtain ⟨h, rfl⟩ := h
  exact Entails.of_eq (h _ _ _ _)

/-- Along an axis of two devices, the finished chunk is what the transfer back takes
  away. -/
theorem toG2 {C : ℕ} (b : Memref sig .tc .vmem ⟨2, ![2048, C]⟩ .bf16) (i p k n : ℕ) (h : (∀ q lo n G, (accR i c q lo n G : sProp 𝕄) = rows c b q lo n G) ∧ n = sz i p ∧ ax i p = 0) :
    rows c b fullShare (row i p 0 c) n (Gs X i) ⊢ srcP X (.ag i p k) c := by
  obtain ⟨h, rfl, h0⟩ := h
  show _ ⊢ (accR i c (shr (ax i p) k) (row i p 0 c) (sz i p) (Gs X i) : sProp 𝕄)
  rw [h0]
  exact Entails.of_eq (h _ _ _ _).symm
/-- Along an axis of two devices, what the transfer back took away is the finished
  chunk. -/
theorem ofG2 {C : ℕ} (b : Memref sig .tc .vmem ⟨2, ![2048, C]⟩ .bf16) (i p k n : ℕ) (h : (∀ q lo n G, (accR i c q lo n G : sProp 𝕄) = rows c b q lo n G) ∧ n = sz i p ∧ ax i p = 0) :
    srcP X (.ag i p k) c ⊢ rows c b fullShare (row i p 0 c) n (Gs X i) := by
  obtain ⟨h, rfl, h0⟩ := h
  show (accR i c (shr (ax i p) k) (row i p 0 c) (sz i p) (Gs X i) : sProp 𝕄) ⊢ _
  rw [h0]
  exact Entails.of_eq (h _ _ _ _)

/-- What a transfer back takes away, as a share of the rows of the accumulator. -/
theorem ag_src {C : ℕ} (b : Memref sig .tc .vmem ⟨2, ![2048, C]⟩ .bf16) (i p k : ℕ) (q : PosShare TreeShare) (h : ∀ q lo n G, (accR i c q lo n G : sProp 𝕄) = rows c b q lo n G) (hq : shr (ax i p) k = q) :
    (srcP X (.ag i p k) c : sProp 𝕄) = rows c b q (row i p 0 c) (sz i p) (Gs X i) := by
  show (accR i c (shr (ax i p) k) (row i p 0 c) (sz i p) (Gs X i) : sProp 𝕄) = _
  rw [hq]; exact h _ _ _ _

/-- Along an axis of four devices, the finished chunk is shared among the three
  transfers back. -/
theorem toG4 {C : ℕ} (b : Memref sig .tc .vmem ⟨2, ![2048, C]⟩ .bf16) (i p n : ℕ) (h : (∀ q lo n G, (accR i c q lo n G : sProp 𝕄) = rows c b q lo n G) ∧ n = sz i p ∧ ax i p ≠ 0) :
    rows c b fullShare (row i p 0 c) n (Gs X i) ⊢ iprop(srcP X (.ag i p 1) c ∗ srcP X (.ag i p 2) c ∗ srcP X (.ag i p 3) c) := by
  obtain ⟨h, rfl, h0⟩ := h
  rw [ag_src X b i p 1 fullShare.left h (if_neg h0), ag_src X b i p 2 fullShare.right.left h (if_neg h0), ag_src X b i p 3 fullShare.right.right h (if_neg h0)]
  exact rows_share.1.trans (sep_mono_right rows_share.1)
/-- The three shares of the transfers back make the finished chunk again. -/
theorem ofG4 {C : ℕ} (b : Memref sig .tc .vmem ⟨2, ![2048, C]⟩ .bf16) (i p n : ℕ) (h : (∀ q lo n G, (accR i c q lo n G : sProp 𝕄) = rows c b q lo n G) ∧ n = sz i p ∧ ax i p ≠ 0) :
    iprop(srcP X (.ag i p 1) c ∗ srcP X (.ag i p 2) c ∗ srcP X (.ag i p 3) c) ⊢ rows c b fullShare (row i p 0 c) n (Gs X i) := by
  obtain ⟨h, rfl, h0⟩ := h
  rw [ag_src X b i p 1 fullShare.left h (if_neg h0), ag_src X b i p 2 fullShare.right.left h (if_neg h0), ag_src X b i p 3 fullShare.right.right h (if_neg h0)]
  exact (sep_mono_right rows_share.2).trans rows_share.2

end Src

/-! A landing buffer, once all that was to come has come. -/

/-- A buffer that a transfer landed in is a buffer. -/
theorem rpM {R C : ℕ} (t : Tr) (b : Memref sig .tc .vmem ⟨2, ![R, C]⟩ .bf16) (h : ∀ G, (land t c G : sProp 𝕄) = mat c b fullShare G) : RP X t c ⊢ buf c b := by
  show (land t c (rc X t c) : sProp 𝕄) ⊢ _
  rw [h]; exact mat_buf b
/-- Three landed slots make up their buffer. -/
theorem rpS {R C : ℕ} (t₁ t₂ t₃ : Tr) (b : Memref sig .tc .vmem ⟨3, ![3, R, C]⟩ .bf16)
    (h : (∀ G, (land t₃ c G : sProp 𝕄) = slot c b 0 G) ∧ (∀ G, (land t₂ c G : sProp 𝕄) = slot c b 1 G) ∧ (∀ G, (land t₁ c G : sProp 𝕄) = slot c b 2 G)) :
    iprop(RP X t₁ c ∗ RP X t₂ c ∗ RP X t₃ c) ⊢ buf c b := by
  obtain ⟨h₃, h₂, h₁⟩ := h
  show iprop(land t₁ c (rc X t₁ c) ∗ land t₂ c (rc X t₂ c) ∗ land t₃ c (rc X t₃ c)) ⊢ (_ : sProp 𝕄)
  rw [h₁, h₂, h₃]
  iintro ⟨H1, H2, H3⟩
  unfold buf
  iexists _
  iapply (slots_join _ _ _)
  iframe

end Cert.KProof

end
-- ==== Proof.BodyA.lean ====
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.Chunks

/-!
# The halves of the body

The two halves of the body, put together from their parts.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- The part of the body that only computes with the device's number. -/
abbrev head8 := (do
  let ⟨d0, v2, v19, v38, v40⟩ ← Ap (k0_part1 (F := F))
  let ⟨v53, v63, v64, v65, v79⟩ ← Ap (k0_part2 (F := F)) v19 v38 v40
  let ⟨v82, v111, v113, v114, v115, v118⟩ ← Ap (k0_part3 (F := F)) v19 v38 v64 v65 v79
  let ⟨v128, v145, v156, c2_i32_73, v157, v158⟩ ← Ap (k0_part4 (F := F)) v19 v38 v63 v82 v111 v113 v114 v115 v118
  let ⟨v174, v186, v197, v198⟩ ← Ap (k0_part5 (F := F)) v19 v53 v145 v156 c2_i32_73 v157 v158
  let ⟨v203, v213, v232, v234, v235, v236, v237⟩ ← Ap (k0_part6 (F := F)) v19 v38 v53 v145 v174 v186 v197 v198
  let ⟨v249, v266, v278⟩ ← Ap (k0_part7 (F := F)) v19 v53 v213 v232 v234 v235 v236 v237
  let ⟨v295, v296, v297, v298, v316⟩ ← Ap (k0_part8 (F := F)) v2 v19 v38 v53 v128 v249 v266 v278
  pure (d0, v296, v297, v298) : Prog (TpuEff nD τ sig (Elt F) Λ₀ .tc) _)

set_option maxRecDepth 65536 in
/-- The first eight parts of the body only compute: they end with the device and its
  barrier. -/
theorem head8_ev (c : Dev nD) : ∃ a, ev c (head8 (F := F)) = some a ∧ a.1 = c ∧ a.2.2.2 = SemArray.scalar (sig.barrier 0 rfl)
   ∧ a.2.1 = (if dstB c = c then 0#1 else 1#1) ∧ a.2.2.1 = (if dstC c = c then 0#1 else 1#1) := by
  refine ⟨_, rfl, rfl, rfl, ?_, ?_⟩
  · revert c; decide +kernel
  · revert c; decide +kernel

set_option maxHeartbeats 4000000 in
/-- The first half of the body: the handshake, the reduction, the product, and the first sends of the gathering. -/
theorem half1 {G2 : ℕ → ℕ → Elt F .f32} {G3 G4 G5 G6 G27 G28 : ℕ → ℕ → Elt F .bf16} {K : (Σ' (d0 : Dev nD) (v19 : BitVec 32) (v38 : BitVec 32) (v53 : BitVec 32) (v1571 : BitVec 32) (v1706 : BitVec 32) (v1904 : BitVec 32) (v1941 : BitVec 32) (v1978 : BitVec 32) (v1989 : BitVec 32) (v2016 : BitVec 32) (v2025 : BitVec 32), FVec F S64x384 .bf16) → sProp 𝕄} :
    iprop(pb X Λ c 0 ∗ mat c a0 fullShare (X.T c) ∗ mat c a1 fullShare (X.W c) ∗ mat c a2 fullShare G2 ∗ mat c a3 fullShare G3 ∗ mat c a4 fullShare G4 ∗ mat c a5 fullShare G5 ∗ mat c a6 fullShare G6 ∗ mat c a27 fullShare G27 ∗ mat c a28 fullShare G28)
      ⊢ iprop((∀ r, (⌜r.1 = c ∧ r.2.2.2.2.2.2.2.2.2.2.2.2 = fun j => rc X (.sh 3) c (j 0).val (j 1).val⌝ ∗ pg X Λ c 29 25 false ∗ mat c a0 fullShare (X.T c) ∗ mat c a1 fullShare (X.W c) ∗ rows c a6 fullShare 0 1024 (X.W c) ∗ RP X (.rs 0 0 1) c ∗ rows c a3 fullShare (row 0 0 1 c) 1024 (Fc X 0 0 c) ∗ RP X (.rs 1 0 1) c ∗ rows c a4 fullShare (row 1 0 1 c) 512 (Fc X 1 0 c) ∗ RP X (.rs 1 0 2) c ∗ RP X (.rs 1 0 3) c ∗ rows c a4 fullShare (row 1 0 2 c) 512 (Fc X 1 0 c) ∗ rows c a4 fullShare (row 1 0 3 c) 512 (Fc X 1 0 c) ∗ rows c a5 fullShare (row 2 0 1 c) 512 (Fc X 2 0 c) ∗ RP X (.rs 2 0 1) c ∗ RP X (.rs 2 0 2) c ∗ rows c a5 fullShare (row 2 0 2 c) 512 (Fc X 2 0 c) ∗ rows c a5 fullShare (row 2 0 3 c) 512 (Fc X 2 0 c) ∗ RP X (.rs 2 0 3) c ∗ RP X (.rs 0 1 1) c ∗ rows c a3 fullShare (row 0 1 1 c) 256 (Fc X 0 1 c) ∗ RP X (.rs 0 1 2) c ∗ RP X (.rs 0 1 3) c ∗ rows c a3 fullShare (row 0 1 2 c) 256 (Fc X 0 1 c) ∗ rows c a3 fullShare (row 0 1 3 c) 256 (Fc X 0 1 c) ∗ rows c a4 fullShare (row 1 1 1 c) 128 (Fc X 1 1 c) ∗ RP X (.rs 1 1 1) c ∗ RP X (.rs 1 1 2) c ∗ rows c a4 fullShare (row 1 1 2 c) 128 (Fc X 1 1 c) ∗ rows c a4 fullShare (row 1 1 3 c) 128 (Fc X 1 1 c) ∗ RP X (.rs 1 1 3) c ∗ RP X (.rs 2 1 1) c ∗ rows c a5 fullShare (row 2 1 1 c) 256 (Fc X 2 1 c) ∗ RP X (.rs 0 2 1) c ∗ rows c a3 fullShare (row 0 2 1 c) 64 (Fc X 0 2 c) ∗ rows c a3 fullShare (row 0 2 2 c) 64 (Fc X 0 2 c) ∗ RP X (.rs 0 2 2) c ∗ RP X (.rs 0 2 3) c ∗ rows c a3 fullShare (row 0 2 3 c) 64 (Fc X 0 2 c) ∗ RP X (.rs 1 2 1) c ∗ rows c a4 fullShare (row 1 2 1 c) 64 (Fc X 1 2 c) ∗ rows c a5 fullShare (row 2 2 1 c) 64 (Fc X 2 2 c) ∗ RP X (.rs 2 2 1) c ∗ RP X (.rs 2 2 2) c ∗ rows c a5 fullShare (row 2 2 2 c) 64 (Fc X 2 2 c) ∗ rows c a5 fullShare (row 2 2 3 c) 64 (Fc X 2 2 c) ∗ RP X (.rs 2 2 3) c ∗ RP X (.sh 0) c ∗ RP X (.sh 1) c ∗ rows c a5 fullShare (row 2 2 0 c) 64 (Fc X 2 3 c) ∗ srcP X (.sh 2) c ∗ RP X (.sh 2) c ∗ outSt X c 2 ∗ srcP X (.sh 3) c ∗ RP X (.sh 3) c) -∗ K r) -∗ WP c (Ap (k0_part101 (F := F))) K) := by
  unfold Ap
  unfold k0_part101
  iintro ⟨H, A0, A1, A2, A3, A4, A5, A6, A27, A28⟩ HK
  ihave A3 := (mat_rows (q := fullShare)).1 $$ A3
  ihave A4 := (mat_rows (q := fullShare)).1 $$ A4
  ihave A5 := (mat_rows (q := fullShare)).1 $$ A5
  ihave A6 := (mat_rows (q := fullShare)).1 $$ A6
  ihave HX := (spl2 a3 0 0 0 1024 2048 ⟨rfl, rfl, rfl, rfl, by decide, by decide⟩) $$ A3
  icases HX with ⟨L000, L001⟩
  ihave HX := (spl4 a4 1 0 0 512 2048 ⟨rfl, rfl, rfl, rfl, by decide, by decide⟩) $$ A4
  icases HX with ⟨L100, L101, L102, L103⟩
  ihave HX := (spl4 a5 2 0 0 512 2048 ⟨rfl, rfl, rfl, rfl, by decide, by decide⟩) $$ A5
  icases HX with ⟨L200, L201, L202, L203⟩
  obtain ⟨⟨d0, v2, v19, v38, v40⟩, w1⟩ : ∃ a, ev c (Ap (k0_part1 (F := F))) = some a := ⟨_, rfl⟩
  iapply bindT; iapply (wp_ev _ _ w1); dsimp only
  obtain ⟨⟨v53, v63, v64, v65, v79⟩, w2⟩ : ∃ a, ev c (Ap (k0_part2 (F := F)) v19 v38 v40) = some a := ⟨_, rfl⟩
  iapply bindT; iapply (wp_ev _ _ w2); dsimp only
  obtain ⟨⟨v82, v111, v113, v114, v115, v118⟩, w3⟩ : ∃ a, ev c (Ap (k0_part3 (F := F)) v19 v38 v64 v65 v79) = some a := ⟨_, rfl⟩
  iapply bindT; iapply (wp_ev _ _ w3); dsimp only
  obtain ⟨⟨v128, v145, v156, c2_i32_73, v157, v158⟩, w4⟩ : ∃ a, ev c (Ap (k0_part4 (F := F)) v19 v38 v63 v82 v111 v113 v114 v115 v118) = some a := ⟨_, rfl⟩
  iapply bindT; iapply (wp_ev _ _ w4); dsimp only
  obtain ⟨⟨v174, v186, v197, v198⟩, w5⟩ : ∃ a, ev c (Ap (k0_part5 (F := F)) v19 v53 v145 v156 c2_i32_73 v157 v158) = some a := ⟨_, rfl⟩
  iapply bindT; iapply (wp_ev _ _ w5); dsimp only
  obtain ⟨⟨v203, v213, v232, v234, v235, v236, v237⟩, w6⟩ : ∃ a, ev c (Ap (k0_part6 (F := F)) v19 v38 v53 v145 v174 v186 v197 v198) = some a := ⟨_, rfl⟩
  iapply bindT; iapply (wp_ev _ _ w6); dsimp only
  obtain ⟨⟨v249, v266, v278⟩, w7⟩ : ∃ a, ev c (Ap (k0_part7 (F := F)) v19 v53 v213 v232 v234 v235 v236 v237) = some a := ⟨_, rfl⟩
  iapply bindT; iapply (wp_ev _ _ w7); dsimp only
  obtain ⟨⟨v295, v296, v297, v298, v316⟩, w8⟩ : ∃ a, ev c (Ap (k0_part8 (F := F)) v2 v19 v38 v53 v128 v249 v266 v278) = some a := ⟨_, rfl⟩
  iapply bindT; iapply (wp_ev _ _ w8); dsimp only
  obtain ⟨e, he, hd, hb, hB, hC⟩ := head8_ev (F := F) c
  simp only [head8, ev_bind _ _ _ w1, ev_bind _ _ _ w2, ev_bind _ _ _ w3, ev_bind _ _ _ w4, ev_bind _ _ _ w5, ev_bind _ _ _ w6, ev_bind _ _ _ w7, ev_bind _ _ _ w8] at he
  obtain rfl := Option.some.inj he
  obtain hd : d0 = c := hd
  subst d0
  clear he
  iapply bindT
  iapply (part9 X Λ c hb) $$ [H]
  · iexact H
  iintro %r H
  obtain ⟨v346, v349, v350, v351⟩ := r
  try dsimp only
  iapply bindT
  iapply (part10 X Λ c hb) $$ [H]
  · iexact H
  iintro %r H
  obtain ⟨v381, v382, v383, v384, c0_i32_204⟩ := r
  try dsimp only
  iapply bindT
  iapply (skpS (hside := ?_))
  · exact ⟨_, rfl⟩
  iintro %r
  obtain ⟨v406, v417, v419, v420, v421, v422⟩ := r
  try dsimp only
  iapply bindT
  iapply (part12 X Λ c hb) $$ [H]
  · iexact H
  iintro %r H
  obtain ⟨v449, v451, v452, v453, v456⟩ := r
  try dsimp only
  iapply bindT
  iapply (skpS (hside := ?_))
  · exact ⟨_, rfl⟩
  iintro %r
  obtain ⟨v466, v494⟩ := r
  try dsimp only
  iapply bindT
  iapply (part14 X Λ c hb hB hC) $$ [H A0 L001]
  · iframe
  iintro %r ⟨H, A0, L001⟩
  obtain ⟨v518, v522, c2_i32_290, c0_i32_291⟩ := r
  try dsimp only
  ihave Hs0 := (toS X a3 0 0 1 1024 ⟨fun _ _ _ _ => rfl, rfl⟩) $$ L001
  iapply bindT
  iapply (part15 X Λ c) $$ [H Hs0]
  · iframe
  iintro %r H
  obtain ⟨v539, v548, v559⟩ := r
  try dsimp only
  iapply bindT
  iapply (part16 X c) $$ [A0 L101 L102]
  · iframe
  iintro %r ⟨A0, L101, L102⟩
  obtain ⟨v591, v592, v593, v594, v595⟩ := r
  try dsimp only
  iapply bindT
  iapply (part17 X c) $$ [A0 L103]
  · iframe
  iintro %r ⟨A0, L103⟩
  obtain ⟨v609, v620, v633⟩ := r
  try dsimp only
  ihave Hs1 := (toS X a4 1 0 1 512 ⟨fun _ _ _ _ => rfl, rfl⟩) $$ L101
  ihave Hs2 := (toS X a4 1 0 2 512 ⟨fun _ _ _ _ => rfl, rfl⟩) $$ L102
  ihave Hs3 := (toS X a4 1 0 3 512 ⟨fun _ _ _ _ => rfl, rfl⟩) $$ L103
  iapply bindT
  iapply (part18 X Λ c) $$ [H Hs1]
  · iframe
  iintro %r H
  obtain ⟨v639, v659, v663, v664, v665, v666, c0_i32_378⟩ := r
  try dsimp only
  iapply bindT
  iapply (part19 X Λ c) $$ [H Hs2]
  · iframe
  iintro %r H
  obtain ⟨v678, v698, c2_i32_400, v701, c1_i32_402⟩ := r
  try dsimp only
  iapply bindT
  iapply (part20 X Λ c) $$ [H Hs3]
  · iframe
  iintro %r H
  obtain ⟨v717, v728, v731, v732, v733, v736⟩ := r
  try dsimp only
  iapply bindT
  iapply (part21 X c) $$ [A0 L201 L202]
  · iframe
  iintro %r ⟨A0, L201, L202⟩
  obtain ⟨v771, v772, v773, c0_i32_446⟩ := r
  try dsimp only
  iapply bindT
  iapply (part22 X c) $$ [A0 L203]
  · iframe
  iintro %r ⟨A0, L203⟩
  obtain ⟨v789, v800, v805, v810, v811⟩ := r
  try dsimp only
  ihave Hs4 := (toS X a5 2 0 1 512 ⟨fun _ _ _ _ => rfl, rfl⟩) $$ L201
  ihave Hs5 := (toS X a5 2 0 2 512 ⟨fun _ _ _ _ => rfl, rfl⟩) $$ L202
  ihave Hs6 := (toS X a5 2 0 3 512 ⟨fun _ _ _ _ => rfl, rfl⟩) $$ L203
  iapply bindT
  iapply (part23 X Λ c) $$ [H Hs4]
  · iframe
  iintro %r H
  obtain ⟨v819, v839, v843, v844, v845⟩ := r
  try dsimp only
  iapply bindT
  iapply (part24 X Λ c) $$ [H Hs5]
  · iframe
  iintro %r H
  obtain ⟨v858, v878, c2_i32_513⟩ := r
  try dsimp only
  iapply bindT
  iapply (part25 X Λ c) $$ [H Hs6 A0 L000]
  · iframe
  iintro %r ⟨H, A0, L000⟩
  obtain ⟨v897, v908⟩ := r
  try dsimp only
  iapply bindT
  iapply (part26 X Λ c) $$ [H A0 A1 A6 L100 L200 L000]
  · iframe
  iintro %r ⟨H, Hs0, Hr0, A0, A1, A6, L100, L200, L000⟩
  try dsimp only
  ihave L001 := (ofS X a3 0 0 1 1024 ⟨fun _ _ _ _ => rfl, rfl⟩) $$ Hs0
  ihave HX := (spl4 a3 0 1 (row 0 0 0 c) 256 1024 ⟨rfl, rfl, rfl, rfl, by decide, by decide⟩) $$ L000
  icases HX with ⟨L010, L011, L012, L013⟩
  ihave Hs7 := (toS X a3 0 1 1 256 ⟨fun _ _ _ _ => rfl, rfl⟩) $$ L011
  ihave Hs8 := (toS X a3 0 1 2 256 ⟨fun _ _ _ _ => rfl, rfl⟩) $$ L012
  ihave Hs9 := (toS X a3 0 1 3 256 ⟨fun _ _ _ _ => rfl, rfl⟩) $$ L013
  iapply bindT
  iapply (skpS (hside := ?_))
  · exact ⟨_, rfl⟩
  iintro %r
  try dsimp only
  iapply bindT
  iapply (part28 X Λ c) $$ [H Hs7]
  · iframe
  iintro %r H
  obtain ⟨v1019, v1020, c0_i32_603⟩ := r
  try dsimp only
  iapply bindT
  iapply (part29 X Λ c) $$ [H Hs8]
  · iframe
  iintro %r H
  try dsimp only
  iapply bindT
  iapply (part30 X Λ c) $$ [H Hs9]
  · iframe
  iintro %r ⟨H, Hs1, Hr1⟩
  try dsimp only
  ihave L101 := (ofS X a4 1 0 1 512 ⟨fun _ _ _ _ => rfl, rfl⟩) $$ Hs1
  iapply bindT
  iapply (part31 X Λ c) $$ [H L100]
  · iframe
  iintro %r ⟨%h31, H, Hs2, Hr2, Hs3, Hr3, L100⟩
  try dsimp only
  ihave L102 := (ofS X a4 1 0 2 512 ⟨fun _ _ _ _ => rfl, rfl⟩) $$ Hs2
  ihave L103 := (ofS X a4 1 0 3 512 ⟨fun _ _ _ _ => rfl, rfl⟩) $$ Hs3
  iapply bindT
  iapply (part32 X c h31) $$ [Hr2 Hr1 L100]
  · iframe
  iintro %r ⟨Hr2, Hr1, L100⟩
  obtain ⟨v1146, v1147, c2_i32_704⟩ := r
  try dsimp only
  ihave HX := (spl4 a4 1 1 (row 1 0 0 c) 128 512 ⟨rfl, rfl, rfl, rfl, by decide, by decide⟩) $$ L100
  icases HX with ⟨L110, L111, L112, L113⟩
  ihave Hs10 := (toS X a4 1 1 1 128 ⟨fun _ _ _ _ => rfl, rfl⟩) $$ L111
  ihave Hs11 := (toS X a4 1 1 2 128 ⟨fun _ _ _ _ => rfl, rfl⟩) $$ L112
  ihave Hs12 := (toS X a4 1 1 3 128 ⟨fun _ _ _ _ => rfl, rfl⟩) $$ L113
  iapply bindT
  iapply (part33 X Λ c) $$ [H Hs10]
  · iframe
  iintro %r H
  obtain ⟨v1150, v1170, v1183⟩ := r
  try dsimp only
  iapply bindT
  iapply (part34 X Λ c) $$ [H Hs11]
  · iframe
  iintro %r H
  obtain ⟨v1189, v1209, v1213, v1214, v1215, v1216, v1217⟩ := r
  try dsimp only
  iapply bindT
  iapply (part35 X Λ c) $$ [H Hs12]
  · iframe
  iintro %r ⟨H, Hs4⟩
  obtain ⟨v1228, v1239⟩ := r
  try dsimp only
  ihave L201 := (ofS X a5 2 0 1 512 ⟨fun _ _ _ _ => rfl, rfl⟩) $$ Hs4
  iapply bindT
  iapply (part36 X Λ c) $$ [H]
  · iexact H
  iintro %r ⟨H, Hr4, Hs5, Hr5, Hs6⟩
  try dsimp only
  ihave L202 := (ofS X a5 2 0 2 512 ⟨fun _ _ _ _ => rfl, rfl⟩) $$ Hs5
  ihave L203 := (ofS X a5 2 0 3 512 ⟨fun _ _ _ _ => rfl, rfl⟩) $$ Hs6
  iapply bindT
  iapply (part37 X Λ c) $$ [H Hr5 Hr4 L200]
  · iframe
  iintro %r ⟨H, Hr6, Hr5, Hr4, L200⟩
  obtain ⟨v1307, v1308⟩ := r
  try dsimp only
  ihave HX := (spl2 a5 2 1 (row 2 0 0 c) 256 512 ⟨rfl, rfl, rfl, rfl, by decide, by decide⟩) $$ L200
  icases HX with ⟨L210, L211⟩
  ihave Hs13 := (toS X a5 2 1 1 256 ⟨fun _ _ _ _ => rfl, rfl⟩) $$ L211
  iapply bindT
  iapply (part38 X Λ c) $$ [H Hs13]
  · iframe
  iintro %r ⟨H, Hs7, Hr7⟩
  obtain ⟨v1311, v1320⟩ := r
  try dsimp only
  ihave L011 := (ofS X a3 0 1 1 256 ⟨fun _ _ _ _ => rfl, rfl⟩) $$ Hs7
  iapply bindT
  iapply (part39 X Λ c) $$ [H L010]
  · iframe
  iintro %r ⟨%h39, H, Hs8, Hr8, Hs9, Hr9, L010⟩
  obtain ⟨v1361, v1362⟩ := r
  try dsimp only
  ihave L012 := (ofS X a3 0 1 2 256 ⟨fun _ _ _ _ => rfl, rfl⟩) $$ Hs8
  ihave L013 := (ofS X a3 0 1 3 256 ⟨fun _ _ _ _ => rfl, rfl⟩) $$ Hs9
  iapply bindT
  iapply (part40 X c h39) $$ [Hr7 L010]
  · iframe
  iintro %r ⟨Hr7, L010⟩
  obtain ⟨v1397, v1398, v1399⟩ := r
  try dsimp only
  ihave HX := (spl4 a3 0 2 (row 0 1 0 c) 64 256 ⟨rfl, rfl, rfl, rfl, by decide, by decide⟩) $$ L010
  icases HX with ⟨L020, L021, L022, L023⟩
  ihave Hs14 := (toS X a3 0 2 1 64 ⟨fun _ _ _ _ => rfl, rfl⟩) $$ L021
  ihave Hs15 := (toS X a3 0 2 2 64 ⟨fun _ _ _ _ => rfl, rfl⟩) $$ L022
  ihave Hs16 := (toS X a3 0 2 3 64 ⟨fun _ _ _ _ => rfl, rfl⟩) $$ L023
  iapply bindT
  iapply (part41 X Λ c) $$ [H Hs14]
  · iframe
  iintro %r H
  obtain ⟨v1401, v1421, v1434, c1_i32_933⟩ := r
  try dsimp only
  iapply bindT
  iapply (part42 X Λ c) $$ [H Hs15]
  · iframe
  iintro %r H
  obtain ⟨v1440, v1460, v1464, v1465, v1466, v1469⟩ := r
  try dsimp only
  iapply bindT
  iapply (part43 X Λ c) $$ [H Hs16]
  · iframe
  iintro %r ⟨H, Hs10⟩
  obtain ⟨v1479, v1490⟩ := r
  try dsimp only
  ihave L111 := (ofS X a4 1 1 1 128 ⟨fun _ _ _ _ => rfl, rfl⟩) $$ Hs10
  iapply bindT
  iapply (part44 X Λ c) $$ [H]
  · iexact H
  iintro %r ⟨H, Hr10, Hs11, Hr11, Hs12⟩
  try dsimp only
  ihave L112 := (ofS X a4 1 1 2 128 ⟨fun _ _ _ _ => rfl, rfl⟩) $$ Hs11
  ihave L113 := (ofS X a4 1 1 3 128 ⟨fun _ _ _ _ => rfl, rfl⟩) $$ Hs12
  iapply bindT
  iapply (part45 X Λ c) $$ [H Hr11 Hr10 L110]
  · iframe
  iintro %r ⟨H, Hr12, Hr11, Hr10, L110⟩
  obtain ⟨v1558, v1559, c2_i32_1038⟩ := r
  try dsimp only
  ihave HX := (spl2 a4 1 2 (row 1 1 0 c) 64 128 ⟨rfl, rfl, rfl, rfl, by decide, by decide⟩) $$ L110
  icases HX with ⟨L120, L121⟩
  ihave Hs17 := (toS X a4 1 2 1 64 ⟨fun _ _ _ _ => rfl, rfl⟩) $$ L121
  iapply bindT
  iapply (part46 X Λ c) $$ [H Hs17 L210]
  · iframe
  iintro %r ⟨H, Hs13, Hr13, L210⟩
  obtain ⟨v1562, v1571, v1590, v1591, c0_i32_1061⟩ := r
  try dsimp only
  ihave L211 := (ofS X a5 2 1 1 256 ⟨fun _ _ _ _ => rfl, rfl⟩) $$ Hs13
  ihave HX := (spl4 a5 2 2 (row 2 1 0 c) 64 256 ⟨rfl, rfl, rfl, rfl, by decide, by decide⟩) $$ L210
  icases HX with ⟨L220, L221, L222, L223⟩
  ihave Hs18 := (toS X a5 2 2 1 64 ⟨fun _ _ _ _ => rfl, rfl⟩) $$ L221
  ihave Hs19 := (toS X a5 2 2 2 64 ⟨fun _ _ _ _ => rfl, rfl⟩) $$ L222
  ihave Hs20 := (toS X a5 2 2 3 64 ⟨fun _ _ _ _ => rfl, rfl⟩) $$ L223
  iapply bindT
  iapply (part47 X Λ c) $$ [H Hs18]
  · iframe
  iintro %r H
  obtain ⟨v1617, v1627, c4_i32_1082⟩ := r
  try dsimp only
  iapply bindT
  iapply (skpS (hside := ?_))
  · exact ⟨_, rfl⟩
  iintro %r
  try dsimp only
  iapply bindT
  iapply (part49 X Λ c) $$ [H Hs19]
  · iframe
  iintro %r H
  try dsimp only
  iapply bindT
  iapply (part50 X Λ c) $$ [H Hs20]
  · iframe
  iintro %r ⟨H, Hs14, Hr14, Hs15⟩
  obtain ⟨v1706, v1724, c0_i32_1159⟩ := r
  try dsimp only
  ihave L021 := (ofS X a3 0 2 1 64 ⟨fun _ _ _ _ => rfl, rfl⟩) $$ Hs14
  ihave L022 := (ofS X a3 0 2 2 64 ⟨fun _ _ _ _ => rfl, rfl⟩) $$ Hs15
  iapply bindT
  iapply (part51 X Λ c) $$ [H Hr14 L020]
  · iframe
  iintro %r ⟨%h51, H, Hr15, Hs16, Hr16, Hr14, L020⟩
  try dsimp only
  ihave L023 := (ofS X a3 0 2 3 64 ⟨fun _ _ _ _ => rfl, rfl⟩) $$ Hs16
  iapply bindT
  iapply (part52 X Λ c h51) $$ [H L020 L120]
  · iframe
  iintro %r ⟨H, Hs17, Hr17, Hs18, L020, L120⟩
  try dsimp only
  ihave L121 := (ofS X a4 1 2 1 64 ⟨fun _ _ _ _ => rfl, rfl⟩) $$ Hs17
  ihave L221 := (ofS X a5 2 2 1 64 ⟨fun _ _ _ _ => rfl, rfl⟩) $$ Hs18
  ihave Hs21 := (Entails.of_eq (show (rows c a4 fullShare (row 1 2 0 c) 64 (Fc X 1 3 c) : sProp 𝕄) = srcP X (.sh 0) c from rfl)) $$ L120
  iapply bindT
  iapply (part53 X Λ c) $$ [H]
  · iexact H
  iintro %r ⟨H, Hr18, Hs19, Hr19, Hs20⟩
  try dsimp only
  ihave L222 := (ofS X a5 2 2 2 64 ⟨fun _ _ _ _ => rfl, rfl⟩) $$ Hs19
  ihave L223 := (ofS X a5 2 2 3 64 ⟨fun _ _ _ _ => rfl, rfl⟩) $$ Hs20
  iapply bindT
  iapply (part54 X Λ c) $$ [H Hr19 Hr18 L220 Hs21 L020]
  · iframe
  iintro %r ⟨%h54, H, Hr20, Hr19, Hr18, L020, O0, O1⟩
  try dsimp only
  iapply bindT
  iapply (part55 X Λ c h54) $$ [H O0 O1 A6 L020 A27 A28]
  · iframe
  iintro %r ⟨%h55, H, Hs21, Hr21, Hs22, Hr22, A6, L020, A27, A28⟩
  obtain ⟨v1850, v1867⟩ := r
  try dsimp only
  ihave L120 := (Entails.of_eq (show srcP X (.sh 0) c = (rows c a4 fullShare (row 1 2 0 c) 64 (Fc X 1 3 c) : sProp 𝕄) from rfl)) $$ Hs21
  ihave L220 := (Entails.of_eq (show srcP X (.sh 1) c = (rows c a5 fullShare (row 2 2 0 c) 64 (Fc X 2 3 c) : sProp 𝕄) from rfl)) $$ Hs22
  ihave Hs23 := (Entails.of_eq (show (mat c a27 fullShare (Zb X c) : sProp 𝕄) = srcP X (.sh 2) c from rfl)) $$ A27
  ihave Hs24 := (Entails.of_eq (show (mat c a28 fullShare (Zc X c) : sProp 𝕄) = srcP X (.sh 3) c from rfl)) $$ A28
  iapply bindT
  iapply (part56 X Λ c hB hC) $$ [H Hs23 Hs24]
  · iframe
  iintro %r ⟨H, O2, O3⟩
  obtain ⟨v1887, v1898, v1899⟩ := r
  try dsimp only
  ihave HX := (toG4 X a3 0 2 64 ⟨fun _ _ _ _ => rfl, rfl, by decide⟩) $$ L020
  icases HX with ⟨Hs25, Hs26, Hs27⟩
  iapply bindT
  iapply (part57 X Λ c) $$ [H Hs25]
  · iframe
  iintro %r H
  obtain ⟨v1904, v1924, v1934, c0_i32_1340⟩ := r
  try dsimp only
  iapply bindT
  iapply (part58 X Λ c) $$ [H Hs26]
  · iframe
  iintro %r H
  obtain ⟨v1941, v1961, v1963, v1964, v1969⟩ := r
  try dsimp only
  iapply bindT
  iapply (part59 X Λ c hB h55) $$ [H Hs27 A2 O2 L120]
  · iframe
  iintro %r ⟨H, Hs23, Hr23, HO, L120⟩
  obtain ⟨v1978, v1989, v1999, v2001⟩ := r
  try dsimp only
  ihave Hs28 := (toG2 X a4 1 2 1 64 ⟨fun _ _ _ _ => rfl, rfl, by decide⟩) $$ L120
  iapply bindT
  iapply (part60 X Λ c hC) $$ [H Hs28 Hr23 HO O3 L220]
  · iframe
  iintro %r ⟨%h60, H, Hr23, Hs24, Hr24, HO, L220⟩
  obtain ⟨v2016, v2025, v2036⟩ := r
  try dsimp only
  iapply ret_ok
  iapply HK
  iframe
  ipureintro
  exact ⟨rfl, h60⟩

/-- The second half of the body: the gathering. -/
theorem half2 (p1 p2 p3 p4 p5 p6 p7 p8 p9 p10 p11 : BitVec 32) (w : FVec F S64x384 .bf16) (h60 : w = fun j => rc X (.sh 3) c (j 0).val (j 1).val) {K : (Σ' (v3340 : BitVec 32), FVec F S512x384 .f32) → sProp 𝕄} :
    iprop(pg X Λ c 29 25 false ∗ mat c a0 fullShare (X.T c) ∗ mat c a1 fullShare (X.W c) ∗ rows c a6 fullShare 0 1024 (X.W c) ∗ RP X (.rs 0 0 1) c ∗ rows c a3 fullShare (row 0 0 1 c) 1024 (Fc X 0 0 c) ∗ RP X (.rs 1 0 1) c ∗ rows c a4 fullShare (row 1 0 1 c) 512 (Fc X 1 0 c) ∗ RP X (.rs 1 0 2) c ∗ RP X (.rs 1 0 3) c ∗ rows c a4 fullShare (row 1 0 2 c) 512 (Fc X 1 0 c) ∗ rows c a4 fullShare (row 1 0 3 c) 512 (Fc X 1 0 c) ∗ rows c a5 fullShare (row 2 0 1 c) 512 (Fc X 2 0 c) ∗ RP X (.rs 2 0 1) c ∗ RP X (.rs 2 0 2) c ∗ rows c a5 fullShare (row 2 0 2 c) 512 (Fc X 2 0 c) ∗ rows c a5 fullShare (row 2 0 3 c) 512 (Fc X 2 0 c) ∗ RP X (.rs 2 0 3) c ∗ RP X (.rs 0 1 1) c ∗ rows c a3 fullShare (row 0 1 1 c) 256 (Fc X 0 1 c) ∗ RP X (.rs 0 1 2) c ∗ RP X (.rs 0 1 3) c ∗ rows c a3 fullShare (row 0 1 2 c) 256 (Fc X 0 1 c) ∗ rows c a3 fullShare (row 0 1 3 c) 256 (Fc X 0 1 c) ∗ rows c a4 fullShare (row 1 1 1 c) 128 (Fc X 1 1 c) ∗ RP X (.rs 1 1 1) c ∗ RP X (.rs 1 1 2) c ∗ rows c a4 fullShare (row 1 1 2 c) 128 (Fc X 1 1 c) ∗ rows c a4 fullShare (row 1 1 3 c) 128 (Fc X 1 1 c) ∗ RP X (.rs 1 1 3) c ∗ RP X (.rs 2 1 1) c ∗ rows c a5 fullShare (row 2 1 1 c) 256 (Fc X 2 1 c) ∗ RP X (.rs 0 2 1) c ∗ rows c a3 fullShare (row 0 2 1 c) 64 (Fc X 0 2 c) ∗ rows c a3 fullShare (row 0 2 2 c) 64 (Fc X 0 2 c) ∗ RP X (.rs 0 2 2) c ∗ RP X (.rs 0 2 3) c ∗ rows c a3 fullShare (row 0 2 3 c) 64 (Fc X 0 2 c) ∗ RP X (.rs 1 2 1) c ∗ rows c a4 fullShare (row 1 2 1 c) 64 (Fc X 1 2 c) ∗ rows c a5 fullShare (row 2 2 1 c) 64 (Fc X 2 2 c) ∗ RP X (.rs 2 2 1) c ∗ RP X (.rs 2 2 2) c ∗ rows c a5 fullShare (row 2 2 2 c) 64 (Fc X 2 2 c) ∗ rows c a5 fullShare (row 2 2 3 c) 64 (Fc X 2 2 c) ∗ RP X (.rs 2 2 3) c ∗ RP X (.sh 0) c ∗ RP X (.sh 1) c ∗ rows c a5 fullShare (row 2 2 0 c) 64 (Fc X 2 3 c) ∗ srcP X (.sh 2) c ∗ RP X (.sh 2) c ∗ outSt X c 2 ∗ srcP X (.sh 3) c ∗ RP X (.sh 3) c)
      ⊢ iprop((∀ r, (⌜r.2 = fun j => FloatOps.extf .f32 bitsLt_bf16_f32 (rc X (.ag 2 0 1) c (j 0).val (j 1).val : F .bf16)⌝ ∗ pg X Λ c 46 46 false ∗ mat c a0 fullShare (X.T c) ∗ mat c a1 fullShare (X.W c) ∗ rows c a6 fullShare 0 1024 (X.W c) ∗ RP X (.rs 0 0 1) c ∗ rows c a3 fullShare (row 0 0 1 c) 1024 (Fc X 0 0 c) ∗ RP X (.rs 1 0 1) c ∗ rows c a4 fullShare (row 1 0 1 c) 512 (Fc X 1 0 c) ∗ RP X (.rs 1 0 2) c ∗ RP X (.rs 1 0 3) c ∗ rows c a4 fullShare (row 1 0 2 c) 512 (Fc X 1 0 c) ∗ rows c a4 fullShare (row 1 0 3 c) 512 (Fc X 1 0 c) ∗ rows c a5 fullShare (row 2 0 1 c) 512 (Fc X 2 0 c) ∗ RP X (.rs 2 0 1) c ∗ RP X (.rs 2 0 2) c ∗ rows c a5 fullShare (row 2 0 2 c) 512 (Fc X 2 0 c) ∗ rows c a5 fullShare (row 2 0 3 c) 512 (Fc X 2 0 c) ∗ RP X (.rs 2 0 3) c ∗ RP X (.rs 0 1 1) c ∗ RP X (.rs 0 1 2) c ∗ RP X (.rs 0 1 3) c ∗ RP X (.rs 1 1 1) c ∗ RP X (.rs 1 1 2) c ∗ RP X (.rs 1 1 3) c ∗ RP X (.rs 2 1 1) c ∗ RP X (.rs 0 2 1) c ∗ RP X (.rs 0 2 2) c ∗ RP X (.rs 0 2 3) c ∗ RP X (.rs 1 2 1) c ∗ RP X (.rs 2 2 1) c ∗ RP X (.rs 2 2 2) c ∗ RP X (.rs 2 2 3) c ∗ RP X (.sh 0) c ∗ RP X (.sh 1) c ∗ srcP X (.sh 2) c ∗ RP X (.sh 2) c ∗ outSt X c 23 ∗ srcP X (.sh 3) c ∗ RP X (.sh 3) c ∗ RP X (.ag 0 2 1) c ∗ RP X (.ag 0 2 2) c ∗ RP X (.ag 0 2 3) c ∗ RP X (.ag 1 2 1) c ∗ RP X (.ag 2 2 1) c ∗ RP X (.ag 2 2 2) c ∗ RP X (.ag 2 2 3) c ∗ RP X (.ag 0 1 1) c ∗ RP X (.ag 0 1 2) c ∗ RP X (.ag 0 1 3) c ∗ RP X (.ag 1 1 1) c ∗ RP X (.ag 1 1 2) c ∗ RP X (.ag 1 1 3) c ∗ RP X (.ag 2 1 1) c ∗ RP X (.ag 0 0 1) c ∗ rows c a3 fullShare (row 0 0 0 c) 1024 (Gs X 0) ∗ RP X (.ag 1 0 1) c ∗ RP X (.ag 1 0 2) c ∗ RP X (.ag 1 0 3) c ∗ rows c a4 fullShare (row 1 0 0 c) 512 (Gs X 1) ∗ RP X (.ag 2 0 1) c ∗ RP X (.ag 2 0 2) c ∗ RP X (.ag 2 0 3) c ∗ rows c a5 fullShare (row 2 0 0 c) 512 (Gs X 2)) -∗ K r)
        -∗ WP c (Ap (k0_part102 (F := F)) c p1 p2 p3 p4 p5 p6 p7 p8 p9 p10 p11 w) K) := by
  unfold Ap
  unfold k0_part102
  iintro ⟨H, A0, A1, A6, Hr0, L001, Hr1, L101, Hr2, Hr3, L102, L103, L201, Hr4, Hr5, L202, L203, Hr6, Hr7, L011, Hr8, Hr9, L012, L013, L111, Hr10, Hr11, L112, L113, Hr12, Hr13, L211, Hr14, L021, L022, Hr15, Hr16, L023, Hr17, L121, L221, Hr18, Hr19, L222, L223, Hr20, Hr21, Hr22, L220, Hs23, Hr23, HO, Hs24, Hr24⟩ HK
  iapply bindT
  iapply (part61 X c h60) $$ [L220]
  · iexact L220
  iintro %r L220
  try dsimp only
  ihave HX := (toG4 X a5 2 2 64 ⟨fun _ _ _ _ => rfl, rfl, by decide⟩) $$ L220
  icases HX with ⟨Hs29, Hs30, Hs31⟩
  iapply bindT
  iapply (part62 X Λ c) $$ [H Hs29]
  · iframe
  iintro %r H
  try dsimp only
  iapply bindT
  iapply (part63 X Λ c) $$ [H Hs30]
  · iframe
  iintro %r H
  try dsimp only
  iapply bindT
  iapply (part64 X Λ c) $$ [H Hs31 Hr24 HO]
  · iframe
  iintro %r ⟨H, Hs25, Hr25, Hr24, HO⟩
  try dsimp only
  iapply bindT
  iapply (part65 X Λ c) $$ [H]
  · iexact H
  iintro %r ⟨H, Hs26, Hr26, Hs27, Hr27⟩
  obtain ⟨v2193, v2194, v2195⟩ := r
  try dsimp only
  ihave L020 := (ofG4 X a3 0 2 64 ⟨fun _ _ _ _ => rfl, rfl, by decide⟩) $$ [Hs25 Hs26 Hs27]
  · iframe
  iapply bindT
  iapply (part66 X c) $$ [Hr27 Hr26 L021 HO]
  · iframe
  iintro %r ⟨%h66, Hr27, Hr26, L021, HO⟩
  obtain ⟨v2228, v2230⟩ := r
  try dsimp only
  iapply bindT
  iapply (part67 X c h66) $$ [Hr26 Hr25 L022 L023 HO]
  · iframe
  iintro %r ⟨Hr26, Hr25, L022, L023, HO⟩
  try dsimp only
  ihave L010 := (jn4 (q := fullShare) (G := Gs X 0) a3 0 2 (row 0 1 0 c) 64 256 ⟨rfl, rfl, rfl, rfl, by decide, by decide⟩) $$ [L020 L021 L022 L023]
  · iframe
  ihave HX := (toG4 X a3 0 1 256 ⟨fun _ _ _ _ => rfl, rfl, by decide⟩) $$ L010
  icases HX with ⟨Hs32, Hs33, Hs34⟩
  iapply bindT
  iapply (skpS (hside := ?_))
  · exact ⟨_, rfl⟩
  iintro %r
  try dsimp only
  iapply bindT
  iapply (part69 X Λ c) $$ [H Hs32]
  · iframe
  iintro %r H
  try dsimp only
  iapply bindT
  iapply (part70 X Λ c) $$ [H Hs33]
  · iframe
  iintro %r H
  try dsimp only
  iapply bindT
  iapply (part71 X Λ c) $$ [H Hs34 L121 HO]
  · iframe
  iintro %r ⟨H, Hs28, Hr28, L121, HO⟩
  obtain ⟨v2377, v2399, c4_i32_1681, v2400⟩ := r
  try dsimp only
  ihave L120 := (ofG2 X a4 1 2 1 64 ⟨fun _ _ _ _ => rfl, rfl, by decide⟩) $$ Hs28
  ihave L110 := (jn2 (q := fullShare) (G := Gs X 1) a4 1 2 (row 1 1 0 c) 64 128 ⟨rfl, rfl, rfl, rfl, by decide, by decide⟩) $$ [L120 L121]
  · iframe
  ihave HX := (toG4 X a4 1 1 128 ⟨fun _ _ _ _ => rfl, rfl, by decide⟩) $$ L110
  icases HX with ⟨Hs35, Hs36, Hs37⟩
  iapply bindT
  iapply (part72 X Λ c) $$ [H Hs35]
  · iframe
  iintro %r H
  obtain ⟨v2426, v2436⟩ := r
  try dsimp only
  iapply bindT
  iapply (skpS (hside := ?_))
  · exact ⟨_, rfl⟩
  iintro %r
  try dsimp only
  iapply bindT
  iapply (part74 X Λ c) $$ [H Hs36]
  · iframe
  iintro %r H
  try dsimp only
  iapply bindT
  iapply (part75 X Λ c) $$ [H Hs37]
  · iframe
  iintro %r ⟨H, Hs29, Hr29, Hs30⟩
  try dsimp only
  iapply bindT
  iapply (part76 X Λ c) $$ [H]
  · iexact H
  iintro %r ⟨H, Hr30, Hs31, Hr31⟩
  try dsimp only
  ihave L220 := (ofG4 X a5 2 2 64 ⟨fun _ _ _ _ => rfl, rfl, by decide⟩) $$ [Hs29 Hs30 Hs31]
  · iframe
  iapply bindT
  iapply (part77 X c) $$ [Hr31 Hr30 L221 L222 HO]
  · iframe
  iintro %r ⟨%h77, Hr31, Hr30, L221, L222, HO⟩
  try dsimp only
  iapply bindT
  iapply (part78 X c h77) $$ [Hr29 L223 HO]
  · iframe
  iintro %r ⟨Hr29, L223, HO⟩
  obtain ⟨v2623, v2625, v2626, v2627, v2628, v2629⟩ := r
  try dsimp only
  ihave L210 := (jn4 (q := fullShare) (G := Gs X 2) a5 2 2 (row 2 1 0 c) 64 256 ⟨rfl, rfl, rfl, rfl, by decide, by decide⟩) $$ [L220 L221 L222 L223]
  · iframe
  ihave Hs38 := (toG2 X a5 2 1 1 256 ⟨fun _ _ _ _ => rfl, rfl, by decide⟩) $$ L210
  iapply bindT
  iapply (part79 X Λ c) $$ [H Hs38]
  · iframe
  iintro %r ⟨H, Hs32, Hr32⟩
  obtain ⟨v2640, v2649⟩ := r
  try dsimp only
  iapply bindT
  iapply (part80 X Λ c) $$ [H]
  · iexact H
  iintro %r ⟨H, Hs33, Hr33, Hs34, Hr34⟩
  try dsimp only
  ihave L010 := (ofG4 X a3 0 1 256 ⟨fun _ _ _ _ => rfl, rfl, by decide⟩) $$ [Hs32 Hs33 Hs34]
  · iframe
  iapply bindT
  iapply (part81 X c) $$ [Hr34 L011 HO]
  · iframe
  iintro %r ⟨Hr34, L011, HO⟩
  obtain ⟨v2714, v2715, v2720⟩ := r
  try dsimp only
  iapply bindT
  iapply (part82 X c) $$ [Hr33 Hr32 L012 L013 HO]
  · iframe
  iintro %r ⟨Hr33, Hr32, L012, L013, HO⟩
  try dsimp only
  ihave L000 := (jn4 (q := fullShare) (G := Gs X 0) a3 0 1 (row 0 0 0 c) 256 1024 ⟨rfl, rfl, rfl, rfl, by decide, by decide⟩) $$ [L010 L011 L012 L013]
  · iframe
  ihave Hs39 := (toG2 X a3 0 0 1 1024 ⟨fun _ _ _ _ => rfl, rfl, by decide⟩) $$ L000
  iapply bindT
  iapply (part83 X Λ c) $$ [H Hr32 Hs39 HO]
  · iframe
  iintro %r ⟨H, Hr32, HO⟩
  try dsimp only
  iapply bindT
  iapply (part84 X Λ c) $$ [H]
  · iexact H
  iintro %r ⟨H, Hs35, Hr35, Hs36, Hr36⟩
  try dsimp only
  iapply bindT
  iapply (part85 X Λ c) $$ [H L111]
  · iframe
  iintro %r ⟨%h85, H, Hs37, Hr37, L111⟩
  try dsimp only
  ihave L110 := (ofG4 X a4 1 1 128 ⟨fun _ _ _ _ => rfl, rfl, by decide⟩) $$ [Hs35 Hs36 Hs37]
  · iframe
  iapply bindT
  iapply (part86 X c h85) $$ [Hr36 L112 HO]
  · iframe
  iintro %r ⟨Hr36, L112, HO⟩
  obtain ⟨v2875, v2876, v2877, c0_i32_2066⟩ := r
  try dsimp only
  iapply bindT
  iapply (part87 X c) $$ [Hr35 L113 HO]
  · iframe
  iintro %r ⟨Hr35, L113, HO⟩
  obtain ⟨v2907, v2909, v2910, v2911, v2912, c0_i32_2089⟩ := r
  try dsimp only
  ihave L100 := (jn4 (q := fullShare) (G := Gs X 1) a4 1 1 (row 1 0 0 c) 128 512 ⟨rfl, rfl, rfl, rfl, by decide, by decide⟩) $$ [L110 L111 L112 L113]
  · iframe
  ihave HX := (toG4 X a4 1 0 512 ⟨fun _ _ _ _ => rfl, rfl, by decide⟩) $$ L100
  icases HX with ⟨Hs40, Hs41, Hs42⟩
  iapply bindT
  iapply (part88 X Λ c) $$ [H Hs40]
  · iframe
  iintro %r H
  obtain ⟨v2924, v2944, v2946, v2947, v2948⟩ := r
  try dsimp only
  iapply bindT
  iapply (part89 X Λ c) $$ [H Hs41]
  · iframe
  iintro %r H
  obtain ⟨v2961, v2981, v2983⟩ := r
  try dsimp only
  iapply bindT
  iapply (part90 X Λ c) $$ [H Hs42]
  · iframe
  iintro %r ⟨H, Hs38⟩
  obtain ⟨v2998, v3009⟩ := r
  try dsimp only
  ihave L210 := (ofG2 X a5 2 1 1 256 ⟨fun _ _ _ _ => rfl, rfl, by decide⟩) $$ Hs38
  iapply bindT
  iapply (part91 X Λ c) $$ [H L211 HO]
  · iframe
  iintro %r ⟨H, Hr38, L211, HO⟩
  obtain ⟨v3041, v3051⟩ := r
  try dsimp only
  ihave L200 := (jn2 (q := fullShare) (G := Gs X 2) a5 2 1 (row 2 0 0 c) 256 512 ⟨rfl, rfl, rfl, rfl, by decide, by decide⟩) $$ [L210 L211]
  · iframe
  ihave HX := (toG4 X a5 2 0 512 ⟨fun _ _ _ _ => rfl, rfl, by decide⟩) $$ L200
  icases HX with ⟨Hs43, Hs44, Hs45⟩
  iapply bindT
  iapply (part92 X Λ c) $$ [H Hs43]
  · iframe
  iintro %r H
  obtain ⟨v3058, v3078, v3080, v3081, v3082, v3085⟩ := r
  try dsimp only
  iapply bindT
  iapply (part93 X Λ c) $$ [H Hs44]
  · iframe
  iintro %r H
  obtain ⟨v3095, v3115, v3117, v3118, v3119, v3120⟩ := r
  try dsimp only
  iapply bindT
  iapply (part94 X Λ c) $$ [H Hs45]
  · iframe
  iintro %r ⟨H, Hs39, Hr39⟩
  obtain ⟨v3132, v3143, v3152, c1_i32_2257⟩ := r
  try dsimp only
  ihave L000 := (ofG2 X a3 0 0 1 1024 ⟨fun _ _ _ _ => rfl, rfl, by decide⟩) $$ Hs39
  iapply bindT
  iapply (part95 X Λ c) $$ [H Hr39 HO]
  · iframe
  iintro %r ⟨H, Hr39, Hs40, Hr40, Hs41, HO⟩
  obtain ⟨v3177, c0_i32_2288⟩ := r
  try dsimp only
  iapply bindT
  iapply (part96 X Λ c) $$ [H]
  · iexact H
  iintro %r ⟨H, Hr41, Hs42, Hr42⟩
  obtain ⟨v3207, c512_i32_2315⟩ := r
  try dsimp only
  ihave L100 := (ofG4 X a4 1 0 512 ⟨fun _ _ _ _ => rfl, rfl, by decide⟩) $$ [Hs40 Hs41 Hs42]
  · iframe
  iapply bindT
  iapply (part97 X c) $$ [Hr42 Hr41 HO]
  · iframe
  iintro %r ⟨Hr42, Hr41, HO⟩
  obtain ⟨v3237, v3238, v3239, v3240, c0_i32_2340⟩ := r
  try dsimp only
  iapply bindT
  iapply (part98 X Λ c) $$ [H Hr40 HO]
  · iframe
  iintro %r ⟨H, Hr40, Hs43, Hr43, Hs44, HO⟩
  try dsimp only
  iapply bindT
  iapply (part99 X Λ c) $$ [H]
  · iexact H
  iintro %r ⟨H, Hr44, Hs45, Hr45⟩
  obtain ⟨v3292, v3293, v3294, v3295, c0_i32_2398⟩ := r
  try dsimp only
  ihave L200 := (ofG4 X a5 2 0 512 ⟨fun _ _ _ _ => rfl, rfl, by decide⟩) $$ [Hs43 Hs44 Hs45]
  · iframe
  iapply bindT
  iapply (part100 X c) $$ [Hr45 Hr44 HO]
  · iframe
  iintro %r ⟨Hr45, Hr44, HO⟩
  obtain ⟨v3328, v3330⟩ := r
  try dsimp only
  simp only [Prog.lift, Prog.bind_op, Prog.bind_ret, Prog.pure_eq_ret]
  iapply (slotL X (.ag 2 0 1) fun _ => rfl) $$ Hr43; iintro Hr43
  iapply ret_ok; iapply HK; iframe
  ipureintro
  simp only [cast_slot'] <;> rfl

end Cert.KProof

end
-- ==== Proof.Body.lean ====
module

public import proofs.«01_k».proof.Proof.BodyA

/-!
# The body

A whole device, from the state before the handshake to the finished output.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-- The scratch buffers a device has at the end of the body, with any contents. -/
def scrB (c : Dev nD) : sProp 𝕄 :=
  iprop(buf c a3 ∗ buf c a4 ∗ buf c a5 ∗ buf c a6 ∗ buf c a7 ∗ buf c a8 ∗ buf c a9 ∗ buf c a10 ∗ buf c a11 ∗ buf c a12 ∗ buf c a13 ∗ buf c a14 ∗ buf c a15 ∗ buf c a16 ∗ buf c a17 ∗ buf c a18 ∗ buf c a19 ∗ buf c a20 ∗ buf c a21 ∗ buf c a22 ∗ buf c a23 ∗ buf c a24 ∗ buf c a25 ∗ buf c a26 ∗ buf c a27 ∗ buf c a28 ∗ buf c a29 ∗ buf c a30)

/-- What a whole device does: from the state before the handshake to the finished output and all the buffers. -/
theorem body_wp {G2 : ℕ → ℕ → Elt F .f32} {K : PUnit → sProp 𝕄} :
    iprop(pb X Λ c 0 ∗ mat c a0 fullShare (X.T c) ∗ mat c a1 fullShare (X.W c) ∗ mat c a2 fullShare G2 ∗ buf c a3 ∗ buf c a4 ∗ buf c a5 ∗ buf c a6 ∗ buf c a27 ∗ buf c a28)
      ⊢ iprop((∀ r, (pg X Λ c 46 46 false ∗ mat c a0 fullShare (X.T c) ∗ mat c a1 fullShare (X.W c) ∗ mat c a2 fullShare (Gout X c) ∗ scrB c) -∗ K r)
        -∗ WP c (Ap (cc0_body (F := F))) K) := by
  unfold Ap cc0_body scrB
  iintro ⟨H, A0, A1, A2, A3, A4, A5, A6, A27, A28⟩ HK
  ihave A3 := (buf_mat a3) $$ A3; icases A3 with ⟨%G3, A3⟩
  ihave A4 := (buf_mat a4) $$ A4; icases A4 with ⟨%G4, A4⟩
  ihave A5 := (buf_mat a5) $$ A5; icases A5 with ⟨%G5, A5⟩
  ihave A6 := (buf_mat a6) $$ A6; icases A6 with ⟨%G6, A6⟩
  ihave A27 := (buf_mat a27) $$ A27; icases A27 with ⟨%G27, A27⟩
  ihave A28 := (buf_mat a28) $$ A28; icases A28 with ⟨%G28, A28⟩
  iapply bindT
  iapply (half1 X Λ c) $$ [H A0 A1 A2 A3 A4 A5 A6 A27 A28]
  · iframe
  iintro %r ⟨%hr, H, A0, A1, A6, Hr0, L001, Hr1, L101, Hr2, Hr3, L102, L103, L201, Hr4, Hr5, L202, L203, Hr6, Hr7, L011, Hr8, Hr9, L012, L013, L111, Hr10, Hr11, L112, L113, Hr12, Hr13, L211, Hr14, L021, L022, Hr15, Hr16, L023, Hr17, L121, L221, Hr18, Hr19, L222, L223, Hr20, Hr21, Hr22, L220, Hs23, Hr23, HO, Hs24, Hr24⟩
  obtain ⟨d0, v19, v38, v53, v1571, v1706, v1904, v1941, v1978, v1989, v2016, v2025, v2036⟩ := r
  obtain ⟨rfl, h60⟩ : d0 = c ∧ v2036 = _ := hr
  try dsimp only
  iapply bindT
  iapply (half2 X Λ d0 _ _ _ _ _ _ _ _ _ _ _ _ h60) $$ [H A0 A1 A6 Hr0 L001 Hr1 L101 Hr2 Hr3 L102 L103 L201 Hr4 Hr5 L202 L203 Hr6 Hr7 L011 Hr8 Hr9 L012 L013 L111 Hr10 Hr11 L112 L113 Hr12 Hr13 L211 Hr14 L021 L022 Hr15 Hr16 L023 Hr17 L121 L221 Hr18 Hr19 L222 L223 Hr20 Hr21 Hr22 L220 Hs23 Hr23 HO Hs24 Hr24]
  · iframe
  iintro %r ⟨%hr, H, A0, A1, A6, Hr0, L001, Hr1, L101, Hr2, Hr3, L102, L103, L201, Hr4, Hr5, L202, L203, Hr6, Hr7, Hr8, Hr9, Hr10, Hr11, Hr12, Hr13, Hr14, Hr15, Hr16, Hr17, Hr18, Hr19, Hr20, Hr21, Hr22, Hs23, Hr23, HO, Hs24, Hr24, Hr25, Hr26, Hr27, Hr28, Hr29, Hr30, Hr31, Hr32, Hr33, Hr34, Hr35, Hr36, Hr37, Hr38, Hr39, L000, Hr40, Hr41, Hr42, L100, Hr43, Hr44, Hr45, L200⟩
  obtain ⟨v3340, v3343⟩ := r
  obtain rfl : v3343 = _ := hr
  simp only [Prog.lift, Prog.bind_op, Prog.bind_ret, Prog.pure_eq_ret]
  iapply (out_load X (off63 d0 2)) $$ HO; iintro %_ HO
  iapply (outT X 23 2 0 3 (hs := ⟨off63 d0 2, rfl, rfl, rfl, by decide⟩) (hw := fun j => ?_)) $$ HO
  · rfl
  iintro HO
  ihave HO := (out_all X) $$ HO
  iapply ret_ok; iapply HK
  ihave B3 := (end2 a3 0 1024 ⟨rfl, rfl, rfl, by decide⟩) $$ [L000 L001]
  · iframe
  ihave B4 := (end4 a4 1 512 ⟨rfl, rfl, rfl, by decide⟩) $$ [L100 L101 L102 L103]
  · iframe
  ihave B5 := (end4 a5 2 512 ⟨rfl, rfl, rfl, by decide⟩) $$ [L200 L201 L202 L203]
  · iframe
  ihave A6 := (mat_rows (q := fullShare)).2 $$ A6
  ihave B6 := (mat_buf a6) $$ A6
  ihave A27 := (Entails.of_eq (show srcP X (.sh 2) d0 = (mat d0 a27 fullShare (Zb X d0) : sProp 𝕄) from rfl)) $$ Hs23
  ihave B27 := (mat_buf a27) $$ A27
  ihave A28 := (Entails.of_eq (show srcP X (.sh 3) d0 = (mat d0 a28 fullShare (Zc X d0) : sProp 𝕄) from rfl)) $$ Hs24
  ihave B28 := (mat_buf a28) $$ A28
  ihave B7 := (rpM X (.rs 0 0 1) a7 (fun _ => rfl)) $$ Hr0
  ihave B8 := (rpS X (.rs 0 1 1) (.rs 0 1 2) (.rs 0 1 3) a8 ⟨fun _ => rfl, fun _ => rfl, fun _ => rfl⟩) $$ [Hr7 Hr8 Hr9]
  · iframe
  ihave B9 := (rpS X (.rs 0 2 1) (.rs 0 2 2) (.rs 0 2 3) a9 ⟨fun _ => rfl, fun _ => rfl, fun _ => rfl⟩) $$ [Hr14 Hr15 Hr16]
  · iframe
  ihave B10 := (rpS X (.rs 1 0 1) (.rs 1 0 2) (.rs 1 0 3) a10 ⟨fun _ => rfl, fun _ => rfl, fun _ => rfl⟩) $$ [Hr1 Hr2 Hr3]
  · iframe
  ihave B11 := (rpS X (.rs 1 1 1) (.rs 1 1 2) (.rs 1 1 3) a11 ⟨fun _ => rfl, fun _ => rfl, fun _ => rfl⟩) $$ [Hr10 Hr11 Hr12]
  · iframe
  ihave B12 := (rpM X (.rs 1 2 1) a12 (fun _ => rfl)) $$ Hr17
  ihave B13 := (rpS X (.rs 2 0 1) (.rs 2 0 2) (.rs 2 0 3) a13 ⟨fun _ => rfl, fun _ => rfl, fun _ => rfl⟩) $$ [Hr4 Hr5 Hr6]
  · iframe
  ihave B14 := (rpM X (.rs 2 1 1) a14 (fun _ => rfl)) $$ Hr13
  ihave B15 := (rpS X (.rs 2 2 1) (.rs 2 2 2) (.rs 2 2 3) a15 ⟨fun _ => rfl, fun _ => rfl, fun _ => rfl⟩) $$ [Hr18 Hr19 Hr20]
  · iframe
  ihave B16 := (rpS X (.ag 0 2 1) (.ag 0 2 2) (.ag 0 2 3) a16 ⟨fun _ => rfl, fun _ => rfl, fun _ => rfl⟩) $$ [Hr25 Hr26 Hr27]
  · iframe
  ihave B17 := (rpS X (.ag 0 1 1) (.ag 0 1 2) (.ag 0 1 3) a17 ⟨fun _ => rfl, fun _ => rfl, fun _ => rfl⟩) $$ [Hr32 Hr33 Hr34]
  · iframe
  ihave B18 := (rpM X (.ag 0 0 1) a18 (fun _ => rfl)) $$ Hr39
  ihave B19 := (rpM X (.ag 1 2 1) a19 (fun _ => rfl)) $$ Hr28
  ihave B20 := (rpS X (.ag 1 1 1) (.ag 1 1 2) (.ag 1 1 3) a20 ⟨fun _ => rfl, fun _ => rfl, fun _ => rfl⟩) $$ [Hr35 Hr36 Hr37]
  · iframe
  ihave B21 := (rpS X (.ag 1 0 1) (.ag 1 0 2) (.ag 1 0 3) a21 ⟨fun _ => rfl, fun _ => rfl, fun _ => rfl⟩) $$ [Hr40 Hr41 Hr42]
  · iframe
  ihave B22 := (rpS X (.ag 2 2 1) (.ag 2 2 2) (.ag 2 2 3) a22 ⟨fun _ => rfl, fun _ => rfl, fun _ => rfl⟩) $$ [Hr29 Hr30 Hr31]
  · iframe
  ihave B23 := (rpM X (.ag 2 1 1) a23 (fun _ => rfl)) $$ Hr38
  ihave B24 := (rpS X (.ag 2 0 1) (.ag 2 0 2) (.ag 2 0 3) a24 ⟨fun _ => rfl, fun _ => rfl, fun _ => rfl⟩) $$ [Hr43 Hr44 Hr45]
  · iframe
  ihave B25 := (rpM X (.sh 0) a25 (fun _ => rfl)) $$ Hr21
  ihave B26 := (rpM X (.sh 1) a26 (fun _ => rfl)) $$ Hr22
  ihave B29 := (rpM X (.sh 2) a29 (fun _ => rfl)) $$ Hr23
  ihave B30 := (rpM X (.sh 3) a30 (fun _ => rfl)) $$ Hr24
  iframe

end Cert.KProof

end
-- ==== Proof.Glob.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

/-!
# The cells at launch

The cells of all the devices are opened together, the tokens are dealt to the
devices that pay them, and the credit of the launch is that of every arrival.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

/-! ## The semaphores -/

/-- The kernel's own semaphores: the departures and the arrivals. -/
def osem : Fin 46 ⊕ Fin 46 → SemLoc sig
  | .inl j => .dma (ssem j)
  | .inr j => .dma (rsem j)

/-- The semaphores of the kernel are its own scratch semaphores. -/
theorem ownSemFacts : Pipeline.OwnSemFacts cfg0.spec osem := by decide +kernel

/-- The kernel's own semaphores, one by one. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 46 => semVal (sndC j c) 0) ∗ bigSep Finset.univ fun j : Fin 46 => semVal (rcvC j c) 0) := by
  unfold Pipeline.ownSems0
  rw [BI.bigSep_univ_sum]; rfl

/-- The one semaphore outside the kernel's scratch is the barrier. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- A conjunction over a device's cells is one over the departures, one over the arrivals and the handshake's. -/
theorem bigSep_cix (Φ : Cix → sProp 𝕄) : bigSep Finset.univ Φ
    = iprop((bigSep Finset.univ fun j : Fin 46 => Φ (.inl j)) ∗ (bigSep Finset.univ fun j : Fin 46 => Φ (.inr (.inl j))) ∗ Φ (.inr (.inr ()))) := by
  rw [BI.bigSep_univ_sum, BI.bigSep_univ_sum]
  congr 2
  exact bigSep_univ_eq_bigSepL [()] (by decide) (by decide) _

/-- All semaphores of a device at zero, by the transfers they count. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [ownSems0_eq, unscopedSems0_eq, bigSep_cix]
  iintro ⟨⟨HS, HV⟩, HB⟩
  isplitl [HS]; · iexact HS
  isplitl [HV]; · iexact HV
  iexact HB

/-! ## The cells and the tokens -/

/-- Different cells of a device are different semaphores. -/
theorem csem_inj : Function.Injective (csem : Cix → SemLoc sig) := by
  rintro (i | i | i) (j | j | j) h
  · exact congrArg _ (ssem_inj _ _ (SemLoc.dma.inj h))
  · exact absurd (SemLoc.dma.inj h) (ssem_ne_rsem _ _)
  · exact absurd h (fun h => by cases h)
  · exact absurd (SemLoc.dma.inj h).symm (ssem_ne_rsem _ _)
  · exact congrArg (fun i => Sum.inr (Sum.inl i)) (rsem_inj _ _ (SemLoc.dma.inj h))
  · exact absurd h (fun h => by cases h)
  · exact absurd h (fun h => by cases h)
  · exact absurd h (fun h => by cases h)
  · rfl

/-- Different cells are different semaphores of the mesh. -/
theorem kcell_injective : Function.Injective (kcell : Dev nD × Cix → GSem nD τ sig) := by
  rintro ⟨c, k⟩ ⟨c', k'⟩ h
  obtain rfl : c = c' := congrArg (fun g : GSem nD τ sig => g.1.1) h
  obtain rfl : k = k' := csem_inj (congrArg Prod.snd h)
  rfl

def allCells : Finset (GSem nD τ sig) := Finset.univ.map ⟨kcell, kcell_injective⟩

/-- The token of a duty at a device's cell. -/
abbrev tokOf (cd : Dev nD × D) : GSem nD τ sig × ℕ × D := (((cd.1 : Thread nD τ), dsem cd.2), 0, cd.2)
/-- Different duties have different tokens. -/
theorem tokOf_injective : Function.Injective (tokOf : Dev nD × D → GSem nD τ sig × ℕ × D) := by
  rintro ⟨c, d⟩ ⟨c', d'⟩ h
  obtain rfl : c = c' := congrArg (fun x : GSem nD τ sig × ℕ × D => x.1.1.1) h
  obtain rfl : d = d' := congrArg (fun x : GSem nD τ sig × ℕ × D => x.2.2) h
  rfl
def allToks : Finset (GSem nD τ sig × ℕ × D) := Finset.univ.map ⟨tokOf, tokOf_injective⟩

def u₀ : UU :=
  (initOf (Pipeline.cells cfgs cellOf_inj) (Pipeline.launchToks cfgs cellOf_inj), initOf allCells allToks)

/-- The tokens of the duties at a device's cells; -/
def toks (c : Dev nD) : sProp 𝕄 := bigSep Finset.univ fun d : D => dutyTok ER ((c : Thread nD τ), dsem d) 0 d

/-- the device whose cell a device's duty is at; -/
def dto : D → Dev nD → Dev nD
  | .inl _, c => c
  | .inr (.inl j), c => (tr j).to c
  | .inr (.inr b), c => bto b c
def dfrm : D → Dev nD → Dev nD
  | .inl _, c => c
  | .inr (.inl j), c => (tr j).frm c
  | .inr (.inr b), c => bfrm b c
/-- the devices by where their duty is at; -/
def around (d : D) : Dev nD ≃ Dev nD :=
  ⟨dto d, dfrm d, fun c => by rcases d with j | j | b; exacts [rfl, frm_to j c, bfrm_bto b c],
    fun c => by rcases d with j | j | b; exacts [rfl, to_frm j c, bto_bfrm b c]⟩

/-- the tokens of the duties a device pays. -/
def payToks (c : Dev nD) : sProp 𝕄 := bigSep Finset.univ fun d : D => dutyTok ER ((dto d c : Thread nD τ), dsem d) 0 d

/-- Every token goes to the device that pays the duty. -/
theorem toks_around : (bigSep Finset.univ fun c : Dev nD => (toks c : sProp 𝕄)) = bigSep Finset.univ fun c : Dev nD => payToks c := by
  unfold toks payToks
  rw [BI.bigSep_univ_comm, BI.bigSep_univ_comm (fun (c : Dev nD) (d : D) => (dutyTok ER ((dto d c : Thread nD τ), dsem d) 0 d : sProp 𝕄))]
  exact bigSep_congr fun d _ => BI.bigSep_univ_equiv (around d) (fun c : Dev nD => (dutyTok ER ((c : Thread nD τ), dsem d) 0 d : sProp 𝕄))

/-- What the launch deals a device; -/
def G (c : Dev nD) : sProp 𝕄 :=
  iprop((bigSep Finset.univ fun k : Cix => roundState ER (rd (pays X)) (kcell (c, k)) 0)
    ∗ (bigSep Finset.univ fun k : Cix => iprop(atPos ER (kcell (c, k)) 0 ∅ 0 ∗ reached ER (kcell (c, k)) 0)) ∗ toks c)

/-- and what it has when the cells are open. -/
def G' (c : Dev nD) : sProp 𝕄 :=
  iprop(∃ K, records (pays X) K ∗ (bigSep Finset.univ fun k : Cix => atPos ER (kcell (c, k)) 0 ∅ 0) ∗ payToks c)

/-- The opening ghost state is shared out among the devices. -/
theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd (pays X)) allCells allToks) $$ HX with ⟨Hst, Hr, Hat, Htok⟩
  imodintro
  ihave Hst' := (Entails.of_eq (hX fun g => roundState ER (rd (pays X)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero become its cells. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (rd (pays X)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cix => semVal (kcell (c, k)) 0) ∗ bigSep Finset.univ fun k : Cix => roundState ER (rd (pays X)) (kcell (c, k)) 0)
      ⊢ (|={Set.univ}=> bigSep Finset.univ fun k => iprop(∃ κ : ℕ, cellInv ER (rd (pays X)) κ (kcell (c, k))) : sProp 𝕄) from by
        rw [← bigSep_sep']
        exact (bigSep_mono fun k _ => (Rounds.body_intro ER (rd (pays X)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A fact that lasts may be used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's ghost state from the records and its tokens. -/
theorem ghost_intro (K : Dev nD × Cix → ℕ) (c : Dev nD) :
    iprop(records (pays X) K ∗ (bigSep Finset.univ fun k : Cix => atPos ER (kcell (c, k)) 0 ∅ 0) ∗ payToks c) ⊢ G' X c := by
  unfold G'
  iintro H
  iexists K
  iexact H

/-- The cells of all devices are made known to each of them. -/
theorem regroup :
    (bigSep Finset.univ fun c : Dev nD => iprop((bigSep Finset.univ fun k => iprop(∃ κ : ℕ, cellInv ER (rd (pays X)) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Cix => iprop(∃ κ : ℕ, cellInv ER (rd (pays X)) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄)), toks_around]
  iintro ⟨HI, ⟨Hat, #HR⟩, Htok⟩
  ihave HK := (BI.bigSep_exists_pi Finset.univ (fun (ck : Dev nD × Cix) (κ : ℕ) => (cellInv ER (rd (pays X)) κ (kcell ck) : sProp 𝕄))) $$ HI
  icases HK with ⟨%K, #HI⟩
  iapply (bigSep_with_persistent (R := records (pays X) K) fun c _ => ghost_intro X K c)
  isplitr
  · unfold records; isplitl; · iexact HI
    iexact HR
  · iapply (Entails.of_eq (bigSep_sep' Finset.univ (fun c : Dev nD => bigSep Finset.univ fun k : Cix => (atPos ER (kcell (c, k)) 0 ∅ 0 : sProp 𝕄)) payToks).symm)
    isplitl [Hat]; · iexact Hat
    iexact Htok

/-- From the semaphores at zero, every device's ghost state. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit of the launch -/

/-- A sum of tallies, at a cell. -/
theorem sum_at {N : ℕ} (f : Fin N → CellTallies nD τ sig Unit) (g : GSem nD τ sig) : (∑ i, f i) g () = ∑ i, f i g () := by
  rw [Finset.sum_apply, Finsupp.finset_sum_apply]

/-- Equal cells belong to the same device and the same semaphore. -/
theorem dev_eq {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩

/-- What a device owes an arrival at `c`; -/
theorem Ow_rcv (d c : Dev nD) (j : Fin 46) : Ow d 0 (rcvC j c) () = if d = (tr j).frm c then (if (tr j).on c = true then (tr j).amt else 0) else 0 := by
  unfold Ow
  rw [sum_at, Finset.sum_eq_single j]
  · by_cases hd : d = (tr j).frm c
    · subst hd
      rw [if_pos rfl, on_frm, to_frm]
      by_cases ho : (tr j).on c = true
      · rw [if_pos ⟨Nat.zero_le _, ho⟩, if_pos ho, tallyAt_apply, if_pos ⟨rfl, rfl⟩]
      · rw [if_neg (fun h => ho h.2), if_neg ho]; rfl
    · rw [if_neg hd]
      split_ifs
      · rw [tallyAt_apply, if_neg]
        rintro ⟨h, -⟩
        exact hd (by rw [(dev_eq h).1, frm_to])
      · rfl
  · intro i _ hi
    split_ifs
    · rw [tallyAt_apply, if_neg]
      rintro ⟨h, -⟩
      exact hi (rsem_inj _ _ (SemLoc.dma.inj (dev_eq h).2)).symm
    · rfl
  · intro h; exact absurd (Finset.mem_univ _) h

/-- The transfers owe nothing on a barrier. -/
theorem Ow_bar (d c : Dev nD) : Ow d 0 (barC c) () = 0 := by
  unfold Ow
  rw [sum_at]
  refine Finset.sum_eq_zero fun i _ => ?_
  split_ifs
  · rw [tallyAt_apply, if_neg]
    rintro ⟨h, -⟩
    have := (dev_eq h).2
    cases this
  · rfl

/-- The handshake owes nothing on an arrival semaphore. -/
theorem Ob_rcv (d c : Dev nD) (j : Fin 46) : Ob d 0 (rcvC j c) () = 0 := by
  unfold Ob
  rw [sum_at]
  refine Finset.sum_eq_zero fun i _ => ?_
  split_ifs
  · rw [tallyAt_apply, if_neg]
    rintro ⟨h, -⟩
    have := (dev_eq h).2
    cases this
  · rfl

/-- and the handshake at `c`. -/
theorem Ob_bar (d c : Dev nD) : Ob d 0 (barC c) () = ∑ b : Fin 11, if d = bfrm b c then (if bon b c = true then bamt b c else 0) else 0 := by
  unfold Ob
  rw [sum_at]
  refine Finset.sum_congr rfl fun b _ => ?_
  by_cases hd : d = bfrm b c
  · subst hd
    have ho : bon b (bfrm b c) = bon b c := by rw [← bon_to b (bfrm b c), bto_bfrm]
    have ha : bamt b (bfrm b c) = bamt b c := by rw [← bamt_to b (bfrm b c), bto_bfrm]
    rw [if_pos rfl, ho, ha, bto_bfrm]
    by_cases hb : bon b c = true
    · rw [if_pos ⟨Nat.zero_le _, hb⟩, if_pos hb, tallyAt_apply, if_pos ⟨rfl, rfl⟩]
    · rw [if_neg (fun h => hb h.2), if_neg hb]; rfl
  · rw [if_neg hd]
    split_ifs
    · rw [tallyAt_apply, if_neg]
      rintro ⟨h, -⟩
      exact hd (by rw [(dev_eq h).1, bfrm_bto])
    · rfl

/-- What a device owes at the start, at a cell. -/
theorem O₀_at (d : Dev nD) (g : GSem nD τ sig) : O₀ d g () = Ow d 0 g () + Ob d 0 g () := by
  unfold O₀; rw [Pi.add_apply, Finsupp.add_apply]

/-- The units owed to a barrier are eleven in all. -/
theorem launch_bar (c : Dev nD) :
    tallyOn (barC c) (launchCredit (Pipeline.owing O₀) 0 (barC c)) = (tallyAt (barC c) () 11 : CellTallies nD τ sig Unit) := by
  unfold tallyAt; refine congrArg _ (Finsupp.ext fun u => ?_); cases u
  rw [Pipeline.launchCredit_owing, Finsupp.single_eq_same, Finset.sum_congr rfl fun d _ => (O₀_at d (barC c)).trans (by rw [Ow_bar, Ob_bar, Nat.zero_add]),
    Finset.sum_comm, Finset.sum_congr rfl fun b _ => (Finset.sum_ite_eq' Finset.univ (bfrm b c) fun _ => _).trans (if_pos (Finset.mem_univ _))]
  exact bar_sum c

/-- The units owed to an arrival semaphore are those of its transfer. -/
theorem launch_rcv (c : Dev nD) (j : Fin 46) :
    tallyOn (rcvC j c) (launchCredit (Pipeline.owing O₀) 0 (rcvC j c)) = (tallyAt (rcvC j c) () (if (tr j).on c = true then (tr j).amt else 0) : CellTallies nD τ sig Unit) := by
  unfold tallyAt; refine congrArg _ (Finsupp.ext fun u => ?_); cases u
  rw [Pipeline.launchCredit_owing, Finsupp.single_eq_same, Finset.sum_congr rfl fun d _ => (O₀_at d (rcvC j c)).trans (by rw [Ow_rcv, Ob_rcv, Nat.add_zero]),
    Finset.sum_ite_eq' Finset.univ ((tr j).frm c) fun _ => _, if_pos (Finset.mem_univ _)]

/-- The credits a device starts with, by cell. -/
theorem creds (c : Dev nD) :
    (Pipeline.launchCred O₀ c : sProp 𝕄) ⊢ iprop(cred (tallyAt (barC c) () 11) ∗ bigSep Finset.univ fun j : Fin 46 => rcr c j) := by
  have hinj : Function.Injective (fun j : Fin 46 => (SemLoc.dma (rsem j) : SemLoc sig)) := fun i j h => rsem_inj _ _ (SemLoc.dma.inj h)
  unfold Pipeline.launchCred
  rw [bigSep_univ_at _ (SemLoc.reg barS), launch_bar]
  refine sep_mono_right ?_
  refine (BI.bigSep_subset (t := Finset.univ.map ⟨_, hinj⟩) fun x hx => ?_).trans ?_
  · obtain ⟨j, -, rfl⟩ := Finset.mem_map.mp hx
    exact Finset.mem_erase.mpr ⟨(fun h => by cases h), Finset.mem_univ _⟩
  · rw [BI.bigSep_map]
    refine bigSep_mono fun j _ => ?_
    show cred (tallyOn (rcvC j c) (launchCredit (Pipeline.owing O₀) 0 (rcvC j c))) ⊢ rcr c j
    rw [launch_rcv]
    unfold rcr
    by_cases h : (tr j).on c = true
    · rw [if_pos h, if_pos h]
    · rw [if_neg h, if_neg h]; iintro -; iempintro

end Cert.KProof

end
-- ==== Proof.Lands.lean ====
module

public import proofs.«01_k».proof.Proof.Glob

/-!
# The buffers at launch

The scratch buffers as the launch hands them over, the landing places they
hold, and the state before the handshake.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

namespace Cert.KProof

variable {F : FTy → Type} [FloatOps F] (X : Ins F) (Λ : Dev nD × Cix → ℕ) (c : Dev nD)

local notation "𝕄" => MT nD τ sig Unit (Elt F) ℕ UU ℕ

section Pts
variable {c} {s : Shape} {e : EltTy} (M : Memref sig .tc .vmem s e)

/-- A whole buffer at any contents is the buffer; -/
theorem buf_of_pts (hM : M.view.set = Finset.univ) :
    (iprop(∃ f : Buf (Elt F) (M.view.loc (c : Thread nD τ)), M.view.loc (c : Thread nD τ) ↦{fullShare} f) : sProp 𝕄) ⊢ buf c M := by
  unfold buf
  iintro ⟨%f, H⟩
  iexists fun x => M.view.read (Elt F) f x
  iapply (seg_of_pts f (fun x => rfl))
  rw [hM]
  iexact H

/-- and back. -/
theorem pts_of_buf (hM : M.view.set = Finset.univ) :
    (buf c M : sProp 𝕄) ⊢ iprop(∃ f : Buf (Elt F) (M.view.loc (c : Thread nD τ)), M.view.loc (c : Thread nD τ) ↦{fullShare} f) := by
  unfold buf
  iintro ⟨%g, H⟩
  ihave H := pts_of_seg $$ H
  rw [hM]
  icases H with ⟨%f, -, H⟩
  iexists f
  iexact H
end Pts

/-- The scratch buffers as the launch hands them over; -/
theorem scr_in : (Pipeline.scopedRest (Ix := Unit) (Name := ℕ) (U := UU) (Lvl := ℕ) (Val := Elt F) spec0 c : sProp 𝕄) ⊢ scrB c := by
  rw [scopedRest0_eq]
  unfold scrB
  exact BIClass.sep_mono (buf_of_pts a3 (View.set_whole _)) <|
    BIClass.sep_mono (buf_of_pts a4 (View.set_whole _)) <|
    BIClass.sep_mono (buf_of_pts a5 (View.set_whole _)) <|
    BIClass.sep_mono (buf_of_pts a6 (View.set_whole _)) <|
    BIClass.sep_mono (buf_of_pts a7 (View.set_whole _)) <|
    BIClass.sep_mono (buf_of_pts a8 (View.set_whole _)) <|
    BIClass.sep_mono (buf_of_pts a9 (View.set_whole _)) <|
    BIClass.sep_mono (buf_of_pts a10 (View.set_whole _)) <|
    BIClass.sep_mono (buf_of_pts a11 (View.set_whole _)) <|
    BIClass.sep_mono (buf_of_pts a12 (View.set_whole _)) <|
    BIClass.sep_mono (buf_of_pts a13 (View.set_whole _)) <|
    BIClass.sep_mono (buf_of_pts a14 (View.set_whole _)) <|
    BIClass.sep_mono (buf_of_pts a15 (View.set_whole _)) <|
    BIClass.sep_mono (buf_of_pts a16 (View.set_whole _)) <|
    BIClass.sep_mono (buf_of_pts a17 (View.set_whole _)) <|
    BIClass.sep_mono (buf_of_pts a18 (View.set_whole _)) <|
    BIClass.sep_mono (buf_of_pts a19 (View.set_whole _)) <|
    BIClass.sep_mono (buf_of_pts a20 (View.set_whole _)) <|
    BIClass.sep_mono (buf_of_pts a21 (View.set_whole _)) <|
    BIClass.sep_mono (buf_of_pts a22 (View.set_whole _)) <|
    BIClass.sep_mono (buf_of_pts a23 (View.set_whole _)) <|
    BIClass.sep_mono (buf_of_pts a24 (View.set_whole _)) <|
    BIClass.sep_mono (buf_of_pts a25 (View.set_whole _)) <|
    BIClass.sep_mono (buf_of_pts a26 (View.set_whole _)) <|
    BIClass.sep_mono (buf_of_pts a27 (View.set_whole _)) <|
    BIClass.sep_mono (buf_of_pts a28 (View.set_whole _)) <|
    BIClass.sep_mono (buf_of_pts a29 (View.set_whole _)) <|
    buf_of_pts a30 (View.set_whole _)

set_option maxHeartbeats 2000000 in
/-- and as it takes them back. -/
theorem scr_out : (scrB c : sProp 𝕄) ⊢ (Pipeline.scopedRest (Ix := Unit) (Name := ℕ) (U := UU) (Lvl := ℕ) (Val := Elt F) spec0 c : sProp 𝕄) := by
  rw [scopedRest0_eq]
  unfold scrB
  exact BIClass.sep_mono (pts_of_buf a3 (View.set_whole _)) <|
    BIClass.sep_mono (pts_of_buf a4 (View.set_whole _)) <|
    BIClass.sep_mono (pts_of_buf a5 (View.set_whole _)) <|
    BIClass.sep_mono (pts_of_buf a6 (View.set_whole _)) <|
    BIClass.sep_mono (pts_of_buf a7 (View.set_whole _)) <|
    BIClass.sep_mono (pts_of_buf a8 (View.set_whole _)) <|
    BIClass.sep_mono (pts_of_buf a9 (View.set_whole _)) <|
    BIClass.sep_mono (pts_of_buf a10 (View.set_whole _)) <|
    BIClass.sep_mono (pts_of_buf a11 (View.set_whole _)) <|
    BIClass.sep_mono (pts_of_buf a12 (View.set_whole _)) <|
    BIClass.sep_mono (pts_of_buf a13 (View.set_whole _)) <|
    BIClass.sep_mono (pts_of_buf a14 (View.set_whole _)) <|
    BIClass.sep_mono (pts_of_buf a15 (View.set_whole _)) <|
    BIClass.sep_mono (pts_of_buf a16 (View.set_whole _)) <|
    BIClass.sep_mono (pts_of_buf a17 (View.set_whole _)) <|
    BIClass.sep_mono (pts_of_buf a18 (View.set_whole _)) <|
    BIClass.sep_mono (pts_of_buf a19 (View.set_whole _)) <|
    BIClass.sep_mono (pts_of_buf a20 (View.set_whole _)) <|
    BIClass.sep_mono (pts_of_buf a21 (View.set_whole _)) <|
    BIClass.sep_mono (pts_of_buf a22 (View.set_whole _)) <|
    BIClass.sep_mono (pts_of_buf a23 (View.set_whole _)) <|
    BIClass.sep_mono (pts_of_buf a24 (View.set_whole _)) <|
    BIClass.sep_mono (pts_of_buf a25 (View.set_whole _)) <|
    BIClass.sep_mono (pts_of_buf a26 (View.set_whole _)) <|
    BIClass.sep_mono (pts_of_buf a27 (View.set_whole _)) <|
    BIClass.sep_mono (pts_of_buf a28 (View.set_whole _)) <|
    BIClass.sep_mono (pts_of_buf a29 (View.set_whole _)) <|
    pts_of_buf a30 (View.set_whole _)

section Ld
variable {c} {R C : ℕ}

/-- A matrix is the landing place of one transfer; -/
theorem ldM (j : Fin 46) (b : Memref sig .tc .vmem ⟨2, ![R, C]⟩ .bf16) (h : ∀ G, (land (tr j) c G : sProp 𝕄) = mat c b fullShare G) :
    buf c b ⊢ (pays X).ld j c := by
  refine (buf_mat b).trans ?_
  show (_ : sProp 𝕄) ⊢ iprop(∃ G, land (tr j) c G)
  iintro ⟨%G, H⟩
  iexists G
  rw [h G]; iexact H

/-- Each matrix of a stack holds some contents. -/
theorem ex_slot {e : EltTy} (g : (⟨3, ![3, R, C]⟩ : Shape).Idx → Elt F e) (k : ℕ) :
    ∃ G : ℕ → ℕ → Elt F e, ∀ x : (⟨3, ![3, R, C]⟩ : Shape).Idx, (x 0).val = k → g x = G (x 1).val (x 2).val := by
  by_cases hn : Nonempty (⟨3, ![3, R, C]⟩ : Shape).Idx
  · obtain ⟨x₀⟩ := hn
    refine ⟨fun r n => if h : (k < 3 ∧ r < R) ∧ n < C then g (ix3 ⟨k, h.1.1⟩ ⟨r, h.1.2⟩ ⟨n, h.2⟩) else g x₀, fun x hx => ?_⟩
    subst hx
    have h0 : (x 0).val < 3 := (x 0).isLt
    have h1 : (x 1).val < R := (x 1).isLt
    have h2 : (x 2).val < C := (x 2).isLt
    simp only [h0, h1, h2, and_self, dif_pos]
    exact congrArg g (eq_ix3 x)
  · exact ⟨fun _ _ => default, fun x => absurd ⟨x⟩ hn⟩

/-- A stack is the landing place of three. -/
theorem ldS (j₁ j₂ j₃ : Fin 46) (b : Memref sig .tc .vmem ⟨3, ![3, R, C]⟩ .bf16)
    (h : (∀ G, (land (tr j₁) c G : sProp 𝕄) = slot c b 2 G) ∧ (∀ G, (land (tr j₂) c G : sProp 𝕄) = slot c b 1 G) ∧ ∀ G, (land (tr j₃) c G : sProp 𝕄) = slot c b 0 G) :
    buf c b ⊢ iprop((pays X).ld j₁ c ∗ (pays X).ld j₂ c ∗ (pays X).ld j₃ c) := by
  show (_ : sProp 𝕄) ⊢ iprop((∃ G, land (tr j₁) c G) ∗ (∃ G, land (tr j₂) c G) ∗ ∃ G, land (tr j₃) c G)
  unfold buf
  iintro ⟨%g, H⟩
  obtain ⟨G₀, h₀⟩ := ex_slot g 0
  obtain ⟨G₁, h₁⟩ := ex_slot g 1
  obtain ⟨G₂, h₂⟩ := ex_slot g 2
  ihave H := (slots_split G₀ G₁ G₂ h₀ h₁ h₂) $$ H
  icases H with ⟨H0, H1, H2⟩
  isplitl [H2]; · iexists G₂; rw [h.1]; iexact H2
  isplitl [H1]; · iexists G₁; rw [h.2.1]; iexact H1
  iexists G₀; rw [h.2.2]; iexact H0

end Ld

/-- A conjunction over the transfers, one by one. -/
theorem bs46 (Φ : Fin 46 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45] (by decide +kernel) (by decide +kernel) Φ

/-- The landing places are in the scratch buffers. -/
theorem lands : (scrB c : sProp 𝕄) ⊢ iprop((buf c a3 ∗ buf c a4 ∗ buf c a5 ∗ buf c a6 ∗ buf c a27 ∗ buf c a28) ∗ bigSep Finset.univ fun j : Fin 46 => (pays X).ld j c) := by
  rw [bs46]
  unfold scrB
  iintro ⟨B3, B4, B5, B6, B7, B8, B9, B10, B11, B12, B13, B14, B15, B16, B17, B18, B19, B20, B21, B22, B23, B24, B25, B26, B27, B28, B29, B30⟩
  ihave J0 := (ldM X 0 a7 (fun _ => rfl)) $$ B7
  ihave S8 := (ldS X 7 8 9 a8 ⟨fun _ => rfl, fun _ => rfl, fun _ => rfl⟩) $$ B8
  icases S8 with ⟨J7, J8, J9⟩
  ihave S9 := (ldS X 14 15 16 a9 ⟨fun _ => rfl, fun _ => rfl, fun _ => rfl⟩) $$ B9
  icases S9 with ⟨J14, J15, J16⟩
  ihave S10 := (ldS X 1 2 3 a10 ⟨fun _ => rfl, fun _ => rfl, fun _ => rfl⟩) $$ B10
  icases S10 with ⟨J1, J2, J3⟩
  ihave S11 := (ldS X 10 11 12 a11 ⟨fun _ => rfl, fun _ => rfl, fun _ => rfl⟩) $$ B11
  icases S11 with ⟨J10, J11, J12⟩
  ihave J17 := (ldM X 17 a12 (fun _ => rfl)) $$ B12
  ihave S13 := (ldS X 4 5 6 a13 ⟨fun _ => rfl, fun _ => rfl, fun _ => rfl⟩) $$ B13
  icases S13 with ⟨J4, J5, J6⟩
  ihave J13 := (ldM X 13 a14 (fun _ => rfl)) $$ B14
  ihave S15 := (ldS X 18 19 20 a15 ⟨fun _ => rfl, fun _ => rfl, fun _ => rfl⟩) $$ B15
  icases S15 with ⟨J18, J19, J20⟩
  ihave S16 := (ldS X 25 26 27 a16 ⟨fun _ => rfl, fun _ => rfl, fun _ => rfl⟩) $$ B16
  icases S16 with ⟨J25, J26, J27⟩
  ihave S17 := (ldS X 32 33 34 a17 ⟨fun _ => rfl, fun _ => rfl, fun _ => rfl⟩) $$ B17
  icases S17 with ⟨J32, J33, J34⟩
  ihave J39 := (ldM X 39 a18 (fun _ => rfl)) $$ B18
  ihave J28 := (ldM X 28 a19 (fun _ => rfl)) $$ B19
  ihave S20 := (ldS X 35 36 37 a20 ⟨fun _ => rfl, fun _ => rfl, fun _ => rfl⟩) $$ B20
  icases S20 with ⟨J35, J36, J37⟩
  ihave S21 := (ldS X 40 41 42 a21 ⟨fun _ => rfl, fun _ => rfl, fun _ => rfl⟩) $$ B21
  icases S21 with ⟨J40, J41, J42⟩
  ihave S22 := (ldS X 29 30 31 a22 ⟨fun _ => rfl, fun _ => rfl, fun _ => rfl⟩) $$ B22
  icases S22 with ⟨J29, J30, J31⟩
  ihave J38 := (ldM X 38 a23 (fun _ => rfl)) $$ B23
  ihave S24 := (ldS X 43 44 45 a24 ⟨fun _ => rfl, fun _ => rfl, fun _ => rfl⟩) $$ B24
  icases S24 with ⟨J43, J44, J45⟩
  ihave J21 := (ldM X 21 a25 (fun _ => rfl)) $$ B25
  ihave J22 := (ldM X 22 a26 (fun _ => rfl)) $$ B26
  ihave J23 := (ldM X 23 a29 (fun _ => rfl)) $$ B29
  ihave J24 := (ldM X 24 a30 (fun _ => rfl)) $$ B30
  isplitl [B3 B4 B5 B6 B27 B28]
  · iframe
  iframe

/-! ## The state before the handshake -/

/-- What a device has at launch beside its buffers. -/
def start (c : Dev nD) : sProp 𝕄 :=
  iprop(G' X c ∗ levAts L lv ∗ cred (tallyAt (barC c) () 11) ∗ bigSep Finset.univ fun j : Fin 46 => rcr c j)

/-- A family over the duties is one over departures, one over arrivals and one over the
  handshake. -/
theorem bigSep_duties (Φ : D → sProp 𝕄) : bigSep Finset.univ Φ
    = iprop((bigSep Finset.univ fun j : Fin 46 => Φ (.inl j)) ∗ (bigSep Finset.univ fun j : Fin 46 => Φ (.inr (.inl j))) ∗ bigSep Finset.univ fun b : Fin 11 => Φ (.inr (.inr b))) := by
  rw [BI.bigSep_univ_sum, BI.bigSep_univ_sum]; rfl

/-- With its ghost state, its landing places and its debts a device may begin the
  handshake. -/
theorem pb_intro : iprop(start X c ∗ (bigSep Finset.univ fun j : Fin 46 => (pays X).ld j c) ∗ ∃ W, owes (c : Thread nD τ) (O₀ c) W) ⊢ (iprop(∃ Λ, pb X Λ c 0) : sProp 𝕄) := by
  show (_ : sProp 𝕄) ⊢ iprop(∃ Λ, gb (pays X) c Λ 0)
  unfold start G' payToks gb O₀
  rw [bigSep_cix, bigSep_duties]
  iintro ⟨⟨⟨%K, #HR, ⟨Has, Har, Hab⟩, Hts, Htr, Htb⟩, #HL, Hcb, Hcr⟩, Hld, HO⟩
  iexists K
  isplitr; · iexact HR
  isplitr; · iexact HL
  isplitl [Hcb]; · iexact Hcb
  isplitl [Hab]; · iexact Hab
  isplitl [HO]; · iexact HO
  ihave Hd := (lands_deal (Y := pays X)) $$ Hld
  icases Hd with ⟨Hbp, Hld⟩
  isplitl [Hts Htr Has Har Hcr]
  · unfold pend₀
    simp only [bigSep_sep']
    isplitl [Hts]; · iexact Hts
    isplitl [Htr]; · iexact Htr
    isplitl [Has]; · iexact Has
    isplitl [Har]; · iexact Har
    iexact Hcr
  isplitl [Hld]; · iexact Hld
  have e : (fun i : Fin 11 => if 0 ≤ i.val then bpend (pays X) c i else iprop(emp)) = (bpend (pays X) c : Fin 11 → sProp 𝕄) := funext fun i => if_pos (Nat.zero_le _)
  rw [e]
  unfold bpend
  simp only [bigSep_sep']
  isplitl [Htb]; · iexact Htb
  iexact Hbp

end Cert.KProof

end
-- ==== Proof.Launch.lean ====
module

public import proofs.«01_k».proof.Proof.Lands
public import proofs.«01_k».proof.Proof.Gen.KernelIdeal.Points
public import Idealize.ShloMosaic.Lib.Pipeline.ValueKit
public import Idealize.ShloMosaic.Lib.Pipeline.CollectiveSegs

/-!
# The run

The launch of the kernel on the thirty-two devices, for any float values, and
what every run of it leaves.
-/

@[expose] public section

noncomputable section

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal Cert.KernelIdeal.Gen

namespace Cert.KProof

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The devices' inputs. -/
def ins : Ins F where
  T c r n := m ((c : Thread nD τ).loc main_arg0) (ValueIdx.ix2 ⟨r % 2048, Nat.mod_lt _ (by decide)⟩ ⟨n % 1024, Nat.mod_lt _ (by decide)⟩ : S2048x1024.Idx)
  W c r n := m ((c : Thread nD τ).loc main_arg1) (ValueIdx.ix2 ⟨r % 1024, Nat.mod_lt _ (by decide)⟩ ⟨n % 1024, Nat.mod_lt _ (by decide)⟩ : S1024x1024.Idx)

def tstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- What the body leaves in the output's buffer. -/
def ostg (c : Dev nD) : (cc0_stg2_0 : Ref sig .tc).ty.Contents (Elt F) :=
  fun x : S2048x1024.Idx => Gout (ins m) c (x 0).val (x 1).val

/-- The staged block of `t` is the device's block, element by element. -/
theorem tstg_eq (c : Dev nD) (x : S2048x1024.Idx) : tstg m ρ c x = (ins m).T c (x 0).val (x 1).val := by
  have h0 : (x 0).val < 2048 := (x 0).isLt
  have h1 : (x 1).val < 1024 := (x 1).isLt
  show m ((c : Thread nD τ).loc main_arg0) _ = m ((c : Thread nD τ).loc main_arg0) _
  refine congrArg (m ((c : Thread nD τ).loc main_arg0)) ?_
  funext a
  refine Fin.ext ?_
  fin_cases a
  · exact (Pipeline.Window.rect_emb_val_of_index_zero win0_0 (0 : Fin 1) 0 rfl x).trans (Nat.mod_eq_of_lt h0).symm
  · exact (Pipeline.Window.rect_emb_val_of_index_zero win0_0 (0 : Fin 1) 1 rfl x).trans (Nat.mod_eq_of_lt h1).symm

/-- The staged `W` is the device's `W`, element by element. -/
theorem wstg_eq (c : Dev nD) (x : S1024x1024.Idx) : wstg m ρ c x = (ins m).W c (x 0).val (x 1).val := by
  have h0 : (x 0).val < 1024 := (x 0).isLt
  have h1 : (x 1).val < 1024 := (x 1).isLt
  show m ((c : Thread nD τ).loc main_arg1) _ = m ((c : Thread nD τ).loc main_arg1) _
  refine congrArg (m ((c : Thread nD τ).loc main_arg1)) ?_
  funext a
  refine Fin.ext ?_
  fin_cases a
  · exact (Pipeline.Window.rect_emb_val_of_index_zero win0_1 (0 : Fin 1) 0 rfl x).trans (Nat.mod_eq_of_lt h0).symm
  · exact (Pipeline.Window.rect_emb_val_of_index_zero win0_1 (0 : Fin 1) 1 rfl x).trans (Nat.mod_eq_of_lt h1).symm

/-! ## The data of the launch -/

def Φ₀ (c : Dev nD) : sProp 𝕄 := iprop(start (ins m) c ∗ scrB c)
def Φ₁ (c : Dev nD) : sProp 𝕄 :=
  iprop(scrB c ∗ (bigSep Finset.univ fun j : Fin 46 => iprop(semVal (sndC j c) 0 ∗ semVal (rcvC j c) 0)) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => wstg m ρ c
    | ⟨2, _⟩ => ostg m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A family over the windows is its three members. -/
theorem bigSep_W (Φ : Fin cfg0.W → sProp 𝕄) : bigSep Finset.univ Φ = iprop(Φ (0 : Fin 3) ∗ Φ (1 : Fin 3) ∗ Φ (2 : Fin 3)) := bigSep_W0 Φ

/-- A whole buffer owned is its location with its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Mat
variable {R C : ℕ} {e : EltTy}

/-- A buffer whose contents are read off is a matrix, -/
theorem mat_of_pts (c : Dev nD) (M : Memref sig .tc .vmem ⟨2, ![R, C]⟩ e) (hM : M.view.set = Finset.univ) (f : Buf (Elt F) (M.view.loc (c : Thread nD τ)))
    (G : ℕ → ℕ → Elt F e) (hf : ∀ x, M.view.read (Elt F) f x = G (x 0).val (x 1).val) :
    (M.view.loc (c : Thread nD τ) ↦{fullShare} f : sProp 𝕄) ⊢ mat c M fullShare G := by
  unfold mat
  iintro H
  iapply (seg_of_pts f hf)
  rw [hM]; iexact H

/-- and back. -/
theorem pts_of_mat (c : Dev nD) (M : Memref sig .tc .vmem ⟨2, ![R, C]⟩ e) (hM : M.view.set = Finset.univ) (G : ℕ → ℕ → Elt F e) :
    (mat c M fullShare G : sProp 𝕄) ⊢ iprop(∃ f : Buf (Elt F) (M.view.loc (c : Thread nD τ)), ⌜M.view.read (Elt F) f = fun x => G (x 0).val (x 1).val⌝ ∗ (M.view.loc (c : Thread nD τ) ↦{fullShare} f)) := by
  unfold mat
  rw [← hM]
  exact pts_of_seg
end Mat

/-- The staged block of `t` as a matrix of rows and columns. -/
theorem stg0_in (c : Dev nD) : (stg c cc0_stg0_0 (tstg m ρ c) : sProp 𝕄) ⊢ mat c a0 fullShare ((ins m).T c) := by
  unfold stg
  iintro ⟨%f, %hf, H⟩
  iapply (mat_of_pts c a0 (View.set_whole _) f ((ins m).T c) (fun x => by rw [hf]; exact tstg_eq m ρ c x))
  iexact H
/-- The staged `W` as a matrix. -/
theorem stg1_in (c : Dev nD) : (stg c cc0_stg1_0 (wstg m ρ c) : sProp 𝕄) ⊢ mat c a1 fullShare ((ins m).W c) := by
  unfold stg
  iintro ⟨%f, %hf, H⟩
  iapply (mat_of_pts c a1 (View.set_whole _) f ((ins m).W c) (fun x => by rw [hf]; exact wstg_eq m ρ c x))
  iexact H
/-- The output's buffer as a matrix with some contents. -/
theorem stg2_in (c : Dev nD) (d : (cc0_stg2_0 : Ref sig .tc).ty.Contents (Elt F)) : (stg c cc0_stg2_0 d : sProp 𝕄) ⊢ iprop(∃ G2, mat c a2 fullShare G2) := by
  unfold stg
  iintro ⟨%f, -, H⟩
  ihave H := (buf_of_pts a2 (View.set_whole _)) $$ [H]
  · iexists f; iexact H
  iapply (buf_mat a2); iexact H

/-- The matrix of `t` as its staged block. -/
theorem stg0_out (c : Dev nD) : (mat c a0 fullShare ((ins m).T c) : sProp 𝕄) ⊢ stg c cc0_stg0_0 (tstg m ρ c) := by
  unfold stg
  iintro H
  ihave H := (pts_of_mat c a0 (View.set_whole _) ((ins m).T c)) $$ H
  icases H with ⟨%f, %hf, H⟩
  iexists f
  isplitr
  · ipureintro
    funext x
    exact (congrFun hf x).trans (tstg_eq m ρ c x).symm
  iexact H
/-- The matrix of `W` as its staged contents. -/
theorem stg1_out (c : Dev nD) : (mat c a1 fullShare ((ins m).W c) : sProp 𝕄) ⊢ stg c cc0_stg1_0 (wstg m ρ c) := by
  unfold stg
  iintro H
  ihave H := (pts_of_mat c a1 (View.set_whole _) ((ins m).W c)) $$ H
  icases H with ⟨%f, %hf, H⟩
  iexists f
  isplitr
  · ipureintro
    funext x
    exact (congrFun hf x).trans (wstg_eq m ρ c x).symm
  iexact H
/-- The finished output as its staged contents. -/
theorem stg2_out (c : Dev nD) : (mat c a2 fullShare (Gout (ins m) c) : sProp 𝕄) ⊢ stg c cc0_stg2_0 (ostg m c) := by
  unfold stg
  iintro H
  ihave H := (pts_of_mat c a2 (View.set_whole _) (Gout (ins m) c)) $$ H
  icases H with ⟨%f, %hf, H⟩
  iexists f
  isplitr
  · ipureintro
    exact hf
  iexact H

/-! ## The body -/

def bodyPost (c : Dev nD) : sProp 𝕄 :=
  iprop(Φ₁ c ∗ (dats m ρ 0 c).owesAt () t0_0.succ ∗ stg c cc0_stg0_0 (tstg m ρ c) ∗ stg c cc0_stg1_0 (wstg m ρ c) ∗ stg c cc0_stg2_0 (ostg m c))

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- Before the body the first staging buffer holds the block of `t`. -/
theorem before0 (c : Dev nD) (d) : (dats m ρ 0 c).before (0 : Fin 3) t0_0 d = tstg m ρ c := by
  unfold Dat.before; rw [if_pos (fetch0_0 t0_0)]; rfl
/-- Before the body the second staging buffer holds `W`. -/
theorem before1 (c : Dev nD) (d) : (dats m ρ 0 c).before (1 : Fin 3) t0_0 d = wstg m ρ c := by
  unfold Dat.before; rw [if_pos (fetch0_1 t0_0)]; rfl

/-- The body takes the staged inputs to the staged output. -/
theorem sound_body (c : Dev nD) : bodyPre' m ρ c ⊢ WP c (Ap (cc0_body (F := F))) (fun _ => bodyPost m ρ c) := by
  unfold bodyPre' Φ₀ Dat.owesAt Pipeline.owesWithin
  rw [show (dats m ρ 0 c).owed t0_0.castSucc = O₀ c from rfl]
  iintro ⟨⟨Hs, Hscr⟩, ⟨%W, -, HO⟩, ⟨%d0, H0⟩, ⟨%d1, H1⟩, ⟨%d2, H2⟩⟩
  rw [before0, before1]
  ihave H0 := (stg0_in m ρ c) $$ H0
  ihave H1 := (stg1_in m ρ c) $$ H1
  ihave H2 := (stg2_in c _) $$ H2
  icases H2 with ⟨%G2, H2⟩
  ihave Hl := (lands (ins m) c) $$ Hscr
  icases Hl with ⟨Hb, Hld⟩
  ihave Hp := (pb_intro (ins m) c) $$ [Hs Hld HO]
  · isplitl [Hs]; · iexact Hs
    isplitl [Hld]; · iexact Hld
    iexists W; iexact HO
  icases Hp with ⟨%Λ, Hp⟩
  icases Hb with ⟨B3, B4, B5, B6, B27, B28⟩
  iapply (body_wp (ins m) Λ c) $$ [Hp H0 H1 H2 B3 B4 B5 B6 B27 B28]
  · iframe
  iintro %_ ⟨Hg, H0, H1, H2, Hscr⟩
  ihave Hg := gs_end $$ Hg
  icases Hg with ⟨⟨%W', HO⟩, Hz, HI⟩
  unfold bodyPost Φ₁ Dat.owesAt Pipeline.owesWithin
  rw [show (dats m ρ 0 c).owed t0_0.succ = 0 from rfl]
  isplitl [Hscr HI Hz]
  · isplitl [Hscr]; · iexact Hscr
    isplitl [HI]; · iexact HI
    iexact Hz
  isplitl [HO]
  · iexists W'
    isplitr; · ipureintro; exact fun _ _ => Or.inl trivial
    iexact HO
  isplitl [H0]; · iapply (stg0_out m ρ c); iexact H0
  isplitl [H1]; · iapply (stg1_out m ρ c); iexact H1
  iapply (stg2_out m c); iexact H2

set_option maxRecDepth 8000 in
set_option maxHeartbeats 4000000 in
/-- The body does what the launch asks of it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ WP c (Ap (cc0_body (F := F))) (fun _ => bodyPost m ρ c)
  exact sound_body m ρ c

/-! ## The launch -/

/-- Every window holds the whole of its array. -/
theorem share_eq (c : Dev nD) (w : Fin cfg0.W) : (dats m ρ 0 c).share w = fullShare := by unfold Dat.share; split <;> rfl

/-- What the launch gives a device is its starting state. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start (ins m) c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    iexact HN
  · iempintro

/-- The starting state with the scratch buffers is the state before the body. -/
theorem phi0_intro (c : Dev nD) :
    iprop(start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_in c); iexact Hr

/-- The state after the body gives back the semaphores at zero and the scratch buffers.
  -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  simp only [bigSep_sep']
  iintro ⟨Hr, ⟨HS, HV⟩, HB⟩
  isplitl [HB]; · iexact HB
  isplitl [HS HV]
  · isplitl [HS] <;> iassumption
  iapply (scr_out c); iexact Hr

/-- A staging copy may be waited for, at the start and at the end. -/
theorem mayWait_stage (c : Dev nD) (q : DmaSem sig) (hl : rank (q : Fin 95).val = 0) (O : CellTallies nD τ sig Unit) (hO : O = O₀ c ∨ O = 0) :
    (levAts L lv : sProp 𝕄) ⊢ MayWait (c : Thread nD τ) (.dma q) () O := by
  rcases hO with rfl | rfl
  · exact mayWait_start c (.dma q) hl
  · rw [MayWait_zero]; iintro -; iempintro

/-- Every wait of the staging copies is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
set_option maxHeartbeats 4000000 in
/-- Every run ends with the windows' arrays as the launch says and every counter at
  zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start (ins m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The output's array ends with the device's output. -/
theorem arr_out (c : Dev nD) : (dats m ρ 0 c).arrAt (2 : Fin 3) cfg0.N = (fun x : S2048x1024.Idx => Gout (ins m) c (x 0).val (x 1).val) :=
  (dats m ρ 0 c).arrAt_eq_of_after_last (2 : Fin 3) t0_0 (by decide +kernel) _ fun j => rfl

/-- What a run leaves: the inputs as they were, the output of every device, every counter at zero. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = (fun x : S2048x1024.Idx => Gout (ins m) c (x 0).val (x 1).val))
  ∧ r.2.sem = fun _ => 0

/-- Every run of the kernel on the devices ends, leaving that. -/
theorem run_main : θ_run defs (onTc (τ := τ) (main (F := F))) ⟨m, fun _ => 0, ρ⟩ (Ends m) :=
  (θ_run defs (onTc (τ := τ) (main (F := F))) (s₀ m ρ)).mono (fun r h =>
    ⟨fun c => ⟨(h.1 c (0 : Fin 3)).trans ((dats (F := F) m ρ 0 c).arrAt_in (0 : Fin 3) rfl _),
      (h.1 c (1 : Fin 3)).trans ((dats (F := F) m ρ 0 c).arrAt_in (1 : Fin 3) rfl _),
      (h.1 c (2 : Fin 3)).trans (arr_out m ρ c)⟩, h.2⟩) (run_arrays m ρ)

end Cert.KProof

end
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

/-!
# The frames

Each program ends with its arguments as they were and every counter at zero.
-/

@[expose] public section

open Idealize.ShloMosaic Idealize.SL.Sem

namespace Cert.KProof

/-- The two printed programs give their one label the same body. -/
theorem bodies_eq : Cert.Kernel.defs₀ (F := Bits) = Cert.KernelIdeal.defs₀ (F := Bits) := by
  refine congrArg Defs.onTc ?_
  funext l x
  match l, x with
  | 0, (t, s) => rfl
  | ⟨_ + 1, h⟩, _ => exact absurd h (Nat.not_lt.2 (Nat.le_add_left _ _))

/-- The two printed programs have the same labelled bodies. -/
theorem defs_eq : Cert.Kernel.defs (F := Bits) = Cert.KernelIdeal.defs (F := Bits) :=
  congrArg (Pipeline.defs (Cert.KernelIdeal.pcfgs (F := Bits))) bodies_eq

/-- The kernel on words keeps its two arguments and ends with its counters at zero. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩)
    (run_main (F := Bits) m ρ)

/-- The kernel on extended reals does the same. -/
theorem frame_kernelIdeal : Cert.quiescent_KernelIdeal := fun m ρ _ =>
  (θ_run Cert.KernelIdeal.defs _ _).mono (fun _ h => ⟨fun c => ⟨(h.1 c).1, (h.1 c).2.1⟩, h.2⟩)
    (run_main (F := Ideal) m ρ)

/-- The reference keeps its arguments; it has no counters. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.KProof

end
-- ==== Proof.Value.lean ====
module

public import proofs.«01_k».proof.Proof.Frames
public import Idealize.ShloMosaic.Lib.ValueIdx
public import Idealize.ShloMosaic.PureOps.Ideal.Laws

/-!
# The value

Over the extended reals every device's output is the product with `W` of the sum
of the 32 devices' blocks of `t`, which is the reference's result.
-/

@[expose] public section

noncomputable section

open Idealize.ShloMosaic Idealize.SL.Sem
open Cert.KernelIdeal
open scoped BigOperators

namespace Cert.KProof

/-! ## The three phases reach every device once -/

/-- How far along axis `a` device `d` lies from device `c`. -/
def gap (a : ℕ) (c d : Dev nD) : ℕ :=
  if a = 0 then (xC d + 2 - xC c) % 2 else if a = 1 then (yC d + 4 - yC c) % 4 else (zC d + 4 - zC c) % 4

/-- The device reached from `c` by `z`, `y`, `x` steps along strip `i`'s axes, last axis first. -/
def reach (i : ℕ) (c : Dev nD) (z y x : ℕ) : Dev nD := sh (ax i 0) x (sh (ax i 1) y (sh (ax i 2) z c))

/-- Every device is reached by its gaps, which are in range. -/
theorem reach_gap : ∀ (i : Fin 3) (c d : Dev nD),
    reach i c (gap (ax i 2) c d) (gap (ax i 1) c d) (gap (ax i 0) c d) = d
      ∧ gap (ax i 2) c d < cnt (ax i 2) ∧ gap (ax i 1) c d < cnt (ax i 1) ∧ gap (ax i 0) c d < cnt (ax i 0) := by
  decide +kernel

/-- The gaps of the device reached are the steps taken. -/
theorem gap_reach : ∀ (i : Fin 3) (c : Dev nD) (z y x : Fin 4),
    z.val < cnt (ax i 2) → y.val < cnt (ax i 1) → x.val < cnt (ax i 0) →
    gap (ax i 2) c (reach i c z y x) = z ∧ gap (ax i 1) c (reach i c z y x) = y ∧ gap (ax i 0) c (reach i c z y x) = x := by
  decide +kernel

/-- The sum over the steps of the three phases is the sum over the devices. -/
theorem sum_reach (f : Dev nD → EReal) (i : ℕ) (hi : i < 3) (c : Dev nD) :
    (∑ z ∈ Finset.range (cnt (ax i 2)), ∑ y ∈ Finset.range (cnt (ax i 1)), ∑ x ∈ Finset.range (cnt (ax i 0)), f (reach i c z y x))
      = ∑ d : Dev nD, f d := by
  have e : (∑ z ∈ Finset.range (cnt (ax i 2)), ∑ y ∈ Finset.range (cnt (ax i 1)), ∑ x ∈ Finset.range (cnt (ax i 0)), f (reach i c z y x))
      = ∑ p ∈ Finset.range (cnt (ax i 2)) ×ˢ (Finset.range (cnt (ax i 1)) ×ˢ Finset.range (cnt (ax i 0))),
          f (reach i c p.1 p.2.1 p.2.2) := by
    rw [Finset.sum_product]
    refine Finset.sum_congr rfl fun z _ => ?_
    rw [Finset.sum_product]
  rw [e]
  refine Finset.sum_nbij' (fun p => reach i c p.1 p.2.1 p.2.2)
    (fun d => (gap (ax i 2) c d, gap (ax i 1) c d, gap (ax i 0) c d))
    (fun _ _ => Finset.mem_univ _) ?_ ?_ ?_ (fun _ _ => rfl)
  · intro d _
    have h := (reach_gap ⟨i, hi⟩ c d).2
    simp only [Finset.mem_product, Finset.mem_range]
    exact h
  · intro p hp
    simp only [Finset.mem_product, Finset.mem_range] at hp
    have hz := cnt_le (ax i 2)
    have hy := cnt_le (ax i 1)
    have hx := cnt_le (ax i 0)
    have h := gap_reach ⟨i, hi⟩ c ⟨p.1, by omega⟩ ⟨p.2.1, by omega⟩ ⟨p.2.2, by omega⟩ hp.1 hp.2.1 hp.2.2
    exact Prod.ext h.1 (Prod.ext h.2.1 h.2.2)
  · intro d _
    exact (reach_gap ⟨i, hi⟩ c d).1

variable (X : Ins Ideal)

/-- No step leads to the device itself. -/
theorem sh_zero : ∀ (a : Fin 3) (c : Dev nD), sh a 0 c = c := by decide +kernel

/-- One phase adds up the devices along its axis. -/
theorem Fc_succ (i p : ℕ) (c : Dev nD) (r k : ℕ) :
    (Fc X i (p + 1) c r k : EReal) = ∑ j ∈ Finset.range (cnt (ax i p)), (Fc X i p (sh (ax i p) j c) r k : EReal) := by
  have h0 : sh (ax i p) 0 c = c := sh_zero ⟨ax i p, Nat.mod_lt _ (by decide)⟩ c
  have hc : cnt (ax i p) = 2 ∨ cnt (ax i p) = 4 := by unfold cnt; split <;> simp
  rcases hc with h | h
  · rw [Fc, if_pos h, h, Finset.sum_range_succ, Finset.sum_range_one, h0]
    rfl
  · rw [Fc, if_neg (by omega), h, Finset.sum_range_succ, Finset.sum_range_succ, Finset.sum_range_succ, Finset.sum_range_one, h0]
    rfl

/-- The sum of the devices' blocks. -/
def Sm (r k : ℕ) : EReal := ∑ d : Dev nD, (X.T d r k : EReal)

/-- After its three phases a strip holds the sum of the devices' blocks. -/
theorem Fc_all (i : ℕ) (hi : i < 3) (c : Dev nD) (r k : ℕ) : (Fc X i 3 c r k : EReal) = Sm X r (col i + k) := by
  rw [Fc_succ]
  simp only [Fc_succ X i 1, Fc_succ X i 0]
  exact sum_reach (fun d => X.T d r (col i + k)) i hi c

/-! ## The product -/

/-- A plain product's sum over its contracted axis, by that axis's coordinate. -/
theorem sum_plain {m K N : ℕ} (d : DotDims ⟨2, ![m, K]⟩ ⟨2, ![K, N]⟩ ⟨2, ![m, N]⟩) (hd : d = DotDims.plain m K N)
    (l : (⟨2, ![m, K]⟩ : Shape).Idx → EReal) (w : (⟨2, ![K, N]⟩ : Shape).Idx → EReal) (j : (⟨2, ![m, N]⟩ : Shape).Idx) :
    (∑ k : d.contr.Idx, l (d.lhsIdx j k) * w (d.rhsIdx j k))
      = ∑ k : Fin K, l (ValueIdx.ix2 (j 0) k) * w (ValueIdx.ix2 k (j 1)) := by
  subst hd
  rw [← Equiv.sum_comp (ValueIdx.contrEquiv1 (DotDims.plain m K N) K rfl rfl)]
  refine Finset.sum_congr rfl fun k _ => ?_
  have hl : (DotDims.plain m K N).lhsIdx j k = ValueIdx.ix2 (j 0) (ValueIdx.contrEquiv1 (DotDims.plain m K N) K rfl rfl k) := by
    funext a
    match a with
    | ⟨0, _⟩ => exact Fin.ext rfl
    | ⟨1, _⟩ => exact Fin.ext rfl
  have hw : (DotDims.plain m K N).rhsIdx j k = ValueIdx.ix2 (ValueIdx.contrEquiv1 (DotDims.plain m K N) K rfl rfl k) (j 1) := by
    funext a
    match a with
    | ⟨0, _⟩ => exact Fin.ext rfl
    | ⟨1, _⟩ => exact Fin.ext rfl
  rw [hl, hw]
  rfl

/-- A product into zeros of operands given by functions of the coordinates. -/
theorem matmul_fun {m K N : ℕ} (d : DotDims ⟨2, ![m, K]⟩ ⟨2, ![K, N]⟩ ⟨2, ![m, N]⟩) (hd : d = DotDims.plain m K N)
    (l : FVec Ideal ⟨2, ![m, K]⟩ .bf16) (w : FVec Ideal ⟨2, ![K, N]⟩ .bf16) (f : ℕ → EReal) (g : ℕ → EReal)
    (j : (⟨2, ![m, N]⟩ : Shape).Idx) (hl : ∀ k : Fin K, l (ValueIdx.ix2 (j 0) k) = f k) (hw : ∀ k : Fin K, w (ValueIdx.ix2 k (j 1)) = g k) :
    matmul d none l w (constant ⟨2, ![m, N]⟩ .f32 0x00000000#32) j = ∑ k ∈ Finset.range K, f k * g k := by
  rw [← Fin.sum_univ_eq_sum_range (fun k => f k * g k) K]
  refine (Ideal.matmul_constant_zero_apply d none l w j).trans ((sum_plain d hd l w j).trans ?_)
  exact Finset.sum_congr rfl fun k _ => by rw [hl k, hw k]

/-- Row `r` of the summed blocks times column `n` of a device's `W`. -/
def Dt (c : Dev nD) (r n : ℕ) : EReal := ∑ k ∈ Finset.range 1024, Sm X r k * (X.W c k n : EReal)

/-- The three partial products of device `c` make up the whole one. -/
theorem Yv_eq (c : Dev nD) (j : S64x1024.Idx) : (Yv X c j : EReal) = Dt X c (row 0 2 0 c + (j 0).val) (j 1).val := by
  have hA := matmul_fun dot_S64x384_S384x1024_S64x1024_1_0_0_1_n_n rfl
    (fun j => Fc X 0 3 c (row 0 2 0 c + (j 0).val) (j 1).val) (fun j => X.W c (j 0).val (j 1).val)
    (fun k => Sm X (row 0 2 0 c + (j 0).val) k) (fun k => X.W c k (j 1).val) j
    (fun k => (Fc_all X 0 (by decide) c _ _).trans (by rw [show col 0 = 0 from rfl, Nat.zero_add])) (fun _ => rfl)
  have hB := matmul_fun dot_S64x256_S256x1024_S64x1024_1_0_0_1_n_n rfl
    (fun j => Fc X 1 3 (srcB c) (row 0 2 0 c + (j 0).val) (j 1).val) (fun j => X.W c (384 + (j 0).val) (j 1).val)
    (fun k => Sm X (row 0 2 0 c + (j 0).val) (384 + k)) (fun k => X.W c (384 + k) (j 1).val) j
    (fun k => Fc_all X 1 (by decide) (srcB c) _ _) (fun _ => rfl)
  have hC := matmul_fun dot_S64x384_S384x1024_S64x1024_1_0_0_1_n_n rfl
    (fun j => Fc X 2 3 (srcC c) (row 0 2 0 c + (j 0).val) (j 1).val) (fun j => X.W c (640 + (j 0).val) (j 1).val)
    (fun k => Sm X (row 0 2 0 c + (j 0).val) (640 + k)) (fun k => X.W c (640 + k) (j 1).val) j
    (fun k => Fc_all X 2 (by decide) (srcC c) _ _) (fun _ => rfl)
  have e : (Yv X c j : EReal) = (∑ k ∈ Finset.range 384, Sm X (row 0 2 0 c + (j 0).val) k * (X.W c k (j 1).val : EReal)
      + ∑ k ∈ Finset.range 256, Sm X (row 0 2 0 c + (j 0).val) (384 + k) * (X.W c (384 + k) (j 1).val : EReal))
      + ∑ k ∈ Finset.range 384, Sm X (row 0 2 0 c + (j 0).val) (640 + k) * (X.W c (640 + k) (j 1).val : EReal) := by
    rw [← hA, ← hB, ← hC]
    rfl
  rw [e]
  unfold Dt
  rw [show (1024 : ℕ) = 384 + 256 + 384 from rfl, Finset.sum_range_add, Finset.sum_range_add]

/-- The rows of the device that finishes them. -/
theorem row_own : ∀ q : Fin 32, row 0 2 0 (own q) = 64 * q.val := by decide +kernel

/-- Every element of the output is an element of the whole product, with the finisher's `W`. -/
theorem Gout_eq (c : Dev nD) (r n : ℕ) (hr : r < 2048) (hn : n < 1024) :
    (Gout X c r n : EReal) = Dt X (own (r / 64)) r n := by
  have hy : (Yn X (own (r / 64)) (r % 64) n : EReal) = Dt X (own (r / 64)) r n := by
    refine (Yv_eq X _ _).trans ?_
    have h1 := row_own ⟨r / 64, by omega⟩
    show Dt X (own (r / 64)) (row 0 2 0 (own (r / 64)) + r % 64 % 64) (n % 1024) = _
    rw [h1, Nat.mod_eq_of_lt hn]
    congr 1
    show 64 * (r / 64) + r % 64 % 64 = r
    omega
  unfold Gout
  split
  · next h =>
    obtain ⟨s, rfl⟩ := Nat.exists_eq_add_of_le h.2.1
    have ho := own_at c s (by omega)
    rw [ho.1, ho.2] at hy
    rw [ho.1, Nat.add_sub_cancel_left]
    exact hy
  · exact hy

/-! ## The reference -/

/-- The reference's sum over its first axis, at an index: the sum of the blocks' elements there. -/
theorem ref_sum (A : FVec Ideal Cert.ReferenceIdeal.S65536x1024 .f32) (r : Fin 2048) (k : Fin 1024) :
    Host.reduceAdd (shapeCast Cert.ReferenceIdeal.S32x2048x1024 A Cert.ReferenceIdeal.Facts₀.shapeCasts_S65536x1024_S32x2048x1024)
        (constant Cert.ReferenceIdeal.S_ .f32 0x00000000#32) Cert.ReferenceIdeal.Facts₀.reducesTo_S32x2048x1024_S2048x1024_d0
        Cert.ReferenceIdeal.Facts₀.h_S_ (ValueIdx.ix2 r k)
      = ∑ d : Fin 32, A (ValueIdx.ix2 ⟨2048 * d.val + r.val, by omega⟩ k) := by
  have h : Shape.Reduces Cert.ReferenceIdeal.S32x2048x1024 [0] Cert.ReferenceIdeal.S2048x1024 := by decide
  refine (Ideal.hostReduceAdd_single Cert.ReferenceIdeal.Facts₀.reducesTo_S32x2048x1024_S2048x1024_d0 h _ _ _).trans ?_
  refine (congrArg (· + _) Ideal.ofBits_zero_f32).trans ((zero_add _).trans ?_)
  refine Finset.sum_congr rfl fun d _ => ?_
  refine shapeCast_apply _ _ _ _ ?_
  rw [Shape.rowMajor_val_two, Shape.rowMajor_val_three]
  show (2048 * d.val + r.val) * 1024 + k.val = (d.val * 2048 + r.val) * 1024 + k.val
  omega

/-- The claim: every device ends with the reference's result. -/
theorem value : Cert.algebraic_KernelIdeal_ReferenceIdeal := by
  intro m ρ m' ρ' _ hag
  refine ⟨_, (θ_run Cert.KernelIdeal.defs _ _).mono
      (fun _ h c => ⟨((h.1 c).2.2).trans ?_, (h.1 c).1, (h.1 c).2.1⟩) (run_main (F := Ideal) m ρ),
    (θ_run Cert.ReferenceIdeal.defs _ _).mono (fun r h => h 0) (Cert.ReferenceIdeal.Value.run (F := Ideal) m' ρ')⟩
  funext j
  have hr : (j 0).val < 2048 := (j 0).isLt
  have hn : (j 1).val < 1024 := (j 1).isLt
  refine (Gout_eq (ins m) c (j 0).val (j 1).val hr hn).trans ?_
  unfold Dt
  rw [← Fin.sum_univ_eq_sum_range (fun k => Sm (ins m) (j 0).val k * ((ins m).W (own ((j 0).val / 64)) k (j 1).val : EReal)) 1024]
  refine Eq.symm ((Ideal.dotGeneral_apply Cert.ReferenceIdeal.dot_S2048x1024_S1024x1024_S2048x1024_1_0_0_1_n_n none _ _ _ j).trans
    ((sum_plain Cert.ReferenceIdeal.dot_S2048x1024_S1024x1024_S2048x1024_1_0_0_1_n_n rfl _ _ j).trans ?_))
  refine Finset.sum_congr rfl fun k _ => congrArg₂ (· * ·) ?_ ?_
  · refine (ref_sum _ (j 0) k).trans (Finset.sum_congr rfl fun d _ => ?_)
    show _ = m (((show Dev nD from d).tc : Thread nD τ).loc main_arg0) _
    rw [(hag (show Dev nD from d)).1]
    refine congrArg (m' _) ?_
    funext a
    match a with
    | ⟨0, _⟩ =>
      refine Fin.ext ?_
      show 2048 * d.val + (j 0).val = d.val * 2048 + (j 0).val % 2048
      omega
    | ⟨1, _⟩ => exact Fin.ext (Nat.mod_eq_of_lt k.isLt).symm
  · show _ = m (((own ((j 0).val / 64)).tc : Thread nD τ).loc main_arg1) _
    rw [(hag _).2]
    refine congrArg (m' _) ?_
    funext a
    match a with
    | ⟨0, _⟩ => exact Fin.ext (Nat.mod_eq_of_lt k.isLt).symm
    | ⟨1, _⟩ => exact Fin.ext (Nat.mod_eq_of_lt hn).symm

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything claimed: the three frames, the idealization, and the value. -/
theorem claim : Cert.Claim := ⟨Cert.Kernel.Gen.facts, Cert.KernelIdeal.Gen.facts, Cert.ReferenceIdeal.Gen.facts,
  Cert.KProof.frame_kernel, Cert.KProof.frame_kernelIdeal, Cert.KProof.frame_reference, trivial, Cert.KProof.value⟩

end Cert.Proof

end
